-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100x2 : Shape := ⟨2, ![100, 2]⟩
abbrev S2x512 : Shape := ⟨2, ![2, 512]⟩
abbrev S512 : Shape := ⟨1, ![512]⟩
abbrev S512x10 : Shape := ⟨2, ![512, 10]⟩
abbrev S10 : Shape := ⟨1, ![10]⟩
abbrev S100x100 : Shape := ⟨2, ![100, 100]⟩
abbrev S2x100 : Shape := ⟨2, ![2, 100]⟩
abbrev S1x512 : Shape := ⟨2, ![1, 512]⟩
abbrev S1x10 : Shape := ⟨2, ![1, 10]⟩
abbrev S100x10 : Shape := ⟨2, ![100, 10]⟩
abbrev S1x100 : Shape := ⟨2, ![1, 100]⟩
abbrev S100x1 : Shape := ⟨2, ![100, 1]⟩
abbrev S100 : Shape := ⟨1, ![100]⟩
abbrev S1x100x100 : Shape := ⟨3, ![1, 100, 100]⟩
abbrev S1 : Shape := ⟨1, ![1]⟩
abbrev S1x1x1 : Shape := ⟨3, ![1, 1, 1]⟩
abbrev S1x50 : Shape := ⟨2, ![1, 50]⟩
abbrev S1x1 : Shape := ⟨2, ![1, 1]⟩
abbrev S1x48 : Shape := ⟨2, ![1, 48]⟩
abbrev S1x49 : Shape := ⟨2, ![1, 49]⟩
abbrev S48x100 : Shape := ⟨2, ![48, 100]⟩
abbrev S49x100 : Shape := ⟨2, ![49, 100]⟩
abbrev S100x48 : Shape := ⟨2, ![100, 48]⟩
abbrev S100x49 : Shape := ⟨2, ![100, 49]⟩
abbrev S1x100x1 : Shape := ⟨3, ![1, 100, 1]⟩
abbrev S100x512 : Shape := ⟨2, ![100, 512]⟩

abbrev nBuf : Space → Nat
  | .hbm => 13
  | .vmem => 11
  | .smem => 0
  | _ => 0

abbrev bufTy : (tb : Table) → Fin (tcTables nBuf tb) → BufTy
  | .hbm, ⟨0, _⟩ => ⟨S100x2, .f32⟩
  | .hbm, ⟨1, _⟩ => ⟨S2x512, .f32⟩
  | .hbm, ⟨2, _⟩ => ⟨S512, .f32⟩
  | .hbm, ⟨3, _⟩ => ⟨S512x10, .f32⟩
  | .hbm, ⟨4, _⟩ => ⟨S10, .f32⟩
  | .hbm, ⟨5, _⟩ => ⟨S100x100, .f32⟩
  | .hbm, ⟨6, _⟩ => ⟨S100x100, .f32⟩
  | .hbm, ⟨7, _⟩ => ⟨S100x100, .f32⟩
  | .hbm, ⟨8, _⟩ => ⟨S100x100, .f32⟩
  | .hbm, ⟨9, _⟩ => ⟨S2x100, .f32⟩
  | .hbm, ⟨10, _⟩ => ⟨S1x512, .f32⟩
  | .hbm, ⟨11, _⟩ => ⟨S1x10, .f32⟩
  | .hbm, ⟨12, _⟩ => ⟨S100x10, .f32⟩
  | .local _ .vmem, ⟨0, _⟩ => ⟨S100x2, .f32⟩
  | .local _ .vmem, ⟨1, _⟩ => ⟨S2x100, .f32⟩
  | .local _ .vmem, ⟨2, _⟩ => ⟨S2x512, .f32⟩
  | .local _ .vmem, ⟨3, _⟩ => ⟨S1x512, .f32⟩
  | .local _ .vmem, ⟨4, _⟩ => ⟨S512x10, .f32⟩
  | .local _ .vmem, ⟨5, _⟩ => ⟨S1x10, .f32⟩
  | .local _ .vmem, ⟨6, _⟩ => ⟨S100x100, .f32⟩
  | .local _ .vmem, ⟨7, _⟩ => ⟨S100x100, .f32⟩
  | .local _ .vmem, ⟨8, _⟩ => ⟨S100x100, .f32⟩
  | .local _ .vmem, ⟨9, _⟩ => ⟨S100x100, .f32⟩
  | .local _ .vmem, ⟨10, _⟩ => ⟨S100x10, .f32⟩
  | _, _ => ⟨S100x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_cst_2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c100_i32 : BitVec 32 := 100#32
  let v48 : BitVec 32 := Scalar.addi c0_i32 c100_i32
  let c1_i32 : BitVec 32 := 1#32
  ⟨c0_i32, v48, c1_i32⟩
@[reducible] def k0_t2_loop : Scf.Loop 32 :=
  let c0_i32_31 : BitVec 32 := 0#32
  let c198_i32 : BitVec 32 := 198#32
  let v88 : BitVec 32 := Scalar.addi c0_i32_31 c198_i32
  let c1_i32_32 : BitVec 32 := 1#32
  ⟨c0_i32_31, v88, c1_i32_32⟩
abbrev stage0_0 : Fin 1 → Memref sig .tc .vmem S100x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S100x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S100x100 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S100x100 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S100x100 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S100x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S100x2 : Shape := ⟨2, ![100, 2]⟩
abbrev S2x512 : Shape := ⟨2, ![2, 512]⟩
abbrev S512 : Shape := ⟨1, ![512]⟩
abbrev S512x10 : Shape := ⟨2, ![512, 10]⟩
abbrev S10 : Shape := ⟨1, ![10]⟩
abbrev S100x1x2 : Shape := ⟨3, ![100, 1, 2]⟩
abbrev S1x100x2 : Shape := ⟨3, ![1, 100, 2]⟩
abbrev S100x100x2 : Shape := ⟨3, ![100, 100, 2]⟩
abbrev S_ : Shape := ⟨0, ![]⟩
abbrev S100x100 : Shape := ⟨2, ![100, 100]⟩
abbrev S100x1 : Shape := ⟨2, ![100, 1]⟩
abbrev S1x100 : Shape := ⟨2, ![1, 100]⟩
abbrev S100 : Shape := ⟨1, ![100]⟩
abbrev S2 : Shape := ⟨1, ![2]⟩
abbrev S1x2 : Shape := ⟨2, ![1, 2]⟩
abbrev S100x512 : Shape := ⟨2, ![100, 512]⟩
abbrev S1x512 : Shape := ⟨2, ![1, 512]⟩
abbrev S100x10 : Shape := ⟨2, ![100, 10]⟩
abbrev S1x10 : Shape := ⟨2, ![1, 10]⟩

abbrev nBuf : Space → Nat
  | .hbm => 363
  | .vmem => 0
  | .smem => 0
  | _ => 0

abbrev hbmTy0_0 (i : Nat) : BufTy := match i % 128 with
  | 0 => ⟨S100x2, .f32⟩
  | 1 => ⟨S2x512, .f32⟩
  | 2 => ⟨S512, .f32⟩
  | 3 => ⟨S512x10, .f32⟩
  | 4 => ⟨S10, .f32⟩
  | 5 => ⟨S100x1x2, .f32⟩
  | 6 => ⟨S1x100x2, .f32⟩
  | 7 => ⟨S100x100x2, .f32⟩
  | 8 => ⟨S100x100x2, .f32⟩
  | 9 => ⟨S100x100x2, .f32⟩
  | 10 => ⟨S100x100x2, .f32⟩
  | 11 => ⟨S_, .f32⟩
  | 12 => ⟨S100x100, .f32⟩
  | 13 => ⟨S_, .f32⟩
  | 14 => ⟨S100x100, .f32⟩
  | 15 => ⟨S100x100, .f32⟩
  | 16 => ⟨S100x100, .f32⟩
  | 17 => ⟨S100x100, .i32⟩
  | 18 => ⟨S100x100, .i32⟩
  | 19 => ⟨S_, .i32⟩
  | 20 => ⟨S100x100, .i32⟩
  | 21 => ⟨S100x100, .i32⟩
  | 22 => ⟨S100x100, .i1⟩
  | 23 => ⟨S_, .f32⟩
  | 24 => ⟨S_, .f32⟩
  | 25 => ⟨S100x100, .f32⟩
  | 26 => ⟨S100x100, .f32⟩
  | 27 => ⟨S_, .f32⟩
  | 28 => ⟨S100x100, .f32⟩
  | 29 => ⟨S100x100, .i1⟩
  | 30 => ⟨S_, .f32⟩
  | 31 => ⟨S_, .f32⟩
  | 32 => ⟨S100x100, .f32⟩
  | 33 => ⟨S100x100, .f32⟩
  | 34 => ⟨S100x100, .i32⟩
  | 35 => ⟨S100x100, .i32⟩
  | 36 => ⟨S_, .i32⟩
  | 37 => ⟨S100x100, .i32⟩
  | 38 => ⟨S100x100, .i32⟩
  | 39 => ⟨S100x100, .i1⟩
  | 40 => ⟨S_, .f32⟩
  | 41 => ⟨S_, .f32⟩
  | 42 => ⟨S100x100, .f32⟩
  | 43 => ⟨S100x100, .f32⟩
  | 44 => ⟨S_, .i32⟩
  | 45 => ⟨S_, .i32⟩
  | 46 => ⟨S_, .i32⟩
  | 47 => ⟨S_, .i32⟩
  | 48 => ⟨S100x100, .f32⟩
  | 49 => ⟨S_, .i32⟩
  | 50 => ⟨S_, .i1⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i32⟩
  | 60 => ⟨S100x1, .f32⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S_, .i32⟩
  | 68 => ⟨S1x100, .f32⟩
  | 69 => ⟨S100x100, .f32⟩
  | 70 => ⟨S100x100, .f32⟩
  | 71 => ⟨S100x100, .f32⟩
  | 72 => ⟨S100x100, .f32⟩
  | 73 => ⟨S_, .i32⟩
  | 74 => ⟨S_, .i32⟩
  | 75 => ⟨S_, .f32⟩
  | 76 => ⟨S100x100, .f32⟩
  | 77 => ⟨S100x100, .i1⟩
  | 78 => ⟨S_, .f32⟩
  | 79 => ⟨S_, .f32⟩
  | 80 => ⟨S100x100, .f32⟩
  | 81 => ⟨S100x100, .f32⟩
  | 82 => ⟨S_, .f32⟩
  | 83 => ⟨S_, .f32⟩
  | 84 => ⟨S100x100, .f32⟩
  | 85 => ⟨S100x100, .f32⟩
  | 86 => ⟨S100x100, .i32⟩
  | 87 => ⟨S100x100, .i32⟩
  | 88 => ⟨S_, .i32⟩
  | 89 => ⟨S100x100, .i32⟩
  | 90 => ⟨S100x100, .i32⟩
  | 91 => ⟨S100x100, .i1⟩
  | 92 => ⟨S100x100, .f32⟩
  | 93 => ⟨S_, .f32⟩
  | 94 => ⟨S100x100, .f32⟩
  | 95 => ⟨S_, .f32⟩
  | 96 => ⟨S100x100, .f32⟩
  | 97 => ⟨S100x100, .f32⟩
  | 98 => ⟨S100x100, .f32⟩
  | 99 => ⟨S100x100, .f32⟩
  | 100 => ⟨S100x100, .f32⟩
  | 101 => ⟨S100x100, .f32⟩
  | 102 => ⟨S_, .f32⟩
  | 103 => ⟨S100x100, .f32⟩
  | 104 => ⟨S100x100, .f32⟩
  | 105 => ⟨S100x100, .i32⟩
  | 106 => ⟨S100x100, .i32⟩
  | 107 => ⟨S_, .i32⟩
  | 108 => ⟨S100x100, .i32⟩
  | 109 => ⟨S100x100, .i32⟩
  | 110 => ⟨S100x100, .i1⟩
  | 111 => ⟨S100x100, .f32⟩
  | 112 => ⟨S_, .i32⟩
  | 113 => ⟨S_, .i32⟩
  | 114 => ⟨S_, .i32⟩
  | 115 => ⟨S_, .i32⟩
  | 116 => ⟨S100x100, .f32⟩
  | 117 => ⟨S100x100, .f32⟩
  | 118 => ⟨S_, .i32⟩
  | 119 => ⟨S_, .i1⟩
  | 120 => ⟨S_, .i32⟩
  | 121 => ⟨S_, .i32⟩
  | 122 => ⟨S100, .i32⟩
  | 123 => ⟨S100, .i32⟩
  | 124 => ⟨S_, .i32⟩
  | 125 => ⟨S100, .i32⟩
  | 126 => ⟨S100, .i1⟩
  | 127 => ⟨S_, .i32⟩
  | _ => ⟨S100x2, .f32⟩

abbrev hbmTy0_1 (i : Nat) : BufTy := match i % 128 with
  | 0 => ⟨S100, .i32⟩
  | 1 => ⟨S100, .i32⟩
  | 2 => ⟨S_, .i32⟩
  | 3 => ⟨S100, .i32⟩
  | 4 => ⟨S100, .i32⟩
  | 5 => ⟨S100, .i32⟩
  | 6 => ⟨S_, .i32⟩
  | 7 => ⟨S100, .i32⟩
  | 8 => ⟨S100, .i32⟩
  | 9 => ⟨S_, .i32⟩
  | 10 => ⟨S100, .i32⟩
  | 11 => ⟨S100, .i32⟩
  | 12 => ⟨S_, .i32⟩
  | 13 => ⟨S100, .i32⟩
  | 14 => ⟨S100, .i32⟩
  | 15 => ⟨S_, .i32⟩
  | 16 => ⟨S100, .i32⟩
  | 17 => ⟨S100, .i32⟩
  | 18 => ⟨S_, .i32⟩
  | 19 => ⟨S100, .i32⟩
  | 20 => ⟨S100, .i1⟩
  | 21 => ⟨S_, .i32⟩
  | 22 => ⟨S_, .i32⟩
  | 23 => ⟨S_, .i32⟩
  | 24 => ⟨S100, .i32⟩
  | 25 => ⟨S100, .i32⟩
  | 26 => ⟨S_, .i32⟩
  | 27 => ⟨S100, .i32⟩
  | 28 => ⟨S100, .i32⟩
  | 29 => ⟨S_, .i32⟩
  | 30 => ⟨S100, .i32⟩
  | 31 => ⟨S100, .i32⟩
  | 32 => ⟨S_, .i32⟩
  | 33 => ⟨S100, .i32⟩
  | 34 => ⟨S100, .i32⟩
  | 35 => ⟨S_, .i32⟩
  | 36 => ⟨S100, .i32⟩
  | 37 => ⟨S100, .i1⟩
  | 38 => ⟨S_, .i32⟩
  | 39 => ⟨S100, .i32⟩
  | 40 => ⟨S100, .i1⟩
  | 41 => ⟨S_, .i32⟩
  | 42 => ⟨S100, .i32⟩
  | 43 => ⟨S100, .i32⟩
  | 44 => ⟨S_, .i32⟩
  | 45 => ⟨S100, .i32⟩
  | 46 => ⟨S100, .i32⟩
  | 47 => ⟨S100, .i32⟩
  | 48 => ⟨S_, .i32⟩
  | 49 => ⟨S_, .i32⟩
  | 50 => ⟨S100, .i32⟩
  | 51 => ⟨S100, .i32⟩
  | 52 => ⟨S_, .i32⟩
  | 53 => ⟨S100, .i32⟩
  | 54 => ⟨S100, .i1⟩
  | 55 => ⟨S_, .i32⟩
  | 56 => ⟨S100, .i32⟩
  | 57 => ⟨S100, .i1⟩
  | 58 => ⟨S100, .i1⟩
  | 59 => ⟨S_, .i32⟩
  | 60 => ⟨S_, .i32⟩
  | 61 => ⟨S100, .i32⟩
  | 62 => ⟨S100, .i32⟩
  | 63 => ⟨S_, .i32⟩
  | 64 => ⟨S100, .i32⟩
  | 65 => ⟨S100, .i1⟩
  | 66 => ⟨S_, .i32⟩
  | 67 => ⟨S100, .i32⟩
  | 68 => ⟨S100, .i1⟩
  | 69 => ⟨S100, .i1⟩
  | 70 => ⟨S_, .i32⟩
  | 71 => ⟨S100, .i32⟩
  | 72 => ⟨S100, .i1⟩
  | 73 => ⟨S100, .i1⟩
  | 74 => ⟨S100x1, .i32⟩
  | 75 => ⟨S1x100, .i32⟩
  | 76 => ⟨S100x100, .i32⟩
  | 77 => ⟨S100x100, .i32⟩
  | 78 => ⟨S100x100, .i1⟩
  | 79 => ⟨S100x100, .i32⟩
  | 80 => ⟨S100x100, .i32⟩
  | 81 => ⟨S_, .i32⟩
  | 82 => ⟨S100x100, .i32⟩
  | 83 => ⟨S100x100, .i32⟩
  | 84 => ⟨S100x100, .i1⟩
  | 85 => ⟨S_, .f32⟩
  | 86 => ⟨S_, .f32⟩
  | 87 => ⟨S100x100, .f32⟩
  | 88 => ⟨S100x100, .f32⟩
  | 89 => ⟨S_, .f32⟩
  | 90 => ⟨S100, .f32⟩
  | 91 => ⟨S100x1, .f32⟩
  | 92 => ⟨S_, .f32⟩
  | 93 => ⟨S_, .f32⟩
  | 94 => ⟨S100x100, .f32⟩
  | 95 => ⟨S100x100, .f32⟩
  | 96 => ⟨S100x100, .f32⟩
  | 97 => ⟨S_, .f32⟩
  | 98 => ⟨S100, .f32⟩
  | 99 => ⟨S_, .f32⟩
  | 100 => ⟨S_, .f32⟩
  | 101 => ⟨S100x100, .f32⟩
  | 102 => ⟨S100x100, .f32⟩
  | 103 => ⟨S_, .f32⟩
  | 104 => ⟨S100, .f32⟩
  | 105 => ⟨S100, .f32⟩
  | 106 => ⟨S100, .f32⟩
  | 107 => ⟨S100, .f32⟩
  | 108 => ⟨S_, .f32⟩
  | 109 => ⟨S100, .f32⟩
  | 110 => ⟨S100, .f32⟩
  | 111 => ⟨S100, .f32⟩
  | 112 => ⟨S_, .f32⟩
  | 113 => ⟨S100, .f32⟩
  | 114 => ⟨S100, .i1⟩
  | 115 => ⟨S_, .f32⟩
  | 116 => ⟨S_, .f32⟩
  | 117 => ⟨S100, .f32⟩
  | 118 => ⟨S100, .f32⟩
  | 119 => ⟨S100, .f32⟩
  | 120 => ⟨S100, .f32⟩
  | 121 => ⟨S100, .f32⟩
  | 122 => ⟨S_, .f32⟩
  | 123 => ⟨S100, .f32⟩
  | 124 => ⟨S100, .f32⟩
  | 125 => ⟨S100, .f32⟩
  | 126 => ⟨S100, .f32⟩
  | 127 => ⟨S100, .f32⟩
  | _ => ⟨S100x2, .f32⟩

abbrev hbmTy0_2 (i : Nat) : BufTy := match i % 128 with
  | 0 => ⟨S100, .f32⟩
  | 1 => ⟨S100, .f32⟩
  | 2 => ⟨S_, .f32⟩
  | 3 => ⟨S100, .f32⟩
  | 4 => ⟨S100, .i1⟩
  | 5 => ⟨S_, .f32⟩
  | 6 => ⟨S_, .f32⟩
  | 7 => ⟨S100, .f32⟩
  | 8 => ⟨S100, .f32⟩
  | 9 => ⟨S100, .f32⟩
  | 10 => ⟨S_, .f32⟩
  | 11 => ⟨S100, .f32⟩
  | 12 => ⟨S100, .f32⟩
  | 13 => ⟨S100, .f32⟩
  | 14 => ⟨S_, .f32⟩
  | 15 => ⟨S100, .f32⟩
  | 16 => ⟨S100, .f32⟩
  | 17 => ⟨S100, .f32⟩
  | 18 => ⟨S100x100, .i32⟩
  | 19 => ⟨S100x100, .i32⟩
  | 20 => ⟨S_, .i32⟩
  | 21 => ⟨S100x100, .i32⟩
  | 22 => ⟨S100x100, .i32⟩
  | 23 => ⟨S100x100, .i1⟩
  | 24 => ⟨S1x100, .f32⟩
  | 25 => ⟨S100, .f32⟩
  | 26 => ⟨S100, .f32⟩
  | 27 => ⟨S1x100, .f32⟩
  | 28 => ⟨S_, .f32⟩
  | 29 => ⟨S_, .f32⟩
  | 30 => ⟨S100x100, .f32⟩
  | 31 => ⟨S100x100, .f32⟩
  | 32 => ⟨S100x100, .f32⟩
  | 33 => ⟨S100x100, .f32⟩
  | 34 => ⟨S100x100, .f32⟩
  | 35 => ⟨S100x100, .f32⟩
  | 36 => ⟨S100x100, .f32⟩
  | 37 => ⟨S100x100, .f32⟩
  | 38 => ⟨S100x100, .f32⟩
  | 39 => ⟨S_, .i32⟩
  | 40 => ⟨S_, .i32⟩
  | 41 => ⟨S100x100, .i32⟩
  | 42 => ⟨S100x100, .i32⟩
  | 43 => ⟨S_, .i32⟩
  | 44 => ⟨S100x100, .i32⟩
  | 45 => ⟨S100x100, .i32⟩
  | 46 => ⟨S100x100, .i1⟩
  | 47 => ⟨S_, .f32⟩
  | 48 => ⟨S_, .f32⟩
  | 49 => ⟨S100x100, .f32⟩
  | 50 => ⟨S100x100, .f32⟩
  | 51 => ⟨S_, .f32⟩
  | 52 => ⟨S100, .f32⟩
  | 53 => ⟨S_, .f32⟩
  | 54 => ⟨S_, .f32⟩
  | 55 => ⟨S100, .f32⟩
  | 56 => ⟨S100, .i1⟩
  | 57 => ⟨S_, .f32⟩
  | 58 => ⟨S_, .f32⟩
  | 59 => ⟨S100, .f32⟩
  | 60 => ⟨S100, .f32⟩
  | 61 => ⟨S_, .f32⟩
  | 62 => ⟨S_, .f32⟩
  | 63 => ⟨S2, .i32⟩
  | 64 => ⟨S_, .i32⟩
  | 65 => ⟨S2, .i32⟩
  | 66 => ⟨S2, .i1⟩
  | 67 => ⟨S2, .f32⟩
  | 68 => ⟨S2, .f32⟩
  | 69 => ⟨S2, .f32⟩
  | 70 => ⟨S2, .i32⟩
  | 71 => ⟨S_, .i32⟩
  | 72 => ⟨S2, .i32⟩
  | 73 => ⟨S2, .i1⟩
  | 74 => ⟨S100x1, .f32⟩
  | 75 => ⟨S100x1, .f32⟩
  | 76 => ⟨S100x2, .i1⟩
  | 77 => ⟨S100x2, .f32⟩
  | 78 => ⟨S100x2, .f32⟩
  | 79 => ⟨S100x2, .f32⟩
  | 80 => ⟨S1x2, .f32⟩
  | 81 => ⟨S100x2, .f32⟩
  | 82 => ⟨S100x2, .i1⟩
  | 83 => ⟨S_, .f32⟩
  | 84 => ⟨S_, .f32⟩
  | 85 => ⟨S100x2, .f32⟩
  | 86 => ⟨S100x2, .f32⟩
  | 87 => ⟨S100x2, .f32⟩
  | 88 => ⟨S100x2, .f32⟩
  | 89 => ⟨S_, .f32⟩
  | 90 => ⟨S2, .f32⟩
  | 91 => ⟨S2, .f32⟩
  | 92 => ⟨S2, .f32⟩
  | 93 => ⟨S1x2, .f32⟩
  | 94 => ⟨S100x2, .f32⟩
  | 95 => ⟨S100x2, .f32⟩
  | 96 => ⟨S100x512, .f32⟩
  | 97 => ⟨S1x512, .f32⟩
  | 98 => ⟨S100x512, .f32⟩
  | 99 => ⟨S100x512, .f32⟩
  | 100 => ⟨S_, .f32⟩
  | 101 => ⟨S100x512, .f32⟩
  | 102 => ⟨S100x512, .f32⟩
  | 103 => ⟨S100x10, .f32⟩
  | 104 => ⟨S1x10, .f32⟩
  | 105 => ⟨S100x10, .f32⟩
  | 106 => ⟨S100x10, .f32⟩
  | _ => ⟨S100x2, .f32⟩

abbrev hbmTy (i : Nat) : BufTy := match i / 128 with
  | 0 => hbmTy0_0 i
  | 1 => hbmTy0_1 i
  | 2 => hbmTy0_2 i
  | _ => ⟨S100x2, .f32⟩

abbrev bufTy : (tb : Table) → Fin (tcTables nBuf tb) → BufTy
  | .hbm, ⟨i, _⟩ => hbmTy i
  | _, _ => ⟨S100x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_call2_v0 : Ref sig .tc := ⟨.hbm, 41, rfl⟩
abbrev main_call2_v1 : Ref sig .tc := ⟨.hbm, 42, rfl⟩
abbrev main_v24 : Ref sig .tc := ⟨.hbm, 43, rfl⟩
abbrev main_c_6 : Ref sig .tc := ⟨.hbm, 44, rfl⟩
abbrev main_c_7 : Ref sig .tc := ⟨.hbm, 45, rfl⟩
abbrev main_v25_0 : Ref sig .tc := ⟨.hbm, 46, rfl⟩
abbrev main_v25_1 : Ref sig .tc := ⟨.hbm, 47, rfl⟩
abbrev main_v25_2 : Ref sig .tc := ⟨.hbm, 48, rfl⟩
abbrev main_while0c_c_32 : Ref sig .tc := ⟨.hbm, 49, rfl⟩
abbrev main_while0c_v96 : Ref sig .tc := ⟨.hbm, 50, rfl⟩
abbrev main_while0b_c_32 : Ref sig .tc := ⟨.hbm, 51, rfl⟩
abbrev main_while0b_v96 : Ref sig .tc := ⟨.hbm, 52, rfl⟩
abbrev main_while0b_c_33 : Ref sig .tc := ⟨.hbm, 53, rfl⟩
abbrev main_while0b_v97 : Ref sig .tc := ⟨.hbm, 54, rfl⟩
abbrev main_while0b_v98 : Ref sig .tc := ⟨.hbm, 55, rfl⟩
abbrev main_while0b_c_34 : Ref sig .tc := ⟨.hbm, 56, rfl⟩
abbrev main_while0b_v99 : Ref sig .tc := ⟨.hbm, 57, rfl⟩
abbrev main_while0b_v100 : Ref sig .tc := ⟨.hbm, 58, rfl⟩
abbrev main_while0b_c_35 : Ref sig .tc := ⟨.hbm, 59, rfl⟩
abbrev main_while0b_v101 : Ref sig .tc := ⟨.hbm, 60, rfl⟩
abbrev main_while0b_c_36 : Ref sig .tc := ⟨.hbm, 61, rfl⟩
abbrev main_while0b_v102 : Ref sig .tc := ⟨.hbm, 62, rfl⟩
abbrev main_while0b_v103 : Ref sig .tc := ⟨.hbm, 63, rfl⟩
abbrev main_while0b_c_37 : Ref sig .tc := ⟨.hbm, 64, rfl⟩
abbrev main_while0b_v104 : Ref sig .tc := ⟨.hbm, 65, rfl⟩
abbrev main_while0b_v105 : Ref sig .tc := ⟨.hbm, 66, rfl⟩
abbrev main_while0b_c_38 : Ref sig .tc := ⟨.hbm, 67, rfl⟩
abbrev main_while0b_v106 : Ref sig .tc := ⟨.hbm, 68, rfl⟩
abbrev main_while0b_v107 : Ref sig .tc := ⟨.hbm, 69, rfl⟩
abbrev main_while0b_v108 : Ref sig .tc := ⟨.hbm, 70, rfl⟩
abbrev main_while0b_v109 : Ref sig .tc := ⟨.hbm, 71, rfl⟩
abbrev main_while0b_v110 : Ref sig .tc := ⟨.hbm, 72, rfl⟩
abbrev main_while0b_c_39 : Ref sig .tc := ⟨.hbm, 73, rfl⟩
abbrev main_while0b_v111 : Ref sig .tc := ⟨.hbm, 74, rfl⟩
abbrev main_cst_8 : Ref sig .tc := ⟨.hbm, 75, rfl⟩
abbrev main_v26 : Ref sig .tc := ⟨.hbm, 76, rfl⟩
abbrev main_v27 : Ref sig .tc := ⟨.hbm, 77, rfl⟩
abbrev main_cst_9 : Ref sig .tc := ⟨.hbm, 78, rfl⟩
abbrev main_call3_v0 : Ref sig .tc := ⟨.hbm, 79, rfl⟩
abbrev main_call3_v1 : Ref sig .tc := ⟨.hbm, 80, rfl⟩
abbrev main_v28 : Ref sig .tc := ⟨.hbm, 81, rfl⟩
abbrev main_cst_10 : Ref sig .tc := ⟨.hbm, 82, rfl⟩
abbrev main_v29 : Ref sig .tc := ⟨.hbm, 83, rfl⟩
abbrev main_call4_v0 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_c_11 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_cst_12 : Ref sig .tc := ⟨.hbm, 93, rfl⟩
abbrev main_v37 : Ref sig .tc := ⟨.hbm, 94, rfl⟩
abbrev main_cst_13 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_cst_14 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_c_15 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_c_16 : Ref sig .tc := ⟨.hbm, 112, rfl⟩
abbrev main_c_17 : Ref sig .tc := ⟨.hbm, 113, rfl⟩
abbrev main_v52_0 : Ref sig .tc := ⟨.hbm, 114, rfl⟩
abbrev main_v52_1 : Ref sig .tc := ⟨.hbm, 115, rfl⟩
abbrev main_v52_2 : Ref sig .tc := ⟨.hbm, 116, rfl⟩
abbrev main_v52_3 : Ref sig .tc := ⟨.hbm, 117, rfl⟩
abbrev main_while1c_c_33 : Ref sig .tc := ⟨.hbm, 118, rfl⟩
abbrev main_while1c_v96 : Ref sig .tc := ⟨.hbm, 119, rfl⟩
abbrev main_while1b_c_33 : Ref sig .tc := ⟨.hbm, 120, rfl⟩
abbrev main_while1b_v96 : Ref sig .tc := ⟨.hbm, 121, rfl⟩
abbrev main_while1b_v97 : Ref sig .tc := ⟨.hbm, 122, rfl⟩
abbrev main_while1b_v98 : Ref sig .tc := ⟨.hbm, 123, rfl⟩
abbrev main_while1b_c_34 : Ref sig .tc := ⟨.hbm, 124, rfl⟩
abbrev main_while1b_v99 : Ref sig .tc := ⟨.hbm, 125, rfl⟩
abbrev main_while1b_v100 : Ref sig .tc := ⟨.hbm, 126, rfl⟩
abbrev main_while1b_c_35 : Ref sig .tc := ⟨.hbm, 127, rfl⟩
abbrev main_while1b_v101 : Ref sig .tc := ⟨.hbm, 128, rfl⟩
abbrev main_while1b_v102 : Ref sig .tc := ⟨.hbm, 129, rfl⟩
abbrev main_while1b_c_36 : Ref sig .tc := ⟨.hbm, 130, rfl⟩
abbrev main_while1b_v103 : Ref sig .tc := ⟨.hbm, 131, rfl⟩
abbrev main_while1b_v104 : Ref sig .tc := ⟨.hbm, 132, rfl⟩
abbrev main_while1b_v105 : Ref sig .tc := ⟨.hbm, 133, rfl⟩
abbrev main_while1b_c_37 : Ref sig .tc := ⟨.hbm, 134, rfl⟩
abbrev main_while1b_v106 : Ref sig .tc := ⟨.hbm, 135, rfl⟩
abbrev main_while1b_v107 : Ref sig .tc := ⟨.hbm, 136, rfl⟩
abbrev main_while1b_c_38 : Ref sig .tc := ⟨.hbm, 137, rfl⟩
abbrev main_while1b_v108 : Ref sig .tc := ⟨.hbm, 138, rfl⟩
abbrev main_while1b_v109 : Ref sig .tc := ⟨.hbm, 139, rfl⟩
abbrev main_while1b_v110 : Ref sig .tc := ⟨.hbm, 140, rfl⟩
abbrev main_while1b_v111 : Ref sig .tc := ⟨.hbm, 141, rfl⟩
abbrev main_while1b_v112 : Ref sig .tc := ⟨.hbm, 142, rfl⟩
abbrev main_while1b_c_39 : Ref sig .tc := ⟨.hbm, 143, rfl⟩
abbrev main_while1b_v113 : Ref sig .tc := ⟨.hbm, 144, rfl⟩
abbrev main_while1b_v114 : Ref sig .tc := ⟨.hbm, 145, rfl⟩
abbrev main_while1b_c_40 : Ref sig .tc := ⟨.hbm, 146, rfl⟩
abbrev main_while1b_v115 : Ref sig .tc := ⟨.hbm, 147, rfl⟩
abbrev main_while1b_v116 : Ref sig .tc := ⟨.hbm, 148, rfl⟩
abbrev main_while1b_c_41 : Ref sig .tc := ⟨.hbm, 149, rfl⟩
abbrev main_while1b_v117 : Ref sig .tc := ⟨.hbm, 150, rfl⟩
abbrev main_while1b_c_42 : Ref sig .tc := ⟨.hbm, 151, rfl⟩
abbrev main_while1b_v118 : Ref sig .tc := ⟨.hbm, 152, rfl⟩
abbrev main_while1b_v119 : Ref sig .tc := ⟨.hbm, 153, rfl⟩
abbrev main_while1b_v120 : Ref sig .tc := ⟨.hbm, 154, rfl⟩
abbrev main_while1b_v121 : Ref sig .tc := ⟨.hbm, 155, rfl⟩
abbrev main_while1b_v122 : Ref sig .tc := ⟨.hbm, 156, rfl⟩
abbrev main_while1b_call6_v0 : Ref sig .tc := ⟨.hbm, 157, rfl⟩
abbrev main_while1b_call6_v1 : Ref sig .tc := ⟨.hbm, 158, rfl⟩
abbrev main_while1b_v123 : Ref sig .tc := ⟨.hbm, 159, rfl⟩
abbrev main_while1b_c_43 : Ref sig .tc := ⟨.hbm, 160, rfl⟩
abbrev main_while1b_v124 : Ref sig .tc := ⟨.hbm, 161, rfl⟩
abbrev main_while1b_v125 : Ref sig .tc := ⟨.hbm, 162, rfl⟩
abbrev main_while1b_c_44 : Ref sig .tc := ⟨.hbm, 163, rfl⟩
abbrev main_while1b_v126 : Ref sig .tc := ⟨.hbm, 164, rfl⟩
abbrev main_while1b_v127 : Ref sig .tc := ⟨.hbm, 165, rfl⟩
abbrev main_while1b_c_45 : Ref sig .tc := ⟨.hbm, 166, rfl⟩
abbrev main_while1b_v128 : Ref sig .tc := ⟨.hbm, 167, rfl⟩
abbrev main_while1b_v129 : Ref sig .tc := ⟨.hbm, 168, rfl⟩
abbrev main_while1b_c_46 : Ref sig .tc := ⟨.hbm, 169, rfl⟩
abbrev main_while1b_v130 : Ref sig .tc := ⟨.hbm, 170, rfl⟩
abbrev main_while1b_v131 : Ref sig .tc := ⟨.hbm, 171, rfl⟩
abbrev main_while1b_c_47 : Ref sig .tc := ⟨.hbm, 172, rfl⟩
abbrev main_while1b_v132 : Ref sig .tc := ⟨.hbm, 173, rfl⟩
abbrev main_while1b_v133 : Ref sig .tc := ⟨.hbm, 174, rfl⟩
abbrev main_while1b_v134 : Ref sig .tc := ⟨.hbm, 175, rfl⟩
abbrev main_while1b_c_48 : Ref sig .tc := ⟨.hbm, 176, rfl⟩
abbrev main_while1b_call8_v0 : Ref sig .tc := ⟨.hbm, 177, rfl⟩
abbrev main_while1b_call8_v1 : Ref sig .tc := ⟨.hbm, 178, rfl⟩
abbrev main_while1b_v135 : Ref sig .tc := ⟨.hbm, 179, rfl⟩
abbrev main_while1b_c_49 : Ref sig .tc := ⟨.hbm, 180, rfl⟩
abbrev main_while1b_v136 : Ref sig .tc := ⟨.hbm, 181, rfl⟩
abbrev main_while1b_v137 : Ref sig .tc := ⟨.hbm, 182, rfl⟩
abbrev main_while1b_c_50 : Ref sig .tc := ⟨.hbm, 183, rfl⟩
abbrev main_while1b_v138 : Ref sig .tc := ⟨.hbm, 184, rfl⟩
abbrev main_while1b_v139 : Ref sig .tc := ⟨.hbm, 185, rfl⟩
abbrev main_while1b_v140 : Ref sig .tc := ⟨.hbm, 186, rfl⟩
abbrev main_while1b_c_51 : Ref sig .tc := ⟨.hbm, 187, rfl⟩
abbrev main_while1b_call9_v0 : Ref sig .tc := ⟨.hbm, 188, rfl⟩
abbrev main_while1b_call9_v1 : Ref sig .tc := ⟨.hbm, 189, rfl⟩
abbrev main_while1b_v141 : Ref sig .tc := ⟨.hbm, 190, rfl⟩
abbrev main_while1b_c_52 : Ref sig .tc := ⟨.hbm, 191, rfl⟩
abbrev main_while1b_v142 : Ref sig .tc := ⟨.hbm, 192, rfl⟩
abbrev main_while1b_v143 : Ref sig .tc := ⟨.hbm, 193, rfl⟩
abbrev main_while1b_c_53 : Ref sig .tc := ⟨.hbm, 194, rfl⟩
abbrev main_while1b_v144 : Ref sig .tc := ⟨.hbm, 195, rfl⟩
abbrev main_while1b_v145 : Ref sig .tc := ⟨.hbm, 196, rfl⟩
abbrev main_while1b_v146 : Ref sig .tc := ⟨.hbm, 197, rfl⟩
abbrev main_while1b_c_54 : Ref sig .tc := ⟨.hbm, 198, rfl⟩
abbrev main_while1b_v147 : Ref sig .tc := ⟨.hbm, 199, rfl⟩
abbrev main_while1b_v148 : Ref sig .tc := ⟨.hbm, 200, rfl⟩
abbrev main_while1b_v149 : Ref sig .tc := ⟨.hbm, 201, rfl⟩
abbrev main_while1b_v150 : Ref sig .tc := ⟨.hbm, 202, rfl⟩
abbrev main_while1b_v151 : Ref sig .tc := ⟨.hbm, 203, rfl⟩
abbrev main_while1b_v152 : Ref sig .tc := ⟨.hbm, 204, rfl⟩
abbrev main_while1b_v153 : Ref sig .tc := ⟨.hbm, 205, rfl⟩
abbrev main_while1b_v154 : Ref sig .tc := ⟨.hbm, 206, rfl⟩
abbrev main_while1b_v155 : Ref sig .tc := ⟨.hbm, 207, rfl⟩
abbrev main_while1b_v156 : Ref sig .tc := ⟨.hbm, 208, rfl⟩
abbrev main_while1b_c_55 : Ref sig .tc := ⟨.hbm, 209, rfl⟩
abbrev main_while1b_v157 : Ref sig .tc := ⟨.hbm, 210, rfl⟩
abbrev main_while1b_v158 : Ref sig .tc := ⟨.hbm, 211, rfl⟩
abbrev main_while1b_v159 : Ref sig .tc := ⟨.hbm, 212, rfl⟩
abbrev main_while1b_cst_56 : Ref sig .tc := ⟨.hbm, 213, rfl⟩
abbrev main_while1b_call10_v0 : Ref sig .tc := ⟨.hbm, 214, rfl⟩
abbrev main_while1b_call10_v1 : Ref sig .tc := ⟨.hbm, 215, rfl⟩
abbrev main_while1b_v160 : Ref sig .tc := ⟨.hbm, 216, rfl⟩
abbrev main_while1b_cst_57 : Ref sig .tc := ⟨.hbm, 217, rfl⟩
abbrev main_while1b_v161 : Ref sig .tc := ⟨.hbm, 218, rfl⟩
abbrev main_while1b_v162 : Ref sig .tc := ⟨.hbm, 219, rfl⟩
abbrev main_while1b_cst_58 : Ref sig .tc := ⟨.hbm, 220, rfl⟩
abbrev main_while1b_call11_v0 : Ref sig .tc := ⟨.hbm, 221, rfl⟩
abbrev main_while1b_call11_v1 : Ref sig .tc := ⟨.hbm, 222, rfl⟩
abbrev main_while1b_call11_v2 : Ref sig .tc := ⟨.hbm, 223, rfl⟩
abbrev main_while1b_v163 : Ref sig .tc := ⟨.hbm, 224, rfl⟩
abbrev main_while1b_cst_59 : Ref sig .tc := ⟨.hbm, 225, rfl⟩
abbrev main_while1b_v164 : Ref sig .tc := ⟨.hbm, 226, rfl⟩
abbrev main_while1b_cst_60 : Ref sig .tc := ⟨.hbm, 227, rfl⟩
abbrev main_while1b_call12_v0 : Ref sig .tc := ⟨.hbm, 228, rfl⟩
abbrev main_while1b_call12_v1 : Ref sig .tc := ⟨.hbm, 229, rfl⟩
abbrev main_while1b_v165 : Ref sig .tc := ⟨.hbm, 230, rfl⟩
abbrev main_while1b_cst_61 : Ref sig .tc := ⟨.hbm, 231, rfl⟩
abbrev main_while1b_v166 : Ref sig .tc := ⟨.hbm, 232, rfl⟩
abbrev main_while1b_v167 : Ref sig .tc := ⟨.hbm, 233, rfl⟩
abbrev main_while1b_v168 : Ref sig .tc := ⟨.hbm, 234, rfl⟩
abbrev main_while1b_v169 : Ref sig .tc := ⟨.hbm, 235, rfl⟩
abbrev main_while1b_cst_62 : Ref sig .tc := ⟨.hbm, 236, rfl⟩
abbrev main_while1b_v170 : Ref sig .tc := ⟨.hbm, 237, rfl⟩
abbrev main_while1b_v171 : Ref sig .tc := ⟨.hbm, 238, rfl⟩
abbrev main_while1b_v172 : Ref sig .tc := ⟨.hbm, 239, rfl⟩
abbrev main_while1b_cst_63 : Ref sig .tc := ⟨.hbm, 240, rfl⟩
abbrev main_while1b_v173 : Ref sig .tc := ⟨.hbm, 241, rfl⟩
abbrev main_while1b_v174 : Ref sig .tc := ⟨.hbm, 242, rfl⟩
abbrev main_while1b_cst_64 : Ref sig .tc := ⟨.hbm, 243, rfl⟩
abbrev main_while1b_cst_65 : Ref sig .tc := ⟨.hbm, 244, rfl⟩
abbrev main_while1b_call15_v0 : Ref sig .tc := ⟨.hbm, 245, rfl⟩
abbrev main_while1b_call15_v1 : Ref sig .tc := ⟨.hbm, 246, rfl⟩
abbrev main_while1b_v175 : Ref sig .tc := ⟨.hbm, 247, rfl⟩
abbrev main_while1b_v176 : Ref sig .tc := ⟨.hbm, 248, rfl⟩
abbrev main_while1b_v177 : Ref sig .tc := ⟨.hbm, 249, rfl⟩
abbrev main_while1b_cst_66 : Ref sig .tc := ⟨.hbm, 250, rfl⟩
abbrev main_while1b_v178 : Ref sig .tc := ⟨.hbm, 251, rfl⟩
abbrev main_while1b_v179 : Ref sig .tc := ⟨.hbm, 252, rfl⟩
abbrev main_while1b_v180 : Ref sig .tc := ⟨.hbm, 253, rfl⟩
abbrev main_while1b_v181 : Ref sig .tc := ⟨.hbm, 254, rfl⟩
abbrev main_while1b_v182 : Ref sig .tc := ⟨.hbm, 255, rfl⟩
abbrev main_while1b_v183 : Ref sig .tc := ⟨.hbm, 256, rfl⟩
abbrev main_while1b_v184 : Ref sig .tc := ⟨.hbm, 257, rfl⟩
abbrev main_while1b_cst_67 : Ref sig .tc := ⟨.hbm, 258, rfl⟩
abbrev main_while1b_v185 : Ref sig .tc := ⟨.hbm, 259, rfl⟩
abbrev main_while1b_v186 : Ref sig .tc := ⟨.hbm, 260, rfl⟩
abbrev main_while1b_cst_68 : Ref sig .tc := ⟨.hbm, 261, rfl⟩
abbrev main_while1b_call16_v0 : Ref sig .tc := ⟨.hbm, 262, rfl⟩
abbrev main_while1b_call16_v1 : Ref sig .tc := ⟨.hbm, 263, rfl⟩
abbrev main_while1b_v187 : Ref sig .tc := ⟨.hbm, 264, rfl⟩
abbrev main_while1b_v188 : Ref sig .tc := ⟨.hbm, 265, rfl⟩
abbrev main_while1b_cst_69 : Ref sig .tc := ⟨.hbm, 266, rfl⟩
abbrev main_while1b_v189 : Ref sig .tc := ⟨.hbm, 267, rfl⟩
abbrev main_while1b_v190 : Ref sig .tc := ⟨.hbm, 268, rfl⟩
abbrev main_while1b_v191 : Ref sig .tc := ⟨.hbm, 269, rfl⟩
abbrev main_while1b_cst_70 : Ref sig .tc := ⟨.hbm, 270, rfl⟩
abbrev main_while1b_v192 : Ref sig .tc := ⟨.hbm, 271, rfl⟩
abbrev main_while1b_v193 : Ref sig .tc := ⟨.hbm, 272, rfl⟩
abbrev main_while1b_v194 : Ref sig .tc := ⟨.hbm, 273, rfl⟩
abbrev main_while1b_v195 : Ref sig .tc := ⟨.hbm, 274, rfl⟩
abbrev main_while1b_v196 : Ref sig .tc := ⟨.hbm, 275, rfl⟩
abbrev main_while1b_c_71 : Ref sig .tc := ⟨.hbm, 276, rfl⟩
abbrev main_while1b_v197 : Ref sig .tc := ⟨.hbm, 277, rfl⟩
abbrev main_while1b_v198 : Ref sig .tc := ⟨.hbm, 278, rfl⟩
abbrev main_while1b_v199 : Ref sig .tc := ⟨.hbm, 279, rfl⟩
abbrev main_while1b_v200 : Ref sig .tc := ⟨.hbm, 280, rfl⟩
abbrev main_while1b_v201 : Ref sig .tc := ⟨.hbm, 281, rfl⟩
abbrev main_while1b_v202 : Ref sig .tc := ⟨.hbm, 282, rfl⟩
abbrev main_while1b_v203 : Ref sig .tc := ⟨.hbm, 283, rfl⟩
abbrev main_while1b_cst_72 : Ref sig .tc := ⟨.hbm, 284, rfl⟩
abbrev main_while1b_call18_v0 : Ref sig .tc := ⟨.hbm, 285, rfl⟩
abbrev main_while1b_call18_v1 : Ref sig .tc := ⟨.hbm, 286, rfl⟩
abbrev main_while1b_call18_v2 : Ref sig .tc := ⟨.hbm, 287, rfl⟩
abbrev main_while1b_v204 : Ref sig .tc := ⟨.hbm, 288, rfl⟩
abbrev main_while1b_call19_v0 : Ref sig .tc := ⟨.hbm, 289, rfl⟩
abbrev main_while1b_v205 : Ref sig .tc := ⟨.hbm, 290, rfl⟩
abbrev main_while1b_v206 : Ref sig .tc := ⟨.hbm, 291, rfl⟩
abbrev main_while1b_v207 : Ref sig .tc := ⟨.hbm, 292, rfl⟩
abbrev main_while1b_v208 : Ref sig .tc := ⟨.hbm, 293, rfl⟩
abbrev main_while1b_v209 : Ref sig .tc := ⟨.hbm, 294, rfl⟩
abbrev main_while1b_c_73 : Ref sig .tc := ⟨.hbm, 295, rfl⟩
abbrev main_while1b_v210 : Ref sig .tc := ⟨.hbm, 296, rfl⟩
abbrev main_v53 : Ref sig .tc := ⟨.hbm, 297, rfl⟩
abbrev main_v54 : Ref sig .tc := ⟨.hbm, 298, rfl⟩
abbrev main_c_18 : Ref sig .tc := ⟨.hbm, 299, rfl⟩
abbrev main_v55 : Ref sig .tc := ⟨.hbm, 300, rfl⟩
abbrev main_v56 : Ref sig .tc := ⟨.hbm, 301, rfl⟩
abbrev main_v57 : Ref sig .tc := ⟨.hbm, 302, rfl⟩
abbrev main_cst_19 : Ref sig .tc := ⟨.hbm, 303, rfl⟩
abbrev main_call20_v0 : Ref sig .tc := ⟨.hbm, 304, rfl⟩
abbrev main_call20_v1 : Ref sig .tc := ⟨.hbm, 305, rfl⟩
abbrev main_v58 : Ref sig .tc := ⟨.hbm, 306, rfl⟩
abbrev main_cst_20 : Ref sig .tc := ⟨.hbm, 307, rfl⟩
abbrev main_v59 : Ref sig .tc := ⟨.hbm, 308, rfl⟩
abbrev main_cst_21 : Ref sig .tc := ⟨.hbm, 309, rfl⟩
abbrev main_v60 : Ref sig .tc := ⟨.hbm, 310, rfl⟩
abbrev main_v61 : Ref sig .tc := ⟨.hbm, 311, rfl⟩
abbrev main_v62 : Ref sig .tc := ⟨.hbm, 312, rfl⟩
abbrev main_cst_22 : Ref sig .tc := ⟨.hbm, 313, rfl⟩
abbrev main_call21_v0 : Ref sig .tc := ⟨.hbm, 314, rfl⟩
abbrev main_call21_v1 : Ref sig .tc := ⟨.hbm, 315, rfl⟩
abbrev main_v63 : Ref sig .tc := ⟨.hbm, 316, rfl⟩
abbrev main_cst_23 : Ref sig .tc := ⟨.hbm, 317, rfl⟩
abbrev main_v64 : Ref sig .tc := ⟨.hbm, 318, rfl⟩
abbrev main_v65 : Ref sig .tc := ⟨.hbm, 319, rfl⟩
abbrev main_c_24 : Ref sig .tc := ⟨.hbm, 320, rfl⟩
abbrev main_v66 : Ref sig .tc := ⟨.hbm, 321, rfl⟩
abbrev main_v67 : Ref sig .tc := ⟨.hbm, 322, rfl⟩
abbrev main_call22_v0 : Ref sig .tc := ⟨.hbm, 323, rfl⟩
abbrev main_call22_v1 : Ref sig .tc := ⟨.hbm, 324, rfl⟩
abbrev main_v68 : Ref sig .tc := ⟨.hbm, 325, rfl⟩
abbrev main_v69 : Ref sig .tc := ⟨.hbm, 326, rfl⟩
abbrev main_c_25 : Ref sig .tc := ⟨.hbm, 327, rfl⟩
abbrev main_v70 : Ref sig .tc := ⟨.hbm, 328, rfl⟩
abbrev main_v71 : Ref sig .tc := ⟨.hbm, 329, rfl⟩
abbrev main_v72 : Ref sig .tc := ⟨.hbm, 330, rfl⟩
abbrev main_v73 : Ref sig .tc := ⟨.hbm, 331, rfl⟩
abbrev main_call23_v0 : Ref sig .tc := ⟨.hbm, 332, rfl⟩
abbrev main_call23_v1 : Ref sig .tc := ⟨.hbm, 333, rfl⟩
abbrev main_call23_v2 : Ref sig .tc := ⟨.hbm, 334, rfl⟩
abbrev main_v74 : Ref sig .tc := ⟨.hbm, 335, rfl⟩
abbrev main_v75 : Ref sig .tc := ⟨.hbm, 336, rfl⟩
abbrev main_v76 : Ref sig .tc := ⟨.hbm, 337, rfl⟩
abbrev main_v77 : Ref sig .tc := ⟨.hbm, 338, rfl⟩
abbrev main_cst_26 : Ref sig .tc := ⟨.hbm, 339, rfl⟩
abbrev main_cst_27 : Ref sig .tc := ⟨.hbm, 340, rfl⟩
abbrev main_call24_v0 : Ref sig .tc := ⟨.hbm, 341, rfl⟩
abbrev main_call24_v1 : Ref sig .tc := ⟨.hbm, 342, rfl⟩
abbrev main_v78 : Ref sig .tc := ⟨.hbm, 343, rfl⟩
abbrev main_v79 : Ref sig .tc := ⟨.hbm, 344, rfl⟩
abbrev main_cst_28 : Ref sig .tc := ⟨.hbm, 345, rfl⟩
abbrev main_v80 : Ref sig .tc := ⟨.hbm, 346, rfl⟩
abbrev main_v81 : Ref sig .tc := ⟨.hbm, 347, rfl⟩
abbrev main_v82 : Ref sig .tc := ⟨.hbm, 348, rfl⟩
abbrev main_v83 : Ref sig .tc := ⟨.hbm, 349, rfl⟩
abbrev main_v84 : Ref sig .tc := ⟨.hbm, 350, rfl⟩
abbrev main_v85 : Ref sig .tc := ⟨.hbm, 351, rfl⟩
abbrev main_v86 : Ref sig .tc := ⟨.hbm, 352, rfl⟩
abbrev main_v87 : Ref sig .tc := ⟨.hbm, 353, rfl⟩
abbrev main_v88 : Ref sig .tc := ⟨.hbm, 354, rfl⟩
abbrev main_v89 : Ref sig .tc := ⟨.hbm, 355, rfl⟩
abbrev main_cst_29 : Ref sig .tc := ⟨.hbm, 356, rfl⟩
abbrev main_v90 : Ref sig .tc := ⟨.hbm, 357, rfl⟩
abbrev main_v91 : Ref sig .tc := ⟨.hbm, 358, rfl⟩
abbrev main_v92 : Ref sig .tc := ⟨.hbm, 359, rfl⟩
abbrev main_v93 : Ref sig .tc := ⟨.hbm, 360, rfl⟩
abbrev main_v94 : Ref sig .tc := ⟨.hbm, 361, rfl⟩
abbrev main_v95 : Ref sig .tc := ⟨.hbm, 362, rfl⟩

abbrev nD : Nat := 1
abbrev τ : Topo := Topo.v7x

variable {F : FTy → Type} [FloatOps F]

abbrev main_while0_count : Scf.Loop 32 := ⟨0#32, 100#32, 1#32⟩

abbrev main_while1_count : Scf.Loop 32 := ⟨0#32, 594#32, 1#32⟩
-- ==== Proof.RefOps.lean ====
/- The reference's host operations, cut where its calls and its two loops cut them, and its blocks as chains of these stretches. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 100000

noncomputable section

namespace Cert.ReferenceIdeal.Hand

open Idealize.ShloMosaic Idealize.ShloMosaic.TcCoe Idealize.ShloMosaic.StableHlo Cert.ReferenceIdeal.Gen
open Idealize.SL Idealize.SL.RA Idealize.SL.BI
open scoped Idealize.SL.BI
open Idealize.SL.BI.BIBase Idealize.SL.Sem

variable {F : FTy → Type} [FloatOps F]

/-- The contents of a buffer of the shape and element type. -/
abbrev Ct (F : FTy → Type) (s : Shape) (e : EltTy) : Type := (⟨s, e⟩ : BufTy).Contents (Elt F)

/-- A program of the reference's host. -/
abbrev HProg (F : FTy → Type) [FloatOps F] : Type 1 :=
  Prog (TpuEff nD τ sig (Elt F) (HostLoop.Sig (Pipeline.Sig Λ₀ (Fin 0) fun p => (pcfgs (F := F) p).Adm) 2) .tc) PUnit

/-- A stretch of 19 host operations. -/
abbrev ops0_0 : List (HloOp τ sig (Elt F)) :=
  [ unary main_arg0 main_v0 (broadcastInDim S100x1x2 ![0, 2] bcast_S100x2_S100x1x2_0_2 : Ct F S100x2 .f32 → Ct F S100x1x2 .f32),
    unary main_arg0 main_v1 (broadcastInDim S1x100x2 ![1, 2] bcast_S100x2_S1x100x2_1_2 : Ct F S100x2 .f32 → Ct F S1x100x2 .f32),
    unary main_v0 main_v2 (broadcastInDim S100x100x2 ![0, 1, 2] bcast_S100x1x2_S100x100x2_0_1_2 : Ct F S100x1x2 .f32 → Ct F S100x100x2 .f32),
    unary main_v1 main_v3 (broadcastInDim S100x100x2 ![0, 1, 2] bcast_S1x100x2_S100x100x2_0_1_2 : Ct F S1x100x2 .f32 → Ct F S100x100x2 .f32),
    binary main_v2 main_v3 main_v4 (subf : Ct F S100x100x2 .f32 → Ct F S100x100x2 .f32 → Ct F S100x100x2 .f32),
    binary main_v4 main_v4 main_v5 (mulf : Ct F S100x100x2 .f32 → Ct F S100x100x2 .f32 → Ct F S100x100x2 .f32),
    nullary main_cst (constant S_ .f32 0x00000000#32),
    binary main_v5 main_cst main_v6 ((fun x v => Host.reduceAdd x v reducesTo_S100x100x2_S100x100_d2 h_S_) : Ct F S100x100x2 .f32 → Ct F S_ .f32 → Ct F S100x100 .f32),
    nullary main_cst_0 (constant S_ .f32 0x2B8CBCCC#32),
    unary main_cst_0 main_v7 (broadcastInDim S100x100 ![] bcast_S_S100x100 : Ct F S_ .f32 → Ct F S100x100 .f32),
    binary main_v6 main_v7 main_v8 (maximumf : Ct F S100x100 .f32 → Ct F S100x100 .f32 → Ct F S100x100 .f32),
    unary main_v8 main_v9 (Host.sqrt : Ct F S100x100 .f32 → Ct F S100x100 .f32),
    nullary main_v10 (iotaInDim S100x100 32 0),
    nullary main_v11 (iotaInDim S100x100 32 1),
    nullary main_c (constantI S_ 32 0#32),
    unary main_c main_v12 (broadcastInDim S100x100 ![] bcast_S_S100x100 : Ct F S_ .i32 → Ct F S100x100 .i32),
    binary main_v10 main_v12 main_v13 (addi : Ct F S100x100 .i32 → Ct F S100x100 .i32 → Ct F S100x100 .i32),
    binary main_v13 main_v11 main_v14 (cmpi .eq : Ct F S100x100 .i32 → Ct F S100x100 .i32 → Ct F S100x100 .i1),
    nullary main_cst_1 (constant S_ .f32 0x00000000#32) ]
/-- The stretch touches the device's own buffers alone. -/
theorem ops0_0_sub : (ops0_0 : List (HloOp τ sig (Elt F))).Forall fun op => op.bufs ⊆ tcRefs τ sig :=
  ⟨unary_bufs_sub .., unary_bufs_sub .., unary_bufs_sub .., unary_bufs_sub .., binary_bufs_sub .., binary_bufs_sub .., nullary_bufs_sub .., binary_bufs_sub .., nullary_bufs_sub .., unary_bufs_sub .., binary_bufs_sub .., unary_bufs_sub .., nullary_bufs_sub .., nullary_bufs_sub .., nullary_bufs_sub .., unary_bufs_sub .., binary_bufs_sub .., binary_bufs_sub .., nullary_bufs_sub ..⟩
/-- The stretch allocates nothing. -/
theorem ops0_0_fresh : (ops0_0 : List (HloOp τ sig (Elt F))).Forall fun op => op.fresh = ∅ :=
  forall_fresh_of_map rfl
/-- What the stretch writes. -/
abbrev ops0_0_W : List (Ref sig .tc) := [main_v0, main_v1, main_v2, main_v3, main_v4, main_v5, main_cst, main_v6, main_cst_0, main_v7, main_v8, main_v9, main_v10, main_v11, main_c, main_v12, main_v13, main_v14, main_cst_1]
/-- The stretch writes the buffers listed and no others. -/
theorem ops0_0_writes : (ops0_0 : List (HloOp τ sig (Elt F))).Forall fun op => op.writes ⊆ (ops0_0_W.map (Proc.devRef (τ := τ) .tc)).toFinset :=
  forall_writes_sub_of_map rfl

/-- A stretch of 3 host operations. -/
abbrev ops0_1 : List (HloOp τ sig (Elt F)) :=
  [ TRef.unary (.of main_cst_1 : TRef sig ⟨S_, .f32⟩) (.of main_call0_v0 : TRef sig ⟨S_, .f32⟩) id,
    TRef.unary (.of main_call0_v0 : TRef sig ⟨S_, .f32⟩) (.of main_call0_v1 : TRef sig ⟨S100x100, .f32⟩) (broadcastInDim S100x100 ![] bcast_S_S100x100),
    TRef.ternary (.of main_v14 : TRef sig ⟨S100x100, .i1⟩) (.of main_call0_v1 : TRef sig ⟨S100x100, .f32⟩) (.of main_v9 : TRef sig ⟨S100x100, .f32⟩) (.of main_v15 : TRef sig ⟨S100x100, .f32⟩) select ]
/-- The stretch touches the device's own buffers alone. -/
theorem ops0_1_sub : (ops0_1 : List (HloOp τ sig (Elt F))).Forall fun op => op.bufs ⊆ tcRefs τ sig :=
  ⟨unary_bufs_sub .., unary_bufs_sub .., ternary_bufs_sub ..⟩
/-- The stretch allocates nothing. -/
theorem ops0_1_fresh : (ops0_1 : List (HloOp τ sig (Elt F))).Forall fun op => op.fresh = ∅ :=
  forall_fresh_of_map rfl
/-- What the stretch writes. -/
abbrev ops0_1_W : List (Ref sig .tc) := [main_call0_v0, main_call0_v1, main_v15]
/-- The stretch writes the buffers listed and no others. -/
theorem ops0_1_writes : (ops0_1 : List (HloOp τ sig (Elt F))).Forall fun op => op.writes ⊆ (ops0_1_W.map (Proc.devRef (τ := τ) .tc)).toFinset :=
  forall_writes_sub_of_map rfl

/-- A stretch of 4 host operations. -/
abbrev ops0_2 : List (HloOp τ sig (Elt F)) :=
  [ nullary main_cst_2 (constant S_ .f32 0x3F99999A#32),
    unary main_cst_2 main_v16 (broadcastInDim S100x100 ![] bcast_S_S100x100 : Ct F S_ .f32 → Ct F S100x100 .f32),
    binary main_v15 main_v16 main_v17 (cmpf .ole : Ct F S100x100 .f32 → Ct F S100x100 .f32 → Ct F S100x100 .i1),
    nullary main_cst_3 (constant S_ .f32 0x49742400#32) ]
/-- The stretch touches the device's own buffers alone. -/
theorem ops0_2_sub : (ops0_2 : List (HloOp τ sig (Elt F))).Forall fun op => op.bufs ⊆ tcRefs τ sig :=
  ⟨nullary_bufs_sub .., unary_bufs_sub .., binary_bufs_sub .., nullary_bufs_sub ..⟩
/-- The stretch allocates nothing. -/
theorem ops0_2_fresh : (ops0_2 : List (HloOp τ sig (Elt F))).Forall fun op => op.fresh = ∅ :=
  forall_fresh_of_map rfl
/-- What the stretch writes. -/
abbrev ops0_2_W : List (Ref sig .tc) := [main_cst_2, main_v16, main_v17, main_cst_3]
/-- The stretch writes the buffers listed and no others. -/
theorem ops0_2_writes : (ops0_2 : List (HloOp τ sig (Elt F))).Forall fun op => op.writes ⊆ (ops0_2_W.map (Proc.devRef (τ := τ) .tc)).toFinset :=
  forall_writes_sub_of_map rfl

/-- A stretch of 3 host operations. -/
abbrev ops0_3 : List (HloOp τ sig (Elt F)) :=
  [ TRef.unary (.of main_cst_3 : TRef sig ⟨S_, .f32⟩) (.of main_call1_v0 : TRef sig ⟨S_, .f32⟩) id,
    TRef.unary (.of main_call1_v0 : TRef sig ⟨S_, .f32⟩) (.of main_call1_v1 : TRef sig ⟨S100x100, .f32⟩) (broadcastInDim S100x100 ![] bcast_S_S100x100),
    TRef.ternary (.of main_v17 : TRef sig ⟨S100x100, .i1⟩) (.of main_v15 : TRef sig ⟨S100x100, .f32⟩) (.of main_call1_v1 : TRef sig ⟨S100x100, .f32⟩) (.of main_v18 : TRef sig ⟨S100x100, .f32⟩) select ]
/-- The stretch touches the device's own buffers alone. -/
theorem ops0_3_sub : (ops0_3 : List (HloOp τ sig (Elt F))).Forall fun op => op.bufs ⊆ tcRefs τ sig :=
  ⟨unary_bufs_sub .., unary_bufs_sub .., ternary_bufs_sub ..⟩
/-- The stretch allocates nothing. -/
theorem ops0_3_fresh : (ops0_3 : List (HloOp τ sig (Elt F))).Forall fun op => op.fresh = ∅ :=
  forall_fresh_of_map rfl
/-- What the stretch writes. -/
abbrev ops0_3_W : List (Ref sig .tc) := [main_call1_v0, main_call1_v1, main_v18]
/-- The stretch writes the buffers listed and no others. -/
theorem ops0_3_writes : (ops0_3 : List (HloOp τ sig (Elt F))).Forall fun op => op.writes ⊆ (ops0_3_W.map (Proc.devRef (τ := τ) .tc)).toFinset :=
  forall_writes_sub_of_map rfl

/-- A stretch of 7 host operations. -/
abbrev ops0_4 : List (HloOp τ sig (Elt F)) :=
  [ nullary main_v19 (iotaInDim S100x100 32 0),
    nullary main_v20 (iotaInDim S100x100 32 1),
    nullary main_c_4 (constantI S_ 32 0#32),
    unary main_c_4 main_v21 (broadcastInDim S100x100 ![] bcast_S_S100x100 : Ct F S_ .i32 → Ct F S100x100 .i32),
    binary main_v19 main_v21 main_v22 (addi : Ct F S100x100 .i32 → Ct F S100x100 .i32 → Ct F S100x100 .i32),
    binary main_v22 main_v20 main_v23 (cmpi .eq : Ct F S100x100 .i32 → Ct F S100x100 .i32 → Ct F S100x100 .i1),
    nullary main_cst_5 (constant S_ .f32 0x00000000#32) ]
/-- The stretch touches the device's own buffers alone. -/
theorem ops0_4_sub : (ops0_4 : List (HloOp τ sig (Elt F))).Forall fun op => op.bufs ⊆ tcRefs τ sig :=
  ⟨nullary_bufs_sub .., nullary_bufs_sub .., nullary_bufs_sub .., unary_bufs_sub .., binary_bufs_sub .., binary_bufs_sub .., nullary_bufs_sub ..⟩
/-- The stretch allocates nothing. -/
theorem ops0_4_fresh : (ops0_4 : List (HloOp τ sig (Elt F))).Forall fun op => op.fresh = ∅ :=
  forall_fresh_of_map rfl
/-- What the stretch writes. -/
abbrev ops0_4_W : List (Ref sig .tc) := [main_v19, main_v20, main_c_4, main_v21, main_v22, main_v23, main_cst_5]
/-- The stretch writes the buffers listed and no others. -/
theorem ops0_4_writes : (ops0_4 : List (HloOp τ sig (Elt F))).Forall fun op => op.writes ⊆ (ops0_4_W.map (Proc.devRef (τ := τ) .tc)).toFinset :=
  forall_writes_sub_of_map rfl

/-- A stretch of 3 host operations. -/
abbrev ops0_5 : List (HloOp τ sig (Elt F)) :=
  [ TRef.unary (.of main_cst_5 : TRef sig ⟨S_, .f32⟩) (.of main_call2_v0 : TRef sig ⟨S_, .f32⟩) id,
    TRef.unary (.of main_call2_v0 : TRef sig ⟨S_, .f32⟩) (.of main_call2_v1 : TRef sig ⟨S100x100, .f32⟩) (broadcastInDim S100x100 ![] bcast_S_S100x100),
    TRef.ternary (.of main_v23 : TRef sig ⟨S100x100, .i1⟩) (.of main_call2_v1 : TRef sig ⟨S100x100, .f32⟩) (.of main_v18 : TRef sig ⟨S100x100, .f32⟩) (.of main_v24 : TRef sig ⟨S100x100, .f32⟩) select ]
/-- The stretch touches the device's own buffers alone. -/
theorem ops0_5_sub : (ops0_5 : List (HloOp τ sig (Elt F))).Forall fun op => op.bufs ⊆ tcRefs τ sig :=
  ⟨unary_bufs_sub .., unary_bufs_sub .., ternary_bufs_sub ..⟩
/-- The stretch allocates nothing. -/
theorem ops0_5_fresh : (ops0_5 : List (HloOp τ sig (Elt F))).Forall fun op => op.fresh = ∅ :=
  forall_fresh_of_map rfl
/-- What the stretch writes. -/
abbrev ops0_5_W : List (Ref sig .tc) := [main_call2_v0, main_call2_v1, main_v24]
/-- The stretch writes the buffers listed and no others. -/
theorem ops0_5_writes : (ops0_5 : List (HloOp τ sig (Elt F))).Forall fun op => op.writes ⊆ (ops0_5_W.map (Proc.devRef (τ := τ) .tc)).toFinset :=
  forall_writes_sub_of_map rfl

/-- A stretch of 5 host operations. -/
abbrev ops0_6 : List (HloOp τ sig (Elt F)) :=
  [ nullary main_c_6 (constantI S_ 32 0#32),
    nullary main_c_7 (constantI S_ 32 0#32),
    unary main_c_7 main_v25_0 id,
    unary main_c_6 main_v25_1 id,
    unary main_v24 main_v25_2 id ]
/-- The stretch touches the device's own buffers alone. -/
theorem ops0_6_sub : (ops0_6 : List (HloOp τ sig (Elt F))).Forall fun op => op.bufs ⊆ tcRefs τ sig :=
  ⟨nullary_bufs_sub .., nullary_bufs_sub .., unary_bufs_sub .., unary_bufs_sub .., unary_bufs_sub ..⟩
/-- The stretch allocates nothing. -/
theorem ops0_6_fresh : (ops0_6 : List (HloOp τ sig (Elt F))).Forall fun op => op.fresh = ∅ :=
  forall_fresh_of_map rfl
/-- What the stretch writes. -/
abbrev ops0_6_W : List (Ref sig .tc) := [main_c_6, main_c_7, main_v25_0, main_v25_1, main_v25_2]
/-- The stretch writes the buffers listed and no others. -/
theorem ops0_6_writes : (ops0_6 : List (HloOp τ sig (Elt F))).Forall fun op => op.writes ⊆ (ops0_6_W.map (Proc.devRef (τ := τ) .tc)).toFinset :=
  forall_writes_sub_of_map rfl

/-- A stretch of 4 host operations. -/
abbrev ops0_7 : List (HloOp τ sig (Elt F)) :=
  [ nullary main_cst_8 (constant S_ .f32 0x48F42400#32),
    unary main_cst_8 main_v26 (broadcastInDim S100x100 ![] bcast_S_S100x100 : Ct F S_ .f32 → Ct F S100x100 .f32),
    binary main_v25_2 main_v26 main_v27 (cmpf .olt : Ct F S100x100 .f32 → Ct F S100x100 .f32 → Ct F S100x100 .i1),
    nullary main_cst_9 (constant S_ .f32 0x00000000#32) ]
/-- The stretch touches the device's own buffers alone. -/
theorem ops0_7_sub : (ops0_7 : List (HloOp τ sig (Elt F))).Forall fun op => op.bufs ⊆ tcRefs τ sig :=
  ⟨nullary_bufs_sub .., unary_bufs_sub .., binary_bufs_sub .., nullary_bufs_sub ..⟩
/-- The stretch allocates nothing. -/
theorem ops0_7_fresh : (ops0_7 : List (HloOp τ sig (Elt F))).Forall fun op => op.fresh = ∅ :=
  forall_fresh_of_map rfl
/-- What the stretch writes. -/
abbrev ops0_7_W : List (Ref sig .tc) := [main_cst_8, main_v26, main_v27, main_cst_9]
/-- The stretch writes the buffers listed and no others. -/
theorem ops0_7_writes : (ops0_7 : List (HloOp τ sig (Elt F))).Forall fun op => op.writes ⊆ (ops0_7_W.map (Proc.devRef (τ := τ) .tc)).toFinset :=
  forall_writes_sub_of_map rfl

/-- A stretch of 3 host operations. -/
abbrev ops0_8 : List (HloOp τ sig (Elt F)) :=
  [ TRef.unary (.of main_cst_9 : TRef sig ⟨S_, .f32⟩) (.of main_call3_v0 : TRef sig ⟨S_, .f32⟩) id,
    TRef.unary (.of main_call3_v0 : TRef sig ⟨S_, .f32⟩) (.of main_call3_v1 : TRef sig ⟨S100x100, .f32⟩) (broadcastInDim S100x100 ![] bcast_S_S100x100),
    TRef.ternary (.of main_v27 : TRef sig ⟨S100x100, .i1⟩) (.of main_v25_2 : TRef sig ⟨S100x100, .f32⟩) (.of main_call3_v1 : TRef sig ⟨S100x100, .f32⟩) (.of main_v28 : TRef sig ⟨S100x100, .f32⟩) select ]
/-- The stretch touches the device's own buffers alone. -/
theorem ops0_8_sub : (ops0_8 : List (HloOp τ sig (Elt F))).Forall fun op => op.bufs ⊆ tcRefs τ sig :=
  ⟨unary_bufs_sub .., unary_bufs_sub .., ternary_bufs_sub ..⟩
/-- The stretch allocates nothing. -/
theorem ops0_8_fresh : (ops0_8 : List (HloOp τ sig (Elt F))).Forall fun op => op.fresh = ∅ :=
  forall_fresh_of_map rfl
/-- What the stretch writes. -/
abbrev ops0_8_W : List (Ref sig .tc) := [main_call3_v0, main_call3_v1, main_v28]
/-- The stretch writes the buffers listed and no others. -/
theorem ops0_8_writes : (ops0_8 : List (HloOp τ sig (Elt F))).Forall fun op => op.writes ⊆ (ops0_8_W.map (Proc.devRef (τ := τ) .tc)).toFinset :=
  forall_writes_sub_of_map rfl

/-- A stretch of 2 host operations. -/
abbrev ops0_9 : List (HloOp τ sig (Elt F)) :=
  [ nullary main_cst_10 (constant S_ .f32 0xFF800000#32),
    binary main_v28 main_cst_10 main_v29 ((fun x v => Host.reduce FloatOps.maximumf x v reducesTo_S100x100_S_d0_1 h_S_) : Ct F S100x100 .f32 → Ct F S_ .f32 → Ct F S_ .f32) ]
/-- The stretch touches the device's own buffers alone. -/
theorem ops0_9_sub : (ops0_9 : List (HloOp τ sig (Elt F))).Forall fun op => op.bufs ⊆ tcRefs τ sig :=
  ⟨nullary_bufs_sub .., binary_bufs_sub ..⟩
/-- The stretch allocates nothing. -/
theorem ops0_9_fresh : (ops0_9 : List (HloOp τ sig (Elt F))).Forall fun op => op.fresh = ∅ :=
  forall_fresh_of_map rfl
/-- What the stretch writes. -/
abbrev ops0_9_W : List (Ref sig .tc) := [main_cst_10, main_v29]
/-- The stretch writes the buffers listed and no others. -/
theorem ops0_9_writes : (ops0_9 : List (HloOp τ sig (Elt F))).Forall fun op => op.writes ⊆ (ops0_9_W.map (Proc.devRef (τ := τ) .tc)).toFinset :=
  forall_writes_sub_of_map rfl

/-- A stretch of 2 host operations. -/
abbrev ops0_10 : List (HloOp τ sig (Elt F)) :=
  [ TRef.unary (.of main_v29 : TRef sig ⟨S_, .f32⟩) (.of main_call4_v0 : TRef sig ⟨S100x100, .f32⟩) (broadcastInDim S100x100 ![] bcast_S_S100x100),
    TRef.ternary (.of main_v27 : TRef sig ⟨S100x100, .i1⟩) (.of main_v25_2 : TRef sig ⟨S100x100, .f32⟩) (.of main_call4_v0 : TRef sig ⟨S100x100, .f32⟩) (.of main_v30 : TRef sig ⟨S100x100, .f32⟩) select ]
/-- The stretch touches the device's own buffers alone. -/
theorem ops0_10_sub : (ops0_10 : List (HloOp τ sig (Elt F))).Forall fun op => op.bufs ⊆ tcRefs τ sig :=
  ⟨unary_bufs_sub .., ternary_bufs_sub ..⟩
/-- The stretch allocates nothing. -/
theorem ops0_10_fresh : (ops0_10 : List (HloOp τ sig (Elt F))).Forall fun op => op.fresh = ∅ :=
  forall_fresh_of_map rfl
/-- What the stretch writes. -/
abbrev ops0_10_W : List (Ref sig .tc) := [main_call4_v0, main_v30]
/-- The stretch writes the buffers listed and no others. -/
theorem ops0_10_writes : (ops0_10 : List (HloOp τ sig (Elt F))).Forall fun op => op.writes ⊆ (ops0_10_W.map (Proc.devRef (τ := τ) .tc)).toFinset :=
  forall_writes_sub_of_map rfl

/-- A stretch of 13 host operations. -/
abbrev ops0_11 : List (HloOp τ sig (Elt F)) :=
  [ nullary main_v31 (iotaInDim S100x100 32 0),
    nullary main_v32 (iotaInDim S100x100 32 1),
    nullary main_c_11 (constantI S_ 32 0#32),
    unary main_c_11 main_v33 (broadcastInDim S100x100 ![] bcast_S_S100x100 : Ct F S_ .i32 → Ct F S100x100 .i32),
    binary main_v31 main_v33 main_v34 (addi : Ct F S100x100 .i32 → Ct F S100x100 .i32 → Ct F S100x100 .i32),
    binary main_v34 main_v32 main_v35 (cmpi .eq : Ct F S100x100 .i32 → Ct F S100x100 .i32 → Ct F S100x100 .i1),
    unary main_v35 main_v36 (uitofp .f32 : Ct F S100x100 .i1 → Ct F S100x100 .f32),
    nullary main_cst_12 (constant S_ .f32 0x3F800000#32),
    unary main_cst_12 main_v37 (broadcastInDim S100x100 ![] bcast_S_S100x100 : Ct F S_ .f32 → Ct F S100x100 .f32),
    nullary main_cst_13 (constant S_ .f32 0x42C80000#32),
    unary main_cst_13 main_v38 (broadcastInDim S100x100 ![] bcast_S_S100x100 : Ct F S_ .f32 → Ct F S100x100 .f32),
    binary main_v37 main_v38 main_v39 (Host.divf : Ct F S100x100 .f32 → Ct F S100x100 .f32 → Ct F S100x100 .f32),
    binary main_v36 main_v39 main_v40 (subf : Ct F S100x100 .f32 → Ct F S100x100 .f32 → Ct F S100x100 .f32) ]
/-- The stretch touches the device's own buffers alone. -/
theorem ops0_11_sub : (ops0_11 : List (HloOp τ sig (Elt F))).Forall fun op => op.bufs ⊆ tcRefs τ sig :=
  ⟨nullary_bufs_sub .., nullary_bufs_sub .., nullary_bufs_sub .., unary_bufs_sub .., binary_bufs_sub .., binary_bufs_sub .., unary_bufs_sub .., nullary_bufs_sub .., unary_bufs_sub .., nullary_bufs_sub .., unary_bufs_sub .., binary_bufs_sub .., binary_bufs_sub ..⟩
/-- The stretch allocates nothing. -/
theorem ops0_11_fresh : (ops0_11 : List (HloOp τ sig (Elt F))).Forall fun op => op.fresh = ∅ :=
  forall_fresh_of_map rfl
/-- What the stretch writes. -/
abbrev ops0_11_W : List (Ref sig .tc) := [main_v31, main_v32, main_c_11, main_v33, main_v34, main_v35, main_v36, main_cst_12, main_v37, main_cst_13, main_v38, main_v39, main_v40]
/-- The stretch writes the buffers listed and no others. -/
theorem ops0_11_writes : (ops0_11 : List (HloOp τ sig (Elt F))).Forall fun op => op.writes ⊆ (ops0_11_W.map (Proc.devRef (τ := τ) .tc)).toFinset :=
  forall_writes_sub_of_map rfl

/-- A stretch of 19 host operations. -/
abbrev ops1_0 : List (HloOp τ sig (Elt F)) :=
  [ binary main_v30 main_v30 main_v41 (mulf : Ct F S100x100 .f32 → Ct F S100x100 .f32 → Ct F S100x100 .f32),
    binary main_v40 main_v41 main_v42 ((fun l r => Host.dotGeneral dot_S100x100_S100x100_S100x100_1_0_0_1_n_n none l r) : Ct F S100x100 .f32 → Ct F S100x100 .f32 → Ct F S100x100 .f32),
    binary main_v42 main_v40 main_v43 ((fun l r => Host.dotGeneral dot_S100x100_S100x100_S100x100_1_0_0_1_n_n none l r) : Ct F S100x100 .f32 → Ct F S100x100 .f32 → Ct F S100x100 .f32),
    nullary main_cst_14 (constant S_ .f32 0xBF000000#32),
    unary main_cst_14 main_v44 (broadcastInDim S100x100 ![] bcast_S_S100x100 : Ct F S_ .f32 → Ct F S100x100 .f32),
    binary main_v44 main_v43 main_v45 (mulf : Ct F S100x100 .f32 → Ct F S100x100 .f32 → Ct F S100x100 .f32),
    nullary main_v46 (iotaInDim S100x100 32 0),
    nullary main_v47 (iotaInDim S100x100 32 1),
    nullary main_c_15 (constantI S_ 32 0#32),
    unary main_c_15 main_v48 (broadcastInDim S100x100 ![] bcast_S_S100x100 : Ct F S_ .i32 → Ct F S100x100 .i32),
    binary main_v46 main_v48 main_v49 (addi : Ct F S100x100 .i32 → Ct F S100x100 .i32 → Ct F S100x100 .i32),
    binary main_v49 main_v47 main_v50 (cmpi .eq : Ct F S100x100 .i32 → Ct F S100x100 .i32 → Ct F S100x100 .i1),
    unary main_v50 main_v51 (uitofp .f32 : Ct F S100x100 .i1 → Ct F S100x100 .f32),
    nullary main_c_16 (constantI S_ 32 0#32),
    nullary main_c_17 (constantI S_ 32 0#32),
    unary main_c_17 main_v52_0 id,
    unary main_c_16 main_v52_1 id,
    unary main_v45 main_v52_2 id,
    unary main_v51 main_v52_3 id ]
/-- The stretch touches the device's own buffers alone. -/
theorem ops1_0_sub : (ops1_0 : List (HloOp τ sig (Elt F))).Forall fun op => op.bufs ⊆ tcRefs τ sig :=
  ⟨binary_bufs_sub .., binary_bufs_sub .., binary_bufs_sub .., nullary_bufs_sub .., unary_bufs_sub .., binary_bufs_sub .., nullary_bufs_sub .., nullary_bufs_sub .., nullary_bufs_sub .., unary_bufs_sub .., binary_bufs_sub .., binary_bufs_sub .., unary_bufs_sub .., nullary_bufs_sub .., nullary_bufs_sub .., unary_bufs_sub .., unary_bufs_sub .., unary_bufs_sub .., unary_bufs_sub ..⟩
/-- The stretch allocates nothing. -/
theorem ops1_0_fresh : (ops1_0 : List (HloOp τ sig (Elt F))).Forall fun op => op.fresh = ∅ :=
  forall_fresh_of_map rfl
/-- What the stretch writes. -/
abbrev ops1_0_W : List (Ref sig .tc) := [main_v41, main_v42, main_v43, main_cst_14, main_v44, main_v45, main_v46, main_v47, main_c_15, main_v48, main_v49, main_v50, main_v51, main_c_16, main_c_17, main_v52_0, main_v52_1, main_v52_2, main_v52_3]
/-- The stretch writes the buffers listed and no others. -/
theorem ops1_0_writes : (ops1_0 : List (HloOp τ sig (Elt F))).Forall fun op => op.writes ⊆ (ops1_0_W.map (Proc.devRef (τ := τ) .tc)).toFinset :=
  forall_writes_sub_of_map rfl

/-- A stretch of 7 host operations. -/
abbrev ops1_1 : List (HloOp τ sig (Elt F)) :=
  [ nullary main_v53 (iotaInDim S100x100 32 0),
    nullary main_v54 (iotaInDim S100x100 32 1),
    nullary main_c_18 (constantI S_ 32 0#32),
    unary main_c_18 main_v55 (broadcastInDim S100x100 ![] bcast_S_S100x100 : Ct F S_ .i32 → Ct F S100x100 .i32),
    binary main_v53 main_v55 main_v56 (addi : Ct F S100x100 .i32 → Ct F S100x100 .i32 → Ct F S100x100 .i32),
    binary main_v56 main_v54 main_v57 (cmpi .eq : Ct F S100x100 .i32 → Ct F S100x100 .i32 → Ct F S100x100 .i1),
    nullary main_cst_19 (constant S_ .f32 0x00000000#32) ]
/-- The stretch touches the device's own buffers alone. -/
theorem ops1_1_sub : (ops1_1 : List (HloOp τ sig (Elt F))).Forall fun op => op.bufs ⊆ tcRefs τ sig :=
  ⟨nullary_bufs_sub .., nullary_bufs_sub .., nullary_bufs_sub .., unary_bufs_sub .., binary_bufs_sub .., binary_bufs_sub .., nullary_bufs_sub ..⟩
/-- The stretch allocates nothing. -/
theorem ops1_1_fresh : (ops1_1 : List (HloOp τ sig (Elt F))).Forall fun op => op.fresh = ∅ :=
  forall_fresh_of_map rfl
/-- What the stretch writes. -/
abbrev ops1_1_W : List (Ref sig .tc) := [main_v53, main_v54, main_c_18, main_v55, main_v56, main_v57, main_cst_19]
/-- The stretch writes the buffers listed and no others. -/
theorem ops1_1_writes : (ops1_1 : List (HloOp τ sig (Elt F))).Forall fun op => op.writes ⊆ (ops1_1_W.map (Proc.devRef (τ := τ) .tc)).toFinset :=
  forall_writes_sub_of_map rfl

/-- A stretch of 3 host operations. -/
abbrev ops1_2 : List (HloOp τ sig (Elt F)) :=
  [ TRef.unary (.of main_cst_19 : TRef sig ⟨S_, .f32⟩) (.of main_call20_v0 : TRef sig ⟨S_, .f32⟩) id,
    TRef.unary (.of main_call20_v0 : TRef sig ⟨S_, .f32⟩) (.of main_call20_v1 : TRef sig ⟨S100x100, .f32⟩) (broadcastInDim S100x100 ![] bcast_S_S100x100),
    TRef.ternary (.of main_v57 : TRef sig ⟨S100x100, .i1⟩) (.of main_v52_2 : TRef sig ⟨S100x100, .f32⟩) (.of main_call20_v1 : TRef sig ⟨S100x100, .f32⟩) (.of main_v58 : TRef sig ⟨S100x100, .f32⟩) select ]
/-- The stretch touches the device's own buffers alone. -/
theorem ops1_2_sub : (ops1_2 : List (HloOp τ sig (Elt F))).Forall fun op => op.bufs ⊆ tcRefs τ sig :=
  ⟨unary_bufs_sub .., unary_bufs_sub .., ternary_bufs_sub ..⟩
/-- The stretch allocates nothing. -/
theorem ops1_2_fresh : (ops1_2 : List (HloOp τ sig (Elt F))).Forall fun op => op.fresh = ∅ :=
  forall_fresh_of_map rfl
/-- What the stretch writes. -/
abbrev ops1_2_W : List (Ref sig .tc) := [main_call20_v0, main_call20_v1, main_v58]
/-- The stretch writes the buffers listed and no others. -/
theorem ops1_2_writes : (ops1_2 : List (HloOp τ sig (Elt F))).Forall fun op => op.writes ⊆ (ops1_2_W.map (Proc.devRef (τ := τ) .tc)).toFinset :=
  forall_writes_sub_of_map rfl

/-- A stretch of 7 host operations. -/
abbrev ops1_3 : List (HloOp τ sig (Elt F)) :=
  [ nullary main_cst_20 (constant S_ .f32 0x00000000#32),
    binary main_v58 main_cst_20 main_v59 ((fun x v => Host.reduceAdd x v reducesTo_S100x100_S100_d1 h_S_) : Ct F S100x100 .f32 → Ct F S_ .f32 → Ct F S100 .f32),
    nullary main_cst_21 (constant S_ .f32 0xFF800000#32),
    binary main_v59 main_cst_21 main_v60 ((fun x v => Host.reduce FloatOps.maximumf x v reducesTo_S100_S_d0 h_S_) : Ct F S100 .f32 → Ct F S_ .f32 → Ct F S_ .f32),
    unary main_v60 main_v61 (broadcastInDim S100 ![] bcast_S_S100 : Ct F S_ .f32 → Ct F S100 .f32),
    binary main_v59 main_v61 main_v62 (cmpf .oeq : Ct F S100 .f32 → Ct F S100 .f32 → Ct F S100 .i1),
    nullary main_cst_22 (constant S_ .f32 0xFF800000#32) ]
/-- The stretch touches the device's own buffers alone. -/
theorem ops1_3_sub : (ops1_3 : List (HloOp τ sig (Elt F))).Forall fun op => op.bufs ⊆ tcRefs τ sig :=
  ⟨nullary_bufs_sub .., binary_bufs_sub .., nullary_bufs_sub .., binary_bufs_sub .., unary_bufs_sub .., binary_bufs_sub .., nullary_bufs_sub ..⟩
/-- The stretch allocates nothing. -/
theorem ops1_3_fresh : (ops1_3 : List (HloOp τ sig (Elt F))).Forall fun op => op.fresh = ∅ :=
  forall_fresh_of_map rfl
/-- What the stretch writes. -/
abbrev ops1_3_W : List (Ref sig .tc) := [main_cst_20, main_v59, main_cst_21, main_v60, main_v61, main_v62, main_cst_22]
/-- The stretch writes the buffers listed and no others. -/
theorem ops1_3_writes : (ops1_3 : List (HloOp τ sig (Elt F))).Forall fun op => op.writes ⊆ (ops1_3_W.map (Proc.devRef (τ := τ) .tc)).toFinset :=
  forall_writes_sub_of_map rfl

/-- A stretch of 3 host operations. -/
abbrev ops1_4 : List (HloOp τ sig (Elt F)) :=
  [ TRef.unary (.of main_cst_22 : TRef sig ⟨S_, .f32⟩) (.of main_call21_v0 : TRef sig ⟨S_, .f32⟩) id,
    TRef.unary (.of main_call21_v0 : TRef sig ⟨S_, .f32⟩) (.of main_call21_v1 : TRef sig ⟨S100, .f32⟩) (broadcastInDim S100 ![] bcast_S_S100),
    TRef.ternary (.of main_v62 : TRef sig ⟨S100, .i1⟩) (.of main_call21_v1 : TRef sig ⟨S100, .f32⟩) (.of main_v59 : TRef sig ⟨S100, .f32⟩) (.of main_v63 : TRef sig ⟨S100, .f32⟩) select ]
/-- The stretch touches the device's own buffers alone. -/
theorem ops1_4_sub : (ops1_4 : List (HloOp τ sig (Elt F))).Forall fun op => op.bufs ⊆ tcRefs τ sig :=
  ⟨unary_bufs_sub .., unary_bufs_sub .., ternary_bufs_sub ..⟩
/-- The stretch allocates nothing. -/
theorem ops1_4_fresh : (ops1_4 : List (HloOp τ sig (Elt F))).Forall fun op => op.fresh = ∅ :=
  forall_fresh_of_map rfl
/-- What the stretch writes. -/
abbrev ops1_4_W : List (Ref sig .tc) := [main_call21_v0, main_call21_v1, main_v63]
/-- The stretch writes the buffers listed and no others. -/
theorem ops1_4_writes : (ops1_4 : List (HloOp τ sig (Elt F))).Forall fun op => op.writes ⊆ (ops1_4_W.map (Proc.devRef (τ := τ) .tc)).toFinset :=
  forall_writes_sub_of_map rfl

/-- A stretch of 6 host operations. -/
abbrev ops1_5 : List (HloOp τ sig (Elt F)) :=
  [ nullary main_cst_23 (constant S_ .f32 0xFF800000#32),
    binary main_v63 main_cst_23 main_v64 ((fun x v => Host.reduce FloatOps.maximumf x v reducesTo_S100_S_d0 h_S_) : Ct F S100 .f32 → Ct F S_ .f32 → Ct F S_ .f32),
    nullary main_v65 (iotaInDim S2 32 0),
    nullary main_c_24 (constantI S_ 32 0#32),
    unary main_c_24 main_v66 (broadcastInDim S2 ![] bcast_S_S2 : Ct F S_ .i32 → Ct F S2 .i32),
    binary main_v65 main_v66 main_v67 (cmpi .eq : Ct F S2 .i32 → Ct F S2 .i32 → Ct F S2 .i1) ]
/-- The stretch touches the device's own buffers alone. -/
theorem ops1_5_sub : (ops1_5 : List (HloOp τ sig (Elt F))).Forall fun op => op.bufs ⊆ tcRefs τ sig :=
  ⟨nullary_bufs_sub .., binary_bufs_sub .., nullary_bufs_sub .., nullary_bufs_sub .., unary_bufs_sub .., binary_bufs_sub ..⟩
/-- The stretch allocates nothing. -/
theorem ops1_5_fresh : (ops1_5 : List (HloOp τ sig (Elt F))).Forall fun op => op.fresh = ∅ :=
  forall_fresh_of_map rfl
/-- What the stretch writes. -/
abbrev ops1_5_W : List (Ref sig .tc) := [main_cst_23, main_v64, main_v65, main_c_24, main_v66, main_v67]
/-- The stretch writes the buffers listed and no others. -/
theorem ops1_5_writes : (ops1_5 : List (HloOp τ sig (Elt F))).Forall fun op => op.writes ⊆ (ops1_5_W.map (Proc.devRef (τ := τ) .tc)).toFinset :=
  forall_writes_sub_of_map rfl

/-- A stretch of 3 host operations. -/
abbrev ops1_6 : List (HloOp τ sig (Elt F)) :=
  [ TRef.unary (.of main_v60 : TRef sig ⟨S_, .f32⟩) (.of main_call22_v0 : TRef sig ⟨S2, .f32⟩) (broadcastInDim S2 ![] bcast_S_S2),
    TRef.unary (.of main_v64 : TRef sig ⟨S_, .f32⟩) (.of main_call22_v1 : TRef sig ⟨S2, .f32⟩) (broadcastInDim S2 ![] bcast_S_S2),
    TRef.ternary (.of main_v67 : TRef sig ⟨S2, .i1⟩) (.of main_call22_v0 : TRef sig ⟨S2, .f32⟩) (.of main_call22_v1 : TRef sig ⟨S2, .f32⟩) (.of main_v68 : TRef sig ⟨S2, .f32⟩) select ]
/-- The stretch touches the device's own buffers alone. -/
theorem ops1_6_sub : (ops1_6 : List (HloOp τ sig (Elt F))).Forall fun op => op.bufs ⊆ tcRefs τ sig :=
  ⟨unary_bufs_sub .., unary_bufs_sub .., ternary_bufs_sub ..⟩
/-- The stretch allocates nothing. -/
theorem ops1_6_fresh : (ops1_6 : List (HloOp τ sig (Elt F))).Forall fun op => op.fresh = ∅ :=
  forall_fresh_of_map rfl
/-- What the stretch writes. -/
abbrev ops1_6_W : List (Ref sig .tc) := [main_call22_v0, main_call22_v1, main_v68]
/-- The stretch writes the buffers listed and no others. -/
theorem ops1_6_writes : (ops1_6 : List (HloOp τ sig (Elt F))).Forall fun op => op.writes ⊆ (ops1_6_W.map (Proc.devRef (τ := τ) .tc)).toFinset :=
  forall_writes_sub_of_map rfl

/-- A stretch of 6 host operations. -/
abbrev ops1_7 : List (HloOp τ sig (Elt F)) :=
  [ nullary main_v69 (iotaInDim S2 32 0),
    nullary main_c_25 (constantI S_ 32 0#32),
    unary main_c_25 main_v70 (broadcastInDim S2 ![] bcast_S_S2 : Ct F S_ .i32 → Ct F S2 .i32),
    binary main_v69 main_v70 main_v71 (cmpi .eq : Ct F S2 .i32 → Ct F S2 .i32 → Ct F S2 .i1),
    unary main_v59 main_v72 (broadcastInDim S100x1 ![0] bcast_S100_S100x1_0 : Ct F S100 .f32 → Ct F S100x1 .f32),
    unary main_v63 main_v73 (broadcastInDim S100x1 ![0] bcast_S100_S100x1_0 : Ct F S100 .f32 → Ct F S100x1 .f32) ]
/-- The stretch touches the device's own buffers alone. -/
theorem ops1_7_sub : (ops1_7 : List (HloOp τ sig (Elt F))).Forall fun op => op.bufs ⊆ tcRefs τ sig :=
  ⟨nullary_bufs_sub .., nullary_bufs_sub .., unary_bufs_sub .., binary_bufs_sub .., unary_bufs_sub .., unary_bufs_sub ..⟩
/-- The stretch allocates nothing. -/
theorem ops1_7_fresh : (ops1_7 : List (HloOp τ sig (Elt F))).Forall fun op => op.fresh = ∅ :=
  forall_fresh_of_map rfl
/-- What the stretch writes. -/
abbrev ops1_7_W : List (Ref sig .tc) := [main_v69, main_c_25, main_v70, main_v71, main_v72, main_v73]
/-- The stretch writes the buffers listed and no others. -/
theorem ops1_7_writes : (ops1_7 : List (HloOp τ sig (Elt F))).Forall fun op => op.writes ⊆ (ops1_7_W.map (Proc.devRef (τ := τ) .tc)).toFinset :=
  forall_writes_sub_of_map rfl

/-- A stretch of 4 host operations. -/
abbrev ops1_8 : List (HloOp τ sig (Elt F)) :=
  [ TRef.unary (.of main_v71 : TRef sig ⟨S2, .i1⟩) (.of main_call23_v0 : TRef sig ⟨S100x2, .i1⟩) (broadcastInDim S100x2 ![1] bcast_S2_S100x2_1),
    TRef.unary (.of main_v72 : TRef sig ⟨S100x1, .f32⟩) (.of main_call23_v1 : TRef sig ⟨S100x2, .f32⟩) (broadcastInDim S100x2 ![0, 1] bcast_S100x1_S100x2_0_1),
    TRef.unary (.of main_v73 : TRef sig ⟨S100x1, .f32⟩) (.of main_call23_v2 : TRef sig ⟨S100x2, .f32⟩) (broadcastInDim S100x2 ![0, 1] bcast_S100x1_S100x2_0_1),
    TRef.ternary (.of main_call23_v0 : TRef sig ⟨S100x2, .i1⟩) (.of main_call23_v1 : TRef sig ⟨S100x2, .f32⟩) (.of main_call23_v2 : TRef sig ⟨S100x2, .f32⟩) (.of main_v74 : TRef sig ⟨S100x2, .f32⟩) select ]
/-- The stretch touches the device's own buffers alone. -/
theorem ops1_8_sub : (ops1_8 : List (HloOp τ sig (Elt F))).Forall fun op => op.bufs ⊆ tcRefs τ sig :=
  ⟨unary_bufs_sub .., unary_bufs_sub .., unary_bufs_sub .., ternary_bufs_sub ..⟩
/-- The stretch allocates nothing. -/
theorem ops1_8_fresh : (ops1_8 : List (HloOp τ sig (Elt F))).Forall fun op => op.fresh = ∅ :=
  forall_fresh_of_map rfl
/-- What the stretch writes. -/
abbrev ops1_8_W : List (Ref sig .tc) := [main_call23_v0, main_call23_v1, main_call23_v2, main_v74]
/-- The stretch writes the buffers listed and no others. -/
theorem ops1_8_writes : (ops1_8 : List (HloOp τ sig (Elt F))).Forall fun op => op.writes ⊆ (ops1_8_W.map (Proc.devRef (τ := τ) .tc)).toFinset :=
  forall_writes_sub_of_map rfl

/-- A stretch of 5 host operations. -/
abbrev ops1_9 : List (HloOp τ sig (Elt F)) :=
  [ unary main_v68 main_v75 (broadcastInDim S1x2 ![1] bcast_S2_S1x2_1 : Ct F S2 .f32 → Ct F S1x2 .f32),
    unary main_v75 main_v76 (broadcastInDim S100x2 ![0, 1] bcast_S1x2_S100x2_0_1 : Ct F S1x2 .f32 → Ct F S100x2 .f32),
    binary main_v74 main_v76 main_v77 (cmpf .oeq : Ct F S100x2 .f32 → Ct F S100x2 .f32 → Ct F S100x2 .i1),
    nullary main_cst_26 (constant S_ .f32 0x3F800000#32),
    nullary main_cst_27 (constant S_ .f32 0x00000000#32) ]
/-- The stretch touches the device's own buffers alone. -/
theorem ops1_9_sub : (ops1_9 : List (HloOp τ sig (Elt F))).Forall fun op => op.bufs ⊆ tcRefs τ sig :=
  ⟨unary_bufs_sub .., unary_bufs_sub .., binary_bufs_sub .., nullary_bufs_sub .., nullary_bufs_sub ..⟩
/-- The stretch allocates nothing. -/
theorem ops1_9_fresh : (ops1_9 : List (HloOp τ sig (Elt F))).Forall fun op => op.fresh = ∅ :=
  forall_fresh_of_map rfl
/-- What the stretch writes. -/
abbrev ops1_9_W : List (Ref sig .tc) := [main_v75, main_v76, main_v77, main_cst_26, main_cst_27]
/-- The stretch writes the buffers listed and no others. -/
theorem ops1_9_writes : (ops1_9 : List (HloOp τ sig (Elt F))).Forall fun op => op.writes ⊆ (ops1_9_W.map (Proc.devRef (τ := τ) .tc)).toFinset :=
  forall_writes_sub_of_map rfl

/-- A stretch of 3 host operations. -/
abbrev ops1_10 : List (HloOp τ sig (Elt F)) :=
  [ TRef.unary (.of main_cst_26 : TRef sig ⟨S_, .f32⟩) (.of main_call24_v0 : TRef sig ⟨S100x2, .f32⟩) (broadcastInDim S100x2 ![] bcast_S_S100x2),
    TRef.unary (.of main_cst_27 : TRef sig ⟨S_, .f32⟩) (.of main_call24_v1 : TRef sig ⟨S100x2, .f32⟩) (broadcastInDim S100x2 ![] bcast_S_S100x2),
    TRef.ternary (.of main_v77 : TRef sig ⟨S100x2, .i1⟩) (.of main_call24_v0 : TRef sig ⟨S100x2, .f32⟩) (.of main_call24_v1 : TRef sig ⟨S100x2, .f32⟩) (.of main_v78 : TRef sig ⟨S100x2, .f32⟩) select ]
/-- The stretch touches the device's own buffers alone. -/
theorem ops1_10_sub : (ops1_10 : List (HloOp τ sig (Elt F))).Forall fun op => op.bufs ⊆ tcRefs τ sig :=
  ⟨unary_bufs_sub .., unary_bufs_sub .., ternary_bufs_sub ..⟩
/-- The stretch allocates nothing. -/
theorem ops1_10_fresh : (ops1_10 : List (HloOp τ sig (Elt F))).Forall fun op => op.fresh = ∅ :=
  forall_fresh_of_map rfl
/-- What the stretch writes. -/
abbrev ops1_10_W : List (Ref sig .tc) := [main_call24_v0, main_call24_v1, main_v78]
/-- The stretch writes the buffers listed and no others. -/
theorem ops1_10_writes : (ops1_10 : List (HloOp τ sig (Elt F))).Forall fun op => op.writes ⊆ (ops1_10_W.map (Proc.devRef (τ := τ) .tc)).toFinset :=
  forall_writes_sub_of_map rfl

/-- A stretch of 4 host operations. -/
abbrev ops1_11 : List (HloOp τ sig (Elt F)) :=
  [ binary main_v52_3 main_v78 main_v79 ((fun l r => Host.dotGeneral dot_S100x100_S100x2_S100x2_1_0_0_1_n_n none l r) : Ct F S100x100 .f32 → Ct F S100x2 .f32 → Ct F S100x2 .f32),
    nullary main_cst_28 (constant S_ .f32 0x2B8CBCCC#32),
    unary main_cst_28 main_v80 (broadcastInDim S2 ![] bcast_S_S2 : Ct F S_ .f32 → Ct F S2 .f32),
    binary main_v68 main_v80 main_v81 (maximumf : Ct F S2 .f32 → Ct F S2 .f32 → Ct F S2 .f32) ]
/-- The stretch touches the device's own buffers alone. -/
theorem ops1_11_sub : (ops1_11 : List (HloOp τ sig (Elt F))).Forall fun op => op.bufs ⊆ tcRefs τ sig :=
  ⟨binary_bufs_sub .., nullary_bufs_sub .., unary_bufs_sub .., binary_bufs_sub ..⟩
/-- The stretch allocates nothing. -/
theorem ops1_11_fresh : (ops1_11 : List (HloOp τ sig (Elt F))).Forall fun op => op.fresh = ∅ :=
  forall_fresh_of_map rfl
/-- What the stretch writes. -/
abbrev ops1_11_W : List (Ref sig .tc) := [main_v79, main_cst_28, main_v80, main_v81]
/-- The stretch writes the buffers listed and no others. -/
theorem ops1_11_writes : (ops1_11 : List (HloOp τ sig (Elt F))).Forall fun op => op.writes ⊆ (ops1_11_W.map (Proc.devRef (τ := τ) .tc)).toFinset :=
  forall_writes_sub_of_map rfl

/-- A stretch of 15 host operations. -/
abbrev ops2_0 : List (HloOp τ sig (Elt F)) :=
  [ unary main_v81 main_v82 (Host.sqrt : Ct F S2 .f32 → Ct F S2 .f32),
    unary main_v82 main_v83 (broadcastInDim S1x2 ![1] bcast_S2_S1x2_1 : Ct F S2 .f32 → Ct F S1x2 .f32),
    unary main_v83 main_v84 (broadcastInDim S100x2 ![0, 1] bcast_S1x2_S100x2_0_1 : Ct F S1x2 .f32 → Ct F S100x2 .f32),
    binary main_v79 main_v84 main_v85 (mulf : Ct F S100x2 .f32 → Ct F S100x2 .f32 → Ct F S100x2 .f32),
    binary main_v85 main_arg1 main_v86 ((fun l r => Host.dotGeneral dot_S100x2_S2x512_S100x512_1_0_0_1_n_n none l r) : Ct F S100x2 .f32 → Ct F S2x512 .f32 → Ct F S100x512 .f32),
    unary main_arg2 main_v87 (broadcastInDim S1x512 ![1] bcast_S512_S1x512_1 : Ct F S512 .f32 → Ct F S1x512 .f32),
    unary main_v87 main_v88 (broadcastInDim S100x512 ![0, 1] bcast_S1x512_S100x512_0_1 : Ct F S1x512 .f32 → Ct F S100x512 .f32),
    binary main_v86 main_v88 main_v89 (addf : Ct F S100x512 .f32 → Ct F S100x512 .f32 → Ct F S100x512 .f32),
    nullary main_cst_29 (constant S_ .f32 0x00000000#32),
    unary main_cst_29 main_v90 (broadcastInDim S100x512 ![] bcast_S_S100x512 : Ct F S_ .f32 → Ct F S100x512 .f32),
    binary main_v89 main_v90 main_v91 (maximumf : Ct F S100x512 .f32 → Ct F S100x512 .f32 → Ct F S100x512 .f32),
    binary main_v91 main_arg3 main_v92 ((fun l r => Host.dotGeneral dot_S100x512_S512x10_S100x10_1_0_0_1_n_n none l r) : Ct F S100x512 .f32 → Ct F S512x10 .f32 → Ct F S100x10 .f32),
    unary main_arg4 main_v93 (broadcastInDim S1x10 ![1] bcast_S10_S1x10_1 : Ct F S10 .f32 → Ct F S1x10 .f32),
    unary main_v93 main_v94 (broadcastInDim S100x10 ![0, 1] bcast_S1x10_S100x10_0_1 : Ct F S1x10 .f32 → Ct F S100x10 .f32),
    binary main_v92 main_v94 main_v95 (addf : Ct F S100x10 .f32 → Ct F S100x10 .f32 → Ct F S100x10 .f32) ]
/-- The stretch touches the device's own buffers alone. -/
theorem ops2_0_sub : (ops2_0 : List (HloOp τ sig (Elt F))).Forall fun op => op.bufs ⊆ tcRefs τ sig :=
  ⟨unary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
/-- The stretch allocates nothing. -/
theorem ops2_0_fresh : (ops2_0 : List (HloOp τ sig (Elt F))).Forall fun op => op.fresh = ∅ :=
  forall_fresh_of_map rfl
/-- What the stretch writes. -/
abbrev ops2_0_W : List (Ref sig .tc) := [main_v82, main_v83, main_v84, main_v85, main_v86, main_v87, main_v88, main_v89, main_cst_29, main_v90, main_v91, main_v92, main_v93, main_v94, main_v95]
/-- The stretch writes the buffers listed and no others. -/
theorem ops2_0_writes : (ops2_0 : List (HloOp τ sig (Elt F))).Forall fun op => op.writes ⊆ (ops2_0_W.map (Proc.devRef (τ := τ) .tc)).toFinset :=
  forall_writes_sub_of_map rfl

/-- A stretch of 27 host operations. -/
abbrev fwOps0 : List (HloOp τ sig (Elt F)) :=
  [ nullary main_while0b_c_32 (constantI S_ 32 1#32),
    binary main_v25_1 main_while0b_c_32 main_while0b_v96 (addi : Ct F S_ .i32 → Ct F S_ .i32 → Ct F S_ .i32),
    nullary main_while0b_c_33 (constantI S_ 32 0#32),
    binary main_v25_1 main_while0b_c_33 main_while0b_v97 (cmpi .slt : Ct F S_ .i32 → Ct F S_ .i32 → Ct F S_ .i1),
    unary main_v25_1 main_while0b_v98 (id : Ct F S_ .i32 → Ct F S_ .i32),
    nullary main_while0b_c_34 (constantI S_ 32 100#32),
    binary main_while0b_v98 main_while0b_c_34 main_while0b_v99 (addi : Ct F S_ .i32 → Ct F S_ .i32 → Ct F S_ .i32),
    ternary main_while0b_v97 main_while0b_v99 main_v25_1 main_while0b_v100 (select : Ct F S_ .i1 → Ct F S_ .i32 → Ct F S_ .i32 → Ct F S_ .i32),
    nullary main_while0b_c_35 (constantI S_ 32 0#32),
    unaryIndexed main_v25_2 ![main_while0b_c_35, main_while0b_v100] ⟨S_, .i32⟩ main_while0b_v101 ((fun x i => Host.dynamicSlice S100x1 x (fun k => (i k (Shape.Idx.first h_S_)).toInt) sliceFits_S100x100_S100x1) : Ct F S100x100 .f32 → (Fin 2 → Ct F S_ .i32) → Ct F S100x1 .f32),
    nullary main_while0b_c_36 (constantI S_ 32 0#32),
    binary main_v25_1 main_while0b_c_36 main_while0b_v102 (cmpi .slt : Ct F S_ .i32 → Ct F S_ .i32 → Ct F S_ .i1),
    unary main_v25_1 main_while0b_v103 (id : Ct F S_ .i32 → Ct F S_ .i32),
    nullary main_while0b_c_37 (constantI S_ 32 100#32),
    binary main_while0b_v103 main_while0b_c_37 main_while0b_v104 (addi : Ct F S_ .i32 → Ct F S_ .i32 → Ct F S_ .i32),
    ternary main_while0b_v102 main_while0b_v104 main_v25_1 main_while0b_v105 (select : Ct F S_ .i1 → Ct F S_ .i32 → Ct F S_ .i32 → Ct F S_ .i32),
    nullary main_while0b_c_38 (constantI S_ 32 0#32),
    unaryIndexed main_v25_2 ![main_while0b_v105, main_while0b_c_38] ⟨S_, .i32⟩ main_while0b_v106 ((fun x i => Host.dynamicSlice S1x100 x (fun k => (i k (Shape.Idx.first h_S_)).toInt) sliceFits_S100x100_S1x100) : Ct F S100x100 .f32 → (Fin 2 → Ct F S_ .i32) → Ct F S1x100 .f32),
    unary main_while0b_v101 main_while0b_v107 (broadcastInDim S100x100 ![0, 1] bcast_S100x1_S100x100_0_1 : Ct F S100x1 .f32 → Ct F S100x100 .f32),
    unary main_while0b_v106 main_while0b_v108 (broadcastInDim S100x100 ![0, 1] bcast_S1x100_S100x100_0_1 : Ct F S1x100 .f32 → Ct F S100x100 .f32),
    binary main_while0b_v107 main_while0b_v108 main_while0b_v109 (addf : Ct F S100x100 .f32 → Ct F S100x100 .f32 → Ct F S100x100 .f32),
    binary main_v25_2 main_while0b_v109 main_while0b_v110 (minimumf : Ct F S100x100 .f32 → Ct F S100x100 .f32 → Ct F S100x100 .f32),
    nullary main_while0b_c_39 (constantI S_ 32 1#32),
    binary main_v25_0 main_while0b_c_39 main_while0b_v111 (addi : Ct F S_ .i32 → Ct F S_ .i32 → Ct F S_ .i32),
    unary main_while0b_v111 main_v25_0 id,
    unary main_while0b_v96 main_v25_1 id,
    unary main_while0b_v110 main_v25_2 id ]
/-- The stretch touches the device's own buffers alone. -/
theorem fwOps0_sub : (fwOps0 : List (HloOp τ sig (Elt F))).Forall fun op => op.bufs ⊆ tcRefs τ sig :=
  ⟨nullary_bufs_sub .., binary_bufs_sub .., nullary_bufs_sub .., binary_bufs_sub .., unary_bufs_sub .., nullary_bufs_sub .., binary_bufs_sub .., ternary_bufs_sub .., nullary_bufs_sub .., unaryIndexed_bufs_sub .., nullary_bufs_sub .., binary_bufs_sub .., unary_bufs_sub .., nullary_bufs_sub .., binary_bufs_sub .., ternary_bufs_sub .., nullary_bufs_sub .., unaryIndexed_bufs_sub .., unary_bufs_sub .., unary_bufs_sub .., binary_bufs_sub .., binary_bufs_sub .., nullary_bufs_sub .., binary_bufs_sub .., unary_bufs_sub .., unary_bufs_sub .., unary_bufs_sub ..⟩
/-- The stretch allocates nothing. -/
theorem fwOps0_fresh : (fwOps0 : List (HloOp τ sig (Elt F))).Forall fun op => op.fresh = ∅ :=
  forall_fresh_of_map rfl
/-- What the stretch writes. -/
abbrev fwOps0_W : List (Ref sig .tc) := [main_while0b_c_32, main_while0b_v96, main_while0b_c_33, main_while0b_v97, main_while0b_v98, main_while0b_c_34, main_while0b_v99, main_while0b_v100, main_while0b_c_35, main_while0b_v101, main_while0b_c_36, main_while0b_v102, main_while0b_v103, main_while0b_c_37, main_while0b_v104, main_while0b_v105, main_while0b_c_38, main_while0b_v106, main_while0b_v107, main_while0b_v108, main_while0b_v109, main_while0b_v110, main_while0b_c_39, main_while0b_v111, main_v25_0, main_v25_1, main_v25_2]
/-- The stretch writes the buffers listed and no others. -/
theorem fwOps0_writes : (fwOps0 : List (HloOp τ sig (Elt F))).Forall fun op => op.writes ⊆ (fwOps0_W.map (Proc.devRef (τ := τ) .tc)).toFinset :=
  forall_writes_sub_of_map rfl

/-- A stretch of 13 host operations. -/
abbrev jacOps0 : List (HloOp τ sig (Elt F)) :=
  [ nullary main_while1b_c_33 (constantI S_ 32 1#32),
    binary main_v52_1 main_while1b_c_33 main_while1b_v96 (addi : Ct F S_ .i32 → Ct F S_ .i32 → Ct F S_ .i32),
    nullary main_while1b_v97 (iotaInDim S100 32 0),
    nullary main_while1b_v98 (iotaInDim S100 32 0),
    nullary main_while1b_c_34 (constantI S_ 32 50#32),
    unary main_while1b_c_34 main_while1b_v99 (broadcastInDim S100 ![] bcast_S_S100 : Ct F S_ .i32 → Ct F S100 .i32),
    binary main_while1b_v98 main_while1b_v99 main_while1b_v100 (cmpi .sge : Ct F S100 .i32 → Ct F S100 .i32 → Ct F S100 .i1),
    nullary main_while1b_c_35 (constantI S_ 32 49#32),
    unary main_while1b_c_35 main_while1b_v101 (broadcastInDim S100 ![] bcast_S_S100 : Ct F S_ .i32 → Ct F S100 .i32),
    binary main_while1b_v98 main_while1b_v101 main_while1b_v102 (subi : Ct F S100 .i32 → Ct F S100 .i32 → Ct F S100 .i32),
    nullary main_while1b_c_36 (constantI S_ 32 100#32),
    unary main_while1b_c_36 main_while1b_v103 (broadcastInDim S100 ![] bcast_S_S100 : Ct F S_ .i32 → Ct F S100 .i32),
    binary main_while1b_v103 main_while1b_v98 main_while1b_v104 (subi : Ct F S100 .i32 → Ct F S100 .i32 → Ct F S100 .i32) ]
/-- The stretch touches the device's own buffers alone. -/
theorem jacOps0_sub : (jacOps0 : List (HloOp τ sig (Elt F))).Forall fun op => op.bufs ⊆ tcRefs τ sig :=
  ⟨nullary_bufs_sub .., binary_bufs_sub .., nullary_bufs_sub .., nullary_bufs_sub .., nullary_bufs_sub .., unary_bufs_sub .., binary_bufs_sub .., nullary_bufs_sub .., unary_bufs_sub .., binary_bufs_sub .., nullary_bufs_sub .., unary_bufs_sub .., binary_bufs_sub ..⟩
/-- The stretch allocates nothing. -/
theorem jacOps0_fresh : (jacOps0 : List (HloOp τ sig (Elt F))).Forall fun op => op.fresh = ∅ :=
  forall_fresh_of_map rfl
/-- What the stretch writes. -/
abbrev jacOps0_W : List (Ref sig .tc) := [main_while1b_c_33, main_while1b_v96, main_while1b_v97, main_while1b_v98, main_while1b_c_34, main_while1b_v99, main_while1b_v100, main_while1b_c_35, main_while1b_v101, main_while1b_v102, main_while1b_c_36, main_while1b_v103, main_while1b_v104]
/-- The stretch writes the buffers listed and no others. -/
theorem jacOps0_writes : (jacOps0 : List (HloOp τ sig (Elt F))).Forall fun op => op.writes ⊆ (jacOps0_W.map (Proc.devRef (τ := τ) .tc)).toFinset :=
  forall_writes_sub_of_map rfl

/-- A stretch of 1 host operation. -/
abbrev jacOps1 : List (HloOp τ sig (Elt F)) :=
  [ TRef.ternary (.of main_while1b_v100 : TRef sig ⟨S100, .i1⟩) (.of main_while1b_v102 : TRef sig ⟨S100, .i32⟩) (.of main_while1b_v104 : TRef sig ⟨S100, .i32⟩) (.of main_while1b_v105 : TRef sig ⟨S100, .i32⟩) select ]
/-- The stretch touches the device's own buffers alone. -/
theorem jacOps1_sub : (jacOps1 : List (HloOp τ sig (Elt F))).Forall fun op => op.bufs ⊆ tcRefs τ sig :=
  ternary_bufs_sub ..
/-- The stretch allocates nothing. -/
theorem jacOps1_fresh : (jacOps1 : List (HloOp τ sig (Elt F))).Forall fun op => op.fresh = ∅ :=
  forall_fresh_of_map rfl
/-- What the stretch writes. -/
abbrev jacOps1_W : List (Ref sig .tc) := [main_while1b_v105]
/-- The stretch writes the buffers listed and no others. -/
theorem jacOps1_writes : (jacOps1 : List (HloOp τ sig (Elt F))).Forall fun op => op.writes ⊆ (jacOps1_W.map (Proc.devRef (τ := τ) .tc)).toFinset :=
  forall_writes_sub_of_map rfl

/-- A stretch of 23 host operations. -/
abbrev jacOps2 : List (HloOp τ sig (Elt F)) :=
  [ nullary main_while1b_c_37 (constantI S_ 32 99#32),
    unary main_while1b_c_37 main_while1b_v106 (broadcastInDim S100 ![] bcast_S_S100 : Ct F S_ .i32 → Ct F S100 .i32),
    binary main_while1b_v105 main_while1b_v106 main_while1b_v107 (Host.remsi : Ct F S100 .i32 → Ct F S100 .i32 → Ct F S100 .i32),
    nullary main_while1b_c_38 (constantI S_ 32 594#32),
    unary main_while1b_c_38 main_while1b_v108 (broadcastInDim S100 ![] bcast_S_S100 : Ct F S_ .i32 → Ct F S100 .i32),
    binary main_while1b_v107 main_while1b_v108 main_while1b_v109 (addi : Ct F S100 .i32 → Ct F S100 .i32 → Ct F S100 .i32),
    unary main_v52_1 main_while1b_v110 (id : Ct F S_ .i32 → Ct F S_ .i32),
    unary main_while1b_v110 main_while1b_v111 (broadcastInDim S100 ![] bcast_S_S100 : Ct F S_ .i32 → Ct F S100 .i32),
    binary main_while1b_v109 main_while1b_v111 main_while1b_v112 (subi : Ct F S100 .i32 → Ct F S100 .i32 → Ct F S100 .i32),
    nullary main_while1b_c_39 (constantI S_ 32 99#32),
    unary main_while1b_c_39 main_while1b_v113 (broadcastInDim S100 ![] bcast_S_S100 : Ct F S_ .i32 → Ct F S100 .i32),
    binary main_while1b_v112 main_while1b_v113 main_while1b_v114 (Host.remsi : Ct F S100 .i32 → Ct F S100 .i32 → Ct F S100 .i32),
    nullary main_while1b_c_40 (constantI S_ 32 0#32),
    unary main_while1b_c_40 main_while1b_v115 (broadcastInDim S100 ![] bcast_S_S100 : Ct F S_ .i32 → Ct F S100 .i32),
    binary main_while1b_v98 main_while1b_v115 main_while1b_v116 (cmpi .eq : Ct F S100 .i32 → Ct F S100 .i32 → Ct F S100 .i1),
    nullary main_while1b_c_41 (constantI S_ 32 1#32),
    binary main_while1b_c_41 main_v52_1 main_while1b_v117 (addi : Ct F S_ .i32 → Ct F S_ .i32 → Ct F S_ .i32),
    nullary main_while1b_c_42 (constantI S_ 32 101#32),
    unary main_while1b_c_42 main_while1b_v118 (broadcastInDim S100 ![] bcast_S_S100 : Ct F S_ .i32 → Ct F S100 .i32),
    binary main_while1b_v118 main_while1b_v114 main_while1b_v119 (subi : Ct F S100 .i32 → Ct F S100 .i32 → Ct F S100 .i32),
    unary main_v52_1 main_while1b_v120 (id : Ct F S_ .i32 → Ct F S_ .i32),
    unary main_while1b_v120 main_while1b_v121 (broadcastInDim S100 ![] bcast_S_S100 : Ct F S_ .i32 → Ct F S100 .i32),
    binary main_while1b_v119 main_while1b_v121 main_while1b_v122 (addi : Ct F S100 .i32 → Ct F S100 .i32 → Ct F S100 .i32) ]
/-- The stretch touches the device's own buffers alone. -/
theorem jacOps2_sub : (jacOps2 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub ..⟩
/-- The stretch allocates nothing. -/
theorem jacOps2_fresh : (jacOps2 : List (HloOp τ sig (Elt F))).Forall fun op => op.fresh = ∅ :=
  forall_fresh_of_map rfl
/-- What the stretch writes. -/
abbrev jacOps2_W : List (Ref sig .tc) := [main_while1b_c_37, main_while1b_v106, main_while1b_v107, main_while1b_c_38, main_while1b_v108, main_while1b_v109, main_while1b_v110, main_while1b_v111, main_while1b_v112, main_while1b_c_39, main_while1b_v113, main_while1b_v114, main_while1b_c_40, main_while1b_v115, main_while1b_v116, main_while1b_c_41, main_while1b_v117, main_while1b_c_42, main_while1b_v118, main_while1b_v119, main_while1b_v120, main_while1b_v121, main_while1b_v122]
/-- The stretch writes the buffers listed and no others. -/
theorem jacOps2_writes : (jacOps2 : List (HloOp τ sig (Elt F))).Forall fun op => op.writes ⊆ (jacOps2_W.map (Proc.devRef (τ := τ) .tc)).toFinset :=
  forall_writes_sub_of_map rfl

/-- A stretch of 3 host operations. -/
abbrev jacOps3 : List (HloOp τ sig (Elt F)) :=
  [ TRef.unary (.of main_while1b_v117 : TRef sig ⟨S_, .i32⟩) (.of main_while1b_call6_v0 : TRef sig ⟨S_, .i32⟩) id,
    TRef.unary (.of main_while1b_call6_v0 : TRef sig ⟨S_, .i32⟩) (.of main_while1b_call6_v1 : TRef sig ⟨S100, .i32⟩) (broadcastInDim S100 ![] bcast_S_S100),
    TRef.ternary (.of main_while1b_v116 : TRef sig ⟨S100, .i1⟩) (.of main_while1b_call6_v1 : TRef sig ⟨S100, .i32⟩) (.of main_while1b_v122 : TRef sig ⟨S100, .i32⟩) (.of main_while1b_v123 : TRef sig ⟨S100, .i32⟩) select ]
/-- The stretch touches the device's own buffers alone. -/
theorem jacOps3_sub : (jacOps3 : List (HloOp τ sig (Elt F))).Forall fun op => op.bufs ⊆ tcRefs τ sig :=
  ⟨unary_bufs_sub .., unary_bufs_sub .., ternary_bufs_sub ..⟩
/-- The stretch allocates nothing. -/
theorem jacOps3_fresh : (jacOps3 : List (HloOp τ sig (Elt F))).Forall fun op => op.fresh = ∅ :=
  forall_fresh_of_map rfl
/-- What the stretch writes. -/
abbrev jacOps3_W : List (Ref sig .tc) := [main_while1b_call6_v0, main_while1b_call6_v1, main_while1b_v123]
/-- The stretch writes the buffers listed and no others. -/
theorem jacOps3_writes : (jacOps3 : List (HloOp τ sig (Elt F))).Forall fun op => op.writes ⊆ (jacOps3_W.map (Proc.devRef (τ := τ) .tc)).toFinset :=
  forall_writes_sub_of_map rfl

/-- A stretch of 15 host operations. -/
abbrev jacOps4 : List (HloOp τ sig (Elt F)) :=
  [ nullary main_while1b_c_43 (constantI S_ 32 99#32),
    unary main_while1b_c_43 main_while1b_v124 (broadcastInDim S100 ![] bcast_S_S100 : Ct F S_ .i32 → Ct F S100 .i32),
    binary main_while1b_v123 main_while1b_v124 main_while1b_v125 (Host.remsi : Ct F S100 .i32 → Ct F S100 .i32 → Ct F S100 .i32),
    nullary main_while1b_c_44 (constantI S_ 32 0#32),
    unary main_while1b_c_44 main_while1b_v126 (broadcastInDim S100 ![] bcast_S_S100 : Ct F S_ .i32 → Ct F S100 .i32),
    binary main_while1b_v125 main_while1b_v126 main_while1b_v127 (cmpi .eq : Ct F S100 .i32 → Ct F S100 .i32 → Ct F S100 .i1),
    nullary main_while1b_c_45 (constantI S_ 32 50#32),
    unary main_while1b_c_45 main_while1b_v128 (broadcastInDim S100 ![] bcast_S_S100 : Ct F S_ .i32 → Ct F S100 .i32),
    binary main_while1b_v125 main_while1b_v128 main_while1b_v129 (cmpi .sle : Ct F S100 .i32 → Ct F S100 .i32 → Ct F S100 .i1),
    nullary main_while1b_c_46 (constantI S_ 32 49#32),
    unary main_while1b_c_46 main_while1b_v130 (broadcastInDim S100 ![] bcast_S_S100 : Ct F S_ .i32 → Ct F S100 .i32),
    binary main_while1b_v125 main_while1b_v130 main_while1b_v131 (addi : Ct F S100 .i32 → Ct F S100 .i32 → Ct F S100 .i32),
    nullary main_while1b_c_47 (constantI S_ 32 100#32),
    unary main_while1b_c_47 main_while1b_v132 (broadcastInDim S100 ![] bcast_S_S100 : Ct F S_ .i32 → Ct F S100 .i32),
    binary main_while1b_v132 main_while1b_v125 main_while1b_v133 (subi : Ct F S100 .i32 → Ct F S100 .i32 → Ct F S100 .i32) ]
/-- The stretch touches the device's own buffers alone. -/
theorem jacOps4_sub : (jacOps4 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩
/-- The stretch allocates nothing. -/
theorem jacOps4_fresh : (jacOps4 : List (HloOp τ sig (Elt F))).Forall fun op => op.fresh = ∅ :=
  forall_fresh_of_map rfl
/-- What the stretch writes. -/
abbrev jacOps4_W : List (Ref sig .tc) := [main_while1b_c_43, main_while1b_v124, main_while1b_v125, main_while1b_c_44, main_while1b_v126, main_while1b_v127, main_while1b_c_45, main_while1b_v128, main_while1b_v129, main_while1b_c_46, main_while1b_v130, main_while1b_v131, main_while1b_c_47, main_while1b_v132, main_while1b_v133]
/-- The stretch writes the buffers listed and no others. -/
theorem jacOps4_writes : (jacOps4 : List (HloOp τ sig (Elt F))).Forall fun op => op.writes ⊆ (jacOps4_W.map (Proc.devRef (τ := τ) .tc)).toFinset :=
  forall_writes_sub_of_map rfl

/-- A stretch of 1 host operation. -/
abbrev jacOps5 : List (HloOp τ sig (Elt F)) :=
  [ TRef.ternary (.of main_while1b_v129 : TRef sig ⟨S100, .i1⟩) (.of main_while1b_v131 : TRef sig ⟨S100, .i32⟩) (.of main_while1b_v133 : TRef sig ⟨S100, .i32⟩) (.of main_while1b_v134 : TRef sig ⟨S100, .i32⟩) select ]
/-- The stretch touches the device's own buffers alone. -/
theorem jacOps5_sub : (jacOps5 : List (HloOp τ sig (Elt F))).Forall fun op => op.bufs ⊆ tcRefs τ sig :=
  ternary_bufs_sub ..
/-- The stretch allocates nothing. -/
theorem jacOps5_fresh : (jacOps5 : List (HloOp τ sig (Elt F))).Forall fun op => op.fresh = ∅ :=
  forall_fresh_of_map rfl
/-- What the stretch writes. -/
abbrev jacOps5_W : List (Ref sig .tc) := [main_while1b_v134]
/-- The stretch writes the buffers listed and no others. -/
theorem jacOps5_writes : (jacOps5 : List (HloOp τ sig (Elt F))).Forall fun op => op.writes ⊆ (jacOps5_W.map (Proc.devRef (τ := τ) .tc)).toFinset :=
  forall_writes_sub_of_map rfl

/-- A stretch of 1 host operation. -/
abbrev jacOps6 : List (HloOp τ sig (Elt F)) :=
  [ nullary main_while1b_c_48 (constantI S_ 32 1#32) ]
/-- The stretch touches the device's own buffers alone. -/
theorem jacOps6_sub : (jacOps6 : List (HloOp τ sig (Elt F))).Forall fun op => op.bufs ⊆ tcRefs τ sig :=
  nullary_bufs_sub ..
/-- The stretch allocates nothing. -/
theorem jacOps6_fresh : (jacOps6 : List (HloOp τ sig (Elt F))).Forall fun op => op.fresh = ∅ :=
  forall_fresh_of_map rfl
/-- What the stretch writes. -/
abbrev jacOps6_W : List (Ref sig .tc) := [main_while1b_c_48]
/-- The stretch writes the buffers listed and no others. -/
theorem jacOps6_writes : (jacOps6 : List (HloOp τ sig (Elt F))).Forall fun op => op.writes ⊆ (jacOps6_W.map (Proc.devRef (τ := τ) .tc)).toFinset :=
  forall_writes_sub_of_map rfl

/-- A stretch of 3 host operations. -/
abbrev jacOps7 : List (HloOp τ sig (Elt F)) :=
  [ TRef.unary (.of main_while1b_c_48 : TRef sig ⟨S_, .i32⟩) (.of main_while1b_call8_v0 : TRef sig ⟨S_, .i32⟩) id,
    TRef.unary (.of main_while1b_call8_v0 : TRef sig ⟨S_, .i32⟩) (.of main_while1b_call8_v1 : TRef sig ⟨S100, .i32⟩) (broadcastInDim S100 ![] bcast_S_S100),
    TRef.ternary (.of main_while1b_v127 : TRef sig ⟨S100, .i1⟩) (.of main_while1b_call8_v1 : TRef sig ⟨S100, .i32⟩) (.of main_while1b_v134 : TRef sig ⟨S100, .i32⟩) (.of main_while1b_v135 : TRef sig ⟨S100, .i32⟩) select ]
/-- The stretch touches the device's own buffers alone. -/
theorem jacOps7_sub : (jacOps7 : List (HloOp τ sig (Elt F))).Forall fun op => op.bufs ⊆ tcRefs τ sig :=
  ⟨unary_bufs_sub .., unary_bufs_sub .., ternary_bufs_sub ..⟩
/-- The stretch allocates nothing. -/
theorem jacOps7_fresh : (jacOps7 : List (HloOp τ sig (Elt F))).Forall fun op => op.fresh = ∅ :=
  forall_fresh_of_map rfl
/-- What the stretch writes. -/
abbrev jacOps7_W : List (Ref sig .tc) := [main_while1b_call8_v0, main_while1b_call8_v1, main_while1b_v135]
/-- The stretch writes the buffers listed and no others. -/
theorem jacOps7_writes : (jacOps7 : List (HloOp τ sig (Elt F))).Forall fun op => op.writes ⊆ (jacOps7_W.map (Proc.devRef (τ := τ) .tc)).toFinset :=
  forall_writes_sub_of_map rfl

/-- A stretch of 8 host operations. -/
abbrev jacOps8 : List (HloOp τ sig (Elt F)) :=
  [ nullary main_while1b_c_49 (constantI S_ 32 0#32),
    unary main_while1b_c_49 main_while1b_v136 (broadcastInDim S100 ![] bcast_S_S100 : Ct F S_ .i32 → Ct F S100 .i32),
    binary main_while1b_v98 main_while1b_v136 main_while1b_v137 (cmpi .ne : Ct F S100 .i32 → Ct F S100 .i32 → Ct F S100 .i1),
    nullary main_while1b_c_50 (constantI S_ 32 1#32),
    unary main_while1b_c_50 main_while1b_v138 (broadcastInDim S100 ![] bcast_S_S100 : Ct F S_ .i32 → Ct F S100 .i32),
    binary main_while1b_v114 main_while1b_v138 main_while1b_v139 (cmpi .eq : Ct F S100 .i32 → Ct F S100 .i32 → Ct F S100 .i1),
    binary main_while1b_v137 main_while1b_v139 main_while1b_v140 (andi : Ct F S100 .i1 → Ct F S100 .i1 → Ct F S100 .i1),
    nullary main_while1b_c_51 (constantI S_ 32 0#32) ]
/-- The stretch touches the device's own buffers alone. -/
theorem jacOps8_sub : (jacOps8 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub ..⟩
/-- The stretch allocates nothing. -/
theorem jacOps8_fresh : (jacOps8 : List (HloOp τ sig (Elt F))).Forall fun op => op.fresh = ∅ :=
  forall_fresh_of_map rfl
/-- What the stretch writes. -/
abbrev jacOps8_W : List (Ref sig .tc) := [main_while1b_c_49, main_while1b_v136, main_while1b_v137, main_while1b_c_50, main_while1b_v138, main_while1b_v139, main_while1b_v140, main_while1b_c_51]
/-- The stretch writes the buffers listed and no others. -/
theorem jacOps8_writes : (jacOps8 : List (HloOp τ sig (Elt F))).Forall fun op => op.writes ⊆ (jacOps8_W.map (Proc.devRef (τ := τ) .tc)).toFinset :=
  forall_writes_sub_of_map rfl

/-- A stretch of 3 host operations. -/
abbrev jacOps9 : List (HloOp τ sig (Elt F)) :=
  [ TRef.unary (.of main_while1b_c_51 : TRef sig ⟨S_, .i32⟩) (.of main_while1b_call9_v0 : TRef sig ⟨S_, .i32⟩) id,
    TRef.unary (.of main_while1b_call9_v0 : TRef sig ⟨S_, .i32⟩) (.of main_while1b_call9_v1 : TRef sig ⟨S100, .i32⟩) (broadcastInDim S100 ![] bcast_S_S100),
    TRef.ternary (.of main_while1b_v140 : TRef sig ⟨S100, .i1⟩) (.of main_while1b_call9_v1 : TRef sig ⟨S100, .i32⟩) (.of main_while1b_v135 : TRef sig ⟨S100, .i32⟩) (.of main_while1b_v141 : TRef sig ⟨S100, .i32⟩) select ]
/-- The stretch touches the device's own buffers alone. -/
theorem jacOps9_sub : (jacOps9 : List (HloOp τ sig (Elt F))).Forall fun op => op.bufs ⊆ tcRefs τ sig :=
  ⟨unary_bufs_sub .., unary_bufs_sub .., ternary_bufs_sub ..⟩
/-- The stretch allocates nothing. -/
theorem jacOps9_fresh : (jacOps9 : List (HloOp τ sig (Elt F))).Forall fun op => op.fresh = ∅ :=
  forall_fresh_of_map rfl
/-- What the stretch writes. -/
abbrev jacOps9_W : List (Ref sig .tc) := [main_while1b_call9_v0, main_while1b_call9_v1, main_while1b_v141]
/-- The stretch writes the buffers listed and no others. -/
theorem jacOps9_writes : (jacOps9 : List (HloOp τ sig (Elt F))).Forall fun op => op.writes ⊆ (jacOps9_W.map (Proc.devRef (τ := τ) .tc)).toFinset :=
  forall_writes_sub_of_map rfl

/-- A stretch of 23 host operations. -/
abbrev jacOps10 : List (HloOp τ sig (Elt F)) :=
  [ nullary main_while1b_c_52 (constantI S_ 32 0#32),
    unary main_while1b_c_52 main_while1b_v142 (broadcastInDim S100 ![] bcast_S_S100 : Ct F S_ .i32 → Ct F S100 .i32),
    binary main_while1b_v98 main_while1b_v142 main_while1b_v143 (cmpi .eq : Ct F S100 .i32 → Ct F S100 .i32 → Ct F S100 .i1),
    nullary main_while1b_c_53 (constantI S_ 32 0#32),
    unary main_while1b_c_53 main_while1b_v144 (broadcastInDim S100 ![] bcast_S_S100 : Ct F S_ .i32 → Ct F S100 .i32),
    binary main_while1b_v114 main_while1b_v144 main_while1b_v145 (cmpi .eq : Ct F S100 .i32 → Ct F S100 .i32 → Ct F S100 .i1),
    binary main_while1b_v143 main_while1b_v145 main_while1b_v146 (ori : Ct F S100 .i1 → Ct F S100 .i1 → Ct F S100 .i1),
    nullary main_while1b_c_54 (constantI S_ 32 50#32),
    unary main_while1b_c_54 main_while1b_v147 (broadcastInDim S100 ![] bcast_S_S100 : Ct F S_ .i32 → Ct F S100 .i32),
    binary main_while1b_v114 main_while1b_v147 main_while1b_v148 (cmpi .sgt : Ct F S100 .i32 → Ct F S100 .i32 → Ct F S100 .i1),
    binary main_while1b_v146 main_while1b_v148 main_while1b_v149 (ori : Ct F S100 .i1 → Ct F S100 .i1 → Ct F S100 .i1),
    unary main_while1b_v97 main_while1b_v150 (broadcastInDim S100x1 ![0] bcast_S100_S100x1_0 : Ct F S100 .i32 → Ct F S100x1 .i32),
    unary main_while1b_v141 main_while1b_v151 (broadcastInDim S1x100 ![1] bcast_S100_S1x100_1 : Ct F S100 .i32 → Ct F S1x100 .i32),
    unary main_while1b_v150 main_while1b_v152 (broadcastInDim S100x100 ![0, 1] bcast_S100x1_S100x100_0_1 : Ct F S100x1 .i32 → Ct F S100x100 .i32),
    unary main_while1b_v151 main_while1b_v153 (broadcastInDim S100x100 ![0, 1] bcast_S1x100_S100x100_0_1 : Ct F S1x100 .i32 → Ct F S100x100 .i32),
    binary main_while1b_v152 main_while1b_v153 main_while1b_v154 (cmpi .eq : Ct F S100x100 .i32 → Ct F S100x100 .i32 → Ct F S100x100 .i1),
    nullary main_while1b_v155 (iotaInDim S100x100 32 0),
    nullary main_while1b_v156 (iotaInDim S100x100 32 1),
    nullary main_while1b_c_55 (constantI S_ 32 0#32),
    unary main_while1b_c_55 main_while1b_v157 (broadcastInDim S100x100 ![] bcast_S_S100x100 : Ct F S_ .i32 → Ct F S100x100 .i32),
    binary main_while1b_v155 main_while1b_v157 main_while1b_v158 (addi : Ct F S100x100 .i32 → Ct F S100x100 .i32 → Ct F S100x100 .i32),
    binary main_while1b_v158 main_while1b_v156 main_while1b_v159 (cmpi .eq : Ct F S100x100 .i32 → Ct F S100x100 .i32 → Ct F S100x100 .i1),
    nullary main_while1b_cst_56 (constant S_ .f32 0x00000000#32) ]
/-- The stretch touches the device's own buffers alone. -/
theorem jacOps10_sub : (jacOps10 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., unary_bufs_sub .., binary_bufs_sub .., binary_bufs_sub .., unary_bufs_sub .., unary_bufs_sub .., unary_bufs_sub .., unary_bufs_sub .., binary_bufs_sub .., nullary_bufs_sub .., nullary_bufs_sub .., nullary_bufs_sub .., unary_bufs_sub .., binary_bufs_sub .., binary_bufs_sub .., nullary_bufs_sub ..⟩
/-- The stretch allocates nothing. -/
theorem jacOps10_fresh : (jacOps10 : List (HloOp τ sig (Elt F))).Forall fun op => op.fresh = ∅ :=
  forall_fresh_of_map rfl
/-- What the stretch writes. -/
abbrev jacOps10_W : List (Ref sig .tc) := [main_while1b_c_52, main_while1b_v142, main_while1b_v143, main_while1b_c_53, main_while1b_v144, main_while1b_v145, main_while1b_v146, main_while1b_c_54, main_while1b_v147, main_while1b_v148, main_while1b_v149, main_while1b_v150, main_while1b_v151, main_while1b_v152, main_while1b_v153, main_while1b_v154, main_while1b_v155, main_while1b_v156, main_while1b_c_55, main_while1b_v157, main_while1b_v158, main_while1b_v159, main_while1b_cst_56]
/-- The stretch writes the buffers listed and no others. -/
theorem jacOps10_writes : (jacOps10 : List (HloOp τ sig (Elt F))).Forall fun op => op.writes ⊆ (jacOps10_W.map (Proc.devRef (τ := τ) .tc)).toFinset :=
  forall_writes_sub_of_map rfl

/-- A stretch of 3 host operations. -/
abbrev jacOps11 : List (HloOp τ sig (Elt F)) :=
  [ TRef.unary (.of main_while1b_cst_56 : TRef sig ⟨S_, .f32⟩) (.of main_while1b_call10_v0 : TRef sig ⟨S_, .f32⟩) id,
    TRef.unary (.of main_while1b_call10_v0 : TRef sig ⟨S_, .f32⟩) (.of main_while1b_call10_v1 : TRef sig ⟨S100x100, .f32⟩) (broadcastInDim S100x100 ![] bcast_S_S100x100),
    TRef.ternary (.of main_while1b_v159 : TRef sig ⟨S100x100, .i1⟩) (.of main_v52_2 : TRef sig ⟨S100x100, .f32⟩) (.of main_while1b_call10_v1 : TRef sig ⟨S100x100, .f32⟩) (.of main_while1b_v160 : TRef sig ⟨S100x100, .f32⟩) select ]
/-- The stretch touches the device's own buffers alone. -/
theorem jacOps11_sub : (jacOps11 : List (HloOp τ sig (Elt F))).Forall fun op => op.bufs ⊆ tcRefs τ sig :=
  ⟨unary_bufs_sub .., unary_bufs_sub .., ternary_bufs_sub ..⟩
/-- The stretch allocates nothing. -/
theorem jacOps11_fresh : (jacOps11 : List (HloOp τ sig (Elt F))).Forall fun op => op.fresh = ∅ :=
  forall_fresh_of_map rfl
/-- What the stretch writes. -/
abbrev jacOps11_W : List (Ref sig .tc) := [main_while1b_call10_v0, main_while1b_call10_v1, main_while1b_v160]
/-- The stretch writes the buffers listed and no others. -/
theorem jacOps11_writes : (jacOps11 : List (HloOp τ sig (Elt F))).Forall fun op => op.writes ⊆ (jacOps11_W.map (Proc.devRef (τ := τ) .tc)).toFinset :=
  forall_writes_sub_of_map rfl

/-- A stretch of 4 host operations. -/
abbrev jacOps12 : List (HloOp τ sig (Elt F)) :=
  [ nullary main_while1b_cst_57 (constant S_ .f32 0x00000000#32),
    binary main_while1b_v160 main_while1b_cst_57 main_while1b_v161 ((fun x v => Host.reduceAdd x v reducesTo_S100x100_S100_d0 h_S_) : Ct F S100x100 .f32 → Ct F S_ .f32 → Ct F S100 .f32),
    unary main_while1b_v161 main_while1b_v162 (broadcastInDim S100x1 ![0] bcast_S100_S100x1_0 : Ct F S100 .f32 → Ct F S100x1 .f32),
    nullary main_while1b_cst_58 (constant S_ .f32 0x00000000#32) ]
/-- The stretch touches the device's own buffers alone. -/
theorem jacOps12_sub : (jacOps12 : List (HloOp τ sig (Elt F))).Forall fun op => op.bufs ⊆ tcRefs τ sig :=
  ⟨nullary_bufs_sub .., binary_bufs_sub .., unary_bufs_sub .., nullary_bufs_sub ..⟩
/-- The stretch allocates nothing. -/
theorem jacOps12_fresh : (jacOps12 : List (HloOp τ sig (Elt F))).Forall fun op => op.fresh = ∅ :=
  forall_fresh_of_map rfl
/-- What the stretch writes. -/
abbrev jacOps12_W : List (Ref sig .tc) := [main_while1b_cst_57, main_while1b_v161, main_while1b_v162, main_while1b_cst_58]
/-- The stretch writes the buffers listed and no others. -/
theorem jacOps12_writes : (jacOps12 : List (HloOp τ sig (Elt F))).Forall fun op => op.writes ⊆ (jacOps12_W.map (Proc.devRef (τ := τ) .tc)).toFinset :=
  forall_writes_sub_of_map rfl

/-- A stretch of 4 host operations. -/
abbrev jacOps13 : List (HloOp τ sig (Elt F)) :=
  [ TRef.unary (.of main_while1b_cst_58 : TRef sig ⟨S_, .f32⟩) (.of main_while1b_call11_v0 : TRef sig ⟨S_, .f32⟩) id,
    TRef.unary (.of main_while1b_v162 : TRef sig ⟨S100x1, .f32⟩) (.of main_while1b_call11_v1 : TRef sig ⟨S100x100, .f32⟩) (broadcastInDim S100x100 ![0, 1] bcast_S100x1_S100x100_0_1),
    TRef.unary (.of main_while1b_call11_v0 : TRef sig ⟨S_, .f32⟩) (.of main_while1b_call11_v2 : TRef sig ⟨S100x100, .f32⟩) (broadcastInDim S100x100 ![] bcast_S_S100x100),
    TRef.ternary (.of main_while1b_v154 : TRef sig ⟨S100x100, .i1⟩) (.of main_while1b_call11_v1 : TRef sig ⟨S100x100, .f32⟩) (.of main_while1b_call11_v2 : TRef sig ⟨S100x100, .f32⟩) (.of main_while1b_v163 : TRef sig ⟨S100x100, .f32⟩) select ]
/-- The stretch touches the device's own buffers alone. -/
theorem jacOps13_sub : (jacOps13 : List (HloOp τ sig (Elt F))).Forall fun op => op.bufs ⊆ tcRefs τ sig :=
  ⟨unary_bufs_sub .., unary_bufs_sub .., unary_bufs_sub .., ternary_bufs_sub ..⟩
/-- The stretch allocates nothing. -/
theorem jacOps13_fresh : (jacOps13 : List (HloOp τ sig (Elt F))).Forall fun op => op.fresh = ∅ :=
  forall_fresh_of_map rfl
/-- What the stretch writes. -/
abbrev jacOps13_W : List (Ref sig .tc) := [main_while1b_call11_v0, main_while1b_call11_v1, main_while1b_call11_v2, main_while1b_v163]
/-- The stretch writes the buffers listed and no others. -/
theorem jacOps13_writes : (jacOps13 : List (HloOp τ sig (Elt F))).Forall fun op => op.writes ⊆ (jacOps13_W.map (Proc.devRef (τ := τ) .tc)).toFinset :=
  forall_writes_sub_of_map rfl

/-- A stretch of 3 host operations. -/
abbrev jacOps14 : List (HloOp τ sig (Elt F)) :=
  [ nullary main_while1b_cst_59 (constant S_ .f32 0x00000000#32),
    binary main_while1b_v163 main_while1b_cst_59 main_while1b_v164 ((fun x v => Host.reduceAdd x v reducesTo_S100x100_S100_d0 h_S_) : Ct F S100x100 .f32 → Ct F S_ .f32 → Ct F S100 .f32),
    nullary main_while1b_cst_60 (constant S_ .f32 0x00000000#32) ]
/-- The stretch touches the device's own buffers alone. -/
theorem jacOps14_sub : (jacOps14 : List (HloOp τ sig (Elt F))).Forall fun op => op.bufs ⊆ tcRefs τ sig :=
  ⟨nullary_bufs_sub .., binary_bufs_sub .., nullary_bufs_sub ..⟩
/-- The stretch allocates nothing. -/
theorem jacOps14_fresh : (jacOps14 : List (HloOp τ sig (Elt F))).Forall fun op => op.fresh = ∅ :=
  forall_fresh_of_map rfl
/-- What the stretch writes. -/
abbrev jacOps14_W : List (Ref sig .tc) := [main_while1b_cst_59, main_while1b_v164, main_while1b_cst_60]
/-- The stretch writes the buffers listed and no others. -/
theorem jacOps14_writes : (jacOps14 : List (HloOp τ sig (Elt F))).Forall fun op => op.writes ⊆ (jacOps14_W.map (Proc.devRef (τ := τ) .tc)).toFinset :=
  forall_writes_sub_of_map rfl

/-- A stretch of 3 host operations. -/
abbrev jacOps15 : List (HloOp τ sig (Elt F)) :=
  [ TRef.unary (.of main_while1b_cst_60 : TRef sig ⟨S_, .f32⟩) (.of main_while1b_call12_v0 : TRef sig ⟨S_, .f32⟩) id,
    TRef.unary (.of main_while1b_call12_v0 : TRef sig ⟨S_, .f32⟩) (.of main_while1b_call12_v1 : TRef sig ⟨S100x100, .f32⟩) (broadcastInDim S100x100 ![] bcast_S_S100x100),
    TRef.ternary (.of main_while1b_v154 : TRef sig ⟨S100x100, .i1⟩) (.of main_v52_2 : TRef sig ⟨S100x100, .f32⟩) (.of main_while1b_call12_v1 : TRef sig ⟨S100x100, .f32⟩) (.of main_while1b_v165 : TRef sig ⟨S100x100, .f32⟩) select ]
/-- The stretch touches the device's own buffers alone. -/
theorem jacOps15_sub : (jacOps15 : List (HloOp τ sig (Elt F))).Forall fun op => op.bufs ⊆ tcRefs τ sig :=
  ⟨unary_bufs_sub .., unary_bufs_sub .., ternary_bufs_sub ..⟩
/-- The stretch allocates nothing. -/
theorem jacOps15_fresh : (jacOps15 : List (HloOp τ sig (Elt F))).Forall fun op => op.fresh = ∅ :=
  forall_fresh_of_map rfl
/-- What the stretch writes. -/
abbrev jacOps15_W : List (Ref sig .tc) := [main_while1b_call12_v0, main_while1b_call12_v1, main_while1b_v165]
/-- The stretch writes the buffers listed and no others. -/
theorem jacOps15_writes : (jacOps15 : List (HloOp τ sig (Elt F))).Forall fun op => op.writes ⊆ (jacOps15_W.map (Proc.devRef (τ := τ) .tc)).toFinset :=
  forall_writes_sub_of_map rfl

/-- A stretch of 2 host operations. -/
abbrev jacOps16 : List (HloOp τ sig (Elt F)) :=
  [ nullary main_while1b_cst_61 (constant S_ .f32 0x00000000#32),
    binary main_while1b_v165 main_while1b_cst_61 main_while1b_v166 ((fun x v => Host.reduceAdd x v reducesTo_S100x100_S100_d0 h_S_) : Ct F S100x100 .f32 → Ct F S_ .f32 → Ct F S100 .f32) ]
/-- The stretch touches the device's own buffers alone. -/
theorem jacOps16_sub : (jacOps16 : List (HloOp τ sig (Elt F))).Forall fun op => op.bufs ⊆ tcRefs τ sig :=
  ⟨nullary_bufs_sub .., binary_bufs_sub ..⟩
/-- The stretch allocates nothing. -/
theorem jacOps16_fresh : (jacOps16 : List (HloOp τ sig (Elt F))).Forall fun op => op.fresh = ∅ :=
  forall_fresh_of_map rfl
/-- What the stretch writes. -/
abbrev jacOps16_W : List (Ref sig .tc) := [main_while1b_cst_61, main_while1b_v166]
/-- The stretch writes the buffers listed and no others. -/
theorem jacOps16_writes : (jacOps16 : List (HloOp τ sig (Elt F))).Forall fun op => op.writes ⊆ (jacOps16_W.map (Proc.devRef (τ := τ) .tc)).toFinset :=
  forall_writes_sub_of_map rfl

/-- A stretch of 1 host operation. -/
abbrev jacOps17 : List (HloOp τ sig (Elt F)) :=
  [ TRef.ternary (.of main_while1b_v149 : TRef sig ⟨S100, .i1⟩) (.of main_while1b_v161 : TRef sig ⟨S100, .f32⟩) (.of main_while1b_v164 : TRef sig ⟨S100, .f32⟩) (.of main_while1b_v167 : TRef sig ⟨S100, .f32⟩) select ]
/-- The stretch touches the device's own buffers alone. -/
theorem jacOps17_sub : (jacOps17 : List (HloOp τ sig (Elt F))).Forall fun op => op.bufs ⊆ tcRefs τ sig :=
  ternary_bufs_sub ..
/-- The stretch allocates nothing. -/
theorem jacOps17_fresh : (jacOps17 : List (HloOp τ sig (Elt F))).Forall fun op => op.fresh = ∅ :=
  forall_fresh_of_map rfl
/-- What the stretch writes. -/
abbrev jacOps17_W : List (Ref sig .tc) := [main_while1b_v167]
/-- The stretch writes the buffers listed and no others. -/
theorem jacOps17_writes : (jacOps17 : List (HloOp τ sig (Elt F))).Forall fun op => op.writes ⊆ (jacOps17_W.map (Proc.devRef (τ := τ) .tc)).toFinset :=
  forall_writes_sub_of_map rfl

/-- A stretch of 1 host operation. -/
abbrev jacOps18 : List (HloOp τ sig (Elt F)) :=
  [ TRef.ternary (.of main_while1b_v149 : TRef sig ⟨S100, .i1⟩) (.of main_while1b_v164 : TRef sig ⟨S100, .f32⟩) (.of main_while1b_v161 : TRef sig ⟨S100, .f32⟩) (.of main_while1b_v168 : TRef sig ⟨S100, .f32⟩) select ]
/-- The stretch touches the device's own buffers alone. -/
theorem jacOps18_sub : (jacOps18 : List (HloOp τ sig (Elt F))).Forall fun op => op.bufs ⊆ tcRefs τ sig :=
  ternary_bufs_sub ..
/-- The stretch allocates nothing. -/
theorem jacOps18_fresh : (jacOps18 : List (HloOp τ sig (Elt F))).Forall fun op => op.fresh = ∅ :=
  forall_fresh_of_map rfl
/-- What the stretch writes. -/
abbrev jacOps18_W : List (Ref sig .tc) := [main_while1b_v168]
/-- The stretch writes the buffers listed and no others. -/
theorem jacOps18_writes : (jacOps18 : List (HloOp τ sig (Elt F))).Forall fun op => op.writes ⊆ (jacOps18_W.map (Proc.devRef (τ := τ) .tc)).toFinset :=
  forall_writes_sub_of_map rfl

/-- A stretch of 10 host operations. -/
abbrev jacOps19 : List (HloOp τ sig (Elt F)) :=
  [ binary main_while1b_v168 main_while1b_v167 main_while1b_v169 (subf : Ct F S100 .f32 → Ct F S100 .f32 → Ct F S100 .f32),
    nullary main_while1b_cst_62 (constant S_ .f32 0x40000000#32),
    unary main_while1b_cst_62 main_while1b_v170 (broadcastInDim S100 ![] bcast_S_S100 : Ct F S_ .f32 → Ct F S100 .f32),
    binary main_while1b_v170 main_while1b_v166 main_while1b_v171 (mulf : Ct F S100 .f32 → Ct F S100 .f32 → Ct F S100 .f32),
    binary main_while1b_v169 main_while1b_v171 main_while1b_v172 (Host.divf : Ct F S100 .f32 → Ct F S100 .f32 → Ct F S100 .f32),
    nullary main_while1b_cst_63 (constant S_ .f32 0x00000000#32),
    unary main_while1b_cst_63 main_while1b_v173 (broadcastInDim S100 ![] bcast_S_S100 : Ct F S_ .f32 → Ct F S100 .f32),
    binary main_while1b_v172 main_while1b_v173 main_while1b_v174 (cmpf .oge : Ct F S100 .f32 → Ct F S100 .f32 → Ct F S100 .i1),
    nullary main_while1b_cst_64 (constant S_ .f32 0x3F800000#32),
    nullary main_while1b_cst_65 (constant S_ .f32 0xBF800000#32) ]
/-- The stretch touches the device's own buffers alone. -/
theorem jacOps19_sub : (jacOps19 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., nullary_bufs_sub .., nullary_bufs_sub ..⟩
/-- The stretch allocates nothing. -/
theorem jacOps19_fresh : (jacOps19 : List (HloOp τ sig (Elt F))).Forall fun op => op.fresh = ∅ :=
  forall_fresh_of_map rfl
/-- What the stretch writes. -/
abbrev jacOps19_W : List (Ref sig .tc) := [main_while1b_v169, main_while1b_cst_62, main_while1b_v170, main_while1b_v171, main_while1b_v172, main_while1b_cst_63, main_while1b_v173, main_while1b_v174, main_while1b_cst_64, main_while1b_cst_65]
/-- The stretch writes the buffers listed and no others. -/
theorem jacOps19_writes : (jacOps19 : List (HloOp τ sig (Elt F))).Forall fun op => op.writes ⊆ (jacOps19_W.map (Proc.devRef (τ := τ) .tc)).toFinset :=
  forall_writes_sub_of_map rfl

/-- A stretch of 3 host operations. -/
abbrev jacOps20 : List (HloOp τ sig (Elt F)) :=
  [ TRef.unary (.of main_while1b_cst_64 : TRef sig ⟨S_, .f32⟩) (.of main_while1b_call15_v0 : TRef sig ⟨S100, .f32⟩) (broadcastInDim S100 ![] bcast_S_S100),
    TRef.unary (.of main_while1b_cst_65 : TRef sig ⟨S_, .f32⟩) (.of main_while1b_call15_v1 : TRef sig ⟨S100, .f32⟩) (broadcastInDim S100 ![] bcast_S_S100),
    TRef.ternary (.of main_while1b_v174 : TRef sig ⟨S100, .i1⟩) (.of main_while1b_call15_v0 : TRef sig ⟨S100, .f32⟩) (.of main_while1b_call15_v1 : TRef sig ⟨S100, .f32⟩) (.of main_while1b_v175 : TRef sig ⟨S100, .f32⟩) select ]
/-- The stretch touches the device's own buffers alone. -/
theorem jacOps20_sub : (jacOps20 : List (HloOp τ sig (Elt F))).Forall fun op => op.bufs ⊆ tcRefs τ sig :=
  ⟨unary_bufs_sub .., unary_bufs_sub .., ternary_bufs_sub ..⟩
/-- The stretch allocates nothing. -/
theorem jacOps20_fresh : (jacOps20 : List (HloOp τ sig (Elt F))).Forall fun op => op.fresh = ∅ :=
  forall_fresh_of_map rfl
/-- What the stretch writes. -/
abbrev jacOps20_W : List (Ref sig .tc) := [main_while1b_call15_v0, main_while1b_call15_v1, main_while1b_v175]
/-- The stretch writes the buffers listed and no others. -/
theorem jacOps20_writes : (jacOps20 : List (HloOp τ sig (Elt F))).Forall fun op => op.writes ⊆ (jacOps20_W.map (Proc.devRef (τ := τ) .tc)).toFinset :=
  forall_writes_sub_of_map rfl

/-- A stretch of 14 host operations. -/
abbrev jacOps21 : List (HloOp τ sig (Elt F)) :=
  [ unary main_while1b_v172 main_while1b_v176 (Host.absf : Ct F S100 .f32 → Ct F S100 .f32),
    binary main_while1b_v172 main_while1b_v172 main_while1b_v177 (mulf : Ct F S100 .f32 → Ct F S100 .f32 → Ct F S100 .f32),
    nullary main_while1b_cst_66 (constant S_ .f32 0x3F800000#32),
    unary main_while1b_cst_66 main_while1b_v178 (broadcastInDim S100 ![] bcast_S_S100 : Ct F S_ .f32 → Ct F S100 .f32),
    binary main_while1b_v178 main_while1b_v177 main_while1b_v179 (addf : Ct F S100 .f32 → Ct F S100 .f32 → Ct F S100 .f32),
    unary main_while1b_v179 main_while1b_v180 (Host.sqrt : Ct F S100 .f32 → Ct F S100 .f32),
    binary main_while1b_v176 main_while1b_v180 main_while1b_v181 (addf : Ct F S100 .f32 → Ct F S100 .f32 → Ct F S100 .f32),
    unary main_while1b_v175 main_while1b_v182 (id : Ct F S100 .f32 → Ct F S100 .f32),
    binary main_while1b_v182 main_while1b_v181 main_while1b_v183 (Host.divf : Ct F S100 .f32 → Ct F S100 .f32 → Ct F S100 .f32),
    unary main_while1b_v166 main_while1b_v184 (Host.absf : Ct F S100 .f32 → Ct F S100 .f32),
    nullary main_while1b_cst_67 (constant S_ .f32 0x0DA24260#32),
    unary main_while1b_cst_67 main_while1b_v185 (broadcastInDim S100 ![] bcast_S_S100 : Ct F S_ .f32 → Ct F S100 .f32),
    binary main_while1b_v184 main_while1b_v185 main_while1b_v186 (cmpf .ole : Ct F S100 .f32 → Ct F S100 .f32 → Ct F S100 .i1),
    nullary main_while1b_cst_68 (constant S_ .f32 0x00000000#32) ]
/-- The stretch touches the device's own buffers alone. -/
theorem jacOps21_sub : (jacOps21 : List (HloOp τ sig (Elt F))).Forall fun op => op.bufs ⊆ tcRefs τ sig :=
  ⟨unary_bufs_sub .., binary_bufs_sub .., nullary_bufs_sub .., unary_bufs_sub .., binary_bufs_sub .., unary_bufs_sub .., binary_bufs_sub .., unary_bufs_sub .., binary_bufs_sub .., unary_bufs_sub .., nullary_bufs_sub .., unary_bufs_sub .., binary_bufs_sub .., nullary_bufs_sub ..⟩
/-- The stretch allocates nothing. -/
theorem jacOps21_fresh : (jacOps21 : List (HloOp τ sig (Elt F))).Forall fun op => op.fresh = ∅ :=
  forall_fresh_of_map rfl
/-- What the stretch writes. -/
abbrev jacOps21_W : List (Ref sig .tc) := [main_while1b_v176, main_while1b_v177, main_while1b_cst_66, main_while1b_v178, main_while1b_v179, main_while1b_v180, main_while1b_v181, main_while1b_v182, main_while1b_v183, main_while1b_v184, main_while1b_cst_67, main_while1b_v185, main_while1b_v186, main_while1b_cst_68]
/-- The stretch writes the buffers listed and no others. -/
theorem jacOps21_writes : (jacOps21 : List (HloOp τ sig (Elt F))).Forall fun op => op.writes ⊆ (jacOps21_W.map (Proc.devRef (τ := τ) .tc)).toFinset :=
  forall_writes_sub_of_map rfl

/-- A stretch of 3 host operations. -/
abbrev jacOps22 : List (HloOp τ sig (Elt F)) :=
  [ TRef.unary (.of main_while1b_cst_68 : TRef sig ⟨S_, .f32⟩) (.of main_while1b_call16_v0 : TRef sig ⟨S_, .f32⟩) id,
    TRef.unary (.of main_while1b_call16_v0 : TRef sig ⟨S_, .f32⟩) (.of main_while1b_call16_v1 : TRef sig ⟨S100, .f32⟩) (broadcastInDim S100 ![] bcast_S_S100),
    TRef.ternary (.of main_while1b_v186 : TRef sig ⟨S100, .i1⟩) (.of main_while1b_call16_v1 : TRef sig ⟨S100, .f32⟩) (.of main_while1b_v183 : TRef sig ⟨S100, .f32⟩) (.of main_while1b_v187 : TRef sig ⟨S100, .f32⟩) select ]
/-- The stretch touches the device's own buffers alone. -/
theorem jacOps22_sub : (jacOps22 : List (HloOp τ sig (Elt F))).Forall fun op => op.bufs ⊆ tcRefs τ sig :=
  ⟨unary_bufs_sub .., unary_bufs_sub .., ternary_bufs_sub ..⟩
/-- The stretch allocates nothing. -/
theorem jacOps22_fresh : (jacOps22 : List (HloOp τ sig (Elt F))).Forall fun op => op.fresh = ∅ :=
  forall_fresh_of_map rfl
/-- What the stretch writes. -/
abbrev jacOps22_W : List (Ref sig .tc) := [main_while1b_call16_v0, main_while1b_call16_v1, main_while1b_v187]
/-- The stretch writes the buffers listed and no others. -/
theorem jacOps22_writes : (jacOps22 : List (HloOp τ sig (Elt F))).Forall fun op => op.writes ⊆ (jacOps22_W.map (Proc.devRef (τ := τ) .tc)).toFinset :=
  forall_writes_sub_of_map rfl

/-- A stretch of 17 host operations. -/
abbrev jacOps23 : List (HloOp τ sig (Elt F)) :=
  [ binary main_while1b_v187 main_while1b_v187 main_while1b_v188 (mulf : Ct F S100 .f32 → Ct F S100 .f32 → Ct F S100 .f32),
    nullary main_while1b_cst_69 (constant S_ .f32 0x3F800000#32),
    unary main_while1b_cst_69 main_while1b_v189 (broadcastInDim S100 ![] bcast_S_S100 : Ct F S_ .f32 → Ct F S100 .f32),
    binary main_while1b_v189 main_while1b_v188 main_while1b_v190 (addf : Ct F S100 .f32 → Ct F S100 .f32 → Ct F S100 .f32),
    unary main_while1b_v190 main_while1b_v191 (Host.sqrt : Ct F S100 .f32 → Ct F S100 .f32),
    nullary main_while1b_cst_70 (constant S_ .f32 0x3F800000#32),
    unary main_while1b_cst_70 main_while1b_v192 (broadcastInDim S100 ![] bcast_S_S100 : Ct F S_ .f32 → Ct F S100 .f32),
    binary main_while1b_v192 main_while1b_v191 main_while1b_v193 (Host.divf : Ct F S100 .f32 → Ct F S100 .f32 → Ct F S100 .f32),
    binary main_while1b_v187 main_while1b_v193 main_while1b_v194 (mulf : Ct F S100 .f32 → Ct F S100 .f32 → Ct F S100 .f32),
    nullary main_while1b_v195 (iotaInDim S100x100 32 0),
    nullary main_while1b_v196 (iotaInDim S100x100 32 1),
    nullary main_while1b_c_71 (constantI S_ 32 0#32),
    unary main_while1b_c_71 main_while1b_v197 (broadcastInDim S100x100 ![] bcast_S_S100x100 : Ct F S_ .i32 → Ct F S100x100 .i32),
    binary main_while1b_v195 main_while1b_v197 main_while1b_v198 (addi : Ct F S100x100 .i32 → Ct F S100x100 .i32 → Ct F S100x100 .i32),
    binary main_while1b_v198 main_while1b_v196 main_while1b_v199 (cmpi .eq : Ct F S100x100 .i32 → Ct F S100x100 .i32 → Ct F S100x100 .i1),
    unary main_while1b_v193 main_while1b_v200 (broadcastInDim S1x100 ![1] bcast_S100_S1x100_1 : Ct F S100 .f32 → Ct F S1x100 .f32),
    unary main_while1b_v194 main_while1b_v201 (Host.negf : Ct F S100 .f32 → Ct F S100 .f32) ]
/-- The stretch touches the device's own buffers alone. -/
theorem jacOps23_sub : (jacOps23 : List (HloOp τ sig (Elt F))).Forall fun op => op.bufs ⊆ tcRefs τ sig :=
  ⟨binary_bufs_sub .., nullary_bufs_sub .., unary_bufs_sub .., binary_bufs_sub .., unary_bufs_sub .., nullary_bufs_sub .., unary_bufs_sub .., binary_bufs_sub .., binary_bufs_sub .., nullary_bufs_sub .., nullary_bufs_sub .., nullary_bufs_sub .., unary_bufs_sub .., binary_bufs_sub .., binary_bufs_sub .., unary_bufs_sub .., unary_bufs_sub ..⟩
/-- The stretch allocates nothing. -/
theorem jacOps23_fresh : (jacOps23 : List (HloOp τ sig (Elt F))).Forall fun op => op.fresh = ∅ :=
  forall_fresh_of_map rfl
/-- What the stretch writes. -/
abbrev jacOps23_W : List (Ref sig .tc) := [main_while1b_v188, main_while1b_cst_69, main_while1b_v189, main_while1b_v190, main_while1b_v191, main_while1b_cst_70, main_while1b_v192, main_while1b_v193, main_while1b_v194, main_while1b_v195, main_while1b_v196, main_while1b_c_71, main_while1b_v197, main_while1b_v198, main_while1b_v199, main_while1b_v200, main_while1b_v201]
/-- The stretch writes the buffers listed and no others. -/
theorem jacOps23_writes : (jacOps23 : List (HloOp τ sig (Elt F))).Forall fun op => op.writes ⊆ (jacOps23_W.map (Proc.devRef (τ := τ) .tc)).toFinset :=
  forall_writes_sub_of_map rfl

/-- A stretch of 1 host operation. -/
abbrev jacOps24 : List (HloOp τ sig (Elt F)) :=
  [ TRef.ternary (.of main_while1b_v149 : TRef sig ⟨S100, .i1⟩) (.of main_while1b_v201 : TRef sig ⟨S100, .f32⟩) (.of main_while1b_v194 : TRef sig ⟨S100, .f32⟩) (.of main_while1b_v202 : TRef sig ⟨S100, .f32⟩) select ]
/-- The stretch touches the device's own buffers alone. -/
theorem jacOps24_sub : (jacOps24 : List (HloOp τ sig (Elt F))).Forall fun op => op.bufs ⊆ tcRefs τ sig :=
  ternary_bufs_sub ..
/-- The stretch allocates nothing. -/
theorem jacOps24_fresh : (jacOps24 : List (HloOp τ sig (Elt F))).Forall fun op => op.fresh = ∅ :=
  forall_fresh_of_map rfl
/-- What the stretch writes. -/
abbrev jacOps24_W : List (Ref sig .tc) := [main_while1b_v202]
/-- The stretch writes the buffers listed and no others. -/
theorem jacOps24_writes : (jacOps24 : List (HloOp τ sig (Elt F))).Forall fun op => op.writes ⊆ (jacOps24_W.map (Proc.devRef (τ := τ) .tc)).toFinset :=
  forall_writes_sub_of_map rfl

/-- A stretch of 2 host operations. -/
abbrev jacOps25 : List (HloOp τ sig (Elt F)) :=
  [ unary main_while1b_v202 main_while1b_v203 (broadcastInDim S1x100 ![1] bcast_S100_S1x100_1 : Ct F S100 .f32 → Ct F S1x100 .f32),
    nullary main_while1b_cst_72 (constant S_ .f32 0x00000000#32) ]
/-- The stretch touches the device's own buffers alone. -/
theorem jacOps25_sub : (jacOps25 : List (HloOp τ sig (Elt F))).Forall fun op => op.bufs ⊆ tcRefs τ sig :=
  ⟨unary_bufs_sub .., nullary_bufs_sub ..⟩
/-- The stretch allocates nothing. -/
theorem jacOps25_fresh : (jacOps25 : List (HloOp τ sig (Elt F))).Forall fun op => op.fresh = ∅ :=
  forall_fresh_of_map rfl
/-- What the stretch writes. -/
abbrev jacOps25_W : List (Ref sig .tc) := [main_while1b_v203, main_while1b_cst_72]
/-- The stretch writes the buffers listed and no others. -/
theorem jacOps25_writes : (jacOps25 : List (HloOp τ sig (Elt F))).Forall fun op => op.writes ⊆ (jacOps25_W.map (Proc.devRef (τ := τ) .tc)).toFinset :=
  forall_writes_sub_of_map rfl

/-- A stretch of 4 host operations. -/
abbrev jacOps26 : List (HloOp τ sig (Elt F)) :=
  [ TRef.unary (.of main_while1b_cst_72 : TRef sig ⟨S_, .f32⟩) (.of main_while1b_call18_v0 : TRef sig ⟨S_, .f32⟩) id,
    TRef.unary (.of main_while1b_v203 : TRef sig ⟨S1x100, .f32⟩) (.of main_while1b_call18_v1 : TRef sig ⟨S100x100, .f32⟩) (broadcastInDim S100x100 ![0, 1] bcast_S1x100_S100x100_0_1),
    TRef.unary (.of main_while1b_call18_v0 : TRef sig ⟨S_, .f32⟩) (.of main_while1b_call18_v2 : TRef sig ⟨S100x100, .f32⟩) (broadcastInDim S100x100 ![] bcast_S_S100x100),
    TRef.ternary (.of main_while1b_v154 : TRef sig ⟨S100x100, .i1⟩) (.of main_while1b_call18_v1 : TRef sig ⟨S100x100, .f32⟩) (.of main_while1b_call18_v2 : TRef sig ⟨S100x100, .f32⟩) (.of main_while1b_v204 : TRef sig ⟨S100x100, .f32⟩) select ]
/-- The stretch touches the device's own buffers alone. -/
theorem jacOps26_sub : (jacOps26 : List (HloOp τ sig (Elt F))).Forall fun op => op.bufs ⊆ tcRefs τ sig :=
  ⟨unary_bufs_sub .., unary_bufs_sub .., unary_bufs_sub .., ternary_bufs_sub ..⟩
/-- The stretch allocates nothing. -/
theorem jacOps26_fresh : (jacOps26 : List (HloOp τ sig (Elt F))).Forall fun op => op.fresh = ∅ :=
  forall_fresh_of_map rfl
/-- What the stretch writes. -/
abbrev jacOps26_W : List (Ref sig .tc) := [main_while1b_call18_v0, main_while1b_call18_v1, main_while1b_call18_v2, main_while1b_v204]
/-- The stretch writes the buffers listed and no others. -/
theorem jacOps26_writes : (jacOps26 : List (HloOp τ sig (Elt F))).Forall fun op => op.writes ⊆ (jacOps26_W.map (Proc.devRef (τ := τ) .tc)).toFinset :=
  forall_writes_sub_of_map rfl

/-- A stretch of 2 host operations. -/
abbrev jacOps27 : List (HloOp τ sig (Elt F)) :=
  [ TRef.unary (.of main_while1b_v200 : TRef sig ⟨S1x100, .f32⟩) (.of main_while1b_call19_v0 : TRef sig ⟨S100x100, .f32⟩) (broadcastInDim S100x100 ![0, 1] bcast_S1x100_S100x100_0_1),
    TRef.ternary (.of main_while1b_v199 : TRef sig ⟨S100x100, .i1⟩) (.of main_while1b_call19_v0 : TRef sig ⟨S100x100, .f32⟩) (.of main_while1b_v204 : TRef sig ⟨S100x100, .f32⟩) (.of main_while1b_v205 : TRef sig ⟨S100x100, .f32⟩) select ]
/-- The stretch touches the device's own buffers alone. -/
theorem jacOps27_sub : (jacOps27 : List (HloOp τ sig (Elt F))).Forall fun op => op.bufs ⊆ tcRefs τ sig :=
  ⟨unary_bufs_sub .., ternary_bufs_sub ..⟩
/-- The stretch allocates nothing. -/
theorem jacOps27_fresh : (jacOps27 : List (HloOp τ sig (Elt F))).Forall fun op => op.fresh = ∅ :=
  forall_fresh_of_map rfl
/-- What the stretch writes. -/
abbrev jacOps27_W : List (Ref sig .tc) := [main_while1b_call19_v0, main_while1b_v205]
/-- The stretch writes the buffers listed and no others. -/
theorem jacOps27_writes : (jacOps27 : List (HloOp τ sig (Elt F))).Forall fun op => op.writes ⊆ (jacOps27_W.map (Proc.devRef (τ := τ) .tc)).toFinset :=
  forall_writes_sub_of_map rfl

/-- A stretch of 10 host operations. -/
abbrev jacOps28 : List (HloOp τ sig (Elt F)) :=
  [ unary main_while1b_v205 main_while1b_v206 ((transpose S100x100 [1, 0] · transposes_S100x100_S100x100_1_0) : Ct F S100x100 .f32 → Ct F S100x100 .f32),
    binary main_v52_2 main_while1b_v205 main_while1b_v207 ((fun l r => Host.dotGeneral dot_S100x100_S100x100_S100x100_1_0_0_1_n_n none l r) : Ct F S100x100 .f32 → Ct F S100x100 .f32 → Ct F S100x100 .f32),
    binary main_while1b_v206 main_while1b_v207 main_while1b_v208 ((fun l r => Host.dotGeneral dot_S100x100_S100x100_S100x100_1_0_0_1_n_n none l r) : Ct F S100x100 .f32 → Ct F S100x100 .f32 → Ct F S100x100 .f32),
    binary main_v52_3 main_while1b_v205 main_while1b_v209 ((fun l r => Host.dotGeneral dot_S100x100_S100x100_S100x100_1_0_0_1_n_n none l r) : Ct F S100x100 .f32 → Ct F S100x100 .f32 → Ct F S100x100 .f32),
    nullary main_while1b_c_73 (constantI S_ 32 1#32),
    binary main_v52_0 main_while1b_c_73 main_while1b_v210 (addi : Ct F S_ .i32 → Ct F S_ .i32 → Ct F S_ .i32),
    unary main_while1b_v210 main_v52_0 id,
    unary main_while1b_v96 main_v52_1 id,
    unary main_while1b_v208 main_v52_2 id,
    unary main_while1b_v209 main_v52_3 id ]
/-- The stretch touches the device's own buffers alone. -/
theorem jacOps28_sub : (jacOps28 : List (HloOp τ sig (Elt F))).Forall fun op => op.bufs ⊆ tcRefs τ sig :=
  ⟨unary_bufs_sub .., binary_bufs_sub .., binary_bufs_sub .., binary_bufs_sub .., nullary_bufs_sub .., binary_bufs_sub .., unary_bufs_sub .., unary_bufs_sub .., unary_bufs_sub .., unary_bufs_sub ..⟩
/-- The stretch allocates nothing. -/
theorem jacOps28_fresh : (jacOps28 : List (HloOp τ sig (Elt F))).Forall fun op => op.fresh = ∅ :=
  forall_fresh_of_map rfl
/-- What the stretch writes. -/
abbrev jacOps28_W : List (Ref sig .tc) := [main_while1b_v206, main_while1b_v207, main_while1b_v208, main_while1b_v209, main_while1b_c_73, main_while1b_v210, main_v52_0, main_v52_1, main_v52_2, main_v52_3]
/-- The stretch writes the buffers listed and no others. -/
theorem jacOps28_writes : (jacOps28 : List (HloOp τ sig (Elt F))).Forall fun op => op.writes ⊆ (jacOps28_W.map (Proc.devRef (τ := τ) .tc)).toFinset :=
  forall_writes_sub_of_map rfl

/-- The stretches of one block, in order. -/
abbrev preI : List (List (HloOp τ sig (Elt F))) := [ops0_0, ops0_1, ops0_2, ops0_3, ops0_4, ops0_5, ops0_6]
/-- The stretches are plain host operations. -/
theorem preI_plain : Plain (preI (F := F)) :=
  .cons ops0_0_sub (hf := List.forall_iff_forall_mem.mp ops0_0_fresh) (.cons ops0_1_sub (hf := List.forall_iff_forall_mem.mp ops0_1_fresh) (.cons ops0_2_sub (hf := List.forall_iff_forall_mem.mp ops0_2_fresh) (.cons ops0_3_sub (hf := List.forall_iff_forall_mem.mp ops0_3_fresh) (.cons ops0_4_sub (hf := List.forall_iff_forall_mem.mp ops0_4_fresh) (.cons ops0_5_sub (hf := List.forall_iff_forall_mem.mp ops0_5_fresh) (.cons ops0_6_sub (hf := List.forall_iff_forall_mem.mp ops0_6_fresh) (.nil)))))))

/-- The stretches of one block, in order. -/
abbrev midI : List (List (HloOp τ sig (Elt F))) := [ops0_7, ops0_8, ops0_9, ops0_10, ops0_11, ops1_0]
/-- The stretches are plain host operations. -/
theorem midI_plain : Plain (midI (F := F)) :=
  .cons ops0_7_sub (hf := List.forall_iff_forall_mem.mp ops0_7_fresh) (.cons ops0_8_sub (hf := List.forall_iff_forall_mem.mp ops0_8_fresh) (.cons ops0_9_sub (hf := List.forall_iff_forall_mem.mp ops0_9_fresh) (.cons ops0_10_sub (hf := List.forall_iff_forall_mem.mp ops0_10_fresh) (.cons ops0_11_sub (hf := List.forall_iff_forall_mem.mp ops0_11_fresh) (.cons ops1_0_sub (hf := List.forall_iff_forall_mem.mp ops1_0_fresh) (.nil))))))

/-- The stretches of one block, in order. -/
abbrev postI : List (List (HloOp τ sig (Elt F))) := [ops1_1, ops1_2, ops1_3, ops1_4, ops1_5, ops1_6, ops1_7, ops1_8, ops1_9, ops1_10, ops1_11, ops2_0]
/-- The stretches are plain host operations. -/
theorem postI_plain : Plain (postI (F := F)) :=
  .cons ops1_1_sub (hf := List.forall_iff_forall_mem.mp ops1_1_fresh) (.cons ops1_2_sub (hf := List.forall_iff_forall_mem.mp ops1_2_fresh) (.cons ops1_3_sub (hf := List.forall_iff_forall_mem.mp ops1_3_fresh) (.cons ops1_4_sub (hf := List.forall_iff_forall_mem.mp ops1_4_fresh) (.cons ops1_5_sub (hf := List.forall_iff_forall_mem.mp ops1_5_fresh) (.cons ops1_6_sub (hf := List.forall_iff_forall_mem.mp ops1_6_fresh) (.cons ops1_7_sub (hf := List.forall_iff_forall_mem.mp ops1_7_fresh) (.cons ops1_8_sub (hf := List.forall_iff_forall_mem.mp ops1_8_fresh) (.cons ops1_9_sub (hf := List.forall_iff_forall_mem.mp ops1_9_fresh) (.cons ops1_10_sub (hf := List.forall_iff_forall_mem.mp ops1_10_fresh) (.cons ops1_11_sub (hf := List.forall_iff_forall_mem.mp ops1_11_fresh) (.cons ops2_0_sub (hf := List.forall_iff_forall_mem.mp ops2_0_fresh) (.nil))))))))))))

/-- The stretches of one block, in order. -/
abbrev body0I : List (List (HloOp τ sig (Elt F))) := [fwOps0]
/-- The stretches are plain host operations. -/
theorem body0I_plain : Plain (body0I (F := F)) :=
  .cons fwOps0_sub (hf := List.forall_iff_forall_mem.mp fwOps0_fresh) (.nil)

/-- The stretches of one block, in order. -/
abbrev body1I : List (List (HloOp τ sig (Elt F))) := [jacOps0, jacOps1, jacOps2, jacOps3, jacOps4, jacOps5, jacOps6, jacOps7, jacOps8, jacOps9, jacOps10, jacOps11, jacOps12, jacOps13, jacOps14, jacOps15, jacOps16, jacOps17, jacOps18, jacOps19, jacOps20, jacOps21, jacOps22, jacOps23, jacOps24, jacOps25, jacOps26, jacOps27, jacOps28]
/-- The stretches are plain host operations. -/
theorem body1I_plain : Plain (body1I (F := F)) :=
  .cons jacOps0_sub (hf := List.forall_iff_forall_mem.mp jacOps0_fresh) (.cons jacOps1_sub (hf := List.forall_iff_forall_mem.mp jacOps1_fresh) (.cons jacOps2_sub (hf := List.forall_iff_forall_mem.mp jacOps2_fresh) (.cons jacOps3_sub (hf := List.forall_iff_forall_mem.mp jacOps3_fresh) (.cons jacOps4_sub (hf := List.forall_iff_forall_mem.mp jacOps4_fresh) (.cons jacOps5_sub (hf := List.forall_iff_forall_mem.mp jacOps5_fresh) (.cons jacOps6_sub (hf := List.forall_iff_forall_mem.mp jacOps6_fresh) (.cons jacOps7_sub (hf := List.forall_iff_forall_mem.mp jacOps7_fresh) (.cons jacOps8_sub (hf := List.forall_iff_forall_mem.mp jacOps8_fresh) (.cons jacOps9_sub (hf := List.forall_iff_forall_mem.mp jacOps9_fresh) (.cons jacOps10_sub (hf := List.forall_iff_forall_mem.mp jacOps10_fresh) (.cons jacOps11_sub (hf := List.forall_iff_forall_mem.mp jacOps11_fresh) (.cons jacOps12_sub (hf := List.forall_iff_forall_mem.mp jacOps12_fresh) (.cons jacOps13_sub (hf := List.forall_iff_forall_mem.mp jacOps13_fresh) (.cons jacOps14_sub (hf := List.forall_iff_forall_mem.mp jacOps14_fresh) (.cons jacOps15_sub (hf := List.forall_iff_forall_mem.mp jacOps15_fresh) (.cons jacOps16_sub (hf := List.forall_iff_forall_mem.mp jacOps16_fresh) (.cons jacOps17_sub (hf := List.forall_iff_forall_mem.mp jacOps17_fresh) (.cons jacOps18_sub (hf := List.forall_iff_forall_mem.mp jacOps18_fresh) (.cons jacOps19_sub (hf := List.forall_iff_forall_mem.mp jacOps19_fresh) (.cons jacOps20_sub (hf := List.forall_iff_forall_mem.mp jacOps20_fresh) (.cons jacOps21_sub (hf := List.forall_iff_forall_mem.mp jacOps21_fresh) (.cons jacOps22_sub (hf := List.forall_iff_forall_mem.mp jacOps22_fresh) (.cons jacOps23_sub (hf := List.forall_iff_forall_mem.mp jacOps23_fresh) (.cons jacOps24_sub (hf := List.forall_iff_forall_mem.mp jacOps24_fresh) (.cons jacOps25_sub (hf := List.forall_iff_forall_mem.mp jacOps25_fresh) (.cons jacOps26_sub (hf := List.forall_iff_forall_mem.mp jacOps26_fresh) (.cons jacOps27_sub (hf := List.forall_iff_forall_mem.mp jacOps27_fresh) (.cons jacOps28_sub (hf := List.forall_iff_forall_mem.mp jacOps28_fresh) (.nil)))))))))))))))))))))))))))))

/-- A block of the reference as the chain of its stretches. -/
theorem main_part0_chain (c : Dev nD) : main_part0 (F := F) c = (Pipeline.chainK
  [ seq ops0_0,
    seq ops0_1,
    seq ops0_2,
    seq ops0_3,
    seq ops0_4,
    seq ops0_5,
    seq ops0_6,
    HostLoop.enter 0,
    seq ops0_7,
    seq ops0_8,
    seq ops0_9,
    seq ops0_10 ]
  (seq ops0_11) : HProg F) := by
  rewrite [chainK_seq_cons, Pipeline.chainK_cons, chainK_seq_cons, Pipeline.chainK_cons, chainK_seq_cons, Pipeline.chainK_cons, chainK_seq_cons, Pipeline.chainK_cons, chainK_seq_cons, Pipeline.chainK_cons, chainK_seq_cons, Pipeline.chainK_cons]
  chain_rfl

/-- A block of the reference as the chain of its stretches. -/
theorem main_part1_chain (c : Dev nD) : main_part1 (F := F) c = (Pipeline.chainK
  [ seq ops1_0,
    HostLoop.enter 1,
    seq ops1_1,
    seq ops1_2,
    seq ops1_3,
    seq ops1_4,
    seq ops1_5,
    seq ops1_6,
    seq ops1_7,
    seq ops1_8,
    seq ops1_9,
    seq ops1_10 ]
  (seq ops1_11) : HProg F) := by
  rewrite [chainK_seq_cons, Pipeline.chainK_cons, chainK_seq_cons, Pipeline.chainK_cons, chainK_seq_cons, Pipeline.chainK_cons, chainK_seq_cons, Pipeline.chainK_cons, chainK_seq_cons, Pipeline.chainK_cons, chainK_seq_cons, Pipeline.chainK_cons]
  chain_rfl

/-- A block of the reference as the chain of its stretches. -/
theorem main_part2_chain (c : Dev nD) : main_part2 (F := F) c = (Pipeline.chain
  [ seq ops2_0 ] : HProg F) := by
  rewrite [chain_seq_cons]
  chain_rfl

/-- A block of the reference as the chain of its stretches. -/
theorem main_chain_windows (c : Dev nD) : main (F := F) c = (Pipeline.chain
  [ seq ops0_0,
    seq ops0_1,
    seq ops0_2,
    seq ops0_3,
    seq ops0_4,
    seq ops0_5,
    seq ops0_6,
    HostLoop.enter 0,
    seq ops0_7,
    seq ops0_8,
    seq ops0_9,
    seq ops0_10,
    seq ops0_11,
    seq ops1_0,
    HostLoop.enter 1,
    seq ops1_1,
    seq ops1_2,
    seq ops1_3,
    seq ops1_4,
    seq ops1_5,
    seq ops1_6,
    seq ops1_7,
    seq ops1_8,
    seq ops1_9,
    seq ops1_10,
    seq ops1_11,
    seq ops2_0 ] : HProg F) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

/-- A block of the reference as the chain of its stretches. -/
theorem while0_body_chain : main_while0_body (F := F) = (Pipeline.chain
  [ seq fwOps0 ] : HProg F) := by
  rewrite [chain_seq_cons]
  chain_rfl

/-- A block of the reference as the chain of its stretches. -/
theorem while1_body_chain : main_while1_body (F := F) = (Pipeline.chain
  [ seq jacOps0,
    seq jacOps1,
    seq jacOps2,
    seq jacOps3,
    seq jacOps4,
    seq jacOps5,
    seq jacOps6,
    seq jacOps7,
    seq jacOps8,
    seq jacOps9,
    seq jacOps10,
    seq jacOps11,
    seq jacOps12,
    seq jacOps13,
    seq jacOps14,
    seq jacOps15,
    seq jacOps16,
    seq jacOps17,
    seq jacOps18,
    seq jacOps19,
    seq jacOps20,
    seq jacOps21,
    seq jacOps22,
    seq jacOps23,
    seq jacOps24,
    seq jacOps25,
    seq jacOps26,
    seq jacOps27,
    seq jacOps28 ] : HProg F) := by
  rewrite [chain_seq_cons, Pipeline.chain_cons, chain_seq_cons, Pipeline.chain_cons, chain_seq_cons, Pipeline.chain_cons, chain_seq_cons, Pipeline.chain_cons, chain_seq_cons, Pipeline.chain_cons, chain_seq_cons, Pipeline.chain_cons, chain_seq_cons, Pipeline.chain_cons, chain_seq_cons, Pipeline.chain_cons, chain_seq_cons, Pipeline.chain_cons, Pipeline.chain_cons, chain_seq_cons, Pipeline.chain_cons, chain_seq_cons, Pipeline.chain_cons, chain_seq_cons, Pipeline.chain_cons, chain_seq_cons, Pipeline.chain_cons, Pipeline.chain_cons, chain_seq_cons]
  chain_rfl

end Cert.ReferenceIdeal.Hand

end
-- ==== Proof.RefVals.lean ====
/- The values of the reference's buffers before, between and after its loops, and one trip of the Floyd-Warshall loop. -/
module

public import proofs.«01_k».proof.Proof.RefOps
public import Idealize.ShloMosaic.Lib.StableHlo.RunClose

@[expose] public section

set_option maxRecDepth 100000

noncomputable section

namespace Cert.ReferenceIdeal.Hand

open Idealize.ShloMosaic Idealize.ShloMosaic.TcCoe Idealize.ShloMosaic.StableHlo Cert.ReferenceIdeal.Gen
open Idealize.SL Idealize.SL.RA Idealize.SL.BI
open scoped Idealize.SL.BI
open Idealize.SL.BI.BIBase Idealize.SL.Sem

variable {F : FTy → Type} [FloatOps F]

/-- The value of a buffer of the reference, of the contents its block starts from. -/
def pre_v4 (x : Ct F S100x2 .f32) : Ct F S100x100x2 .f32 :=
  (subf (broadcastInDim S100x100x2 ![0, 1, 2] bcast_S100x1x2_S100x100x2_0_1_2 (broadcastInDim S100x1x2 ![0, 2] bcast_S100x2_S100x1x2_0_2 x)) (broadcastInDim S100x100x2 ![0, 1, 2] bcast_S1x100x2_S100x100x2_0_1_2 (broadcastInDim S1x100x2 ![1, 2] bcast_S100x2_S1x100x2_1_2 x)))
/-- The value of a buffer of the reference, of the contents its block starts from. -/
def pre_v9 (x : Ct F S100x2 .f32) : Ct F S100x100 .f32 :=
  (Host.sqrt (maximumf ((fun x v => Host.reduceAdd x v reducesTo_S100x100x2_S100x100_d2 h_S_) (mulf (pre_v4 (F := F) x) (pre_v4 (F := F) x)) ((constant S_ .f32 0x00000000#32) : Ct F S_ .f32)) (broadcastInDim S100x100 ![] bcast_S_S100x100 ((constant S_ .f32 0x2B8CBCCC#32) : Ct F S_ .f32))))
/-- The value of a buffer of the reference, of the contents its block starts from. -/
def pre_v14 : Ct F S100x100 .i1 :=
  (cmpi .eq (addi ((iotaInDim S100x100 32 0) : Ct F S100x100 .i32) (broadcastInDim S100x100 ![] bcast_S_S100x100 ((constantI S_ 32 0#32) : Ct F S_ .i32))) ((iotaInDim S100x100 32 1) : Ct F S100x100 .i32))
/-- The value of a buffer of the reference, of the contents its block starts from. -/
def pre_cst_1 : Ct F S_ .f32 :=
  ((constant S_ .f32 0x00000000#32) : Ct F S_ .f32)
/-- The value of a buffer of the reference, of the contents its block starts from. -/
def pre_v15 (x : Ct F S100x2 .f32) : Ct F S100x100 .f32 :=
  (select (pre_v14 (F := F)) ((broadcastInDim S100x100 ![] bcast_S_S100x100) (pre_cst_1 (F := F))) (pre_v9 (F := F) x))
/-- The value of a buffer of the reference, of the contents its block starts from. -/
def pre_v17 (x : Ct F S100x2 .f32) : Ct F S100x100 .i1 :=
  (cmpf .ole (pre_v15 (F := F) x) (broadcastInDim S100x100 ![] bcast_S_S100x100 ((constant S_ .f32 0x3F99999A#32) : Ct F S_ .f32)))
/-- The value of a buffer of the reference, of the contents its block starts from. -/
def pre_cst_3 : Ct F S_ .f32 :=
  ((constant S_ .f32 0x49742400#32) : Ct F S_ .f32)
/-- The value of a buffer of the reference, of the contents its block starts from. -/
def pre_v18 (x : Ct F S100x2 .f32) : Ct F S100x100 .f32 :=
  (select (pre_v17 (F := F) x) (pre_v15 (F := F) x) ((broadcastInDim S100x100 ![] bcast_S_S100x100) (pre_cst_3 (F := F))))
/-- The value of a buffer of the reference, of the contents its block starts from. -/
def pre_v23 : Ct F S100x100 .i1 :=
  (cmpi .eq (addi ((iotaInDim S100x100 32 0) : Ct F S100x100 .i32) (broadcastInDim S100x100 ![] bcast_S_S100x100 ((constantI S_ 32 0#32) : Ct F S_ .i32))) ((iotaInDim S100x100 32 1) : Ct F S100x100 .i32))
/-- The value of a buffer of the reference, of the contents its block starts from. -/
def pre_cst_5 : Ct F S_ .f32 :=
  ((constant S_ .f32 0x00000000#32) : Ct F S_ .f32)
/-- The value of a buffer of the reference, of the contents its block starts from. -/
def pre_v24 (x : Ct F S100x2 .f32) : Ct F S100x100 .f32 :=
  (select (pre_v23 (F := F)) ((broadcastInDim S100x100 ![] bcast_S_S100x100) (pre_cst_5 (F := F))) (pre_v18 (F := F) x))
/-- The value of a buffer of the reference, of the contents its block starts from. -/
def pre_v25_0 : Ct F S_ .i32 :=
  ((constantI S_ 32 0#32) : Ct F S_ .i32)
/-- The value of a buffer of the reference, of the contents its block starts from. -/
def pre_v25_1 : Ct F S_ .i32 :=
  ((constantI S_ 32 0#32) : Ct F S_ .i32)
/-- The value of a buffer of the reference, of the contents its block starts from. -/
def pre_v25_2 (x : Ct F S100x2 .f32) : Ct F S100x100 .f32 :=
  (pre_v24 (F := F) x)
/-- The contents the block starts from. -/
def pre_at0 (V0 : Valuation τ sig (Elt F)) : Valuation τ sig (Elt F) := V0
/-- What the buffer holds after this many stretches. -/
theorem pre_at0_arg0 (V0 : Valuation τ sig (Elt F)) : pre_at0 V0 (no_index (Proc.devRef .tc main_arg0)) = V0 (Proc.devRef .tc main_arg0) := rfl
/-- The contents after the block's first 1 stretch. -/
def pre_at1 (V0 : Valuation τ sig (Elt F)) : Valuation τ sig (Elt F) := after ops0_0 (pre_at0 V0)
/-- This stretch leaves every other buffer alone. -/
theorem pre_at1_keep (V0 : Valuation τ sig (Elt F)) (r : Ref sig .tc) (h : r ∉ ops0_0_W) :
    pre_at1 V0 (Proc.devRef .tc r) = pre_at0 V0 (Proc.devRef .tc r) :=
  after_of_writes_sub ops0_0 _ ops0_0_writes h
/-- What the buffer holds after this many stretches. -/
theorem pre_at1_v9 (V0 : Valuation τ sig (Elt F)) : pre_at1 V0 (no_index (Proc.devRef .tc main_v9)) = pre_v9 (V0 (Proc.devRef .tc main_arg0)) := by
  unfold pre_at1
  simp only [ops0_0]
  after_results_simp_entrywise
  try simp only [pre_at0_arg0]
  unfold pre_v9
  (try simp only [TRef.ofBuf, TRef.toBuf, cast_eq])
  all_goals rfl
/-- What the buffer holds after this many stretches. -/
theorem pre_at1_v14 (V0 : Valuation τ sig (Elt F)) : pre_at1 V0 (no_index (Proc.devRef .tc main_v14)) = pre_v14 (F := F) := by
  unfold pre_at1
  simp only [ops0_0]
  after_results_simp_entrywise
  try simp only [pre_at0_arg0]
  unfold pre_v14
  (try simp only [TRef.ofBuf, TRef.toBuf, cast_eq])
  all_goals rfl
/-- What the buffer holds after this many stretches. -/
theorem pre_at1_cst_1 (V0 : Valuation τ sig (Elt F)) : pre_at1 V0 (no_index (Proc.devRef .tc main_cst_1)) = pre_cst_1 (F := F) := by
  unfold pre_at1
  simp only [ops0_0]
  after_results_simp_entrywise
  try simp only [pre_at0_arg0]
  unfold pre_cst_1
  (try simp only [TRef.ofBuf, TRef.toBuf, cast_eq])
  all_goals rfl
/-- The contents after the block's first 2 stretches. -/
def pre_at2 (V0 : Valuation τ sig (Elt F)) : Valuation τ sig (Elt F) := after ops0_1 (pre_at1 V0)
/-- This stretch leaves every other buffer alone. -/
theorem pre_at2_keep (V0 : Valuation τ sig (Elt F)) (r : Ref sig .tc) (h : r ∉ ops0_1_W) :
    pre_at2 V0 (Proc.devRef .tc r) = pre_at1 V0 (Proc.devRef .tc r) :=
  after_of_writes_sub ops0_1 _ ops0_1_writes h
/-- What the buffer holds after this many stretches. -/
theorem pre_at2_v15 (V0 : Valuation τ sig (Elt F)) : pre_at2 V0 (no_index (Proc.devRef .tc main_v15)) = pre_v15 (V0 (Proc.devRef .tc main_arg0)) := by
  unfold pre_at2
  simp only [ops0_1]
  after_results_simp_entrywise
  try simp only [pre_at1_v9, pre_at1_v14, pre_at1_cst_1]
  unfold pre_v15
  (try simp only [TRef.ofBuf, TRef.toBuf, cast_eq])
  all_goals rfl
/-- The contents after the block's first 3 stretches. -/
def pre_at3 (V0 : Valuation τ sig (Elt F)) : Valuation τ sig (Elt F) := after ops0_2 (pre_at2 V0)
/-- This stretch leaves every other buffer alone. -/
theorem pre_at3_keep (V0 : Valuation τ sig (Elt F)) (r : Ref sig .tc) (h : r ∉ ops0_2_W) :
    pre_at3 V0 (Proc.devRef .tc r) = pre_at2 V0 (Proc.devRef .tc r) :=
  after_of_writes_sub ops0_2 _ ops0_2_writes h
/-- What the buffer holds after this many stretches. -/
theorem pre_at3_v15 (V0 : Valuation τ sig (Elt F)) : pre_at3 V0 (no_index (Proc.devRef .tc main_v15)) = pre_v15 (V0 (Proc.devRef .tc main_arg0)) :=
  (pre_at3_keep V0 main_v15 (by decide)).trans (pre_at2_v15 V0)
/-- What the buffer holds after this many stretches. -/
theorem pre_at3_v17 (V0 : Valuation τ sig (Elt F)) : pre_at3 V0 (no_index (Proc.devRef .tc main_v17)) = pre_v17 (V0 (Proc.devRef .tc main_arg0)) := by
  unfold pre_at3
  simp only [ops0_2]
  after_results_simp_entrywise
  try simp only [pre_at2_v15]
  unfold pre_v17
  (try simp only [TRef.ofBuf, TRef.toBuf, cast_eq])
  all_goals rfl
/-- What the buffer holds after this many stretches. -/
theorem pre_at3_cst_3 (V0 : Valuation τ sig (Elt F)) : pre_at3 V0 (no_index (Proc.devRef .tc main_cst_3)) = pre_cst_3 (F := F) := by
  unfold pre_at3
  simp only [ops0_2]
  after_results_simp_entrywise
  try simp only [pre_at2_v15]
  unfold pre_cst_3
  (try simp only [TRef.ofBuf, TRef.toBuf, cast_eq])
  all_goals rfl
/-- The contents after the block's first 4 stretches. -/
def pre_at4 (V0 : Valuation τ sig (Elt F)) : Valuation τ sig (Elt F) := after ops0_3 (pre_at3 V0)
/-- This stretch leaves every other buffer alone. -/
theorem pre_at4_keep (V0 : Valuation τ sig (Elt F)) (r : Ref sig .tc) (h : r ∉ ops0_3_W) :
    pre_at4 V0 (Proc.devRef .tc r) = pre_at3 V0 (Proc.devRef .tc r) :=
  after_of_writes_sub ops0_3 _ ops0_3_writes h
/-- What the buffer holds after this many stretches. -/
theorem pre_at4_v18 (V0 : Valuation τ sig (Elt F)) : pre_at4 V0 (no_index (Proc.devRef .tc main_v18)) = pre_v18 (V0 (Proc.devRef .tc main_arg0)) := by
  unfold pre_at4
  simp only [ops0_3]
  after_results_simp_entrywise
  try simp only [pre_at3_v15, pre_at3_v17, pre_at3_cst_3]
  unfold pre_v18
  (try simp only [TRef.ofBuf, TRef.toBuf, cast_eq])
  all_goals rfl
/-- The contents after the block's first 5 stretches. -/
def pre_at5 (V0 : Valuation τ sig (Elt F)) : Valuation τ sig (Elt F) := after ops0_4 (pre_at4 V0)
/-- This stretch leaves every other buffer alone. -/
theorem pre_at5_keep (V0 : Valuation τ sig (Elt F)) (r : Ref sig .tc) (h : r ∉ ops0_4_W) :
    pre_at5 V0 (Proc.devRef .tc r) = pre_at4 V0 (Proc.devRef .tc r) :=
  after_of_writes_sub ops0_4 _ ops0_4_writes h
/-- What the buffer holds after this many stretches. -/
theorem pre_at5_v18 (V0 : Valuation τ sig (Elt F)) : pre_at5 V0 (no_index (Proc.devRef .tc main_v18)) = pre_v18 (V0 (Proc.devRef .tc main_arg0)) :=
  (pre_at5_keep V0 main_v18 (by decide)).trans (pre_at4_v18 V0)
/-- What the buffer holds after this many stretches. -/
theorem pre_at5_v23 (V0 : Valuation τ sig (Elt F)) : pre_at5 V0 (no_index (Proc.devRef .tc main_v23)) = pre_v23 (F := F) := by
  unfold pre_at5
  simp only [ops0_4]
  after_results_simp_entrywise
  skip
  unfold pre_v23
  (try simp only [TRef.ofBuf, TRef.toBuf, cast_eq])
  all_goals rfl
/-- What the buffer holds after this many stretches. -/
theorem pre_at5_cst_5 (V0 : Valuation τ sig (Elt F)) : pre_at5 V0 (no_index (Proc.devRef .tc main_cst_5)) = pre_cst_5 (F := F) := by
  unfold pre_at5
  simp only [ops0_4]
  after_results_simp_entrywise
  skip
  unfold pre_cst_5
  (try simp only [TRef.ofBuf, TRef.toBuf, cast_eq])
  all_goals rfl
/-- The contents after the block's first 6 stretches. -/
def pre_at6 (V0 : Valuation τ sig (Elt F)) : Valuation τ sig (Elt F) := after ops0_5 (pre_at5 V0)
/-- This stretch leaves every other buffer alone. -/
theorem pre_at6_keep (V0 : Valuation τ sig (Elt F)) (r : Ref sig .tc) (h : r ∉ ops0_5_W) :
    pre_at6 V0 (Proc.devRef .tc r) = pre_at5 V0 (Proc.devRef .tc r) :=
  after_of_writes_sub ops0_5 _ ops0_5_writes h
/-- What the buffer holds after this many stretches. -/
theorem pre_at6_v24 (V0 : Valuation τ sig (Elt F)) : pre_at6 V0 (no_index (Proc.devRef .tc main_v24)) = pre_v24 (V0 (Proc.devRef .tc main_arg0)) := by
  unfold pre_at6
  simp only [ops0_5]
  after_results_simp_entrywise
  try simp only [pre_at5_v18, pre_at5_v23, pre_at5_cst_5]
  unfold pre_v24
  (try simp only [TRef.ofBuf, TRef.toBuf, cast_eq])
  all_goals rfl
/-- The contents after the block's first 7 stretches. -/
def pre_at7 (V0 : Valuation τ sig (Elt F)) : Valuation τ sig (Elt F) := after ops0_6 (pre_at6 V0)
/-- This stretch leaves every other buffer alone. -/
theorem pre_at7_keep (V0 : Valuation τ sig (Elt F)) (r : Ref sig .tc) (h : r ∉ ops0_6_W) :
    pre_at7 V0 (Proc.devRef .tc r) = pre_at6 V0 (Proc.devRef .tc r) :=
  after_of_writes_sub ops0_6 _ ops0_6_writes h
/-- What the buffer holds after this many stretches. -/
theorem pre_at7_v25_0 (V0 : Valuation τ sig (Elt F)) : pre_at7 V0 (no_index (Proc.devRef .tc main_v25_0)) = pre_v25_0 (F := F) := by
  unfold pre_at7
  simp only [ops0_6]
  after_results_simp_entrywise
  try simp only [pre_at6_v24]
  unfold pre_v25_0
  (try simp only [TRef.ofBuf, TRef.toBuf, cast_eq])
  all_goals rfl
/-- What the buffer holds after this many stretches. -/
theorem pre_at7_v25_1 (V0 : Valuation τ sig (Elt F)) : pre_at7 V0 (no_index (Proc.devRef .tc main_v25_1)) = pre_v25_1 (F := F) := by
  unfold pre_at7
  simp only [ops0_6]
  after_results_simp_entrywise
  try simp only [pre_at6_v24]
  unfold pre_v25_1
  (try simp only [TRef.ofBuf, TRef.toBuf, cast_eq])
  all_goals rfl
/-- What the buffer holds after this many stretches. -/
theorem pre_at7_v25_2 (V0 : Valuation τ sig (Elt F)) : pre_at7 V0 (no_index (Proc.devRef .tc main_v25_2)) = pre_v25_2 (V0 (Proc.devRef .tc main_arg0)) := by
  unfold pre_at7
  simp only [ops0_6]
  after_results_simp_entrywise
  try simp only [pre_at6_v24]
  unfold pre_v25_2
  (try simp only [TRef.ofBuf, TRef.toBuf, cast_eq])
  all_goals rfl
/-- The block's contents are those after its last stretch. -/
theorem pre_all (V0 : Valuation τ sig (Elt F)) : afterL preI V0 = pre_at7 V0 := rfl

/-- The value of a buffer of the reference, of the contents its block starts from. -/
def fw_v25_0_out (k : Ct F S_ .i32) : Ct F S_ .i32 :=
  (addi k ((constantI S_ 32 1#32) : Ct F S_ .i32))
/-- The value of a buffer of the reference, of the contents its block starts from. -/
def fw_v25_1_out (r : Ct F S_ .i32) : Ct F S_ .i32 :=
  (addi r ((constantI S_ 32 1#32) : Ct F S_ .i32))
/-- The value of a buffer of the reference, of the contents its block starts from. -/
def fw_v25_2_out (r : Ct F S_ .i32) (G : Ct F S100x100 .f32) : Ct F S100x100 .f32 :=
  (minimumf G (addf (broadcastInDim S100x100 ![0, 1] bcast_S100x1_S100x100_0_1 ((fun x i => Host.dynamicSlice S100x1 x (fun k => (i k (Shape.Idx.first h_S_)).toInt) sliceFits_S100x100_S100x1) G (fun k => (![((constantI S_ 32 0#32) : Ct F S_ .i32), (select (cmpi .slt r ((constantI S_ 32 0#32) : Ct F S_ .i32)) (addi r ((constantI S_ 32 100#32) : Ct F S_ .i32)) r)] : Fin 2 → Ct F S_ .i32) k))) (broadcastInDim S100x100 ![0, 1] bcast_S1x100_S100x100_0_1 ((fun x i => Host.dynamicSlice S1x100 x (fun k => (i k (Shape.Idx.first h_S_)).toInt) sliceFits_S100x100_S1x100) G (fun k => (![(select (cmpi .slt r ((constantI S_ 32 0#32) : Ct F S_ .i32)) (addi r ((constantI S_ 32 100#32) : Ct F S_ .i32)) r), ((constantI S_ 32 0#32) : Ct F S_ .i32)] : Fin 2 → Ct F S_ .i32) k)))))
/-- The contents the block starts from. -/
def fw_at0 (V0 : Valuation τ sig (Elt F)) : Valuation τ sig (Elt F) := V0
/-- What the buffer holds after this many stretches. -/
theorem fw_at0_v25_0 (V0 : Valuation τ sig (Elt F)) : fw_at0 V0 (no_index (Proc.devRef .tc main_v25_0)) = V0 (Proc.devRef .tc main_v25_0) := rfl
/-- What the buffer holds after this many stretches. -/
theorem fw_at0_v25_1 (V0 : Valuation τ sig (Elt F)) : fw_at0 V0 (no_index (Proc.devRef .tc main_v25_1)) = V0 (Proc.devRef .tc main_v25_1) := rfl
/-- What the buffer holds after this many stretches. -/
theorem fw_at0_v25_2 (V0 : Valuation τ sig (Elt F)) : fw_at0 V0 (no_index (Proc.devRef .tc main_v25_2)) = V0 (Proc.devRef .tc main_v25_2) := rfl
/-- The contents after the block's first 1 stretch. -/
def fw_at1 (V0 : Valuation τ sig (Elt F)) : Valuation τ sig (Elt F) := after fwOps0 (fw_at0 V0)
/-- This stretch leaves every other buffer alone. -/
theorem fw_at1_keep (V0 : Valuation τ sig (Elt F)) (r : Ref sig .tc) (h : r ∉ fwOps0_W) :
    fw_at1 V0 (Proc.devRef .tc r) = fw_at0 V0 (Proc.devRef .tc r) :=
  after_of_writes_sub fwOps0 _ fwOps0_writes h
/-- What the buffer holds after this many stretches. -/
theorem fw_at1_v25_0 (V0 : Valuation τ sig (Elt F)) : fw_at1 V0 (no_index (Proc.devRef .tc main_v25_0)) = fw_v25_0_out (V0 (Proc.devRef .tc main_v25_0)) := by
  unfold fw_at1
  simp only [fwOps0]
  after_results_simp_entrywise
  try simp only [fw_at0_v25_0, fw_at0_v25_1, fw_at0_v25_2]
  unfold fw_v25_0_out
  (try simp only [TRef.ofBuf, TRef.toBuf, cast_eq])
  all_goals rfl
/-- What the buffer holds after this many stretches. -/
theorem fw_at1_v25_1 (V0 : Valuation τ sig (Elt F)) : fw_at1 V0 (no_index (Proc.devRef .tc main_v25_1)) = fw_v25_1_out (V0 (Proc.devRef .tc main_v25_1)) := by
  unfold fw_at1
  simp only [fwOps0]
  after_results_simp_entrywise
  try simp only [fw_at0_v25_0, fw_at0_v25_1, fw_at0_v25_2]
  unfold fw_v25_1_out
  (try simp only [TRef.ofBuf, TRef.toBuf, cast_eq])
  all_goals rfl
/-- What the buffer holds after this many stretches. -/
theorem fw_at1_v25_2 (V0 : Valuation τ sig (Elt F)) : fw_at1 V0 (no_index (Proc.devRef .tc main_v25_2)) = fw_v25_2_out (V0 (Proc.devRef .tc main_v25_1)) (V0 (Proc.devRef .tc main_v25_2)) := by
  unfold fw_at1
  simp only [fwOps0]
  after_results_simp_entrywise
  try simp only [fw_at0_v25_0, fw_at0_v25_1, fw_at0_v25_2]
  unfold fw_v25_2_out
  (try simp only [TRef.ofBuf, TRef.toBuf, cast_eq])
  all_goals rfl
/-- The block's contents are those after its last stretch. -/
theorem fw_all (V0 : Valuation τ sig (Elt F)) : afterL body0I V0 = fw_at1 V0 := rfl

/-- The value of a buffer of the reference, of the contents its block starts from. -/
def mid_v27 (G : Ct F S100x100 .f32) : Ct F S100x100 .i1 :=
  (cmpf .olt G (broadcastInDim S100x100 ![] bcast_S_S100x100 ((constant S_ .f32 0x48F42400#32) : Ct F S_ .f32)))
/-- The value of a buffer of the reference, of the contents its block starts from. -/
def mid_cst_9 : Ct F S_ .f32 :=
  ((constant S_ .f32 0x00000000#32) : Ct F S_ .f32)
/-- The value of a buffer of the reference, of the contents its block starts from. -/
def mid_v28 (G : Ct F S100x100 .f32) : Ct F S100x100 .f32 :=
  (select (mid_v27 (F := F) G) G ((broadcastInDim S100x100 ![] bcast_S_S100x100) (mid_cst_9 (F := F))))
/-- The value of a buffer of the reference, of the contents its block starts from. -/
def mid_v29 (G : Ct F S100x100 .f32) : Ct F S_ .f32 :=
  ((fun x v => Host.reduce FloatOps.maximumf x v reducesTo_S100x100_S_d0_1 h_S_) (mid_v28 (F := F) G) ((constant S_ .f32 0xFF800000#32) : Ct F S_ .f32))
/-- The value of a buffer of the reference, of the contents its block starts from. -/
def mid_v30 (G : Ct F S100x100 .f32) : Ct F S100x100 .f32 :=
  (select (mid_v27 (F := F) G) G ((broadcastInDim S100x100 ![] bcast_S_S100x100) (mid_v29 (F := F) G)))
/-- The value of a buffer of the reference, of the contents its block starts from. -/
def mid_v40 : Ct F S100x100 .f32 :=
  (subf (uitofp .f32 (cmpi .eq (addi ((iotaInDim S100x100 32 0) : Ct F S100x100 .i32) (broadcastInDim S100x100 ![] bcast_S_S100x100 ((constantI S_ 32 0#32) : Ct F S_ .i32))) ((iotaInDim S100x100 32 1) : Ct F S100x100 .i32))) (Host.divf (broadcastInDim S100x100 ![] bcast_S_S100x100 ((constant S_ .f32 0x3F800000#32) : Ct F S_ .f32)) (broadcastInDim S100x100 ![] bcast_S_S100x100 ((constant S_ .f32 0x42C80000#32) : Ct F S_ .f32))))
/-- The value of a buffer of the reference, of the contents its block starts from. -/
def mid_v52_0 : Ct F S_ .i32 :=
  ((constantI S_ 32 0#32) : Ct F S_ .i32)
/-- The value of a buffer of the reference, of the contents its block starts from. -/
def mid_v52_1 : Ct F S_ .i32 :=
  ((constantI S_ 32 0#32) : Ct F S_ .i32)
/-- The value of a buffer of the reference, of the contents its block starts from. -/
def mid_v52_2 (G : Ct F S100x100 .f32) : Ct F S100x100 .f32 :=
  (mulf (broadcastInDim S100x100 ![] bcast_S_S100x100 ((constant S_ .f32 0xBF000000#32) : Ct F S_ .f32)) ((fun l r => Host.dotGeneral dot_S100x100_S100x100_S100x100_1_0_0_1_n_n none l r) ((fun l r => Host.dotGeneral dot_S100x100_S100x100_S100x100_1_0_0_1_n_n none l r) (mid_v40 (F := F)) (mulf (mid_v30 (F := F) G) (mid_v30 (F := F) G))) (mid_v40 (F := F))))
/-- The value of a buffer of the reference, of the contents its block starts from. -/
def mid_v52_3 : Ct F S100x100 .f32 :=
  (uitofp .f32 (cmpi .eq (addi ((iotaInDim S100x100 32 0) : Ct F S100x100 .i32) (broadcastInDim S100x100 ![] bcast_S_S100x100 ((constantI S_ 32 0#32) : Ct F S_ .i32))) ((iotaInDim S100x100 32 1) : Ct F S100x100 .i32)))
/-- The contents the block starts from. -/
def mid_at0 (V0 : Valuation τ sig (Elt F)) : Valuation τ sig (Elt F) := V0
/-- What the buffer holds after this many stretches. -/
theorem mid_at0_v25_2 (V0 : Valuation τ sig (Elt F)) : mid_at0 V0 (no_index (Proc.devRef .tc main_v25_2)) = V0 (Proc.devRef .tc main_v25_2) := rfl
/-- The contents after the block's first 1 stretch. -/
def mid_at1 (V0 : Valuation τ sig (Elt F)) : Valuation τ sig (Elt F) := after ops0_7 (mid_at0 V0)
/-- This stretch leaves every other buffer alone. -/
theorem mid_at1_keep (V0 : Valuation τ sig (Elt F)) (r : Ref sig .tc) (h : r ∉ ops0_7_W) :
    mid_at1 V0 (Proc.devRef .tc r) = mid_at0 V0 (Proc.devRef .tc r) :=
  after_of_writes_sub ops0_7 _ ops0_7_writes h
/-- What the buffer holds after this many stretches. -/
theorem mid_at1_v25_2 (V0 : Valuation τ sig (Elt F)) : mid_at1 V0 (no_index (Proc.devRef .tc main_v25_2)) = V0 (Proc.devRef .tc main_v25_2) :=
  (mid_at1_keep V0 main_v25_2 (by decide)).trans (mid_at0_v25_2 V0)
/-- What the buffer holds after this many stretches. -/
theorem mid_at1_v27 (V0 : Valuation τ sig (Elt F)) : mid_at1 V0 (no_index (Proc.devRef .tc main_v27)) = mid_v27 (V0 (Proc.devRef .tc main_v25_2)) := by
  unfold mid_at1
  simp only [ops0_7]
  after_results_simp_entrywise
  try simp only [mid_at0_v25_2]
  unfold mid_v27
  (try simp only [TRef.ofBuf, TRef.toBuf, cast_eq])
  all_goals rfl
/-- What the buffer holds after this many stretches. -/
theorem mid_at1_cst_9 (V0 : Valuation τ sig (Elt F)) : mid_at1 V0 (no_index (Proc.devRef .tc main_cst_9)) = mid_cst_9 (F := F) := by
  unfold mid_at1
  simp only [ops0_7]
  after_results_simp_entrywise
  try simp only [mid_at0_v25_2]
  unfold mid_cst_9
  (try simp only [TRef.ofBuf, TRef.toBuf, cast_eq])
  all_goals rfl
/-- The contents after the block's first 2 stretches. -/
def mid_at2 (V0 : Valuation τ sig (Elt F)) : Valuation τ sig (Elt F) := after ops0_8 (mid_at1 V0)
/-- This stretch leaves every other buffer alone. -/
theorem mid_at2_keep (V0 : Valuation τ sig (Elt F)) (r : Ref sig .tc) (h : r ∉ ops0_8_W) :
    mid_at2 V0 (Proc.devRef .tc r) = mid_at1 V0 (Proc.devRef .tc r) :=
  after_of_writes_sub ops0_8 _ ops0_8_writes h
/-- What the buffer holds after this many stretches. -/
theorem mid_at2_v25_2 (V0 : Valuation τ sig (Elt F)) : mid_at2 V0 (no_index (Proc.devRef .tc main_v25_2)) = V0 (Proc.devRef .tc main_v25_2) :=
  (mid_at2_keep V0 main_v25_2 (by decide)).trans (mid_at1_v25_2 V0)
/-- What the buffer holds after this many stretches. -/
theorem mid_at2_v27 (V0 : Valuation τ sig (Elt F)) : mid_at2 V0 (no_index (Proc.devRef .tc main_v27)) = mid_v27 (V0 (Proc.devRef .tc main_v25_2)) :=
  (mid_at2_keep V0 main_v27 (by decide)).trans (mid_at1_v27 V0)
/-- What the buffer holds after this many stretches. -/
theorem mid_at2_v28 (V0 : Valuation τ sig (Elt F)) : mid_at2 V0 (no_index (Proc.devRef .tc main_v28)) = mid_v28 (V0 (Proc.devRef .tc main_v25_2)) := by
  unfold mid_at2
  simp only [ops0_8]
  after_results_simp_entrywise
  try simp only [mid_at1_v25_2, mid_at1_v27, mid_at1_cst_9]
  unfold mid_v28
  (try simp only [TRef.ofBuf, TRef.toBuf, cast_eq])
  all_goals rfl
/-- The contents after the block's first 3 stretches. -/
def mid_at3 (V0 : Valuation τ sig (Elt F)) : Valuation τ sig (Elt F) := after ops0_9 (mid_at2 V0)
/-- This stretch leaves every other buffer alone. -/
theorem mid_at3_keep (V0 : Valuation τ sig (Elt F)) (r : Ref sig .tc) (h : r ∉ ops0_9_W) :
    mid_at3 V0 (Proc.devRef .tc r) = mid_at2 V0 (Proc.devRef .tc r) :=
  after_of_writes_sub ops0_9 _ ops0_9_writes h
/-- What the buffer holds after this many stretches. -/
theorem mid_at3_v25_2 (V0 : Valuation τ sig (Elt F)) : mid_at3 V0 (no_index (Proc.devRef .tc main_v25_2)) = V0 (Proc.devRef .tc main_v25_2) :=
  (mid_at3_keep V0 main_v25_2 (by decide)).trans (mid_at2_v25_2 V0)
/-- What the buffer holds after this many stretches. -/
theorem mid_at3_v27 (V0 : Valuation τ sig (Elt F)) : mid_at3 V0 (no_index (Proc.devRef .tc main_v27)) = mid_v27 (V0 (Proc.devRef .tc main_v25_2)) :=
  (mid_at3_keep V0 main_v27 (by decide)).trans (mid_at2_v27 V0)
/-- What the buffer holds after this many stretches. -/
theorem mid_at3_v29 (V0 : Valuation τ sig (Elt F)) : mid_at3 V0 (no_index (Proc.devRef .tc main_v29)) = mid_v29 (V0 (Proc.devRef .tc main_v25_2)) := by
  unfold mid_at3
  simp only [ops0_9]
  after_results_simp_entrywise
  try simp only [mid_at2_v28]
  unfold mid_v29
  (try simp only [TRef.ofBuf, TRef.toBuf, cast_eq])
  all_goals rfl
/-- The contents after the block's first 4 stretches. -/
def mid_at4 (V0 : Valuation τ sig (Elt F)) : Valuation τ sig (Elt F) := after ops0_10 (mid_at3 V0)
/-- This stretch leaves every other buffer alone. -/
theorem mid_at4_keep (V0 : Valuation τ sig (Elt F)) (r : Ref sig .tc) (h : r ∉ ops0_10_W) :
    mid_at4 V0 (Proc.devRef .tc r) = mid_at3 V0 (Proc.devRef .tc r) :=
  after_of_writes_sub ops0_10 _ ops0_10_writes h
/-- What the buffer holds after this many stretches. -/
theorem mid_at4_v30 (V0 : Valuation τ sig (Elt F)) : mid_at4 V0 (no_index (Proc.devRef .tc main_v30)) = mid_v30 (V0 (Proc.devRef .tc main_v25_2)) := by
  unfold mid_at4
  simp only [ops0_10]
  after_results_simp_entrywise
  try simp only [mid_at3_v25_2, mid_at3_v27, mid_at3_v29]
  unfold mid_v30
  (try simp only [TRef.ofBuf, TRef.toBuf, cast_eq])
  all_goals rfl
/-- The contents after the block's first 5 stretches. -/
def mid_at5 (V0 : Valuation τ sig (Elt F)) : Valuation τ sig (Elt F) := after ops0_11 (mid_at4 V0)
/-- This stretch leaves every other buffer alone. -/
theorem mid_at5_keep (V0 : Valuation τ sig (Elt F)) (r : Ref sig .tc) (h : r ∉ ops0_11_W) :
    mid_at5 V0 (Proc.devRef .tc r) = mid_at4 V0 (Proc.devRef .tc r) :=
  after_of_writes_sub ops0_11 _ ops0_11_writes h
/-- What the buffer holds after this many stretches. -/
theorem mid_at5_v30 (V0 : Valuation τ sig (Elt F)) : mid_at5 V0 (no_index (Proc.devRef .tc main_v30)) = mid_v30 (V0 (Proc.devRef .tc main_v25_2)) :=
  (mid_at5_keep V0 main_v30 (by decide)).trans (mid_at4_v30 V0)
/-- What the buffer holds after this many stretches. -/
theorem mid_at5_v40 (V0 : Valuation τ sig (Elt F)) : mid_at5 V0 (no_index (Proc.devRef .tc main_v40)) = mid_v40 (F := F) := by
  unfold mid_at5
  simp only [ops0_11]
  after_results_simp_entrywise
  skip
  unfold mid_v40
  (try simp only [TRef.ofBuf, TRef.toBuf, cast_eq])
  all_goals rfl
/-- The contents after the block's first 6 stretches. -/
def mid_at6 (V0 : Valuation τ sig (Elt F)) : Valuation τ sig (Elt F) := after ops1_0 (mid_at5 V0)
/-- This stretch leaves every other buffer alone. -/
theorem mid_at6_keep (V0 : Valuation τ sig (Elt F)) (r : Ref sig .tc) (h : r ∉ ops1_0_W) :
    mid_at6 V0 (Proc.devRef .tc r) = mid_at5 V0 (Proc.devRef .tc r) :=
  after_of_writes_sub ops1_0 _ ops1_0_writes h
/-- What the buffer holds after this many stretches. -/
theorem mid_at6_v52_0 (V0 : Valuation τ sig (Elt F)) : mid_at6 V0 (no_index (Proc.devRef .tc main_v52_0)) = mid_v52_0 (F := F) := by
  unfold mid_at6
  simp only [ops1_0]
  after_results_simp_entrywise
  try simp only [mid_at5_v30, mid_at5_v40]
  unfold mid_v52_0
  (try simp only [TRef.ofBuf, TRef.toBuf, cast_eq])
  all_goals rfl
/-- What the buffer holds after this many stretches. -/
theorem mid_at6_v52_1 (V0 : Valuation τ sig (Elt F)) : mid_at6 V0 (no_index (Proc.devRef .tc main_v52_1)) = mid_v52_1 (F := F) := by
  unfold mid_at6
  simp only [ops1_0]
  after_results_simp_entrywise
  try simp only [mid_at5_v30, mid_at5_v40]
  unfold mid_v52_1
  (try simp only [TRef.ofBuf, TRef.toBuf, cast_eq])
  all_goals rfl
/-- What the buffer holds after this many stretches. -/
theorem mid_at6_v52_2 (V0 : Valuation τ sig (Elt F)) : mid_at6 V0 (no_index (Proc.devRef .tc main_v52_2)) = mid_v52_2 (V0 (Proc.devRef .tc main_v25_2)) := by
  unfold mid_at6
  simp only [ops1_0]
  after_results_simp_entrywise
  try simp only [mid_at5_v30, mid_at5_v40]
  unfold mid_v52_2
  (try simp only [TRef.ofBuf, TRef.toBuf, cast_eq])
  all_goals rfl
/-- What the buffer holds after this many stretches. -/
theorem mid_at6_v52_3 (V0 : Valuation τ sig (Elt F)) : mid_at6 V0 (no_index (Proc.devRef .tc main_v52_3)) = mid_v52_3 (F := F) := by
  unfold mid_at6
  simp only [ops1_0]
  after_results_simp_entrywise
  try simp only [mid_at5_v30, mid_at5_v40]
  unfold mid_v52_3
  (try simp only [TRef.ofBuf, TRef.toBuf, cast_eq])
  all_goals rfl
/-- The block's contents are those after its last stretch. -/
theorem mid_all (V0 : Valuation τ sig (Elt F)) : afterL midI V0 = mid_at6 V0 := rfl

/-- The value of a buffer of the reference, of the contents its block starts from. -/
def post_v57 : Ct F S100x100 .i1 :=
  (cmpi .eq (addi ((iotaInDim S100x100 32 0) : Ct F S100x100 .i32) (broadcastInDim S100x100 ![] bcast_S_S100x100 ((constantI S_ 32 0#32) : Ct F S_ .i32))) ((iotaInDim S100x100 32 1) : Ct F S100x100 .i32))
/-- The value of a buffer of the reference, of the contents its block starts from. -/
def post_cst_19 : Ct F S_ .f32 :=
  ((constant S_ .f32 0x00000000#32) : Ct F S_ .f32)
/-- The value of a buffer of the reference, of the contents its block starts from. -/
def post_v58 (A : Ct F S100x100 .f32) : Ct F S100x100 .f32 :=
  (select (post_v57 (F := F)) A ((broadcastInDim S100x100 ![] bcast_S_S100x100) (post_cst_19 (F := F))))
/-- The value of a buffer of the reference, of the contents its block starts from. -/
def post_v59 (A : Ct F S100x100 .f32) : Ct F S100 .f32 :=
  ((fun x v => Host.reduceAdd x v reducesTo_S100x100_S100_d1 h_S_) (post_v58 (F := F) A) ((constant S_ .f32 0x00000000#32) : Ct F S_ .f32))
/-- The value of a buffer of the reference, of the contents its block starts from. -/
def post_v60 (A : Ct F S100x100 .f32) : Ct F S_ .f32 :=
  ((fun x v => Host.reduce FloatOps.maximumf x v reducesTo_S100_S_d0 h_S_) (post_v59 (F := F) A) ((constant S_ .f32 0xFF800000#32) : Ct F S_ .f32))
/-- The value of a buffer of the reference, of the contents its block starts from. -/
def post_v62 (A : Ct F S100x100 .f32) : Ct F S100 .i1 :=
  (cmpf .oeq (post_v59 (F := F) A) (broadcastInDim S100 ![] bcast_S_S100 (post_v60 (F := F) A)))
/-- The value of a buffer of the reference, of the contents its block starts from. -/
def post_cst_22 : Ct F S_ .f32 :=
  ((constant S_ .f32 0xFF800000#32) : Ct F S_ .f32)
/-- The value of a buffer of the reference, of the contents its block starts from. -/
def post_v63 (A : Ct F S100x100 .f32) : Ct F S100 .f32 :=
  (select (post_v62 (F := F) A) ((broadcastInDim S100 ![] bcast_S_S100) (post_cst_22 (F := F))) (post_v59 (F := F) A))
/-- The value of a buffer of the reference, of the contents its block starts from. -/
def post_v64 (A : Ct F S100x100 .f32) : Ct F S_ .f32 :=
  ((fun x v => Host.reduce FloatOps.maximumf x v reducesTo_S100_S_d0 h_S_) (post_v63 (F := F) A) ((constant S_ .f32 0xFF800000#32) : Ct F S_ .f32))
/-- The value of a buffer of the reference, of the contents its block starts from. -/
def post_v67 : Ct F S2 .i1 :=
  (cmpi .eq ((iotaInDim S2 32 0) : Ct F S2 .i32) (broadcastInDim S2 ![] bcast_S_S2 ((constantI S_ 32 0#32) : Ct F S_ .i32)))
/-- The value of a buffer of the reference, of the contents its block starts from. -/
def post_v68 (A : Ct F S100x100 .f32) : Ct F S2 .f32 :=
  (select (post_v67 (F := F)) ((broadcastInDim S2 ![] bcast_S_S2) (post_v60 (F := F) A)) ((broadcastInDim S2 ![] bcast_S_S2) (post_v64 (F := F) A)))
/-- The value of a buffer of the reference, of the contents its block starts from. -/
def post_v71 : Ct F S2 .i1 :=
  (cmpi .eq ((iotaInDim S2 32 0) : Ct F S2 .i32) (broadcastInDim S2 ![] bcast_S_S2 ((constantI S_ 32 0#32) : Ct F S_ .i32)))
/-- The value of a buffer of the reference, of the contents its block starts from. -/
def post_v72 (A : Ct F S100x100 .f32) : Ct F S100x1 .f32 :=
  (broadcastInDim S100x1 ![0] bcast_S100_S100x1_0 (post_v59 (F := F) A))
/-- The value of a buffer of the reference, of the contents its block starts from. -/
def post_v73 (A : Ct F S100x100 .f32) : Ct F S100x1 .f32 :=
  (broadcastInDim S100x1 ![0] bcast_S100_S100x1_0 (post_v63 (F := F) A))
/-- The value of a buffer of the reference, of the contents its block starts from. -/
def post_v74 (A : Ct F S100x100 .f32) : Ct F S100x2 .f32 :=
  (select ((broadcastInDim S100x2 ![1] bcast_S2_S100x2_1) (post_v71 (F := F))) ((broadcastInDim S100x2 ![0, 1] bcast_S100x1_S100x2_0_1) (post_v72 (F := F) A)) ((broadcastInDim S100x2 ![0, 1] bcast_S100x1_S100x2_0_1) (post_v73 (F := F) A)))
/-- The value of a buffer of the reference, of the contents its block starts from. -/
def post_v77 (A : Ct F S100x100 .f32) : Ct F S100x2 .i1 :=
  (cmpf .oeq (post_v74 (F := F) A) (broadcastInDim S100x2 ![0, 1] bcast_S1x2_S100x2_0_1 (broadcastInDim S1x2 ![1] bcast_S2_S1x2_1 (post_v68 (F := F) A))))
/-- The value of a buffer of the reference, of the contents its block starts from. -/
def post_cst_26 : Ct F S_ .f32 :=
  ((constant S_ .f32 0x3F800000#32) : Ct F S_ .f32)
/-- The value of a buffer of the reference, of the contents its block starts from. -/
def post_cst_27 : Ct F S_ .f32 :=
  ((constant S_ .f32 0x00000000#32) : Ct F S_ .f32)
/-- The value of a buffer of the reference, of the contents its block starts from. -/
def post_v78 (A : Ct F S100x100 .f32) : Ct F S100x2 .f32 :=
  (select (post_v77 (F := F) A) ((broadcastInDim S100x2 ![] bcast_S_S100x2) (post_cst_26 (F := F))) ((broadcastInDim S100x2 ![] bcast_S_S100x2) (post_cst_27 (F := F))))
/-- The value of a buffer of the reference, of the contents its block starts from. -/
def post_v79 (A : Ct F S100x100 .f32) (V : Ct F S100x100 .f32) : Ct F S100x2 .f32 :=
  ((fun l r => Host.dotGeneral dot_S100x100_S100x2_S100x2_1_0_0_1_n_n none l r) V (post_v78 (F := F) A))
/-- The value of a buffer of the reference, of the contents its block starts from. -/
def post_v81 (A : Ct F S100x100 .f32) : Ct F S2 .f32 :=
  (maximumf (post_v68 (F := F) A) (broadcastInDim S2 ![] bcast_S_S2 ((constant S_ .f32 0x2B8CBCCC#32) : Ct F S_ .f32)))
/-- The value of a buffer of the reference, of the contents its block starts from. -/
def post_v95 (A : Ct F S100x100 .f32) (V : Ct F S100x100 .f32) (W1 : Ct F S2x512 .f32) (b1 : Ct F S512 .f32) (W2 : Ct F S512x10 .f32) (b2 : Ct F S10 .f32) : Ct F S100x10 .f32 :=
  (addf ((fun l r => Host.dotGeneral dot_S100x512_S512x10_S100x10_1_0_0_1_n_n none l r) (maximumf (addf ((fun l r => Host.dotGeneral dot_S100x2_S2x512_S100x512_1_0_0_1_n_n none l r) (mulf (post_v79 (F := F) A V) (broadcastInDim S100x2 ![0, 1] bcast_S1x2_S100x2_0_1 (broadcastInDim S1x2 ![1] bcast_S2_S1x2_1 (Host.sqrt (post_v81 (F := F) A))))) W1) (broadcastInDim S100x512 ![0, 1] bcast_S1x512_S100x512_0_1 (broadcastInDim S1x512 ![1] bcast_S512_S1x512_1 b1))) (broadcastInDim S100x512 ![] bcast_S_S100x512 ((constant S_ .f32 0x00000000#32) : Ct F S_ .f32))) W2) (broadcastInDim S100x10 ![0, 1] bcast_S1x10_S100x10_0_1 (broadcastInDim S1x10 ![1] bcast_S10_S1x10_1 b2)))
/-- The contents the block starts from. -/
def post_at0 (V0 : Valuation τ sig (Elt F)) : Valuation τ sig (Elt F) := V0
/-- What the buffer holds after this many stretches. -/
theorem post_at0_v52_2 (V0 : Valuation τ sig (Elt F)) : post_at0 V0 (no_index (Proc.devRef .tc main_v52_2)) = V0 (Proc.devRef .tc main_v52_2) := rfl
/-- What the buffer holds after this many stretches. -/
theorem post_at0_v52_3 (V0 : Valuation τ sig (Elt F)) : post_at0 V0 (no_index (Proc.devRef .tc main_v52_3)) = V0 (Proc.devRef .tc main_v52_3) := rfl
/-- What the buffer holds after this many stretches. -/
theorem post_at0_arg1 (V0 : Valuation τ sig (Elt F)) : post_at0 V0 (no_index (Proc.devRef .tc main_arg1)) = V0 (Proc.devRef .tc main_arg1) := rfl
/-- What the buffer holds after this many stretches. -/
theorem post_at0_arg2 (V0 : Valuation τ sig (Elt F)) : post_at0 V0 (no_index (Proc.devRef .tc main_arg2)) = V0 (Proc.devRef .tc main_arg2) := rfl
/-- What the buffer holds after this many stretches. -/
theorem post_at0_arg3 (V0 : Valuation τ sig (Elt F)) : post_at0 V0 (no_index (Proc.devRef .tc main_arg3)) = V0 (Proc.devRef .tc main_arg3) := rfl
/-- What the buffer holds after this many stretches. -/
theorem post_at0_arg4 (V0 : Valuation τ sig (Elt F)) : post_at0 V0 (no_index (Proc.devRef .tc main_arg4)) = V0 (Proc.devRef .tc main_arg4) := rfl
/-- The contents after the block's first 1 stretch. -/
def post_at1 (V0 : Valuation τ sig (Elt F)) : Valuation τ sig (Elt F) := after ops1_1 (post_at0 V0)
/-- This stretch leaves every other buffer alone. -/
theorem post_at1_keep (V0 : Valuation τ sig (Elt F)) (r : Ref sig .tc) (h : r ∉ ops1_1_W) :
    post_at1 V0 (Proc.devRef .tc r) = post_at0 V0 (Proc.devRef .tc r) :=
  after_of_writes_sub ops1_1 _ ops1_1_writes h
/-- What the buffer holds after this many stretches. -/
theorem post_at1_v52_2 (V0 : Valuation τ sig (Elt F)) : post_at1 V0 (no_index (Proc.devRef .tc main_v52_2)) = V0 (Proc.devRef .tc main_v52_2) :=
  (post_at1_keep V0 main_v52_2 (by decide)).trans (post_at0_v52_2 V0)
/-- What the buffer holds after this many stretches. -/
theorem post_at1_v52_3 (V0 : Valuation τ sig (Elt F)) : post_at1 V0 (no_index (Proc.devRef .tc main_v52_3)) = V0 (Proc.devRef .tc main_v52_3) :=
  (post_at1_keep V0 main_v52_3 (by decide)).trans (post_at0_v52_3 V0)
/-- What the buffer holds after this many stretches. -/
theorem post_at1_arg1 (V0 : Valuation τ sig (Elt F)) : post_at1 V0 (no_index (Proc.devRef .tc main_arg1)) = V0 (Proc.devRef .tc main_arg1) :=
  (post_at1_keep V0 main_arg1 (by decide)).trans (post_at0_arg1 V0)
/-- What the buffer holds after this many stretches. -/
theorem post_at1_arg2 (V0 : Valuation τ sig (Elt F)) : post_at1 V0 (no_index (Proc.devRef .tc main_arg2)) = V0 (Proc.devRef .tc main_arg2) :=
  (post_at1_keep V0 main_arg2 (by decide)).trans (post_at0_arg2 V0)
/-- What the buffer holds after this many stretches. -/
theorem post_at1_arg3 (V0 : Valuation τ sig (Elt F)) : post_at1 V0 (no_index (Proc.devRef .tc main_arg3)) = V0 (Proc.devRef .tc main_arg3) :=
  (post_at1_keep V0 main_arg3 (by decide)).trans (post_at0_arg3 V0)
/-- What the buffer holds after this many stretches. -/
theorem post_at1_arg4 (V0 : Valuation τ sig (Elt F)) : post_at1 V0 (no_index (Proc.devRef .tc main_arg4)) = V0 (Proc.devRef .tc main_arg4) :=
  (post_at1_keep V0 main_arg4 (by decide)).trans (post_at0_arg4 V0)
/-- What the buffer holds after this many stretches. -/
theorem post_at1_v57 (V0 : Valuation τ sig (Elt F)) : post_at1 V0 (no_index (Proc.devRef .tc main_v57)) = post_v57 (F := F) := by
  unfold post_at1
  simp only [ops1_1]
  after_results_simp_entrywise
  skip
  unfold post_v57
  (try simp only [TRef.ofBuf, TRef.toBuf, cast_eq])
  all_goals rfl
/-- What the buffer holds after this many stretches. -/
theorem post_at1_cst_19 (V0 : Valuation τ sig (Elt F)) : post_at1 V0 (no_index (Proc.devRef .tc main_cst_19)) = post_cst_19 (F := F) := by
  unfold post_at1
  simp only [ops1_1]
  after_results_simp_entrywise
  skip
  unfold post_cst_19
  (try simp only [TRef.ofBuf, TRef.toBuf, cast_eq])
  all_goals rfl
/-- The contents after the block's first 2 stretches. -/
def post_at2 (V0 : Valuation τ sig (Elt F)) : Valuation τ sig (Elt F) := after ops1_2 (post_at1 V0)
/-- This stretch leaves every other buffer alone. -/
theorem post_at2_keep (V0 : Valuation τ sig (Elt F)) (r : Ref sig .tc) (h : r ∉ ops1_2_W) :
    post_at2 V0 (Proc.devRef .tc r) = post_at1 V0 (Proc.devRef .tc r) :=
  after_of_writes_sub ops1_2 _ ops1_2_writes h
/-- What the buffer holds after this many stretches. -/
theorem post_at2_v52_3 (V0 : Valuation τ sig (Elt F)) : post_at2 V0 (no_index (Proc.devRef .tc main_v52_3)) = V0 (Proc.devRef .tc main_v52_3) :=
  (post_at2_keep V0 main_v52_3 (by decide)).trans (post_at1_v52_3 V0)
/-- What the buffer holds after this many stretches. -/
theorem post_at2_arg1 (V0 : Valuation τ sig (Elt F)) : post_at2 V0 (no_index (Proc.devRef .tc main_arg1)) = V0 (Proc.devRef .tc main_arg1) :=
  (post_at2_keep V0 main_arg1 (by decide)).trans (post_at1_arg1 V0)
/-- What the buffer holds after this many stretches. -/
theorem post_at2_arg2 (V0 : Valuation τ sig (Elt F)) : post_at2 V0 (no_index (Proc.devRef .tc main_arg2)) = V0 (Proc.devRef .tc main_arg2) :=
  (post_at2_keep V0 main_arg2 (by decide)).trans (post_at1_arg2 V0)
/-- What the buffer holds after this many stretches. -/
theorem post_at2_arg3 (V0 : Valuation τ sig (Elt F)) : post_at2 V0 (no_index (Proc.devRef .tc main_arg3)) = V0 (Proc.devRef .tc main_arg3) :=
  (post_at2_keep V0 main_arg3 (by decide)).trans (post_at1_arg3 V0)
/-- What the buffer holds after this many stretches. -/
theorem post_at2_arg4 (V0 : Valuation τ sig (Elt F)) : post_at2 V0 (no_index (Proc.devRef .tc main_arg4)) = V0 (Proc.devRef .tc main_arg4) :=
  (post_at2_keep V0 main_arg4 (by decide)).trans (post_at1_arg4 V0)
/-- What the buffer holds after this many stretches. -/
theorem post_at2_v58 (V0 : Valuation τ sig (Elt F)) : post_at2 V0 (no_index (Proc.devRef .tc main_v58)) = post_v58 (V0 (Proc.devRef .tc main_v52_2)) := by
  unfold post_at2
  simp only [ops1_2]
  after_results_simp_entrywise
  try simp only [post_at1_v52_2, post_at1_v57, post_at1_cst_19]
  unfold post_v58
  (try simp only [TRef.ofBuf, TRef.toBuf, cast_eq])
  all_goals rfl
/-- The contents after the block's first 3 stretches. -/
def post_at3 (V0 : Valuation τ sig (Elt F)) : Valuation τ sig (Elt F) := after ops1_3 (post_at2 V0)
/-- This stretch leaves every other buffer alone. -/
theorem post_at3_keep (V0 : Valuation τ sig (Elt F)) (r : Ref sig .tc) (h : r ∉ ops1_3_W) :
    post_at3 V0 (Proc.devRef .tc r) = post_at2 V0 (Proc.devRef .tc r) :=
  after_of_writes_sub ops1_3 _ ops1_3_writes h
/-- What the buffer holds after this many stretches. -/
theorem post_at3_v52_3 (V0 : Valuation τ sig (Elt F)) : post_at3 V0 (no_index (Proc.devRef .tc main_v52_3)) = V0 (Proc.devRef .tc main_v52_3) :=
  (post_at3_keep V0 main_v52_3 (by decide)).trans (post_at2_v52_3 V0)
/-- What the buffer holds after this many stretches. -/
theorem post_at3_arg1 (V0 : Valuation τ sig (Elt F)) : post_at3 V0 (no_index (Proc.devRef .tc main_arg1)) = V0 (Proc.devRef .tc main_arg1) :=
  (post_at3_keep V0 main_arg1 (by decide)).trans (post_at2_arg1 V0)
/-- What the buffer holds after this many stretches. -/
theorem post_at3_arg2 (V0 : Valuation τ sig (Elt F)) : post_at3 V0 (no_index (Proc.devRef .tc main_arg2)) = V0 (Proc.devRef .tc main_arg2) :=
  (post_at3_keep V0 main_arg2 (by decide)).trans (post_at2_arg2 V0)
/-- What the buffer holds after this many stretches. -/
theorem post_at3_arg3 (V0 : Valuation τ sig (Elt F)) : post_at3 V0 (no_index (Proc.devRef .tc main_arg3)) = V0 (Proc.devRef .tc main_arg3) :=
  (post_at3_keep V0 main_arg3 (by decide)).trans (post_at2_arg3 V0)
/-- What the buffer holds after this many stretches. -/
theorem post_at3_arg4 (V0 : Valuation τ sig (Elt F)) : post_at3 V0 (no_index (Proc.devRef .tc main_arg4)) = V0 (Proc.devRef .tc main_arg4) :=
  (post_at3_keep V0 main_arg4 (by decide)).trans (post_at2_arg4 V0)
/-- What the buffer holds after this many stretches. -/
theorem post_at3_v59 (V0 : Valuation τ sig (Elt F)) : post_at3 V0 (no_index (Proc.devRef .tc main_v59)) = post_v59 (V0 (Proc.devRef .tc main_v52_2)) := by
  unfold post_at3
  simp only [ops1_3]
  after_results_simp_entrywise
  try simp only [post_at2_v58]
  unfold post_v59
  (try simp only [TRef.ofBuf, TRef.toBuf, cast_eq])
  all_goals rfl
/-- What the buffer holds after this many stretches. -/
theorem post_at3_v60 (V0 : Valuation τ sig (Elt F)) : post_at3 V0 (no_index (Proc.devRef .tc main_v60)) = post_v60 (V0 (Proc.devRef .tc main_v52_2)) := by
  unfold post_at3
  simp only [ops1_3]
  after_results_simp_entrywise
  try simp only [post_at2_v58]
  unfold post_v60
  (try simp only [TRef.ofBuf, TRef.toBuf, cast_eq])
  all_goals rfl
/-- What the buffer holds after this many stretches. -/
theorem post_at3_v62 (V0 : Valuation τ sig (Elt F)) : post_at3 V0 (no_index (Proc.devRef .tc main_v62)) = post_v62 (V0 (Proc.devRef .tc main_v52_2)) := by
  unfold post_at3
  simp only [ops1_3]
  after_results_simp_entrywise
  try simp only [post_at2_v58]
  unfold post_v62
  (try simp only [TRef.ofBuf, TRef.toBuf, cast_eq])
  all_goals rfl
/-- What the buffer holds after this many stretches. -/
theorem post_at3_cst_22 (V0 : Valuation τ sig (Elt F)) : post_at3 V0 (no_index (Proc.devRef .tc main_cst_22)) = post_cst_22 (F := F) := by
  unfold post_at3
  simp only [ops1_3]
  after_results_simp_entrywise
  try simp only [post_at2_v58]
  unfold post_cst_22
  (try simp only [TRef.ofBuf, TRef.toBuf, cast_eq])
  all_goals rfl
/-- The contents after the block's first 4 stretches. -/
def post_at4 (V0 : Valuation τ sig (Elt F)) : Valuation τ sig (Elt F) := after ops1_4 (post_at3 V0)
/-- This stretch leaves every other buffer alone. -/
theorem post_at4_keep (V0 : Valuation τ sig (Elt F)) (r : Ref sig .tc) (h : r ∉ ops1_4_W) :
    post_at4 V0 (Proc.devRef .tc r) = post_at3 V0 (Proc.devRef .tc r) :=
  after_of_writes_sub ops1_4 _ ops1_4_writes h
/-- What the buffer holds after this many stretches. -/
theorem post_at4_v52_3 (V0 : Valuation τ sig (Elt F)) : post_at4 V0 (no_index (Proc.devRef .tc main_v52_3)) = V0 (Proc.devRef .tc main_v52_3) :=
  (post_at4_keep V0 main_v52_3 (by decide)).trans (post_at3_v52_3 V0)
/-- What the buffer holds after this many stretches. -/
theorem post_at4_arg1 (V0 : Valuation τ sig (Elt F)) : post_at4 V0 (no_index (Proc.devRef .tc main_arg1)) = V0 (Proc.devRef .tc main_arg1) :=
  (post_at4_keep V0 main_arg1 (by decide)).trans (post_at3_arg1 V0)
/-- What the buffer holds after this many stretches. -/
theorem post_at4_arg2 (V0 : Valuation τ sig (Elt F)) : post_at4 V0 (no_index (Proc.devRef .tc main_arg2)) = V0 (Proc.devRef .tc main_arg2) :=
  (post_at4_keep V0 main_arg2 (by decide)).trans (post_at3_arg2 V0)
/-- What the buffer holds after this many stretches. -/
theorem post_at4_arg3 (V0 : Valuation τ sig (Elt F)) : post_at4 V0 (no_index (Proc.devRef .tc main_arg3)) = V0 (Proc.devRef .tc main_arg3) :=
  (post_at4_keep V0 main_arg3 (by decide)).trans (post_at3_arg3 V0)
/-- What the buffer holds after this many stretches. -/
theorem post_at4_arg4 (V0 : Valuation τ sig (Elt F)) : post_at4 V0 (no_index (Proc.devRef .tc main_arg4)) = V0 (Proc.devRef .tc main_arg4) :=
  (post_at4_keep V0 main_arg4 (by decide)).trans (post_at3_arg4 V0)
/-- What the buffer holds after this many stretches. -/
theorem post_at4_v59 (V0 : Valuation τ sig (Elt F)) : post_at4 V0 (no_index (Proc.devRef .tc main_v59)) = post_v59 (V0 (Proc.devRef .tc main_v52_2)) :=
  (post_at4_keep V0 main_v59 (by decide)).trans (post_at3_v59 V0)
/-- What the buffer holds after this many stretches. -/
theorem post_at4_v60 (V0 : Valuation τ sig (Elt F)) : post_at4 V0 (no_index (Proc.devRef .tc main_v60)) = post_v60 (V0 (Proc.devRef .tc main_v52_2)) :=
  (post_at4_keep V0 main_v60 (by decide)).trans (post_at3_v60 V0)
/-- What the buffer holds after this many stretches. -/
theorem post_at4_v63 (V0 : Valuation τ sig (Elt F)) : post_at4 V0 (no_index (Proc.devRef .tc main_v63)) = post_v63 (V0 (Proc.devRef .tc main_v52_2)) := by
  unfold post_at4
  simp only [ops1_4]
  after_results_simp_entrywise
  try simp only [post_at3_v59, post_at3_v62, post_at3_cst_22]
  unfold post_v63
  (try simp only [TRef.ofBuf, TRef.toBuf, cast_eq])
  all_goals rfl
/-- The contents after the block's first 5 stretches. -/
def post_at5 (V0 : Valuation τ sig (Elt F)) : Valuation τ sig (Elt F) := after ops1_5 (post_at4 V0)
/-- This stretch leaves every other buffer alone. -/
theorem post_at5_keep (V0 : Valuation τ sig (Elt F)) (r : Ref sig .tc) (h : r ∉ ops1_5_W) :
    post_at5 V0 (Proc.devRef .tc r) = post_at4 V0 (Proc.devRef .tc r) :=
  after_of_writes_sub ops1_5 _ ops1_5_writes h
/-- What the buffer holds after this many stretches. -/
theorem post_at5_v52_3 (V0 : Valuation τ sig (Elt F)) : post_at5 V0 (no_index (Proc.devRef .tc main_v52_3)) = V0 (Proc.devRef .tc main_v52_3) :=
  (post_at5_keep V0 main_v52_3 (by decide)).trans (post_at4_v52_3 V0)
/-- What the buffer holds after this many stretches. -/
theorem post_at5_arg1 (V0 : Valuation τ sig (Elt F)) : post_at5 V0 (no_index (Proc.devRef .tc main_arg1)) = V0 (Proc.devRef .tc main_arg1) :=
  (post_at5_keep V0 main_arg1 (by decide)).trans (post_at4_arg1 V0)
/-- What the buffer holds after this many stretches. -/
theorem post_at5_arg2 (V0 : Valuation τ sig (Elt F)) : post_at5 V0 (no_index (Proc.devRef .tc main_arg2)) = V0 (Proc.devRef .tc main_arg2) :=
  (post_at5_keep V0 main_arg2 (by decide)).trans (post_at4_arg2 V0)
/-- What the buffer holds after this many stretches. -/
theorem post_at5_arg3 (V0 : Valuation τ sig (Elt F)) : post_at5 V0 (no_index (Proc.devRef .tc main_arg3)) = V0 (Proc.devRef .tc main_arg3) :=
  (post_at5_keep V0 main_arg3 (by decide)).trans (post_at4_arg3 V0)
/-- What the buffer holds after this many stretches. -/
theorem post_at5_arg4 (V0 : Valuation τ sig (Elt F)) : post_at5 V0 (no_index (Proc.devRef .tc main_arg4)) = V0 (Proc.devRef .tc main_arg4) :=
  (post_at5_keep V0 main_arg4 (by decide)).trans (post_at4_arg4 V0)
/-- What the buffer holds after this many stretches. -/
theorem post_at5_v59 (V0 : Valuation τ sig (Elt F)) : post_at5 V0 (no_index (Proc.devRef .tc main_v59)) = post_v59 (V0 (Proc.devRef .tc main_v52_2)) :=
  (post_at5_keep V0 main_v59 (by decide)).trans (post_at4_v59 V0)
/-- What the buffer holds after this many stretches. -/
theorem post_at5_v60 (V0 : Valuation τ sig (Elt F)) : post_at5 V0 (no_index (Proc.devRef .tc main_v60)) = post_v60 (V0 (Proc.devRef .tc main_v52_2)) :=
  (post_at5_keep V0 main_v60 (by decide)).trans (post_at4_v60 V0)
/-- What the buffer holds after this many stretches. -/
theorem post_at5_v63 (V0 : Valuation τ sig (Elt F)) : post_at5 V0 (no_index (Proc.devRef .tc main_v63)) = post_v63 (V0 (Proc.devRef .tc main_v52_2)) :=
  (post_at5_keep V0 main_v63 (by decide)).trans (post_at4_v63 V0)
/-- What the buffer holds after this many stretches. -/
theorem post_at5_v64 (V0 : Valuation τ sig (Elt F)) : post_at5 V0 (no_index (Proc.devRef .tc main_v64)) = post_v64 (V0 (Proc.devRef .tc main_v52_2)) := by
  unfold post_at5
  simp only [ops1_5]
  after_results_simp_entrywise
  try simp only [post_at4_v63]
  unfold post_v64
  (try simp only [TRef.ofBuf, TRef.toBuf, cast_eq])
  all_goals rfl
/-- What the buffer holds after this many stretches. -/
theorem post_at5_v67 (V0 : Valuation τ sig (Elt F)) : post_at5 V0 (no_index (Proc.devRef .tc main_v67)) = post_v67 (F := F) := by
  unfold post_at5
  simp only [ops1_5]
  after_results_simp_entrywise
  try simp only [post_at4_v63]
  unfold post_v67
  (try simp only [TRef.ofBuf, TRef.toBuf, cast_eq])
  all_goals rfl
/-- The contents after the block's first 6 stretches. -/
def post_at6 (V0 : Valuation τ sig (Elt F)) : Valuation τ sig (Elt F) := after ops1_6 (post_at5 V0)
/-- This stretch leaves every other buffer alone. -/
theorem post_at6_keep (V0 : Valuation τ sig (Elt F)) (r : Ref sig .tc) (h : r ∉ ops1_6_W) :
    post_at6 V0 (Proc.devRef .tc r) = post_at5 V0 (Proc.devRef .tc r) :=
  after_of_writes_sub ops1_6 _ ops1_6_writes h
/-- What the buffer holds after this many stretches. -/
theorem post_at6_v52_3 (V0 : Valuation τ sig (Elt F)) : post_at6 V0 (no_index (Proc.devRef .tc main_v52_3)) = V0 (Proc.devRef .tc main_v52_3) :=
  (post_at6_keep V0 main_v52_3 (by decide)).trans (post_at5_v52_3 V0)
/-- What the buffer holds after this many stretches. -/
theorem post_at6_arg1 (V0 : Valuation τ sig (Elt F)) : post_at6 V0 (no_index (Proc.devRef .tc main_arg1)) = V0 (Proc.devRef .tc main_arg1) :=
  (post_at6_keep V0 main_arg1 (by decide)).trans (post_at5_arg1 V0)
/-- What the buffer holds after this many stretches. -/
theorem post_at6_arg2 (V0 : Valuation τ sig (Elt F)) : post_at6 V0 (no_index (Proc.devRef .tc main_arg2)) = V0 (Proc.devRef .tc main_arg2) :=
  (post_at6_keep V0 main_arg2 (by decide)).trans (post_at5_arg2 V0)
/-- What the buffer holds after this many stretches. -/
theorem post_at6_arg3 (V0 : Valuation τ sig (Elt F)) : post_at6 V0 (no_index (Proc.devRef .tc main_arg3)) = V0 (Proc.devRef .tc main_arg3) :=
  (post_at6_keep V0 main_arg3 (by decide)).trans (post_at5_arg3 V0)
/-- What the buffer holds after this many stretches. -/
theorem post_at6_arg4 (V0 : Valuation τ sig (Elt F)) : post_at6 V0 (no_index (Proc.devRef .tc main_arg4)) = V0 (Proc.devRef .tc main_arg4) :=
  (post_at6_keep V0 main_arg4 (by decide)).trans (post_at5_arg4 V0)
/-- What the buffer holds after this many stretches. -/
theorem post_at6_v59 (V0 : Valuation τ sig (Elt F)) : post_at6 V0 (no_index (Proc.devRef .tc main_v59)) = post_v59 (V0 (Proc.devRef .tc main_v52_2)) :=
  (post_at6_keep V0 main_v59 (by decide)).trans (post_at5_v59 V0)
/-- What the buffer holds after this many stretches. -/
theorem post_at6_v63 (V0 : Valuation τ sig (Elt F)) : post_at6 V0 (no_index (Proc.devRef .tc main_v63)) = post_v63 (V0 (Proc.devRef .tc main_v52_2)) :=
  (post_at6_keep V0 main_v63 (by decide)).trans (post_at5_v63 V0)
/-- What the buffer holds after this many stretches. -/
theorem post_at6_v68 (V0 : Valuation τ sig (Elt F)) : post_at6 V0 (no_index (Proc.devRef .tc main_v68)) = post_v68 (V0 (Proc.devRef .tc main_v52_2)) := by
  unfold post_at6
  simp only [ops1_6]
  after_results_simp_entrywise
  try simp only [post_at5_v60, post_at5_v64, post_at5_v67]
  unfold post_v68
  (try simp only [TRef.ofBuf, TRef.toBuf, cast_eq])
  all_goals rfl
/-- The contents after the block's first 7 stretches. -/
def post_at7 (V0 : Valuation τ sig (Elt F)) : Valuation τ sig (Elt F) := after ops1_7 (post_at6 V0)
/-- This stretch leaves every other buffer alone. -/
theorem post_at7_keep (V0 : Valuation τ sig (Elt F)) (r : Ref sig .tc) (h : r ∉ ops1_7_W) :
    post_at7 V0 (Proc.devRef .tc r) = post_at6 V0 (Proc.devRef .tc r) :=
  after_of_writes_sub ops1_7 _ ops1_7_writes h
/-- What the buffer holds after this many stretches. -/
theorem post_at7_v52_3 (V0 : Valuation τ sig (Elt F)) : post_at7 V0 (no_index (Proc.devRef .tc main_v52_3)) = V0 (Proc.devRef .tc main_v52_3) :=
  (post_at7_keep V0 main_v52_3 (by decide)).trans (post_at6_v52_3 V0)
/-- What the buffer holds after this many stretches. -/
theorem post_at7_arg1 (V0 : Valuation τ sig (Elt F)) : post_at7 V0 (no_index (Proc.devRef .tc main_arg1)) = V0 (Proc.devRef .tc main_arg1) :=
  (post_at7_keep V0 main_arg1 (by decide)).trans (post_at6_arg1 V0)
/-- What the buffer holds after this many stretches. -/
theorem post_at7_arg2 (V0 : Valuation τ sig (Elt F)) : post_at7 V0 (no_index (Proc.devRef .tc main_arg2)) = V0 (Proc.devRef .tc main_arg2) :=
  (post_at7_keep V0 main_arg2 (by decide)).trans (post_at6_arg2 V0)
/-- What the buffer holds after this many stretches. -/
theorem post_at7_arg3 (V0 : Valuation τ sig (Elt F)) : post_at7 V0 (no_index (Proc.devRef .tc main_arg3)) = V0 (Proc.devRef .tc main_arg3) :=
  (post_at7_keep V0 main_arg3 (by decide)).trans (post_at6_arg3 V0)
/-- What the buffer holds after this many stretches. -/
theorem post_at7_arg4 (V0 : Valuation τ sig (Elt F)) : post_at7 V0 (no_index (Proc.devRef .tc main_arg4)) = V0 (Proc.devRef .tc main_arg4) :=
  (post_at7_keep V0 main_arg4 (by decide)).trans (post_at6_arg4 V0)
/-- What the buffer holds after this many stretches. -/
theorem post_at7_v68 (V0 : Valuation τ sig (Elt F)) : post_at7 V0 (no_index (Proc.devRef .tc main_v68)) = post_v68 (V0 (Proc.devRef .tc main_v52_2)) :=
  (post_at7_keep V0 main_v68 (by decide)).trans (post_at6_v68 V0)
/-- What the buffer holds after this many stretches. -/
theorem post_at7_v71 (V0 : Valuation τ sig (Elt F)) : post_at7 V0 (no_index (Proc.devRef .tc main_v71)) = post_v71 (F := F) := by
  unfold post_at7
  simp only [ops1_7]
  after_results_simp_entrywise
  try simp only [post_at6_v59, post_at6_v63]
  unfold post_v71
  (try simp only [TRef.ofBuf, TRef.toBuf, cast_eq])
  all_goals rfl
/-- What the buffer holds after this many stretches. -/
theorem post_at7_v72 (V0 : Valuation τ sig (Elt F)) : post_at7 V0 (no_index (Proc.devRef .tc main_v72)) = post_v72 (V0 (Proc.devRef .tc main_v52_2)) := by
  unfold post_at7
  simp only [ops1_7]
  after_results_simp_entrywise
  try simp only [post_at6_v59, post_at6_v63]
  unfold post_v72
  (try simp only [TRef.ofBuf, TRef.toBuf, cast_eq])
  all_goals rfl
/-- What the buffer holds after this many stretches. -/
theorem post_at7_v73 (V0 : Valuation τ sig (Elt F)) : post_at7 V0 (no_index (Proc.devRef .tc main_v73)) = post_v73 (V0 (Proc.devRef .tc main_v52_2)) := by
  unfold post_at7
  simp only [ops1_7]
  after_results_simp_entrywise
  try simp only [post_at6_v59, post_at6_v63]
  unfold post_v73
  (try simp only [TRef.ofBuf, TRef.toBuf, cast_eq])
  all_goals rfl
/-- The contents after the block's first 8 stretches. -/
def post_at8 (V0 : Valuation τ sig (Elt F)) : Valuation τ sig (Elt F) := after ops1_8 (post_at7 V0)
/-- This stretch leaves every other buffer alone. -/
theorem post_at8_keep (V0 : Valuation τ sig (Elt F)) (r : Ref sig .tc) (h : r ∉ ops1_8_W) :
    post_at8 V0 (Proc.devRef .tc r) = post_at7 V0 (Proc.devRef .tc r) :=
  after_of_writes_sub ops1_8 _ ops1_8_writes h
/-- What the buffer holds after this many stretches. -/
theorem post_at8_v52_3 (V0 : Valuation τ sig (Elt F)) : post_at8 V0 (no_index (Proc.devRef .tc main_v52_3)) = V0 (Proc.devRef .tc main_v52_3) :=
  (post_at8_keep V0 main_v52_3 (by decide)).trans (post_at7_v52_3 V0)
/-- What the buffer holds after this many stretches. -/
theorem post_at8_arg1 (V0 : Valuation τ sig (Elt F)) : post_at8 V0 (no_index (Proc.devRef .tc main_arg1)) = V0 (Proc.devRef .tc main_arg1) :=
  (post_at8_keep V0 main_arg1 (by decide)).trans (post_at7_arg1 V0)
/-- What the buffer holds after this many stretches. -/
theorem post_at8_arg2 (V0 : Valuation τ sig (Elt F)) : post_at8 V0 (no_index (Proc.devRef .tc main_arg2)) = V0 (Proc.devRef .tc main_arg2) :=
  (post_at8_keep V0 main_arg2 (by decide)).trans (post_at7_arg2 V0)
/-- What the buffer holds after this many stretches. -/
theorem post_at8_arg3 (V0 : Valuation τ sig (Elt F)) : post_at8 V0 (no_index (Proc.devRef .tc main_arg3)) = V0 (Proc.devRef .tc main_arg3) :=
  (post_at8_keep V0 main_arg3 (by decide)).trans (post_at7_arg3 V0)
/-- What the buffer holds after this many stretches. -/
theorem post_at8_arg4 (V0 : Valuation τ sig (Elt F)) : post_at8 V0 (no_index (Proc.devRef .tc main_arg4)) = V0 (Proc.devRef .tc main_arg4) :=
  (post_at8_keep V0 main_arg4 (by decide)).trans (post_at7_arg4 V0)
/-- What the buffer holds after this many stretches. -/
theorem post_at8_v68 (V0 : Valuation τ sig (Elt F)) : post_at8 V0 (no_index (Proc.devRef .tc main_v68)) = post_v68 (V0 (Proc.devRef .tc main_v52_2)) :=
  (post_at8_keep V0 main_v68 (by decide)).trans (post_at7_v68 V0)
/-- What the buffer holds after this many stretches. -/
theorem post_at8_v74 (V0 : Valuation τ sig (Elt F)) : post_at8 V0 (no_index (Proc.devRef .tc main_v74)) = post_v74 (V0 (Proc.devRef .tc main_v52_2)) := by
  unfold post_at8
  simp only [ops1_8]
  after_results_simp_entrywise
  try simp only [post_at7_v71, post_at7_v72, post_at7_v73]
  unfold post_v74
  (try simp only [TRef.ofBuf, TRef.toBuf, cast_eq])
  all_goals rfl
/-- The contents after the block's first 9 stretches. -/
def post_at9 (V0 : Valuation τ sig (Elt F)) : Valuation τ sig (Elt F) := after ops1_9 (post_at8 V0)
/-- This stretch leaves every other buffer alone. -/
theorem post_at9_keep (V0 : Valuation τ sig (Elt F)) (r : Ref sig .tc) (h : r ∉ ops1_9_W) :
    post_at9 V0 (Proc.devRef .tc r) = post_at8 V0 (Proc.devRef .tc r) :=
  after_of_writes_sub ops1_9 _ ops1_9_writes h
/-- What the buffer holds after this many stretches. -/
theorem post_at9_v52_3 (V0 : Valuation τ sig (Elt F)) : post_at9 V0 (no_index (Proc.devRef .tc main_v52_3)) = V0 (Proc.devRef .tc main_v52_3) :=
  (post_at9_keep V0 main_v52_3 (by decide)).trans (post_at8_v52_3 V0)
/-- What the buffer holds after this many stretches. -/
theorem post_at9_arg1 (V0 : Valuation τ sig (Elt F)) : post_at9 V0 (no_index (Proc.devRef .tc main_arg1)) = V0 (Proc.devRef .tc main_arg1) :=
  (post_at9_keep V0 main_arg1 (by decide)).trans (post_at8_arg1 V0)
/-- What the buffer holds after this many stretches. -/
theorem post_at9_arg2 (V0 : Valuation τ sig (Elt F)) : post_at9 V0 (no_index (Proc.devRef .tc main_arg2)) = V0 (Proc.devRef .tc main_arg2) :=
  (post_at9_keep V0 main_arg2 (by decide)).trans (post_at8_arg2 V0)
/-- What the buffer holds after this many stretches. -/
theorem post_at9_arg3 (V0 : Valuation τ sig (Elt F)) : post_at9 V0 (no_index (Proc.devRef .tc main_arg3)) = V0 (Proc.devRef .tc main_arg3) :=
  (post_at9_keep V0 main_arg3 (by decide)).trans (post_at8_arg3 V0)
/-- What the buffer holds after this many stretches. -/
theorem post_at9_arg4 (V0 : Valuation τ sig (Elt F)) : post_at9 V0 (no_index (Proc.devRef .tc main_arg4)) = V0 (Proc.devRef .tc main_arg4) :=
  (post_at9_keep V0 main_arg4 (by decide)).trans (post_at8_arg4 V0)
/-- What the buffer holds after this many stretches. -/
theorem post_at9_v68 (V0 : Valuation τ sig (Elt F)) : post_at9 V0 (no_index (Proc.devRef .tc main_v68)) = post_v68 (V0 (Proc.devRef .tc main_v52_2)) :=
  (post_at9_keep V0 main_v68 (by decide)).trans (post_at8_v68 V0)
/-- What the buffer holds after this many stretches. -/
theorem post_at9_v77 (V0 : Valuation τ sig (Elt F)) : post_at9 V0 (no_index (Proc.devRef .tc main_v77)) = post_v77 (V0 (Proc.devRef .tc main_v52_2)) := by
  unfold post_at9
  simp only [ops1_9]
  after_results_simp_entrywise
  try simp only [post_at8_v68, post_at8_v74]
  unfold post_v77
  (try simp only [TRef.ofBuf, TRef.toBuf, cast_eq])
  all_goals rfl
/-- What the buffer holds after this many stretches. -/
theorem post_at9_cst_26 (V0 : Valuation τ sig (Elt F)) : post_at9 V0 (no_index (Proc.devRef .tc main_cst_26)) = post_cst_26 (F := F) := by
  unfold post_at9
  simp only [ops1_9]
  after_results_simp_entrywise
  try simp only [post_at8_v68, post_at8_v74]
  unfold post_cst_26
  (try simp only [TRef.ofBuf, TRef.toBuf, cast_eq])
  all_goals rfl
/-- What the buffer holds after this many stretches. -/
theorem post_at9_cst_27 (V0 : Valuation τ sig (Elt F)) : post_at9 V0 (no_index (Proc.devRef .tc main_cst_27)) = post_cst_27 (F := F) := by
  unfold post_at9
  simp only [ops1_9]
  after_results_simp_entrywise
  try simp only [post_at8_v68, post_at8_v74]
  unfold post_cst_27
  (try simp only [TRef.ofBuf, TRef.toBuf, cast_eq])
  all_goals rfl
/-- The contents after the block's first 10 stretches. -/
def post_at10 (V0 : Valuation τ sig (Elt F)) : Valuation τ sig (Elt F) := after ops1_10 (post_at9 V0)
/-- This stretch leaves every other buffer alone. -/
theorem post_at10_keep (V0 : Valuation τ sig (Elt F)) (r : Ref sig .tc) (h : r ∉ ops1_10_W) :
    post_at10 V0 (Proc.devRef .tc r) = post_at9 V0 (Proc.devRef .tc r) :=
  after_of_writes_sub ops1_10 _ ops1_10_writes h
/-- What the buffer holds after this many stretches. -/
theorem post_at10_v52_3 (V0 : Valuation τ sig (Elt F)) : post_at10 V0 (no_index (Proc.devRef .tc main_v52_3)) = V0 (Proc.devRef .tc main_v52_3) :=
  (post_at10_keep V0 main_v52_3 (by decide)).trans (post_at9_v52_3 V0)
/-- What the buffer holds after this many stretches. -/
theorem post_at10_arg1 (V0 : Valuation τ sig (Elt F)) : post_at10 V0 (no_index (Proc.devRef .tc main_arg1)) = V0 (Proc.devRef .tc main_arg1) :=
  (post_at10_keep V0 main_arg1 (by decide)).trans (post_at9_arg1 V0)
/-- What the buffer holds after this many stretches. -/
theorem post_at10_arg2 (V0 : Valuation τ sig (Elt F)) : post_at10 V0 (no_index (Proc.devRef .tc main_arg2)) = V0 (Proc.devRef .tc main_arg2) :=
  (post_at10_keep V0 main_arg2 (by decide)).trans (post_at9_arg2 V0)
/-- What the buffer holds after this many stretches. -/
theorem post_at10_arg3 (V0 : Valuation τ sig (Elt F)) : post_at10 V0 (no_index (Proc.devRef .tc main_arg3)) = V0 (Proc.devRef .tc main_arg3) :=
  (post_at10_keep V0 main_arg3 (by decide)).trans (post_at9_arg3 V0)
/-- What the buffer holds after this many stretches. -/
theorem post_at10_arg4 (V0 : Valuation τ sig (Elt F)) : post_at10 V0 (no_index (Proc.devRef .tc main_arg4)) = V0 (Proc.devRef .tc main_arg4) :=
  (post_at10_keep V0 main_arg4 (by decide)).trans (post_at9_arg4 V0)
/-- What the buffer holds after this many stretches. -/
theorem post_at10_v68 (V0 : Valuation τ sig (Elt F)) : post_at10 V0 (no_index (Proc.devRef .tc main_v68)) = post_v68 (V0 (Proc.devRef .tc main_v52_2)) :=
  (post_at10_keep V0 main_v68 (by decide)).trans (post_at9_v68 V0)
/-- What the buffer holds after this many stretches. -/
theorem post_at10_v78 (V0 : Valuation τ sig (Elt F)) : post_at10 V0 (no_index (Proc.devRef .tc main_v78)) = post_v78 (V0 (Proc.devRef .tc main_v52_2)) := by
  unfold post_at10
  simp only [ops1_10]
  after_results_simp_entrywise
  try simp only [post_at9_v77, post_at9_cst_26, post_at9_cst_27]
  unfold post_v78
  (try simp only [TRef.ofBuf, TRef.toBuf, cast_eq])
  all_goals rfl
/-- The contents after the block's first 11 stretches. -/
def post_at11 (V0 : Valuation τ sig (Elt F)) : Valuation τ sig (Elt F) := after ops1_11 (post_at10 V0)
/-- This stretch leaves every other buffer alone. -/
theorem post_at11_keep (V0 : Valuation τ sig (Elt F)) (r : Ref sig .tc) (h : r ∉ ops1_11_W) :
    post_at11 V0 (Proc.devRef .tc r) = post_at10 V0 (Proc.devRef .tc r) :=
  after_of_writes_sub ops1_11 _ ops1_11_writes h
/-- What the buffer holds after this many stretches. -/
theorem post_at11_arg1 (V0 : Valuation τ sig (Elt F)) : post_at11 V0 (no_index (Proc.devRef .tc main_arg1)) = V0 (Proc.devRef .tc main_arg1) :=
  (post_at11_keep V0 main_arg1 (by decide)).trans (post_at10_arg1 V0)
/-- What the buffer holds after this many stretches. -/
theorem post_at11_arg2 (V0 : Valuation τ sig (Elt F)) : post_at11 V0 (no_index (Proc.devRef .tc main_arg2)) = V0 (Proc.devRef .tc main_arg2) :=
  (post_at11_keep V0 main_arg2 (by decide)).trans (post_at10_arg2 V0)
/-- What the buffer holds after this many stretches. -/
theorem post_at11_arg3 (V0 : Valuation τ sig (Elt F)) : post_at11 V0 (no_index (Proc.devRef .tc main_arg3)) = V0 (Proc.devRef .tc main_arg3) :=
  (post_at11_keep V0 main_arg3 (by decide)).trans (post_at10_arg3 V0)
/-- What the buffer holds after this many stretches. -/
theorem post_at11_arg4 (V0 : Valuation τ sig (Elt F)) : post_at11 V0 (no_index (Proc.devRef .tc main_arg4)) = V0 (Proc.devRef .tc main_arg4) :=
  (post_at11_keep V0 main_arg4 (by decide)).trans (post_at10_arg4 V0)
/-- What the buffer holds after this many stretches. -/
theorem post_at11_v79 (V0 : Valuation τ sig (Elt F)) : post_at11 V0 (no_index (Proc.devRef .tc main_v79)) = post_v79 (V0 (Proc.devRef .tc main_v52_2)) (V0 (Proc.devRef .tc main_v52_3)) := by
  unfold post_at11
  simp only [ops1_11]
  after_results_simp_entrywise
  try simp only [post_at10_v52_3, post_at10_v68, post_at10_v78]
  unfold post_v79
  (try simp only [TRef.ofBuf, TRef.toBuf, cast_eq])
  all_goals rfl
/-- What the buffer holds after this many stretches. -/
theorem post_at11_v81 (V0 : Valuation τ sig (Elt F)) : post_at11 V0 (no_index (Proc.devRef .tc main_v81)) = post_v81 (V0 (Proc.devRef .tc main_v52_2)) := by
  unfold post_at11
  simp only [ops1_11]
  after_results_simp_entrywise
  try simp only [post_at10_v52_3, post_at10_v68, post_at10_v78]
  unfold post_v81
  (try simp only [TRef.ofBuf, TRef.toBuf, cast_eq])
  all_goals rfl
/-- The contents after the block's first 12 stretches. -/
def post_at12 (V0 : Valuation τ sig (Elt F)) : Valuation τ sig (Elt F) := after ops2_0 (post_at11 V0)
/-- This stretch leaves every other buffer alone. -/
theorem post_at12_keep (V0 : Valuation τ sig (Elt F)) (r : Ref sig .tc) (h : r ∉ ops2_0_W) :
    post_at12 V0 (Proc.devRef .tc r) = post_at11 V0 (Proc.devRef .tc r) :=
  after_of_writes_sub ops2_0 _ ops2_0_writes h
/-- What the buffer holds after this many stretches. -/
theorem post_at12_v95 (V0 : Valuation τ sig (Elt F)) : post_at12 V0 (no_index (Proc.devRef .tc main_v95)) = post_v95 (V0 (Proc.devRef .tc main_v52_2)) (V0 (Proc.devRef .tc main_v52_3)) (V0 (Proc.devRef .tc main_arg1)) (V0 (Proc.devRef .tc main_arg2)) (V0 (Proc.devRef .tc main_arg3)) (V0 (Proc.devRef .tc main_arg4)) := by
  unfold post_at12
  simp only [ops2_0]
  after_results_simp_entrywise
  try simp only [post_at11_arg1, post_at11_arg2, post_at11_arg3, post_at11_arg4, post_at11_v79, post_at11_v81]
  unfold post_v95
  (try simp only [TRef.ofBuf, TRef.toBuf, cast_eq])
  all_goals rfl
/-- The block's contents are those after its last stretch. -/
theorem post_all (V0 : Valuation τ sig (Elt F)) : afterL postI V0 = post_at12 V0 := rfl

end Cert.ReferenceIdeal.Hand

end
-- ==== Proof.RefJac.lean ====
/- The values of the reference's buffers through one round of Jacobi's method. -/
module

public import proofs.«01_k».proof.Proof.RefOps
public import Idealize.ShloMosaic.Lib.StableHlo.RunClose

@[expose] public section

set_option maxRecDepth 100000

noncomputable section

namespace Cert.ReferenceIdeal.Hand

open Idealize.ShloMosaic Idealize.ShloMosaic.TcCoe Idealize.ShloMosaic.StableHlo Cert.ReferenceIdeal.Gen
open Idealize.SL Idealize.SL.RA Idealize.SL.BI
open scoped Idealize.SL.BI
open Idealize.SL.BI.BIBase Idealize.SL.Sem

variable {F : FTy → Type} [FloatOps F]

/-- The value of a buffer of the reference, of the contents its block starts from. -/
def jac_v96 (r : Ct F S_ .i32) : Ct F S_ .i32 :=
  (addi r ((constantI S_ 32 1#32) : Ct F S_ .i32))
/-- The value of a buffer of the reference, of the contents its block starts from. -/
def jac_v97 : Ct F S100 .i32 :=
  ((iotaInDim S100 32 0) : Ct F S100 .i32)
/-- The value of a buffer of the reference, of the contents its block starts from. -/
def jac_v98 : Ct F S100 .i32 :=
  ((iotaInDim S100 32 0) : Ct F S100 .i32)
/-- The value of a buffer of the reference, of the contents its block starts from. -/
def jac_v100 : Ct F S100 .i1 :=
  (cmpi .sge (jac_v98 (F := F)) (broadcastInDim S100 ![] bcast_S_S100 ((constantI S_ 32 50#32) : Ct F S_ .i32)))
/-- The value of a buffer of the reference, of the contents its block starts from. -/
def jac_v102 : Ct F S100 .i32 :=
  (subi (jac_v98 (F := F)) (broadcastInDim S100 ![] bcast_S_S100 ((constantI S_ 32 49#32) : Ct F S_ .i32)))
/-- The value of a buffer of the reference, of the contents its block starts from. -/
def jac_v104 : Ct F S100 .i32 :=
  (subi (broadcastInDim S100 ![] bcast_S_S100 ((constantI S_ 32 100#32) : Ct F S_ .i32)) (jac_v98 (F := F)))
/-- The value of a buffer of the reference, of the contents its block starts from. -/
def jac_v105 : Ct F S100 .i32 :=
  (select (jac_v100 (F := F)) (jac_v102 (F := F)) (jac_v104 (F := F)))
/-- The value of a buffer of the reference, of the contents its block starts from. -/
def jac_v114 (r : Ct F S_ .i32) : Ct F S100 .i32 :=
  (Host.remsi (subi (addi (Host.remsi (jac_v105 (F := F)) (broadcastInDim S100 ![] bcast_S_S100 ((constantI S_ 32 99#32) : Ct F S_ .i32))) (broadcastInDim S100 ![] bcast_S_S100 ((constantI S_ 32 594#32) : Ct F S_ .i32))) (broadcastInDim S100 ![] bcast_S_S100 r)) (broadcastInDim S100 ![] bcast_S_S100 ((constantI S_ 32 99#32) : Ct F S_ .i32)))
/-- The value of a buffer of the reference, of the contents its block starts from. -/
def jac_v116 : Ct F S100 .i1 :=
  (cmpi .eq (jac_v98 (F := F)) (broadcastInDim S100 ![] bcast_S_S100 ((constantI S_ 32 0#32) : Ct F S_ .i32)))
/-- The value of a buffer of the reference, of the contents its block starts from. -/
def jac_v117 (r : Ct F S_ .i32) : Ct F S_ .i32 :=
  (addi ((constantI S_ 32 1#32) : Ct F S_ .i32) r)
/-- The value of a buffer of the reference, of the contents its block starts from. -/
def jac_v122 (r : Ct F S_ .i32) : Ct F S100 .i32 :=
  (addi (subi (broadcastInDim S100 ![] bcast_S_S100 ((constantI S_ 32 101#32) : Ct F S_ .i32)) (jac_v114 (F := F) r)) (broadcastInDim S100 ![] bcast_S_S100 r))
/-- The value of a buffer of the reference, of the contents its block starts from. -/
def jac_v123 (r : Ct F S_ .i32) : Ct F S100 .i32 :=
  (select (jac_v116 (F := F)) ((broadcastInDim S100 ![] bcast_S_S100) (jac_v117 (F := F) r)) (jac_v122 (F := F) r))
/-- The value of a buffer of the reference, of the contents its block starts from. -/
def jac_v125 (r : Ct F S_ .i32) : Ct F S100 .i32 :=
  (Host.remsi (jac_v123 (F := F) r) (broadcastInDim S100 ![] bcast_S_S100 ((constantI S_ 32 99#32) : Ct F S_ .i32)))
/-- The value of a buffer of the reference, of the contents its block starts from. -/
def jac_v127 (r : Ct F S_ .i32) : Ct F S100 .i1 :=
  (cmpi .eq (jac_v125 (F := F) r) (broadcastInDim S100 ![] bcast_S_S100 ((constantI S_ 32 0#32) : Ct F S_ .i32)))
/-- The value of a buffer of the reference, of the contents its block starts from. -/
def jac_v129 (r : Ct F S_ .i32) : Ct F S100 .i1 :=
  (cmpi .sle (jac_v125 (F := F) r) (broadcastInDim S100 ![] bcast_S_S100 ((constantI S_ 32 50#32) : Ct F S_ .i32)))
/-- The value of a buffer of the reference, of the contents its block starts from. -/
def jac_v131 (r : Ct F S_ .i32) : Ct F S100 .i32 :=
  (addi (jac_v125 (F := F) r) (broadcastInDim S100 ![] bcast_S_S100 ((constantI S_ 32 49#32) : Ct F S_ .i32)))
/-- The value of a buffer of the reference, of the contents its block starts from. -/
def jac_v133 (r : Ct F S_ .i32) : Ct F S100 .i32 :=
  (subi (broadcastInDim S100 ![] bcast_S_S100 ((constantI S_ 32 100#32) : Ct F S_ .i32)) (jac_v125 (F := F) r))
/-- The value of a buffer of the reference, of the contents its block starts from. -/
def jac_v134 (r : Ct F S_ .i32) : Ct F S100 .i32 :=
  (select (jac_v129 (F := F) r) (jac_v131 (F := F) r) (jac_v133 (F := F) r))
/-- The value of a buffer of the reference, of the contents its block starts from. -/
def jac_c_48 : Ct F S_ .i32 :=
  ((constantI S_ 32 1#32) : Ct F S_ .i32)
/-- The value of a buffer of the reference, of the contents its block starts from. -/
def jac_v135 (r : Ct F S_ .i32) : Ct F S100 .i32 :=
  (select (jac_v127 (F := F) r) ((broadcastInDim S100 ![] bcast_S_S100) (jac_c_48 (F := F))) (jac_v134 (F := F) r))
/-- The value of a buffer of the reference, of the contents its block starts from. -/
def jac_v140 (r : Ct F S_ .i32) : Ct F S100 .i1 :=
  (andi (cmpi .ne (jac_v98 (F := F)) (broadcastInDim S100 ![] bcast_S_S100 ((constantI S_ 32 0#32) : Ct F S_ .i32))) (cmpi .eq (jac_v114 (F := F) r) (broadcastInDim S100 ![] bcast_S_S100 ((constantI S_ 32 1#32) : Ct F S_ .i32))))
/-- The value of a buffer of the reference, of the contents its block starts from. -/
def jac_c_51 : Ct F S_ .i32 :=
  ((constantI S_ 32 0#32) : Ct F S_ .i32)
/-- The value of a buffer of the reference, of the contents its block starts from. -/
def jac_v141 (r : Ct F S_ .i32) : Ct F S100 .i32 :=
  (select (jac_v140 (F := F) r) ((broadcastInDim S100 ![] bcast_S_S100) (jac_c_51 (F := F))) (jac_v135 (F := F) r))
/-- The value of a buffer of the reference, of the contents its block starts from. -/
def jac_v149 (r : Ct F S_ .i32) : Ct F S100 .i1 :=
  (ori (ori (cmpi .eq (jac_v98 (F := F)) (broadcastInDim S100 ![] bcast_S_S100 ((constantI S_ 32 0#32) : Ct F S_ .i32))) (cmpi .eq (jac_v114 (F := F) r) (broadcastInDim S100 ![] bcast_S_S100 ((constantI S_ 32 0#32) : Ct F S_ .i32)))) (cmpi .sgt (jac_v114 (F := F) r) (broadcastInDim S100 ![] bcast_S_S100 ((constantI S_ 32 50#32) : Ct F S_ .i32))))
/-- The value of a buffer of the reference, of the contents its block starts from. -/
def jac_v154 (r : Ct F S_ .i32) : Ct F S100x100 .i1 :=
  (cmpi .eq (broadcastInDim S100x100 ![0, 1] bcast_S100x1_S100x100_0_1 (broadcastInDim S100x1 ![0] bcast_S100_S100x1_0 (jac_v97 (F := F)))) (broadcastInDim S100x100 ![0, 1] bcast_S1x100_S100x100_0_1 (broadcastInDim S1x100 ![1] bcast_S100_S1x100_1 (jac_v141 (F := F) r))))
/-- The value of a buffer of the reference, of the contents its block starts from. -/
def jac_v159 : Ct F S100x100 .i1 :=
  (cmpi .eq (addi ((iotaInDim S100x100 32 0) : Ct F S100x100 .i32) (broadcastInDim S100x100 ![] bcast_S_S100x100 ((constantI S_ 32 0#32) : Ct F S_ .i32))) ((iotaInDim S100x100 32 1) : Ct F S100x100 .i32))
/-- The value of a buffer of the reference, of the contents its block starts from. -/
def jac_cst_56 : Ct F S_ .f32 :=
  ((constant S_ .f32 0x00000000#32) : Ct F S_ .f32)
/-- The value of a buffer of the reference, of the contents its block starts from. -/
def jac_v160 (A : Ct F S100x100 .f32) : Ct F S100x100 .f32 :=
  (select (jac_v159 (F := F)) A ((broadcastInDim S100x100 ![] bcast_S_S100x100) (jac_cst_56 (F := F))))
/-- The value of a buffer of the reference, of the contents its block starts from. -/
def jac_v161 (A : Ct F S100x100 .f32) : Ct F S100 .f32 :=
  ((fun x v => Host.reduceAdd x v reducesTo_S100x100_S100_d0 h_S_) (jac_v160 (F := F) A) ((constant S_ .f32 0x00000000#32) : Ct F S_ .f32))
/-- The value of a buffer of the reference, of the contents its block starts from. -/
def jac_v162 (A : Ct F S100x100 .f32) : Ct F S100x1 .f32 :=
  (broadcastInDim S100x1 ![0] bcast_S100_S100x1_0 (jac_v161 (F := F) A))
/-- The value of a buffer of the reference, of the contents its block starts from. -/
def jac_cst_58 : Ct F S_ .f32 :=
  ((constant S_ .f32 0x00000000#32) : Ct F S_ .f32)
/-- The value of a buffer of the reference, of the contents its block starts from. -/
def jac_v163 (r : Ct F S_ .i32) (A : Ct F S100x100 .f32) : Ct F S100x100 .f32 :=
  (select (jac_v154 (F := F) r) ((broadcastInDim S100x100 ![0, 1] bcast_S100x1_S100x100_0_1) (jac_v162 (F := F) A)) ((broadcastInDim S100x100 ![] bcast_S_S100x100) (jac_cst_58 (F := F))))
/-- The value of a buffer of the reference, of the contents its block starts from. -/
def jac_v164 (r : Ct F S_ .i32) (A : Ct F S100x100 .f32) : Ct F S100 .f32 :=
  ((fun x v => Host.reduceAdd x v reducesTo_S100x100_S100_d0 h_S_) (jac_v163 (F := F) r A) ((constant S_ .f32 0x00000000#32) : Ct F S_ .f32))
/-- The value of a buffer of the reference, of the contents its block starts from. -/
def jac_cst_60 : Ct F S_ .f32 :=
  ((constant S_ .f32 0x00000000#32) : Ct F S_ .f32)
/-- The value of a buffer of the reference, of the contents its block starts from. -/
def jac_v165 (r : Ct F S_ .i32) (A : Ct F S100x100 .f32) : Ct F S100x100 .f32 :=
  (select (jac_v154 (F := F) r) A ((broadcastInDim S100x100 ![] bcast_S_S100x100) (jac_cst_60 (F := F))))
/-- The value of a buffer of the reference, of the contents its block starts from. -/
def jac_v166 (r : Ct F S_ .i32) (A : Ct F S100x100 .f32) : Ct F S100 .f32 :=
  ((fun x v => Host.reduceAdd x v reducesTo_S100x100_S100_d0 h_S_) (jac_v165 (F := F) r A) ((constant S_ .f32 0x00000000#32) : Ct F S_ .f32))
/-- The value of a buffer of the reference, of the contents its block starts from. -/
def jac_v167 (r : Ct F S_ .i32) (A : Ct F S100x100 .f32) : Ct F S100 .f32 :=
  (select (jac_v149 (F := F) r) (jac_v161 (F := F) A) (jac_v164 (F := F) r A))
/-- The value of a buffer of the reference, of the contents its block starts from. -/
def jac_v168 (r : Ct F S_ .i32) (A : Ct F S100x100 .f32) : Ct F S100 .f32 :=
  (select (jac_v149 (F := F) r) (jac_v164 (F := F) r A) (jac_v161 (F := F) A))
/-- The value of a buffer of the reference, of the contents its block starts from. -/
def jac_v172 (r : Ct F S_ .i32) (A : Ct F S100x100 .f32) : Ct F S100 .f32 :=
  (Host.divf (subf (jac_v168 (F := F) r A) (jac_v167 (F := F) r A)) (mulf (broadcastInDim S100 ![] bcast_S_S100 ((constant S_ .f32 0x40000000#32) : Ct F S_ .f32)) (jac_v166 (F := F) r A)))
/-- The value of a buffer of the reference, of the contents its block starts from. -/
def jac_v174 (r : Ct F S_ .i32) (A : Ct F S100x100 .f32) : Ct F S100 .i1 :=
  (cmpf .oge (jac_v172 (F := F) r A) (broadcastInDim S100 ![] bcast_S_S100 ((constant S_ .f32 0x00000000#32) : Ct F S_ .f32)))
/-- The value of a buffer of the reference, of the contents its block starts from. -/
def jac_cst_64 : Ct F S_ .f32 :=
  ((constant S_ .f32 0x3F800000#32) : Ct F S_ .f32)
/-- The value of a buffer of the reference, of the contents its block starts from. -/
def jac_cst_65 : Ct F S_ .f32 :=
  ((constant S_ .f32 0xBF800000#32) : Ct F S_ .f32)
/-- The value of a buffer of the reference, of the contents its block starts from. -/
def jac_v175 (r : Ct F S_ .i32) (A : Ct F S100x100 .f32) : Ct F S100 .f32 :=
  (select (jac_v174 (F := F) r A) ((broadcastInDim S100 ![] bcast_S_S100) (jac_cst_64 (F := F))) ((broadcastInDim S100 ![] bcast_S_S100) (jac_cst_65 (F := F))))
/-- The value of a buffer of the reference, of the contents its block starts from. -/
def jac_v183 (r : Ct F S_ .i32) (A : Ct F S100x100 .f32) : Ct F S100 .f32 :=
  (Host.divf (jac_v175 (F := F) r A) (addf (Host.absf (jac_v172 (F := F) r A)) (Host.sqrt (addf (broadcastInDim S100 ![] bcast_S_S100 ((constant S_ .f32 0x3F800000#32) : Ct F S_ .f32)) (mulf (jac_v172 (F := F) r A) (jac_v172 (F := F) r A))))))
/-- The value of a buffer of the reference, of the contents its block starts from. -/
def jac_v186 (r : Ct F S_ .i32) (A : Ct F S100x100 .f32) : Ct F S100 .i1 :=
  (cmpf .ole (Host.absf (jac_v166 (F := F) r A)) (broadcastInDim S100 ![] bcast_S_S100 ((constant S_ .f32 0x0DA24260#32) : Ct F S_ .f32)))
/-- The value of a buffer of the reference, of the contents its block starts from. -/
def jac_cst_68 : Ct F S_ .f32 :=
  ((constant S_ .f32 0x00000000#32) : Ct F S_ .f32)
/-- The value of a buffer of the reference, of the contents its block starts from. -/
def jac_v187 (r : Ct F S_ .i32) (A : Ct F S100x100 .f32) : Ct F S100 .f32 :=
  (select (jac_v186 (F := F) r A) ((broadcastInDim S100 ![] bcast_S_S100) (jac_cst_68 (F := F))) (jac_v183 (F := F) r A))
/-- The value of a buffer of the reference, of the contents its block starts from. -/
def jac_v193 (r : Ct F S_ .i32) (A : Ct F S100x100 .f32) : Ct F S100 .f32 :=
  (Host.divf (broadcastInDim S100 ![] bcast_S_S100 ((constant S_ .f32 0x3F800000#32) : Ct F S_ .f32)) (Host.sqrt (addf (broadcastInDim S100 ![] bcast_S_S100 ((constant S_ .f32 0x3F800000#32) : Ct F S_ .f32)) (mulf (jac_v187 (F := F) r A) (jac_v187 (F := F) r A)))))
/-- The value of a buffer of the reference, of the contents its block starts from. -/
def jac_v194 (r : Ct F S_ .i32) (A : Ct F S100x100 .f32) : Ct F S100 .f32 :=
  (mulf (jac_v187 (F := F) r A) (jac_v193 (F := F) r A))
/-- The value of a buffer of the reference, of the contents its block starts from. -/
def jac_v199 : Ct F S100x100 .i1 :=
  (cmpi .eq (addi ((iotaInDim S100x100 32 0) : Ct F S100x100 .i32) (broadcastInDim S100x100 ![] bcast_S_S100x100 ((constantI S_ 32 0#32) : Ct F S_ .i32))) ((iotaInDim S100x100 32 1) : Ct F S100x100 .i32))
/-- The value of a buffer of the reference, of the contents its block starts from. -/
def jac_v200 (r : Ct F S_ .i32) (A : Ct F S100x100 .f32) : Ct F S1x100 .f32 :=
  (broadcastInDim S1x100 ![1] bcast_S100_S1x100_1 (jac_v193 (F := F) r A))
/-- The value of a buffer of the reference, of the contents its block starts from. -/
def jac_v201 (r : Ct F S_ .i32) (A : Ct F S100x100 .f32) : Ct F S100 .f32 :=
  (Host.negf (jac_v194 (F := F) r A))
/-- The value of a buffer of the reference, of the contents its block starts from. -/
def jac_v202 (r : Ct F S_ .i32) (A : Ct F S100x100 .f32) : Ct F S100 .f32 :=
  (select (jac_v149 (F := F) r) (jac_v201 (F := F) r A) (jac_v194 (F := F) r A))
/-- The value of a buffer of the reference, of the contents its block starts from. -/
def jac_v203 (r : Ct F S_ .i32) (A : Ct F S100x100 .f32) : Ct F S1x100 .f32 :=
  (broadcastInDim S1x100 ![1] bcast_S100_S1x100_1 (jac_v202 (F := F) r A))
/-- The value of a buffer of the reference, of the contents its block starts from. -/
def jac_cst_72 : Ct F S_ .f32 :=
  ((constant S_ .f32 0x00000000#32) : Ct F S_ .f32)
/-- The value of a buffer of the reference, of the contents its block starts from. -/
def jac_v204 (r : Ct F S_ .i32) (A : Ct F S100x100 .f32) : Ct F S100x100 .f32 :=
  (select (jac_v154 (F := F) r) ((broadcastInDim S100x100 ![0, 1] bcast_S1x100_S100x100_0_1) (jac_v203 (F := F) r A)) ((broadcastInDim S100x100 ![] bcast_S_S100x100) (jac_cst_72 (F := F))))
/-- The value of a buffer of the reference, of the contents its block starts from. -/
def jac_v205 (r : Ct F S_ .i32) (A : Ct F S100x100 .f32) : Ct F S100x100 .f32 :=
  (select (jac_v199 (F := F)) ((broadcastInDim S100x100 ![0, 1] bcast_S1x100_S100x100_0_1) (jac_v200 (F := F) r A)) (jac_v204 (F := F) r A))
/-- The value of a buffer of the reference, of the contents its block starts from. -/
def jac_v52_0_out (k : Ct F S_ .i32) : Ct F S_ .i32 :=
  (addi k ((constantI S_ 32 1#32) : Ct F S_ .i32))
/-- The value of a buffer of the reference, of the contents its block starts from. -/
def jac_v52_1_out (r : Ct F S_ .i32) : Ct F S_ .i32 :=
  (jac_v96 (F := F) r)
/-- The value of a buffer of the reference, of the contents its block starts from. -/
def jac_v52_2_out (r : Ct F S_ .i32) (A : Ct F S100x100 .f32) : Ct F S100x100 .f32 :=
  ((fun l r => Host.dotGeneral dot_S100x100_S100x100_S100x100_1_0_0_1_n_n none l r) ((transpose S100x100 [1, 0] · transposes_S100x100_S100x100_1_0) (jac_v205 (F := F) r A)) ((fun l r => Host.dotGeneral dot_S100x100_S100x100_S100x100_1_0_0_1_n_n none l r) A (jac_v205 (F := F) r A)))
/-- The value of a buffer of the reference, of the contents its block starts from. -/
def jac_v52_3_out (r : Ct F S_ .i32) (A : Ct F S100x100 .f32) (V : Ct F S100x100 .f32) : Ct F S100x100 .f32 :=
  ((fun l r => Host.dotGeneral dot_S100x100_S100x100_S100x100_1_0_0_1_n_n none l r) V (jac_v205 (F := F) r A))
/-- The contents the block starts from. -/
def jac_at0 (V0 : Valuation τ sig (Elt F)) : Valuation τ sig (Elt F) := V0
/-- What the buffer holds after this many stretches. -/
theorem jac_at0_v52_0 (V0 : Valuation τ sig (Elt F)) : jac_at0 V0 (no_index (Proc.devRef .tc main_v52_0)) = V0 (Proc.devRef .tc main_v52_0) := rfl
/-- What the buffer holds after this many stretches. -/
theorem jac_at0_v52_1 (V0 : Valuation τ sig (Elt F)) : jac_at0 V0 (no_index (Proc.devRef .tc main_v52_1)) = V0 (Proc.devRef .tc main_v52_1) := rfl
/-- What the buffer holds after this many stretches. -/
theorem jac_at0_v52_2 (V0 : Valuation τ sig (Elt F)) : jac_at0 V0 (no_index (Proc.devRef .tc main_v52_2)) = V0 (Proc.devRef .tc main_v52_2) := rfl
/-- What the buffer holds after this many stretches. -/
theorem jac_at0_v52_3 (V0 : Valuation τ sig (Elt F)) : jac_at0 V0 (no_index (Proc.devRef .tc main_v52_3)) = V0 (Proc.devRef .tc main_v52_3) := rfl
/-- The contents after the block's first 1 stretch. -/
def jac_at1 (V0 : Valuation τ sig (Elt F)) : Valuation τ sig (Elt F) := after jacOps0 (jac_at0 V0)
/-- This stretch leaves every other buffer alone. -/
theorem jac_at1_keep (V0 : Valuation τ sig (Elt F)) (r : Ref sig .tc) (h : r ∉ jacOps0_W) :
    jac_at1 V0 (Proc.devRef .tc r) = jac_at0 V0 (Proc.devRef .tc r) :=
  after_of_writes_sub jacOps0 _ jacOps0_writes h
/-- What the buffer holds after this many stretches. -/
theorem jac_at1_v52_0 (V0 : Valuation τ sig (Elt F)) : jac_at1 V0 (no_index (Proc.devRef .tc main_v52_0)) = V0 (Proc.devRef .tc main_v52_0) :=
  (jac_at1_keep V0 main_v52_0 (by decide)).trans (jac_at0_v52_0 V0)
/-- What the buffer holds after this many stretches. -/
theorem jac_at1_v52_1 (V0 : Valuation τ sig (Elt F)) : jac_at1 V0 (no_index (Proc.devRef .tc main_v52_1)) = V0 (Proc.devRef .tc main_v52_1) :=
  (jac_at1_keep V0 main_v52_1 (by decide)).trans (jac_at0_v52_1 V0)
/-- What the buffer holds after this many stretches. -/
theorem jac_at1_v52_2 (V0 : Valuation τ sig (Elt F)) : jac_at1 V0 (no_index (Proc.devRef .tc main_v52_2)) = V0 (Proc.devRef .tc main_v52_2) :=
  (jac_at1_keep V0 main_v52_2 (by decide)).trans (jac_at0_v52_2 V0)
/-- What the buffer holds after this many stretches. -/
theorem jac_at1_v52_3 (V0 : Valuation τ sig (Elt F)) : jac_at1 V0 (no_index (Proc.devRef .tc main_v52_3)) = V0 (Proc.devRef .tc main_v52_3) :=
  (jac_at1_keep V0 main_v52_3 (by decide)).trans (jac_at0_v52_3 V0)
/-- What the buffer holds after this many stretches. -/
theorem jac_at1_v96 (V0 : Valuation τ sig (Elt F)) : jac_at1 V0 (no_index (Proc.devRef .tc main_while1b_v96)) = jac_v96 (V0 (Proc.devRef .tc main_v52_1)) := by
  unfold jac_at1
  simp only [jacOps0]
  after_results_simp_entrywise
  try simp only [jac_at0_v52_1]
  (try simp only [TRef.ofBuf, TRef.toBuf, cast_eq])
  all_goals rfl
/-- What the buffer holds after this many stretches. -/
theorem jac_at1_v97 (V0 : Valuation τ sig (Elt F)) : jac_at1 V0 (no_index (Proc.devRef .tc main_while1b_v97)) = jac_v97 (F := F) := by
  unfold jac_at1
  simp only [jacOps0]
  after_results_simp_entrywise
  try simp only [jac_at0_v52_1]
  (try simp only [TRef.ofBuf, TRef.toBuf, cast_eq])
  all_goals rfl
/-- What the buffer holds after this many stretches. -/
theorem jac_at1_v98 (V0 : Valuation τ sig (Elt F)) : jac_at1 V0 (no_index (Proc.devRef .tc main_while1b_v98)) = jac_v98 (F := F) := by
  unfold jac_at1
  simp only [jacOps0]
  after_results_simp_entrywise
  try simp only [jac_at0_v52_1]
  (try simp only [TRef.ofBuf, TRef.toBuf, cast_eq])
  all_goals rfl
/-- What the buffer holds after this many stretches. -/
theorem jac_at1_v100 (V0 : Valuation τ sig (Elt F)) : jac_at1 V0 (no_index (Proc.devRef .tc main_while1b_v100)) = jac_v100 (F := F) := by
  unfold jac_at1
  simp only [jacOps0]
  after_results_simp_entrywise
  try simp only [jac_at0_v52_1]
  (try simp only [TRef.ofBuf, TRef.toBuf, cast_eq])
  all_goals rfl
/-- What the buffer holds after this many stretches. -/
theorem jac_at1_v102 (V0 : Valuation τ sig (Elt F)) : jac_at1 V0 (no_index (Proc.devRef .tc main_while1b_v102)) = jac_v102 (F := F) := by
  unfold jac_at1
  simp only [jacOps0]
  after_results_simp_entrywise
  try simp only [jac_at0_v52_1]
  (try simp only [TRef.ofBuf, TRef.toBuf, cast_eq])
  all_goals rfl
/-- What the buffer holds after this many stretches. -/
theorem jac_at1_v104 (V0 : Valuation τ sig (Elt F)) : jac_at1 V0 (no_index (Proc.devRef .tc main_while1b_v104)) = jac_v104 (F := F) := by
  unfold jac_at1
  simp only [jacOps0]
  after_results_simp_entrywise
  try simp only [jac_at0_v52_1]
  (try simp only [TRef.ofBuf, TRef.toBuf, cast_eq])
  all_goals rfl
/-- The contents after the block's first 2 stretches. -/
def jac_at2 (V0 : Valuation τ sig (Elt F)) : Valuation τ sig (Elt F) := after jacOps1 (jac_at1 V0)
/-- This stretch leaves every other buffer alone. -/
theorem jac_at2_keep (V0 : Valuation τ sig (Elt F)) (r : Ref sig .tc) (h : r ∉ jacOps1_W) :
    jac_at2 V0 (Proc.devRef .tc r) = jac_at1 V0 (Proc.devRef .tc r) :=
  after_of_writes_sub jacOps1 _ jacOps1_writes h
/-- What the buffer holds after this many stretches. -/
theorem jac_at2_v52_0 (V0 : Valuation τ sig (Elt F)) : jac_at2 V0 (no_index (Proc.devRef .tc main_v52_0)) = V0 (Proc.devRef .tc main_v52_0) :=
  (jac_at2_keep V0 main_v52_0 (by decide)).trans (jac_at1_v52_0 V0)
/-- What the buffer holds after this many stretches. -/
theorem jac_at2_v52_1 (V0 : Valuation τ sig (Elt F)) : jac_at2 V0 (no_index (Proc.devRef .tc main_v52_1)) = V0 (Proc.devRef .tc main_v52_1) :=
  (jac_at2_keep V0 main_v52_1 (by decide)).trans (jac_at1_v52_1 V0)
/-- What the buffer holds after this many stretches. -/
theorem jac_at2_v52_2 (V0 : Valuation τ sig (Elt F)) : jac_at2 V0 (no_index (Proc.devRef .tc main_v52_2)) = V0 (Proc.devRef .tc main_v52_2) :=
  (jac_at2_keep V0 main_v52_2 (by decide)).trans (jac_at1_v52_2 V0)
/-- What the buffer holds after this many stretches. -/
theorem jac_at2_v52_3 (V0 : Valuation τ sig (Elt F)) : jac_at2 V0 (no_index (Proc.devRef .tc main_v52_3)) = V0 (Proc.devRef .tc main_v52_3) :=
  (jac_at2_keep V0 main_v52_3 (by decide)).trans (jac_at1_v52_3 V0)
/-- What the buffer holds after this many stretches. -/
theorem jac_at2_v96 (V0 : Valuation τ sig (Elt F)) : jac_at2 V0 (no_index (Proc.devRef .tc main_while1b_v96)) = jac_v96 (V0 (Proc.devRef .tc main_v52_1)) :=
  (jac_at2_keep V0 main_while1b_v96 (by decide)).trans (jac_at1_v96 V0)
/-- What the buffer holds after this many stretches. -/
theorem jac_at2_v97 (V0 : Valuation τ sig (Elt F)) : jac_at2 V0 (no_index (Proc.devRef .tc main_while1b_v97)) = jac_v97 (F := F) :=
  (jac_at2_keep V0 main_while1b_v97 (by decide)).trans (jac_at1_v97 V0)
/-- What the buffer holds after this many stretches. -/
theorem jac_at2_v98 (V0 : Valuation τ sig (Elt F)) : jac_at2 V0 (no_index (Proc.devRef .tc main_while1b_v98)) = jac_v98 (F := F) :=
  (jac_at2_keep V0 main_while1b_v98 (by decide)).trans (jac_at1_v98 V0)
/-- What the buffer holds after this many stretches. -/
theorem jac_at2_v105 (V0 : Valuation τ sig (Elt F)) : jac_at2 V0 (no_index (Proc.devRef .tc main_while1b_v105)) = jac_v105 (F := F) := by
  unfold jac_at2
  simp only [jacOps1]
  after_results_simp_entrywise
  try simp only [jac_at1_v100, jac_at1_v102, jac_at1_v104]
  (try simp only [TRef.ofBuf, TRef.toBuf, cast_eq])
  all_goals rfl
/-- The contents after the block's first 3 stretches. -/
def jac_at3 (V0 : Valuation τ sig (Elt F)) : Valuation τ sig (Elt F) := after jacOps2 (jac_at2 V0)
/-- This stretch leaves every other buffer alone. -/
theorem jac_at3_keep (V0 : Valuation τ sig (Elt F)) (r : Ref sig .tc) (h : r ∉ jacOps2_W) :
    jac_at3 V0 (Proc.devRef .tc r) = jac_at2 V0 (Proc.devRef .tc r) :=
  after_of_writes_sub jacOps2 _ jacOps2_writes h
/-- What the buffer holds after this many stretches. -/
theorem jac_at3_v52_0 (V0 : Valuation τ sig (Elt F)) : jac_at3 V0 (no_index (Proc.devRef .tc main_v52_0)) = V0 (Proc.devRef .tc main_v52_0) :=
  (jac_at3_keep V0 main_v52_0 (by decide)).trans (jac_at2_v52_0 V0)
/-- What the buffer holds after this many stretches. -/
theorem jac_at3_v52_2 (V0 : Valuation τ sig (Elt F)) : jac_at3 V0 (no_index (Proc.devRef .tc main_v52_2)) = V0 (Proc.devRef .tc main_v52_2) :=
  (jac_at3_keep V0 main_v52_2 (by decide)).trans (jac_at2_v52_2 V0)
/-- What the buffer holds after this many stretches. -/
theorem jac_at3_v52_3 (V0 : Valuation τ sig (Elt F)) : jac_at3 V0 (no_index (Proc.devRef .tc main_v52_3)) = V0 (Proc.devRef .tc main_v52_3) :=
  (jac_at3_keep V0 main_v52_3 (by decide)).trans (jac_at2_v52_3 V0)
/-- What the buffer holds after this many stretches. -/
theorem jac_at3_v96 (V0 : Valuation τ sig (Elt F)) : jac_at3 V0 (no_index (Proc.devRef .tc main_while1b_v96)) = jac_v96 (V0 (Proc.devRef .tc main_v52_1)) :=
  (jac_at3_keep V0 main_while1b_v96 (by decide)).trans (jac_at2_v96 V0)
/-- What the buffer holds after this many stretches. -/
theorem jac_at3_v97 (V0 : Valuation τ sig (Elt F)) : jac_at3 V0 (no_index (Proc.devRef .tc main_while1b_v97)) = jac_v97 (F := F) :=
  (jac_at3_keep V0 main_while1b_v97 (by decide)).trans (jac_at2_v97 V0)
/-- What the buffer holds after this many stretches. -/
theorem jac_at3_v98 (V0 : Valuation τ sig (Elt F)) : jac_at3 V0 (no_index (Proc.devRef .tc main_while1b_v98)) = jac_v98 (F := F) :=
  (jac_at3_keep V0 main_while1b_v98 (by decide)).trans (jac_at2_v98 V0)
/-- What the buffer holds after this many stretches. -/
theorem jac_at3_v114 (V0 : Valuation τ sig (Elt F)) : jac_at3 V0 (no_index (Proc.devRef .tc main_while1b_v114)) = jac_v114 (V0 (Proc.devRef .tc main_v52_1)) := by
  unfold jac_at3
  simp only [jacOps2]
  after_results_simp_entrywise
  try simp only [jac_at2_v52_1, jac_at2_v98, jac_at2_v105]
  (try simp only [TRef.ofBuf, TRef.toBuf, cast_eq])
  all_goals rfl
/-- What the buffer holds after this many stretches. -/
theorem jac_at3_v116 (V0 : Valuation τ sig (Elt F)) : jac_at3 V0 (no_index (Proc.devRef .tc main_while1b_v116)) = jac_v116 (F := F) := by
  unfold jac_at3
  simp only [jacOps2]
  after_results_simp_entrywise
  try simp only [jac_at2_v52_1, jac_at2_v98, jac_at2_v105]
  (try simp only [TRef.ofBuf, TRef.toBuf, cast_eq])
  all_goals rfl
/-- What the buffer holds after this many stretches. -/
theorem jac_at3_v117 (V0 : Valuation τ sig (Elt F)) : jac_at3 V0 (no_index (Proc.devRef .tc main_while1b_v117)) = jac_v117 (V0 (Proc.devRef .tc main_v52_1)) := by
  unfold jac_at3
  simp only [jacOps2]
  after_results_simp_entrywise
  try simp only [jac_at2_v52_1, jac_at2_v98, jac_at2_v105]
  (try simp only [TRef.ofBuf, TRef.toBuf, cast_eq])
  all_goals rfl
/-- What the buffer holds after this many stretches. -/
theorem jac_at3_v122 (V0 : Valuation τ sig (Elt F)) : jac_at3 V0 (no_index (Proc.devRef .tc main_while1b_v122)) = jac_v122 (V0 (Proc.devRef .tc main_v52_1)) := by
  unfold jac_at3
  simp only [jacOps2]
  after_results_simp_entrywise
  try simp only [jac_at2_v52_1, jac_at2_v98, jac_at2_v105]
  (try simp only [TRef.ofBuf, TRef.toBuf, cast_eq])
  all_goals rfl
/-- The contents after the block's first 4 stretches. -/
def jac_at4 (V0 : Valuation τ sig (Elt F)) : Valuation τ sig (Elt F) := after jacOps3 (jac_at3 V0)
/-- This stretch leaves every other buffer alone. -/
theorem jac_at4_keep (V0 : Valuation τ sig (Elt F)) (r : Ref sig .tc) (h : r ∉ jacOps3_W) :
    jac_at4 V0 (Proc.devRef .tc r) = jac_at3 V0 (Proc.devRef .tc r) :=
  after_of_writes_sub jacOps3 _ jacOps3_writes h
/-- What the buffer holds after this many stretches. -/
theorem jac_at4_v52_0 (V0 : Valuation τ sig (Elt F)) : jac_at4 V0 (no_index (Proc.devRef .tc main_v52_0)) = V0 (Proc.devRef .tc main_v52_0) :=
  (jac_at4_keep V0 main_v52_0 (by decide)).trans (jac_at3_v52_0 V0)
/-- What the buffer holds after this many stretches. -/
theorem jac_at4_v52_2 (V0 : Valuation τ sig (Elt F)) : jac_at4 V0 (no_index (Proc.devRef .tc main_v52_2)) = V0 (Proc.devRef .tc main_v52_2) :=
  (jac_at4_keep V0 main_v52_2 (by decide)).trans (jac_at3_v52_2 V0)
/-- What the buffer holds after this many stretches. -/
theorem jac_at4_v52_3 (V0 : Valuation τ sig (Elt F)) : jac_at4 V0 (no_index (Proc.devRef .tc main_v52_3)) = V0 (Proc.devRef .tc main_v52_3) :=
  (jac_at4_keep V0 main_v52_3 (by decide)).trans (jac_at3_v52_3 V0)
/-- What the buffer holds after this many stretches. -/
theorem jac_at4_v96 (V0 : Valuation τ sig (Elt F)) : jac_at4 V0 (no_index (Proc.devRef .tc main_while1b_v96)) = jac_v96 (V0 (Proc.devRef .tc main_v52_1)) :=
  (jac_at4_keep V0 main_while1b_v96 (by decide)).trans (jac_at3_v96 V0)
/-- What the buffer holds after this many stretches. -/
theorem jac_at4_v97 (V0 : Valuation τ sig (Elt F)) : jac_at4 V0 (no_index (Proc.devRef .tc main_while1b_v97)) = jac_v97 (F := F) :=
  (jac_at4_keep V0 main_while1b_v97 (by decide)).trans (jac_at3_v97 V0)
/-- What the buffer holds after this many stretches. -/
theorem jac_at4_v98 (V0 : Valuation τ sig (Elt F)) : jac_at4 V0 (no_index (Proc.devRef .tc main_while1b_v98)) = jac_v98 (F := F) :=
  (jac_at4_keep V0 main_while1b_v98 (by decide)).trans (jac_at3_v98 V0)
/-- What the buffer holds after this many stretches. -/
theorem jac_at4_v114 (V0 : Valuation τ sig (Elt F)) : jac_at4 V0 (no_index (Proc.devRef .tc main_while1b_v114)) = jac_v114 (V0 (Proc.devRef .tc main_v52_1)) :=
  (jac_at4_keep V0 main_while1b_v114 (by decide)).trans (jac_at3_v114 V0)
/-- What the buffer holds after this many stretches. -/
theorem jac_at4_v123 (V0 : Valuation τ sig (Elt F)) : jac_at4 V0 (no_index (Proc.devRef .tc main_while1b_v123)) = jac_v123 (V0 (Proc.devRef .tc main_v52_1)) := by
  unfold jac_at4
  simp only [jacOps3]
  after_results_simp_entrywise
  try simp only [jac_at3_v116, jac_at3_v117, jac_at3_v122]
  (try simp only [TRef.ofBuf, TRef.toBuf, cast_eq])
  all_goals rfl
/-- The contents after the block's first 5 stretches. -/
def jac_at5 (V0 : Valuation τ sig (Elt F)) : Valuation τ sig (Elt F) := after jacOps4 (jac_at4 V0)
/-- This stretch leaves every other buffer alone. -/
theorem jac_at5_keep (V0 : Valuation τ sig (Elt F)) (r : Ref sig .tc) (h : r ∉ jacOps4_W) :
    jac_at5 V0 (Proc.devRef .tc r) = jac_at4 V0 (Proc.devRef .tc r) :=
  after_of_writes_sub jacOps4 _ jacOps4_writes h
/-- What the buffer holds after this many stretches. -/
theorem jac_at5_v52_0 (V0 : Valuation τ sig (Elt F)) : jac_at5 V0 (no_index (Proc.devRef .tc main_v52_0)) = V0 (Proc.devRef .tc main_v52_0) :=
  (jac_at5_keep V0 main_v52_0 (by decide)).trans (jac_at4_v52_0 V0)
/-- What the buffer holds after this many stretches. -/
theorem jac_at5_v52_2 (V0 : Valuation τ sig (Elt F)) : jac_at5 V0 (no_index (Proc.devRef .tc main_v52_2)) = V0 (Proc.devRef .tc main_v52_2) :=
  (jac_at5_keep V0 main_v52_2 (by decide)).trans (jac_at4_v52_2 V0)
/-- What the buffer holds after this many stretches. -/
theorem jac_at5_v52_3 (V0 : Valuation τ sig (Elt F)) : jac_at5 V0 (no_index (Proc.devRef .tc main_v52_3)) = V0 (Proc.devRef .tc main_v52_3) :=
  (jac_at5_keep V0 main_v52_3 (by decide)).trans (jac_at4_v52_3 V0)
/-- What the buffer holds after this many stretches. -/
theorem jac_at5_v96 (V0 : Valuation τ sig (Elt F)) : jac_at5 V0 (no_index (Proc.devRef .tc main_while1b_v96)) = jac_v96 (V0 (Proc.devRef .tc main_v52_1)) :=
  (jac_at5_keep V0 main_while1b_v96 (by decide)).trans (jac_at4_v96 V0)
/-- What the buffer holds after this many stretches. -/
theorem jac_at5_v97 (V0 : Valuation τ sig (Elt F)) : jac_at5 V0 (no_index (Proc.devRef .tc main_while1b_v97)) = jac_v97 (F := F) :=
  (jac_at5_keep V0 main_while1b_v97 (by decide)).trans (jac_at4_v97 V0)
/-- What the buffer holds after this many stretches. -/
theorem jac_at5_v98 (V0 : Valuation τ sig (Elt F)) : jac_at5 V0 (no_index (Proc.devRef .tc main_while1b_v98)) = jac_v98 (F := F) :=
  (jac_at5_keep V0 main_while1b_v98 (by decide)).trans (jac_at4_v98 V0)
/-- What the buffer holds after this many stretches. -/
theorem jac_at5_v114 (V0 : Valuation τ sig (Elt F)) : jac_at5 V0 (no_index (Proc.devRef .tc main_while1b_v114)) = jac_v114 (V0 (Proc.devRef .tc main_v52_1)) :=
  (jac_at5_keep V0 main_while1b_v114 (by decide)).trans (jac_at4_v114 V0)
/-- What the buffer holds after this many stretches. -/
theorem jac_at5_v127 (V0 : Valuation τ sig (Elt F)) : jac_at5 V0 (no_index (Proc.devRef .tc main_while1b_v127)) = jac_v127 (V0 (Proc.devRef .tc main_v52_1)) := by
  unfold jac_at5
  simp only [jacOps4]
  after_results_simp_entrywise
  try simp only [jac_at4_v123]
  (try simp only [TRef.ofBuf, TRef.toBuf, cast_eq])
  all_goals rfl
/-- What the buffer holds after this many stretches. -/
theorem jac_at5_v129 (V0 : Valuation τ sig (Elt F)) : jac_at5 V0 (no_index (Proc.devRef .tc main_while1b_v129)) = jac_v129 (V0 (Proc.devRef .tc main_v52_1)) := by
  unfold jac_at5
  simp only [jacOps4]
  after_results_simp_entrywise
  try simp only [jac_at4_v123]
  (try simp only [TRef.ofBuf, TRef.toBuf, cast_eq])
  all_goals rfl
/-- What the buffer holds after this many stretches. -/
theorem jac_at5_v131 (V0 : Valuation τ sig (Elt F)) : jac_at5 V0 (no_index (Proc.devRef .tc main_while1b_v131)) = jac_v131 (V0 (Proc.devRef .tc main_v52_1)) := by
  unfold jac_at5
  simp only [jacOps4]
  after_results_simp_entrywise
  try simp only [jac_at4_v123]
  (try simp only [TRef.ofBuf, TRef.toBuf, cast_eq])
  all_goals rfl
/-- What the buffer holds after this many stretches. -/
theorem jac_at5_v133 (V0 : Valuation τ sig (Elt F)) : jac_at5 V0 (no_index (Proc.devRef .tc main_while1b_v133)) = jac_v133 (V0 (Proc.devRef .tc main_v52_1)) := by
  unfold jac_at5
  simp only [jacOps4]
  after_results_simp_entrywise
  try simp only [jac_at4_v123]
  (try simp only [TRef.ofBuf, TRef.toBuf, cast_eq])
  all_goals rfl
/-- The contents after the block's first 6 stretches. -/
def jac_at6 (V0 : Valuation τ sig (Elt F)) : Valuation τ sig (Elt F) := after jacOps5 (jac_at5 V0)
/-- This stretch leaves every other buffer alone. -/
theorem jac_at6_keep (V0 : Valuation τ sig (Elt F)) (r : Ref sig .tc) (h : r ∉ jacOps5_W) :
    jac_at6 V0 (Proc.devRef .tc r) = jac_at5 V0 (Proc.devRef .tc r) :=
  after_of_writes_sub jacOps5 _ jacOps5_writes h
/-- What the buffer holds after this many stretches. -/
theorem jac_at6_v52_0 (V0 : Valuation τ sig (Elt F)) : jac_at6 V0 (no_index (Proc.devRef .tc main_v52_0)) = V0 (Proc.devRef .tc main_v52_0) :=
  (jac_at6_keep V0 main_v52_0 (by decide)).trans (jac_at5_v52_0 V0)
/-- What the buffer holds after this many stretches. -/
theorem jac_at6_v52_2 (V0 : Valuation τ sig (Elt F)) : jac_at6 V0 (no_index (Proc.devRef .tc main_v52_2)) = V0 (Proc.devRef .tc main_v52_2) :=
  (jac_at6_keep V0 main_v52_2 (by decide)).trans (jac_at5_v52_2 V0)
/-- What the buffer holds after this many stretches. -/
theorem jac_at6_v52_3 (V0 : Valuation τ sig (Elt F)) : jac_at6 V0 (no_index (Proc.devRef .tc main_v52_3)) = V0 (Proc.devRef .tc main_v52_3) :=
  (jac_at6_keep V0 main_v52_3 (by decide)).trans (jac_at5_v52_3 V0)
/-- What the buffer holds after this many stretches. -/
theorem jac_at6_v96 (V0 : Valuation τ sig (Elt F)) : jac_at6 V0 (no_index (Proc.devRef .tc main_while1b_v96)) = jac_v96 (V0 (Proc.devRef .tc main_v52_1)) :=
  (jac_at6_keep V0 main_while1b_v96 (by decide)).trans (jac_at5_v96 V0)
/-- What the buffer holds after this many stretches. -/
theorem jac_at6_v97 (V0 : Valuation τ sig (Elt F)) : jac_at6 V0 (no_index (Proc.devRef .tc main_while1b_v97)) = jac_v97 (F := F) :=
  (jac_at6_keep V0 main_while1b_v97 (by decide)).trans (jac_at5_v97 V0)
/-- What the buffer holds after this many stretches. -/
theorem jac_at6_v98 (V0 : Valuation τ sig (Elt F)) : jac_at6 V0 (no_index (Proc.devRef .tc main_while1b_v98)) = jac_v98 (F := F) :=
  (jac_at6_keep V0 main_while1b_v98 (by decide)).trans (jac_at5_v98 V0)
/-- What the buffer holds after this many stretches. -/
theorem jac_at6_v114 (V0 : Valuation τ sig (Elt F)) : jac_at6 V0 (no_index (Proc.devRef .tc main_while1b_v114)) = jac_v114 (V0 (Proc.devRef .tc main_v52_1)) :=
  (jac_at6_keep V0 main_while1b_v114 (by decide)).trans (jac_at5_v114 V0)
/-- What the buffer holds after this many stretches. -/
theorem jac_at6_v127 (V0 : Valuation τ sig (Elt F)) : jac_at6 V0 (no_index (Proc.devRef .tc main_while1b_v127)) = jac_v127 (V0 (Proc.devRef .tc main_v52_1)) :=
  (jac_at6_keep V0 main_while1b_v127 (by decide)).trans (jac_at5_v127 V0)
/-- What the buffer holds after this many stretches. -/
theorem jac_at6_v134 (V0 : Valuation τ sig (Elt F)) : jac_at6 V0 (no_index (Proc.devRef .tc main_while1b_v134)) = jac_v134 (V0 (Proc.devRef .tc main_v52_1)) := by
  unfold jac_at6
  simp only [jacOps5]
  after_results_simp_entrywise
  try simp only [jac_at5_v129, jac_at5_v131, jac_at5_v133]
  (try simp only [TRef.ofBuf, TRef.toBuf, cast_eq])
  all_goals rfl
/-- The contents after the block's first 7 stretches. -/
def jac_at7 (V0 : Valuation τ sig (Elt F)) : Valuation τ sig (Elt F) := after jacOps6 (jac_at6 V0)
/-- This stretch leaves every other buffer alone. -/
theorem jac_at7_keep (V0 : Valuation τ sig (Elt F)) (r : Ref sig .tc) (h : r ∉ jacOps6_W) :
    jac_at7 V0 (Proc.devRef .tc r) = jac_at6 V0 (Proc.devRef .tc r) :=
  after_of_writes_sub jacOps6 _ jacOps6_writes h
/-- What the buffer holds after this many stretches. -/
theorem jac_at7_v52_0 (V0 : Valuation τ sig (Elt F)) : jac_at7 V0 (no_index (Proc.devRef .tc main_v52_0)) = V0 (Proc.devRef .tc main_v52_0) :=
  (jac_at7_keep V0 main_v52_0 (by decide)).trans (jac_at6_v52_0 V0)
/-- What the buffer holds after this many stretches. -/
theorem jac_at7_v52_2 (V0 : Valuation τ sig (Elt F)) : jac_at7 V0 (no_index (Proc.devRef .tc main_v52_2)) = V0 (Proc.devRef .tc main_v52_2) :=
  (jac_at7_keep V0 main_v52_2 (by decide)).trans (jac_at6_v52_2 V0)
/-- What the buffer holds after this many stretches. -/
theorem jac_at7_v52_3 (V0 : Valuation τ sig (Elt F)) : jac_at7 V0 (no_index (Proc.devRef .tc main_v52_3)) = V0 (Proc.devRef .tc main_v52_3) :=
  (jac_at7_keep V0 main_v52_3 (by decide)).trans (jac_at6_v52_3 V0)
/-- What the buffer holds after this many stretches. -/
theorem jac_at7_v96 (V0 : Valuation τ sig (Elt F)) : jac_at7 V0 (no_index (Proc.devRef .tc main_while1b_v96)) = jac_v96 (V0 (Proc.devRef .tc main_v52_1)) :=
  (jac_at7_keep V0 main_while1b_v96 (by decide)).trans (jac_at6_v96 V0)
/-- What the buffer holds after this many stretches. -/
theorem jac_at7_v97 (V0 : Valuation τ sig (Elt F)) : jac_at7 V0 (no_index (Proc.devRef .tc main_while1b_v97)) = jac_v97 (F := F) :=
  (jac_at7_keep V0 main_while1b_v97 (by decide)).trans (jac_at6_v97 V0)
/-- What the buffer holds after this many stretches. -/
theorem jac_at7_v98 (V0 : Valuation τ sig (Elt F)) : jac_at7 V0 (no_index (Proc.devRef .tc main_while1b_v98)) = jac_v98 (F := F) :=
  (jac_at7_keep V0 main_while1b_v98 (by decide)).trans (jac_at6_v98 V0)
/-- What the buffer holds after this many stretches. -/
theorem jac_at7_v114 (V0 : Valuation τ sig (Elt F)) : jac_at7 V0 (no_index (Proc.devRef .tc main_while1b_v114)) = jac_v114 (V0 (Proc.devRef .tc main_v52_1)) :=
  (jac_at7_keep V0 main_while1b_v114 (by decide)).trans (jac_at6_v114 V0)
/-- What the buffer holds after this many stretches. -/
theorem jac_at7_v127 (V0 : Valuation τ sig (Elt F)) : jac_at7 V0 (no_index (Proc.devRef .tc main_while1b_v127)) = jac_v127 (V0 (Proc.devRef .tc main_v52_1)) :=
  (jac_at7_keep V0 main_while1b_v127 (by decide)).trans (jac_at6_v127 V0)
/-- What the buffer holds after this many stretches. -/
theorem jac_at7_v134 (V0 : Valuation τ sig (Elt F)) : jac_at7 V0 (no_index (Proc.devRef .tc main_while1b_v134)) = jac_v134 (V0 (Proc.devRef .tc main_v52_1)) :=
  (jac_at7_keep V0 main_while1b_v134 (by decide)).trans (jac_at6_v134 V0)
/-- What the buffer holds after this many stretches. -/
theorem jac_at7_c_48 (V0 : Valuation τ sig (Elt F)) : jac_at7 V0 (no_index (Proc.devRef .tc main_while1b_c_48)) = jac_c_48 (F := F) := by
  unfold jac_at7
  simp only [jacOps6]
  after_results_simp_entrywise
  skip
  (try simp only [TRef.ofBuf, TRef.toBuf, cast_eq])
  all_goals rfl
/-- The contents after the block's first 8 stretches. -/
def jac_at8 (V0 : Valuation τ sig (Elt F)) : Valuation τ sig (Elt F) := after jacOps7 (jac_at7 V0)
/-- This stretch leaves every other buffer alone. -/
theorem jac_at8_keep (V0 : Valuation τ sig (Elt F)) (r : Ref sig .tc) (h : r ∉ jacOps7_W) :
    jac_at8 V0 (Proc.devRef .tc r) = jac_at7 V0 (Proc.devRef .tc r) :=
  after_of_writes_sub jacOps7 _ jacOps7_writes h
/-- What the buffer holds after this many stretches. -/
theorem jac_at8_v52_0 (V0 : Valuation τ sig (Elt F)) : jac_at8 V0 (no_index (Proc.devRef .tc main_v52_0)) = V0 (Proc.devRef .tc main_v52_0) :=
  (jac_at8_keep V0 main_v52_0 (by decide)).trans (jac_at7_v52_0 V0)
/-- What the buffer holds after this many stretches. -/
theorem jac_at8_v52_2 (V0 : Valuation τ sig (Elt F)) : jac_at8 V0 (no_index (Proc.devRef .tc main_v52_2)) = V0 (Proc.devRef .tc main_v52_2) :=
  (jac_at8_keep V0 main_v52_2 (by decide)).trans (jac_at7_v52_2 V0)
/-- What the buffer holds after this many stretches. -/
theorem jac_at8_v52_3 (V0 : Valuation τ sig (Elt F)) : jac_at8 V0 (no_index (Proc.devRef .tc main_v52_3)) = V0 (Proc.devRef .tc main_v52_3) :=
  (jac_at8_keep V0 main_v52_3 (by decide)).trans (jac_at7_v52_3 V0)
/-- What the buffer holds after this many stretches. -/
theorem jac_at8_v96 (V0 : Valuation τ sig (Elt F)) : jac_at8 V0 (no_index (Proc.devRef .tc main_while1b_v96)) = jac_v96 (V0 (Proc.devRef .tc main_v52_1)) :=
  (jac_at8_keep V0 main_while1b_v96 (by decide)).trans (jac_at7_v96 V0)
/-- What the buffer holds after this many stretches. -/
theorem jac_at8_v97 (V0 : Valuation τ sig (Elt F)) : jac_at8 V0 (no_index (Proc.devRef .tc main_while1b_v97)) = jac_v97 (F := F) :=
  (jac_at8_keep V0 main_while1b_v97 (by decide)).trans (jac_at7_v97 V0)
/-- What the buffer holds after this many stretches. -/
theorem jac_at8_v98 (V0 : Valuation τ sig (Elt F)) : jac_at8 V0 (no_index (Proc.devRef .tc main_while1b_v98)) = jac_v98 (F := F) :=
  (jac_at8_keep V0 main_while1b_v98 (by decide)).trans (jac_at7_v98 V0)
/-- What the buffer holds after this many stretches. -/
theorem jac_at8_v114 (V0 : Valuation τ sig (Elt F)) : jac_at8 V0 (no_index (Proc.devRef .tc main_while1b_v114)) = jac_v114 (V0 (Proc.devRef .tc main_v52_1)) :=
  (jac_at8_keep V0 main_while1b_v114 (by decide)).trans (jac_at7_v114 V0)
/-- What the buffer holds after this many stretches. -/
theorem jac_at8_v135 (V0 : Valuation τ sig (Elt F)) : jac_at8 V0 (no_index (Proc.devRef .tc main_while1b_v135)) = jac_v135 (V0 (Proc.devRef .tc main_v52_1)) := by
  unfold jac_at8
  simp only [jacOps7]
  after_results_simp_entrywise
  try simp only [jac_at7_v127, jac_at7_v134, jac_at7_c_48]
  (try simp only [TRef.ofBuf, TRef.toBuf, cast_eq])
  all_goals rfl
/-- The contents after the block's first 9 stretches. -/
def jac_at9 (V0 : Valuation τ sig (Elt F)) : Valuation τ sig (Elt F) := after jacOps8 (jac_at8 V0)
/-- This stretch leaves every other buffer alone. -/
theorem jac_at9_keep (V0 : Valuation τ sig (Elt F)) (r : Ref sig .tc) (h : r ∉ jacOps8_W) :
    jac_at9 V0 (Proc.devRef .tc r) = jac_at8 V0 (Proc.devRef .tc r) :=
  after_of_writes_sub jacOps8 _ jacOps8_writes h
/-- What the buffer holds after this many stretches. -/
theorem jac_at9_v52_0 (V0 : Valuation τ sig (Elt F)) : jac_at9 V0 (no_index (Proc.devRef .tc main_v52_0)) = V0 (Proc.devRef .tc main_v52_0) :=
  (jac_at9_keep V0 main_v52_0 (by decide)).trans (jac_at8_v52_0 V0)
/-- What the buffer holds after this many stretches. -/
theorem jac_at9_v52_2 (V0 : Valuation τ sig (Elt F)) : jac_at9 V0 (no_index (Proc.devRef .tc main_v52_2)) = V0 (Proc.devRef .tc main_v52_2) :=
  (jac_at9_keep V0 main_v52_2 (by decide)).trans (jac_at8_v52_2 V0)
/-- What the buffer holds after this many stretches. -/
theorem jac_at9_v52_3 (V0 : Valuation τ sig (Elt F)) : jac_at9 V0 (no_index (Proc.devRef .tc main_v52_3)) = V0 (Proc.devRef .tc main_v52_3) :=
  (jac_at9_keep V0 main_v52_3 (by decide)).trans (jac_at8_v52_3 V0)
/-- What the buffer holds after this many stretches. -/
theorem jac_at9_v96 (V0 : Valuation τ sig (Elt F)) : jac_at9 V0 (no_index (Proc.devRef .tc main_while1b_v96)) = jac_v96 (V0 (Proc.devRef .tc main_v52_1)) :=
  (jac_at9_keep V0 main_while1b_v96 (by decide)).trans (jac_at8_v96 V0)
/-- What the buffer holds after this many stretches. -/
theorem jac_at9_v97 (V0 : Valuation τ sig (Elt F)) : jac_at9 V0 (no_index (Proc.devRef .tc main_while1b_v97)) = jac_v97 (F := F) :=
  (jac_at9_keep V0 main_while1b_v97 (by decide)).trans (jac_at8_v97 V0)
/-- What the buffer holds after this many stretches. -/
theorem jac_at9_v98 (V0 : Valuation τ sig (Elt F)) : jac_at9 V0 (no_index (Proc.devRef .tc main_while1b_v98)) = jac_v98 (F := F) :=
  (jac_at9_keep V0 main_while1b_v98 (by decide)).trans (jac_at8_v98 V0)
/-- What the buffer holds after this many stretches. -/
theorem jac_at9_v114 (V0 : Valuation τ sig (Elt F)) : jac_at9 V0 (no_index (Proc.devRef .tc main_while1b_v114)) = jac_v114 (V0 (Proc.devRef .tc main_v52_1)) :=
  (jac_at9_keep V0 main_while1b_v114 (by decide)).trans (jac_at8_v114 V0)
/-- What the buffer holds after this many stretches. -/
theorem jac_at9_v135 (V0 : Valuation τ sig (Elt F)) : jac_at9 V0 (no_index (Proc.devRef .tc main_while1b_v135)) = jac_v135 (V0 (Proc.devRef .tc main_v52_1)) :=
  (jac_at9_keep V0 main_while1b_v135 (by decide)).trans (jac_at8_v135 V0)
/-- What the buffer holds after this many stretches. -/
theorem jac_at9_v140 (V0 : Valuation τ sig (Elt F)) : jac_at9 V0 (no_index (Proc.devRef .tc main_while1b_v140)) = jac_v140 (V0 (Proc.devRef .tc main_v52_1)) := by
  unfold jac_at9
  simp only [jacOps8]
  after_results_simp_entrywise
  try simp only [jac_at8_v98, jac_at8_v114]
  (try simp only [TRef.ofBuf, TRef.toBuf, cast_eq])
  all_goals rfl
/-- What the buffer holds after this many stretches. -/
theorem jac_at9_c_51 (V0 : Valuation τ sig (Elt F)) : jac_at9 V0 (no_index (Proc.devRef .tc main_while1b_c_51)) = jac_c_51 (F := F) := by
  unfold jac_at9
  simp only [jacOps8]
  after_results_simp_entrywise
  try simp only [jac_at8_v98, jac_at8_v114]
  (try simp only [TRef.ofBuf, TRef.toBuf, cast_eq])
  all_goals rfl
/-- The contents after the block's first 10 stretches. -/
def jac_at10 (V0 : Valuation τ sig (Elt F)) : Valuation τ sig (Elt F) := after jacOps9 (jac_at9 V0)
/-- This stretch leaves every other buffer alone. -/
theorem jac_at10_keep (V0 : Valuation τ sig (Elt F)) (r : Ref sig .tc) (h : r ∉ jacOps9_W) :
    jac_at10 V0 (Proc.devRef .tc r) = jac_at9 V0 (Proc.devRef .tc r) :=
  after_of_writes_sub jacOps9 _ jacOps9_writes h
/-- What the buffer holds after this many stretches. -/
theorem jac_at10_v52_0 (V0 : Valuation τ sig (Elt F)) : jac_at10 V0 (no_index (Proc.devRef .tc main_v52_0)) = V0 (Proc.devRef .tc main_v52_0) :=
  (jac_at10_keep V0 main_v52_0 (by decide)).trans (jac_at9_v52_0 V0)
/-- What the buffer holds after this many stretches. -/
theorem jac_at10_v52_2 (V0 : Valuation τ sig (Elt F)) : jac_at10 V0 (no_index (Proc.devRef .tc main_v52_2)) = V0 (Proc.devRef .tc main_v52_2) :=
  (jac_at10_keep V0 main_v52_2 (by decide)).trans (jac_at9_v52_2 V0)
/-- What the buffer holds after this many stretches. -/
theorem jac_at10_v52_3 (V0 : Valuation τ sig (Elt F)) : jac_at10 V0 (no_index (Proc.devRef .tc main_v52_3)) = V0 (Proc.devRef .tc main_v52_3) :=
  (jac_at10_keep V0 main_v52_3 (by decide)).trans (jac_at9_v52_3 V0)
/-- What the buffer holds after this many stretches. -/
theorem jac_at10_v96 (V0 : Valuation τ sig (Elt F)) : jac_at10 V0 (no_index (Proc.devRef .tc main_while1b_v96)) = jac_v96 (V0 (Proc.devRef .tc main_v52_1)) :=
  (jac_at10_keep V0 main_while1b_v96 (by decide)).trans (jac_at9_v96 V0)
/-- What the buffer holds after this many stretches. -/
theorem jac_at10_v97 (V0 : Valuation τ sig (Elt F)) : jac_at10 V0 (no_index (Proc.devRef .tc main_while1b_v97)) = jac_v97 (F := F) :=
  (jac_at10_keep V0 main_while1b_v97 (by decide)).trans (jac_at9_v97 V0)
/-- What the buffer holds after this many stretches. -/
theorem jac_at10_v98 (V0 : Valuation τ sig (Elt F)) : jac_at10 V0 (no_index (Proc.devRef .tc main_while1b_v98)) = jac_v98 (F := F) :=
  (jac_at10_keep V0 main_while1b_v98 (by decide)).trans (jac_at9_v98 V0)
/-- What the buffer holds after this many stretches. -/
theorem jac_at10_v114 (V0 : Valuation τ sig (Elt F)) : jac_at10 V0 (no_index (Proc.devRef .tc main_while1b_v114)) = jac_v114 (V0 (Proc.devRef .tc main_v52_1)) :=
  (jac_at10_keep V0 main_while1b_v114 (by decide)).trans (jac_at9_v114 V0)
/-- What the buffer holds after this many stretches. -/
theorem jac_at10_v141 (V0 : Valuation τ sig (Elt F)) : jac_at10 V0 (no_index (Proc.devRef .tc main_while1b_v141)) = jac_v141 (V0 (Proc.devRef .tc main_v52_1)) := by
  unfold jac_at10
  simp only [jacOps9]
  after_results_simp_entrywise
  try simp only [jac_at9_v135, jac_at9_v140, jac_at9_c_51]
  (try simp only [TRef.ofBuf, TRef.toBuf, cast_eq])
  all_goals rfl
/-- The contents after the block's first 11 stretches. -/
def jac_at11 (V0 : Valuation τ sig (Elt F)) : Valuation τ sig (Elt F) := after jacOps10 (jac_at10 V0)
/-- This stretch leaves every other buffer alone. -/
theorem jac_at11_keep (V0 : Valuation τ sig (Elt F)) (r : Ref sig .tc) (h : r ∉ jacOps10_W) :
    jac_at11 V0 (Proc.devRef .tc r) = jac_at10 V0 (Proc.devRef .tc r) :=
  after_of_writes_sub jacOps10 _ jacOps10_writes h
/-- What the buffer holds after this many stretches. -/
theorem jac_at11_v52_0 (V0 : Valuation τ sig (Elt F)) : jac_at11 V0 (no_index (Proc.devRef .tc main_v52_0)) = V0 (Proc.devRef .tc main_v52_0) :=
  (jac_at11_keep V0 main_v52_0 (by decide)).trans (jac_at10_v52_0 V0)
/-- What the buffer holds after this many stretches. -/
theorem jac_at11_v52_2 (V0 : Valuation τ sig (Elt F)) : jac_at11 V0 (no_index (Proc.devRef .tc main_v52_2)) = V0 (Proc.devRef .tc main_v52_2) :=
  (jac_at11_keep V0 main_v52_2 (by decide)).trans (jac_at10_v52_2 V0)
/-- What the buffer holds after this many stretches. -/
theorem jac_at11_v52_3 (V0 : Valuation τ sig (Elt F)) : jac_at11 V0 (no_index (Proc.devRef .tc main_v52_3)) = V0 (Proc.devRef .tc main_v52_3) :=
  (jac_at11_keep V0 main_v52_3 (by decide)).trans (jac_at10_v52_3 V0)
/-- What the buffer holds after this many stretches. -/
theorem jac_at11_v96 (V0 : Valuation τ sig (Elt F)) : jac_at11 V0 (no_index (Proc.devRef .tc main_while1b_v96)) = jac_v96 (V0 (Proc.devRef .tc main_v52_1)) :=
  (jac_at11_keep V0 main_while1b_v96 (by decide)).trans (jac_at10_v96 V0)
/-- What the buffer holds after this many stretches. -/
theorem jac_at11_v149 (V0 : Valuation τ sig (Elt F)) : jac_at11 V0 (no_index (Proc.devRef .tc main_while1b_v149)) = jac_v149 (V0 (Proc.devRef .tc main_v52_1)) := by
  unfold jac_at11
  simp only [jacOps10]
  after_results_simp_entrywise
  try simp only [jac_at10_v97, jac_at10_v98, jac_at10_v114, jac_at10_v141]
  (try simp only [TRef.ofBuf, TRef.toBuf, cast_eq])
  all_goals rfl
/-- What the buffer holds after this many stretches. -/
theorem jac_at11_v154 (V0 : Valuation τ sig (Elt F)) : jac_at11 V0 (no_index (Proc.devRef .tc main_while1b_v154)) = jac_v154 (V0 (Proc.devRef .tc main_v52_1)) := by
  unfold jac_at11
  simp only [jacOps10]
  after_results_simp_entrywise
  try simp only [jac_at10_v97, jac_at10_v98, jac_at10_v114, jac_at10_v141]
  (try simp only [TRef.ofBuf, TRef.toBuf, cast_eq])
  all_goals rfl
/-- What the buffer holds after this many stretches. -/
theorem jac_at11_v159 (V0 : Valuation τ sig (Elt F)) : jac_at11 V0 (no_index (Proc.devRef .tc main_while1b_v159)) = jac_v159 (F := F) := by
  unfold jac_at11
  simp only [jacOps10]
  after_results_simp_entrywise
  try simp only [jac_at10_v97, jac_at10_v98, jac_at10_v114, jac_at10_v141]
  (try simp only [TRef.ofBuf, TRef.toBuf, cast_eq])
  all_goals rfl
/-- What the buffer holds after this many stretches. -/
theorem jac_at11_cst_56 (V0 : Valuation τ sig (Elt F)) : jac_at11 V0 (no_index (Proc.devRef .tc main_while1b_cst_56)) = jac_cst_56 (F := F) := by
  unfold jac_at11
  simp only [jacOps10]
  after_results_simp_entrywise
  try simp only [jac_at10_v97, jac_at10_v98, jac_at10_v114, jac_at10_v141]
  (try simp only [TRef.ofBuf, TRef.toBuf, cast_eq])
  all_goals rfl
/-- The contents after the block's first 12 stretches. -/
def jac_at12 (V0 : Valuation τ sig (Elt F)) : Valuation τ sig (Elt F) := after jacOps11 (jac_at11 V0)
/-- This stretch leaves every other buffer alone. -/
theorem jac_at12_keep (V0 : Valuation τ sig (Elt F)) (r : Ref sig .tc) (h : r ∉ jacOps11_W) :
    jac_at12 V0 (Proc.devRef .tc r) = jac_at11 V0 (Proc.devRef .tc r) :=
  after_of_writes_sub jacOps11 _ jacOps11_writes h
/-- What the buffer holds after this many stretches. -/
theorem jac_at12_v52_0 (V0 : Valuation τ sig (Elt F)) : jac_at12 V0 (no_index (Proc.devRef .tc main_v52_0)) = V0 (Proc.devRef .tc main_v52_0) :=
  (jac_at12_keep V0 main_v52_0 (by decide)).trans (jac_at11_v52_0 V0)
/-- What the buffer holds after this many stretches. -/
theorem jac_at12_v52_2 (V0 : Valuation τ sig (Elt F)) : jac_at12 V0 (no_index (Proc.devRef .tc main_v52_2)) = V0 (Proc.devRef .tc main_v52_2) :=
  (jac_at12_keep V0 main_v52_2 (by decide)).trans (jac_at11_v52_2 V0)
/-- What the buffer holds after this many stretches. -/
theorem jac_at12_v52_3 (V0 : Valuation τ sig (Elt F)) : jac_at12 V0 (no_index (Proc.devRef .tc main_v52_3)) = V0 (Proc.devRef .tc main_v52_3) :=
  (jac_at12_keep V0 main_v52_3 (by decide)).trans (jac_at11_v52_3 V0)
/-- What the buffer holds after this many stretches. -/
theorem jac_at12_v96 (V0 : Valuation τ sig (Elt F)) : jac_at12 V0 (no_index (Proc.devRef .tc main_while1b_v96)) = jac_v96 (V0 (Proc.devRef .tc main_v52_1)) :=
  (jac_at12_keep V0 main_while1b_v96 (by decide)).trans (jac_at11_v96 V0)
/-- What the buffer holds after this many stretches. -/
theorem jac_at12_v149 (V0 : Valuation τ sig (Elt F)) : jac_at12 V0 (no_index (Proc.devRef .tc main_while1b_v149)) = jac_v149 (V0 (Proc.devRef .tc main_v52_1)) :=
  (jac_at12_keep V0 main_while1b_v149 (by decide)).trans (jac_at11_v149 V0)
/-- What the buffer holds after this many stretches. -/
theorem jac_at12_v154 (V0 : Valuation τ sig (Elt F)) : jac_at12 V0 (no_index (Proc.devRef .tc main_while1b_v154)) = jac_v154 (V0 (Proc.devRef .tc main_v52_1)) :=
  (jac_at12_keep V0 main_while1b_v154 (by decide)).trans (jac_at11_v154 V0)
/-- What the buffer holds after this many stretches. -/
theorem jac_at12_v160 (V0 : Valuation τ sig (Elt F)) : jac_at12 V0 (no_index (Proc.devRef .tc main_while1b_v160)) = jac_v160 (V0 (Proc.devRef .tc main_v52_2)) := by
  unfold jac_at12
  simp only [jacOps11]
  after_results_simp_entrywise
  try simp only [jac_at11_v52_2, jac_at11_v159, jac_at11_cst_56]
  (try simp only [TRef.ofBuf, TRef.toBuf, cast_eq])
  all_goals rfl
/-- The contents after the block's first 13 stretches. -/
def jac_at13 (V0 : Valuation τ sig (Elt F)) : Valuation τ sig (Elt F) := after jacOps12 (jac_at12 V0)
/-- This stretch leaves every other buffer alone. -/
theorem jac_at13_keep (V0 : Valuation τ sig (Elt F)) (r : Ref sig .tc) (h : r ∉ jacOps12_W) :
    jac_at13 V0 (Proc.devRef .tc r) = jac_at12 V0 (Proc.devRef .tc r) :=
  after_of_writes_sub jacOps12 _ jacOps12_writes h
/-- What the buffer holds after this many stretches. -/
theorem jac_at13_v52_0 (V0 : Valuation τ sig (Elt F)) : jac_at13 V0 (no_index (Proc.devRef .tc main_v52_0)) = V0 (Proc.devRef .tc main_v52_0) :=
  (jac_at13_keep V0 main_v52_0 (by decide)).trans (jac_at12_v52_0 V0)
/-- What the buffer holds after this many stretches. -/
theorem jac_at13_v52_2 (V0 : Valuation τ sig (Elt F)) : jac_at13 V0 (no_index (Proc.devRef .tc main_v52_2)) = V0 (Proc.devRef .tc main_v52_2) :=
  (jac_at13_keep V0 main_v52_2 (by decide)).trans (jac_at12_v52_2 V0)
/-- What the buffer holds after this many stretches. -/
theorem jac_at13_v52_3 (V0 : Valuation τ sig (Elt F)) : jac_at13 V0 (no_index (Proc.devRef .tc main_v52_3)) = V0 (Proc.devRef .tc main_v52_3) :=
  (jac_at13_keep V0 main_v52_3 (by decide)).trans (jac_at12_v52_3 V0)
/-- What the buffer holds after this many stretches. -/
theorem jac_at13_v96 (V0 : Valuation τ sig (Elt F)) : jac_at13 V0 (no_index (Proc.devRef .tc main_while1b_v96)) = jac_v96 (V0 (Proc.devRef .tc main_v52_1)) :=
  (jac_at13_keep V0 main_while1b_v96 (by decide)).trans (jac_at12_v96 V0)
/-- What the buffer holds after this many stretches. -/
theorem jac_at13_v149 (V0 : Valuation τ sig (Elt F)) : jac_at13 V0 (no_index (Proc.devRef .tc main_while1b_v149)) = jac_v149 (V0 (Proc.devRef .tc main_v52_1)) :=
  (jac_at13_keep V0 main_while1b_v149 (by decide)).trans (jac_at12_v149 V0)
/-- What the buffer holds after this many stretches. -/
theorem jac_at13_v154 (V0 : Valuation τ sig (Elt F)) : jac_at13 V0 (no_index (Proc.devRef .tc main_while1b_v154)) = jac_v154 (V0 (Proc.devRef .tc main_v52_1)) :=
  (jac_at13_keep V0 main_while1b_v154 (by decide)).trans (jac_at12_v154 V0)
/-- What the buffer holds after this many stretches. -/
theorem jac_at13_v161 (V0 : Valuation τ sig (Elt F)) : jac_at13 V0 (no_index (Proc.devRef .tc main_while1b_v161)) = jac_v161 (V0 (Proc.devRef .tc main_v52_2)) := by
  unfold jac_at13
  simp only [jacOps12]
  after_results_simp_entrywise
  try simp only [jac_at12_v160]
  (try simp only [TRef.ofBuf, TRef.toBuf, cast_eq])
  all_goals rfl
/-- What the buffer holds after this many stretches. -/
theorem jac_at13_v162 (V0 : Valuation τ sig (Elt F)) : jac_at13 V0 (no_index (Proc.devRef .tc main_while1b_v162)) = jac_v162 (V0 (Proc.devRef .tc main_v52_2)) := by
  unfold jac_at13
  simp only [jacOps12]
  after_results_simp_entrywise
  try simp only [jac_at12_v160]
  (try simp only [TRef.ofBuf, TRef.toBuf, cast_eq])
  all_goals rfl
/-- What the buffer holds after this many stretches. -/
theorem jac_at13_cst_58 (V0 : Valuation τ sig (Elt F)) : jac_at13 V0 (no_index (Proc.devRef .tc main_while1b_cst_58)) = jac_cst_58 (F := F) := by
  unfold jac_at13
  simp only [jacOps12]
  after_results_simp_entrywise
  try simp only [jac_at12_v160]
  (try simp only [TRef.ofBuf, TRef.toBuf, cast_eq])
  all_goals rfl
/-- The contents after the block's first 14 stretches. -/
def jac_at14 (V0 : Valuation τ sig (Elt F)) : Valuation τ sig (Elt F) := after jacOps13 (jac_at13 V0)
/-- This stretch leaves every other buffer alone. -/
theorem jac_at14_keep (V0 : Valuation τ sig (Elt F)) (r : Ref sig .tc) (h : r ∉ jacOps13_W) :
    jac_at14 V0 (Proc.devRef .tc r) = jac_at13 V0 (Proc.devRef .tc r) :=
  after_of_writes_sub jacOps13 _ jacOps13_writes h
/-- What the buffer holds after this many stretches. -/
theorem jac_at14_v52_0 (V0 : Valuation τ sig (Elt F)) : jac_at14 V0 (no_index (Proc.devRef .tc main_v52_0)) = V0 (Proc.devRef .tc main_v52_0) :=
  (jac_at14_keep V0 main_v52_0 (by decide)).trans (jac_at13_v52_0 V0)
/-- What the buffer holds after this many stretches. -/
theorem jac_at14_v52_2 (V0 : Valuation τ sig (Elt F)) : jac_at14 V0 (no_index (Proc.devRef .tc main_v52_2)) = V0 (Proc.devRef .tc main_v52_2) :=
  (jac_at14_keep V0 main_v52_2 (by decide)).trans (jac_at13_v52_2 V0)
/-- What the buffer holds after this many stretches. -/
theorem jac_at14_v52_3 (V0 : Valuation τ sig (Elt F)) : jac_at14 V0 (no_index (Proc.devRef .tc main_v52_3)) = V0 (Proc.devRef .tc main_v52_3) :=
  (jac_at14_keep V0 main_v52_3 (by decide)).trans (jac_at13_v52_3 V0)
/-- What the buffer holds after this many stretches. -/
theorem jac_at14_v96 (V0 : Valuation τ sig (Elt F)) : jac_at14 V0 (no_index (Proc.devRef .tc main_while1b_v96)) = jac_v96 (V0 (Proc.devRef .tc main_v52_1)) :=
  (jac_at14_keep V0 main_while1b_v96 (by decide)).trans (jac_at13_v96 V0)
/-- What the buffer holds after this many stretches. -/
theorem jac_at14_v149 (V0 : Valuation τ sig (Elt F)) : jac_at14 V0 (no_index (Proc.devRef .tc main_while1b_v149)) = jac_v149 (V0 (Proc.devRef .tc main_v52_1)) :=
  (jac_at14_keep V0 main_while1b_v149 (by decide)).trans (jac_at13_v149 V0)
/-- What the buffer holds after this many stretches. -/
theorem jac_at14_v154 (V0 : Valuation τ sig (Elt F)) : jac_at14 V0 (no_index (Proc.devRef .tc main_while1b_v154)) = jac_v154 (V0 (Proc.devRef .tc main_v52_1)) :=
  (jac_at14_keep V0 main_while1b_v154 (by decide)).trans (jac_at13_v154 V0)
/-- What the buffer holds after this many stretches. -/
theorem jac_at14_v161 (V0 : Valuation τ sig (Elt F)) : jac_at14 V0 (no_index (Proc.devRef .tc main_while1b_v161)) = jac_v161 (V0 (Proc.devRef .tc main_v52_2)) :=
  (jac_at14_keep V0 main_while1b_v161 (by decide)).trans (jac_at13_v161 V0)
/-- What the buffer holds after this many stretches. -/
theorem jac_at14_v163 (V0 : Valuation τ sig (Elt F)) : jac_at14 V0 (no_index (Proc.devRef .tc main_while1b_v163)) = jac_v163 (V0 (Proc.devRef .tc main_v52_1)) (V0 (Proc.devRef .tc main_v52_2)) := by
  unfold jac_at14
  simp only [jacOps13]
  after_results_simp_entrywise
  try simp only [jac_at13_v154, jac_at13_v162, jac_at13_cst_58]
  (try simp only [TRef.ofBuf, TRef.toBuf, cast_eq])
  all_goals rfl
/-- The contents after the block's first 15 stretches. -/
def jac_at15 (V0 : Valuation τ sig (Elt F)) : Valuation τ sig (Elt F) := after jacOps14 (jac_at14 V0)
/-- This stretch leaves every other buffer alone. -/
theorem jac_at15_keep (V0 : Valuation τ sig (Elt F)) (r : Ref sig .tc) (h : r ∉ jacOps14_W) :
    jac_at15 V0 (Proc.devRef .tc r) = jac_at14 V0 (Proc.devRef .tc r) :=
  after_of_writes_sub jacOps14 _ jacOps14_writes h
/-- What the buffer holds after this many stretches. -/
theorem jac_at15_v52_0 (V0 : Valuation τ sig (Elt F)) : jac_at15 V0 (no_index (Proc.devRef .tc main_v52_0)) = V0 (Proc.devRef .tc main_v52_0) :=
  (jac_at15_keep V0 main_v52_0 (by decide)).trans (jac_at14_v52_0 V0)
/-- What the buffer holds after this many stretches. -/
theorem jac_at15_v52_2 (V0 : Valuation τ sig (Elt F)) : jac_at15 V0 (no_index (Proc.devRef .tc main_v52_2)) = V0 (Proc.devRef .tc main_v52_2) :=
  (jac_at15_keep V0 main_v52_2 (by decide)).trans (jac_at14_v52_2 V0)
/-- What the buffer holds after this many stretches. -/
theorem jac_at15_v52_3 (V0 : Valuation τ sig (Elt F)) : jac_at15 V0 (no_index (Proc.devRef .tc main_v52_3)) = V0 (Proc.devRef .tc main_v52_3) :=
  (jac_at15_keep V0 main_v52_3 (by decide)).trans (jac_at14_v52_3 V0)
/-- What the buffer holds after this many stretches. -/
theorem jac_at15_v96 (V0 : Valuation τ sig (Elt F)) : jac_at15 V0 (no_index (Proc.devRef .tc main_while1b_v96)) = jac_v96 (V0 (Proc.devRef .tc main_v52_1)) :=
  (jac_at15_keep V0 main_while1b_v96 (by decide)).trans (jac_at14_v96 V0)
/-- What the buffer holds after this many stretches. -/
theorem jac_at15_v149 (V0 : Valuation τ sig (Elt F)) : jac_at15 V0 (no_index (Proc.devRef .tc main_while1b_v149)) = jac_v149 (V0 (Proc.devRef .tc main_v52_1)) :=
  (jac_at15_keep V0 main_while1b_v149 (by decide)).trans (jac_at14_v149 V0)
/-- What the buffer holds after this many stretches. -/
theorem jac_at15_v154 (V0 : Valuation τ sig (Elt F)) : jac_at15 V0 (no_index (Proc.devRef .tc main_while1b_v154)) = jac_v154 (V0 (Proc.devRef .tc main_v52_1)) :=
  (jac_at15_keep V0 main_while1b_v154 (by decide)).trans (jac_at14_v154 V0)
/-- What the buffer holds after this many stretches. -/
theorem jac_at15_v161 (V0 : Valuation τ sig (Elt F)) : jac_at15 V0 (no_index (Proc.devRef .tc main_while1b_v161)) = jac_v161 (V0 (Proc.devRef .tc main_v52_2)) :=
  (jac_at15_keep V0 main_while1b_v161 (by decide)).trans (jac_at14_v161 V0)
/-- What the buffer holds after this many stretches. -/
theorem jac_at15_v164 (V0 : Valuation τ sig (Elt F)) : jac_at15 V0 (no_index (Proc.devRef .tc main_while1b_v164)) = jac_v164 (V0 (Proc.devRef .tc main_v52_1)) (V0 (Proc.devRef .tc main_v52_2)) := by
  unfold jac_at15
  simp only [jacOps14]
  after_results_simp_entrywise
  try simp only [jac_at14_v163]
  (try simp only [TRef.ofBuf, TRef.toBuf, cast_eq])
  all_goals rfl
/-- What the buffer holds after this many stretches. -/
theorem jac_at15_cst_60 (V0 : Valuation τ sig (Elt F)) : jac_at15 V0 (no_index (Proc.devRef .tc main_while1b_cst_60)) = jac_cst_60 (F := F) := by
  unfold jac_at15
  simp only [jacOps14]
  after_results_simp_entrywise
  try simp only [jac_at14_v163]
  (try simp only [TRef.ofBuf, TRef.toBuf, cast_eq])
  all_goals rfl
/-- The contents after the block's first 16 stretches. -/
def jac_at16 (V0 : Valuation τ sig (Elt F)) : Valuation τ sig (Elt F) := after jacOps15 (jac_at15 V0)
/-- This stretch leaves every other buffer alone. -/
theorem jac_at16_keep (V0 : Valuation τ sig (Elt F)) (r : Ref sig .tc) (h : r ∉ jacOps15_W) :
    jac_at16 V0 (Proc.devRef .tc r) = jac_at15 V0 (Proc.devRef .tc r) :=
  after_of_writes_sub jacOps15 _ jacOps15_writes h
/-- What the buffer holds after this many stretches. -/
theorem jac_at16_v52_0 (V0 : Valuation τ sig (Elt F)) : jac_at16 V0 (no_index (Proc.devRef .tc main_v52_0)) = V0 (Proc.devRef .tc main_v52_0) :=
  (jac_at16_keep V0 main_v52_0 (by decide)).trans (jac_at15_v52_0 V0)
/-- What the buffer holds after this many stretches. -/
theorem jac_at16_v52_2 (V0 : Valuation τ sig (Elt F)) : jac_at16 V0 (no_index (Proc.devRef .tc main_v52_2)) = V0 (Proc.devRef .tc main_v52_2) :=
  (jac_at16_keep V0 main_v52_2 (by decide)).trans (jac_at15_v52_2 V0)
/-- What the buffer holds after this many stretches. -/
theorem jac_at16_v52_3 (V0 : Valuation τ sig (Elt F)) : jac_at16 V0 (no_index (Proc.devRef .tc main_v52_3)) = V0 (Proc.devRef .tc main_v52_3) :=
  (jac_at16_keep V0 main_v52_3 (by decide)).trans (jac_at15_v52_3 V0)
/-- What the buffer holds after this many stretches. -/
theorem jac_at16_v96 (V0 : Valuation τ sig (Elt F)) : jac_at16 V0 (no_index (Proc.devRef .tc main_while1b_v96)) = jac_v96 (V0 (Proc.devRef .tc main_v52_1)) :=
  (jac_at16_keep V0 main_while1b_v96 (by decide)).trans (jac_at15_v96 V0)
/-- What the buffer holds after this many stretches. -/
theorem jac_at16_v149 (V0 : Valuation τ sig (Elt F)) : jac_at16 V0 (no_index (Proc.devRef .tc main_while1b_v149)) = jac_v149 (V0 (Proc.devRef .tc main_v52_1)) :=
  (jac_at16_keep V0 main_while1b_v149 (by decide)).trans (jac_at15_v149 V0)
/-- What the buffer holds after this many stretches. -/
theorem jac_at16_v154 (V0 : Valuation τ sig (Elt F)) : jac_at16 V0 (no_index (Proc.devRef .tc main_while1b_v154)) = jac_v154 (V0 (Proc.devRef .tc main_v52_1)) :=
  (jac_at16_keep V0 main_while1b_v154 (by decide)).trans (jac_at15_v154 V0)
/-- What the buffer holds after this many stretches. -/
theorem jac_at16_v161 (V0 : Valuation τ sig (Elt F)) : jac_at16 V0 (no_index (Proc.devRef .tc main_while1b_v161)) = jac_v161 (V0 (Proc.devRef .tc main_v52_2)) :=
  (jac_at16_keep V0 main_while1b_v161 (by decide)).trans (jac_at15_v161 V0)
/-- What the buffer holds after this many stretches. -/
theorem jac_at16_v164 (V0 : Valuation τ sig (Elt F)) : jac_at16 V0 (no_index (Proc.devRef .tc main_while1b_v164)) = jac_v164 (V0 (Proc.devRef .tc main_v52_1)) (V0 (Proc.devRef .tc main_v52_2)) :=
  (jac_at16_keep V0 main_while1b_v164 (by decide)).trans (jac_at15_v164 V0)
/-- What the buffer holds after this many stretches. -/
theorem jac_at16_v165 (V0 : Valuation τ sig (Elt F)) : jac_at16 V0 (no_index (Proc.devRef .tc main_while1b_v165)) = jac_v165 (V0 (Proc.devRef .tc main_v52_1)) (V0 (Proc.devRef .tc main_v52_2)) := by
  unfold jac_at16
  simp only [jacOps15]
  after_results_simp_entrywise
  try simp only [jac_at15_v52_2, jac_at15_v154, jac_at15_cst_60]
  (try simp only [TRef.ofBuf, TRef.toBuf, cast_eq])
  all_goals rfl
/-- The contents after the block's first 17 stretches. -/
def jac_at17 (V0 : Valuation τ sig (Elt F)) : Valuation τ sig (Elt F) := after jacOps16 (jac_at16 V0)
/-- This stretch leaves every other buffer alone. -/
theorem jac_at17_keep (V0 : Valuation τ sig (Elt F)) (r : Ref sig .tc) (h : r ∉ jacOps16_W) :
    jac_at17 V0 (Proc.devRef .tc r) = jac_at16 V0 (Proc.devRef .tc r) :=
  after_of_writes_sub jacOps16 _ jacOps16_writes h
/-- What the buffer holds after this many stretches. -/
theorem jac_at17_v52_0 (V0 : Valuation τ sig (Elt F)) : jac_at17 V0 (no_index (Proc.devRef .tc main_v52_0)) = V0 (Proc.devRef .tc main_v52_0) :=
  (jac_at17_keep V0 main_v52_0 (by decide)).trans (jac_at16_v52_0 V0)
/-- What the buffer holds after this many stretches. -/
theorem jac_at17_v52_2 (V0 : Valuation τ sig (Elt F)) : jac_at17 V0 (no_index (Proc.devRef .tc main_v52_2)) = V0 (Proc.devRef .tc main_v52_2) :=
  (jac_at17_keep V0 main_v52_2 (by decide)).trans (jac_at16_v52_2 V0)
/-- What the buffer holds after this many stretches. -/
theorem jac_at17_v52_3 (V0 : Valuation τ sig (Elt F)) : jac_at17 V0 (no_index (Proc.devRef .tc main_v52_3)) = V0 (Proc.devRef .tc main_v52_3) :=
  (jac_at17_keep V0 main_v52_3 (by decide)).trans (jac_at16_v52_3 V0)
/-- What the buffer holds after this many stretches. -/
theorem jac_at17_v96 (V0 : Valuation τ sig (Elt F)) : jac_at17 V0 (no_index (Proc.devRef .tc main_while1b_v96)) = jac_v96 (V0 (Proc.devRef .tc main_v52_1)) :=
  (jac_at17_keep V0 main_while1b_v96 (by decide)).trans (jac_at16_v96 V0)
/-- What the buffer holds after this many stretches. -/
theorem jac_at17_v149 (V0 : Valuation τ sig (Elt F)) : jac_at17 V0 (no_index (Proc.devRef .tc main_while1b_v149)) = jac_v149 (V0 (Proc.devRef .tc main_v52_1)) :=
  (jac_at17_keep V0 main_while1b_v149 (by decide)).trans (jac_at16_v149 V0)
/-- What the buffer holds after this many stretches. -/
theorem jac_at17_v154 (V0 : Valuation τ sig (Elt F)) : jac_at17 V0 (no_index (Proc.devRef .tc main_while1b_v154)) = jac_v154 (V0 (Proc.devRef .tc main_v52_1)) :=
  (jac_at17_keep V0 main_while1b_v154 (by decide)).trans (jac_at16_v154 V0)
/-- What the buffer holds after this many stretches. -/
theorem jac_at17_v161 (V0 : Valuation τ sig (Elt F)) : jac_at17 V0 (no_index (Proc.devRef .tc main_while1b_v161)) = jac_v161 (V0 (Proc.devRef .tc main_v52_2)) :=
  (jac_at17_keep V0 main_while1b_v161 (by decide)).trans (jac_at16_v161 V0)
/-- What the buffer holds after this many stretches. -/
theorem jac_at17_v164 (V0 : Valuation τ sig (Elt F)) : jac_at17 V0 (no_index (Proc.devRef .tc main_while1b_v164)) = jac_v164 (V0 (Proc.devRef .tc main_v52_1)) (V0 (Proc.devRef .tc main_v52_2)) :=
  (jac_at17_keep V0 main_while1b_v164 (by decide)).trans (jac_at16_v164 V0)
/-- What the buffer holds after this many stretches. -/
theorem jac_at17_v166 (V0 : Valuation τ sig (Elt F)) : jac_at17 V0 (no_index (Proc.devRef .tc main_while1b_v166)) = jac_v166 (V0 (Proc.devRef .tc main_v52_1)) (V0 (Proc.devRef .tc main_v52_2)) := by
  unfold jac_at17
  simp only [jacOps16]
  after_results_simp_entrywise
  try simp only [jac_at16_v165]
  (try simp only [TRef.ofBuf, TRef.toBuf, cast_eq])
  all_goals rfl
/-- The contents after the block's first 18 stretches. -/
def jac_at18 (V0 : Valuation τ sig (Elt F)) : Valuation τ sig (Elt F) := after jacOps17 (jac_at17 V0)
/-- This stretch leaves every other buffer alone. -/
theorem jac_at18_keep (V0 : Valuation τ sig (Elt F)) (r : Ref sig .tc) (h : r ∉ jacOps17_W) :
    jac_at18 V0 (Proc.devRef .tc r) = jac_at17 V0 (Proc.devRef .tc r) :=
  after_of_writes_sub jacOps17 _ jacOps17_writes h
/-- What the buffer holds after this many stretches. -/
theorem jac_at18_v52_0 (V0 : Valuation τ sig (Elt F)) : jac_at18 V0 (no_index (Proc.devRef .tc main_v52_0)) = V0 (Proc.devRef .tc main_v52_0) :=
  (jac_at18_keep V0 main_v52_0 (by decide)).trans (jac_at17_v52_0 V0)
/-- What the buffer holds after this many stretches. -/
theorem jac_at18_v52_2 (V0 : Valuation τ sig (Elt F)) : jac_at18 V0 (no_index (Proc.devRef .tc main_v52_2)) = V0 (Proc.devRef .tc main_v52_2) :=
  (jac_at18_keep V0 main_v52_2 (by decide)).trans (jac_at17_v52_2 V0)
/-- What the buffer holds after this many stretches. -/
theorem jac_at18_v52_3 (V0 : Valuation τ sig (Elt F)) : jac_at18 V0 (no_index (Proc.devRef .tc main_v52_3)) = V0 (Proc.devRef .tc main_v52_3) :=
  (jac_at18_keep V0 main_v52_3 (by decide)).trans (jac_at17_v52_3 V0)
/-- What the buffer holds after this many stretches. -/
theorem jac_at18_v96 (V0 : Valuation τ sig (Elt F)) : jac_at18 V0 (no_index (Proc.devRef .tc main_while1b_v96)) = jac_v96 (V0 (Proc.devRef .tc main_v52_1)) :=
  (jac_at18_keep V0 main_while1b_v96 (by decide)).trans (jac_at17_v96 V0)
/-- What the buffer holds after this many stretches. -/
theorem jac_at18_v149 (V0 : Valuation τ sig (Elt F)) : jac_at18 V0 (no_index (Proc.devRef .tc main_while1b_v149)) = jac_v149 (V0 (Proc.devRef .tc main_v52_1)) :=
  (jac_at18_keep V0 main_while1b_v149 (by decide)).trans (jac_at17_v149 V0)
/-- What the buffer holds after this many stretches. -/
theorem jac_at18_v154 (V0 : Valuation τ sig (Elt F)) : jac_at18 V0 (no_index (Proc.devRef .tc main_while1b_v154)) = jac_v154 (V0 (Proc.devRef .tc main_v52_1)) :=
  (jac_at18_keep V0 main_while1b_v154 (by decide)).trans (jac_at17_v154 V0)
/-- What the buffer holds after this many stretches. -/
theorem jac_at18_v161 (V0 : Valuation τ sig (Elt F)) : jac_at18 V0 (no_index (Proc.devRef .tc main_while1b_v161)) = jac_v161 (V0 (Proc.devRef .tc main_v52_2)) :=
  (jac_at18_keep V0 main_while1b_v161 (by decide)).trans (jac_at17_v161 V0)
/-- What the buffer holds after this many stretches. -/
theorem jac_at18_v164 (V0 : Valuation τ sig (Elt F)) : jac_at18 V0 (no_index (Proc.devRef .tc main_while1b_v164)) = jac_v164 (V0 (Proc.devRef .tc main_v52_1)) (V0 (Proc.devRef .tc main_v52_2)) :=
  (jac_at18_keep V0 main_while1b_v164 (by decide)).trans (jac_at17_v164 V0)
/-- What the buffer holds after this many stretches. -/
theorem jac_at18_v166 (V0 : Valuation τ sig (Elt F)) : jac_at18 V0 (no_index (Proc.devRef .tc main_while1b_v166)) = jac_v166 (V0 (Proc.devRef .tc main_v52_1)) (V0 (Proc.devRef .tc main_v52_2)) :=
  (jac_at18_keep V0 main_while1b_v166 (by decide)).trans (jac_at17_v166 V0)
/-- What the buffer holds after this many stretches. -/
theorem jac_at18_v167 (V0 : Valuation τ sig (Elt F)) : jac_at18 V0 (no_index (Proc.devRef .tc main_while1b_v167)) = jac_v167 (V0 (Proc.devRef .tc main_v52_1)) (V0 (Proc.devRef .tc main_v52_2)) := by
  unfold jac_at18
  simp only [jacOps17]
  after_results_simp_entrywise
  try simp only [jac_at17_v149, jac_at17_v161, jac_at17_v164]
  (try simp only [TRef.ofBuf, TRef.toBuf, cast_eq])
  all_goals rfl
/-- The contents after the block's first 19 stretches. -/
def jac_at19 (V0 : Valuation τ sig (Elt F)) : Valuation τ sig (Elt F) := after jacOps18 (jac_at18 V0)
/-- This stretch leaves every other buffer alone. -/
theorem jac_at19_keep (V0 : Valuation τ sig (Elt F)) (r : Ref sig .tc) (h : r ∉ jacOps18_W) :
    jac_at19 V0 (Proc.devRef .tc r) = jac_at18 V0 (Proc.devRef .tc r) :=
  after_of_writes_sub jacOps18 _ jacOps18_writes h
/-- What the buffer holds after this many stretches. -/
theorem jac_at19_v52_0 (V0 : Valuation τ sig (Elt F)) : jac_at19 V0 (no_index (Proc.devRef .tc main_v52_0)) = V0 (Proc.devRef .tc main_v52_0) :=
  (jac_at19_keep V0 main_v52_0 (by decide)).trans (jac_at18_v52_0 V0)
/-- What the buffer holds after this many stretches. -/
theorem jac_at19_v52_2 (V0 : Valuation τ sig (Elt F)) : jac_at19 V0 (no_index (Proc.devRef .tc main_v52_2)) = V0 (Proc.devRef .tc main_v52_2) :=
  (jac_at19_keep V0 main_v52_2 (by decide)).trans (jac_at18_v52_2 V0)
/-- What the buffer holds after this many stretches. -/
theorem jac_at19_v52_3 (V0 : Valuation τ sig (Elt F)) : jac_at19 V0 (no_index (Proc.devRef .tc main_v52_3)) = V0 (Proc.devRef .tc main_v52_3) :=
  (jac_at19_keep V0 main_v52_3 (by decide)).trans (jac_at18_v52_3 V0)
/-- What the buffer holds after this many stretches. -/
theorem jac_at19_v96 (V0 : Valuation τ sig (Elt F)) : jac_at19 V0 (no_index (Proc.devRef .tc main_while1b_v96)) = jac_v96 (V0 (Proc.devRef .tc main_v52_1)) :=
  (jac_at19_keep V0 main_while1b_v96 (by decide)).trans (jac_at18_v96 V0)
/-- What the buffer holds after this many stretches. -/
theorem jac_at19_v149 (V0 : Valuation τ sig (Elt F)) : jac_at19 V0 (no_index (Proc.devRef .tc main_while1b_v149)) = jac_v149 (V0 (Proc.devRef .tc main_v52_1)) :=
  (jac_at19_keep V0 main_while1b_v149 (by decide)).trans (jac_at18_v149 V0)
/-- What the buffer holds after this many stretches. -/
theorem jac_at19_v154 (V0 : Valuation τ sig (Elt F)) : jac_at19 V0 (no_index (Proc.devRef .tc main_while1b_v154)) = jac_v154 (V0 (Proc.devRef .tc main_v52_1)) :=
  (jac_at19_keep V0 main_while1b_v154 (by decide)).trans (jac_at18_v154 V0)
/-- What the buffer holds after this many stretches. -/
theorem jac_at19_v166 (V0 : Valuation τ sig (Elt F)) : jac_at19 V0 (no_index (Proc.devRef .tc main_while1b_v166)) = jac_v166 (V0 (Proc.devRef .tc main_v52_1)) (V0 (Proc.devRef .tc main_v52_2)) :=
  (jac_at19_keep V0 main_while1b_v166 (by decide)).trans (jac_at18_v166 V0)
/-- What the buffer holds after this many stretches. -/
theorem jac_at19_v167 (V0 : Valuation τ sig (Elt F)) : jac_at19 V0 (no_index (Proc.devRef .tc main_while1b_v167)) = jac_v167 (V0 (Proc.devRef .tc main_v52_1)) (V0 (Proc.devRef .tc main_v52_2)) :=
  (jac_at19_keep V0 main_while1b_v167 (by decide)).trans (jac_at18_v167 V0)
/-- What the buffer holds after this many stretches. -/
theorem jac_at19_v168 (V0 : Valuation τ sig (Elt F)) : jac_at19 V0 (no_index (Proc.devRef .tc main_while1b_v168)) = jac_v168 (V0 (Proc.devRef .tc main_v52_1)) (V0 (Proc.devRef .tc main_v52_2)) := by
  unfold jac_at19
  simp only [jacOps18]
  after_results_simp_entrywise
  try simp only [jac_at18_v149, jac_at18_v161, jac_at18_v164]
  (try simp only [TRef.ofBuf, TRef.toBuf, cast_eq])
  all_goals rfl
/-- The contents after the block's first 20 stretches. -/
def jac_at20 (V0 : Valuation τ sig (Elt F)) : Valuation τ sig (Elt F) := after jacOps19 (jac_at19 V0)
/-- This stretch leaves every other buffer alone. -/
theorem jac_at20_keep (V0 : Valuation τ sig (Elt F)) (r : Ref sig .tc) (h : r ∉ jacOps19_W) :
    jac_at20 V0 (Proc.devRef .tc r) = jac_at19 V0 (Proc.devRef .tc r) :=
  after_of_writes_sub jacOps19 _ jacOps19_writes h
/-- What the buffer holds after this many stretches. -/
theorem jac_at20_v52_0 (V0 : Valuation τ sig (Elt F)) : jac_at20 V0 (no_index (Proc.devRef .tc main_v52_0)) = V0 (Proc.devRef .tc main_v52_0) :=
  (jac_at20_keep V0 main_v52_0 (by decide)).trans (jac_at19_v52_0 V0)
/-- What the buffer holds after this many stretches. -/
theorem jac_at20_v52_2 (V0 : Valuation τ sig (Elt F)) : jac_at20 V0 (no_index (Proc.devRef .tc main_v52_2)) = V0 (Proc.devRef .tc main_v52_2) :=
  (jac_at20_keep V0 main_v52_2 (by decide)).trans (jac_at19_v52_2 V0)
/-- What the buffer holds after this many stretches. -/
theorem jac_at20_v52_3 (V0 : Valuation τ sig (Elt F)) : jac_at20 V0 (no_index (Proc.devRef .tc main_v52_3)) = V0 (Proc.devRef .tc main_v52_3) :=
  (jac_at20_keep V0 main_v52_3 (by decide)).trans (jac_at19_v52_3 V0)
/-- What the buffer holds after this many stretches. -/
theorem jac_at20_v96 (V0 : Valuation τ sig (Elt F)) : jac_at20 V0 (no_index (Proc.devRef .tc main_while1b_v96)) = jac_v96 (V0 (Proc.devRef .tc main_v52_1)) :=
  (jac_at20_keep V0 main_while1b_v96 (by decide)).trans (jac_at19_v96 V0)
/-- What the buffer holds after this many stretches. -/
theorem jac_at20_v149 (V0 : Valuation τ sig (Elt F)) : jac_at20 V0 (no_index (Proc.devRef .tc main_while1b_v149)) = jac_v149 (V0 (Proc.devRef .tc main_v52_1)) :=
  (jac_at20_keep V0 main_while1b_v149 (by decide)).trans (jac_at19_v149 V0)
/-- What the buffer holds after this many stretches. -/
theorem jac_at20_v154 (V0 : Valuation τ sig (Elt F)) : jac_at20 V0 (no_index (Proc.devRef .tc main_while1b_v154)) = jac_v154 (V0 (Proc.devRef .tc main_v52_1)) :=
  (jac_at20_keep V0 main_while1b_v154 (by decide)).trans (jac_at19_v154 V0)
/-- What the buffer holds after this many stretches. -/
theorem jac_at20_v166 (V0 : Valuation τ sig (Elt F)) : jac_at20 V0 (no_index (Proc.devRef .tc main_while1b_v166)) = jac_v166 (V0 (Proc.devRef .tc main_v52_1)) (V0 (Proc.devRef .tc main_v52_2)) :=
  (jac_at20_keep V0 main_while1b_v166 (by decide)).trans (jac_at19_v166 V0)
/-- What the buffer holds after this many stretches. -/
theorem jac_at20_v172 (V0 : Valuation τ sig (Elt F)) : jac_at20 V0 (no_index (Proc.devRef .tc main_while1b_v172)) = jac_v172 (V0 (Proc.devRef .tc main_v52_1)) (V0 (Proc.devRef .tc main_v52_2)) := by
  unfold jac_at20
  simp only [jacOps19]
  after_results_simp_entrywise
  try simp only [jac_at19_v166, jac_at19_v167, jac_at19_v168]
  (try simp only [TRef.ofBuf, TRef.toBuf, cast_eq])
  all_goals rfl
/-- What the buffer holds after this many stretches. -/
theorem jac_at20_v174 (V0 : Valuation τ sig (Elt F)) : jac_at20 V0 (no_index (Proc.devRef .tc main_while1b_v174)) = jac_v174 (V0 (Proc.devRef .tc main_v52_1)) (V0 (Proc.devRef .tc main_v52_2)) := by
  unfold jac_at20
  simp only [jacOps19]
  after_results_simp_entrywise
  try simp only [jac_at19_v166, jac_at19_v167, jac_at19_v168]
  (try simp only [TRef.ofBuf, TRef.toBuf, cast_eq])
  all_goals rfl
/-- What the buffer holds after this many stretches. -/
theorem jac_at20_cst_64 (V0 : Valuation τ sig (Elt F)) : jac_at20 V0 (no_index (Proc.devRef .tc main_while1b_cst_64)) = jac_cst_64 (F := F) := by
  unfold jac_at20
  simp only [jacOps19]
  after_results_simp_entrywise
  try simp only [jac_at19_v166, jac_at19_v167, jac_at19_v168]
  (try simp only [TRef.ofBuf, TRef.toBuf, cast_eq])
  all_goals rfl
/-- What the buffer holds after this many stretches. -/
theorem jac_at20_cst_65 (V0 : Valuation τ sig (Elt F)) : jac_at20 V0 (no_index (Proc.devRef .tc main_while1b_cst_65)) = jac_cst_65 (F := F) := by
  unfold jac_at20
  simp only [jacOps19]
  after_results_simp_entrywise
  try simp only [jac_at19_v166, jac_at19_v167, jac_at19_v168]
  (try simp only [TRef.ofBuf, TRef.toBuf, cast_eq])
  all_goals rfl
/-- The contents after the block's first 21 stretches. -/
def jac_at21 (V0 : Valuation τ sig (Elt F)) : Valuation τ sig (Elt F) := after jacOps20 (jac_at20 V0)
/-- This stretch leaves every other buffer alone. -/
theorem jac_at21_keep (V0 : Valuation τ sig (Elt F)) (r : Ref sig .tc) (h : r ∉ jacOps20_W) :
    jac_at21 V0 (Proc.devRef .tc r) = jac_at20 V0 (Proc.devRef .tc r) :=
  after_of_writes_sub jacOps20 _ jacOps20_writes h
/-- What the buffer holds after this many stretches. -/
theorem jac_at21_v52_0 (V0 : Valuation τ sig (Elt F)) : jac_at21 V0 (no_index (Proc.devRef .tc main_v52_0)) = V0 (Proc.devRef .tc main_v52_0) :=
  (jac_at21_keep V0 main_v52_0 (by decide)).trans (jac_at20_v52_0 V0)
/-- What the buffer holds after this many stretches. -/
theorem jac_at21_v52_2 (V0 : Valuation τ sig (Elt F)) : jac_at21 V0 (no_index (Proc.devRef .tc main_v52_2)) = V0 (Proc.devRef .tc main_v52_2) :=
  (jac_at21_keep V0 main_v52_2 (by decide)).trans (jac_at20_v52_2 V0)
/-- What the buffer holds after this many stretches. -/
theorem jac_at21_v52_3 (V0 : Valuation τ sig (Elt F)) : jac_at21 V0 (no_index (Proc.devRef .tc main_v52_3)) = V0 (Proc.devRef .tc main_v52_3) :=
  (jac_at21_keep V0 main_v52_3 (by decide)).trans (jac_at20_v52_3 V0)
/-- What the buffer holds after this many stretches. -/
theorem jac_at21_v96 (V0 : Valuation τ sig (Elt F)) : jac_at21 V0 (no_index (Proc.devRef .tc main_while1b_v96)) = jac_v96 (V0 (Proc.devRef .tc main_v52_1)) :=
  (jac_at21_keep V0 main_while1b_v96 (by decide)).trans (jac_at20_v96 V0)
/-- What the buffer holds after this many stretches. -/
theorem jac_at21_v149 (V0 : Valuation τ sig (Elt F)) : jac_at21 V0 (no_index (Proc.devRef .tc main_while1b_v149)) = jac_v149 (V0 (Proc.devRef .tc main_v52_1)) :=
  (jac_at21_keep V0 main_while1b_v149 (by decide)).trans (jac_at20_v149 V0)
/-- What the buffer holds after this many stretches. -/
theorem jac_at21_v154 (V0 : Valuation τ sig (Elt F)) : jac_at21 V0 (no_index (Proc.devRef .tc main_while1b_v154)) = jac_v154 (V0 (Proc.devRef .tc main_v52_1)) :=
  (jac_at21_keep V0 main_while1b_v154 (by decide)).trans (jac_at20_v154 V0)
/-- What the buffer holds after this many stretches. -/
theorem jac_at21_v166 (V0 : Valuation τ sig (Elt F)) : jac_at21 V0 (no_index (Proc.devRef .tc main_while1b_v166)) = jac_v166 (V0 (Proc.devRef .tc main_v52_1)) (V0 (Proc.devRef .tc main_v52_2)) :=
  (jac_at21_keep V0 main_while1b_v166 (by decide)).trans (jac_at20_v166 V0)
/-- What the buffer holds after this many stretches. -/
theorem jac_at21_v172 (V0 : Valuation τ sig (Elt F)) : jac_at21 V0 (no_index (Proc.devRef .tc main_while1b_v172)) = jac_v172 (V0 (Proc.devRef .tc main_v52_1)) (V0 (Proc.devRef .tc main_v52_2)) :=
  (jac_at21_keep V0 main_while1b_v172 (by decide)).trans (jac_at20_v172 V0)
/-- What the buffer holds after this many stretches. -/
theorem jac_at21_v175 (V0 : Valuation τ sig (Elt F)) : jac_at21 V0 (no_index (Proc.devRef .tc main_while1b_v175)) = jac_v175 (V0 (Proc.devRef .tc main_v52_1)) (V0 (Proc.devRef .tc main_v52_2)) := by
  unfold jac_at21
  simp only [jacOps20]
  after_results_simp_entrywise
  try simp only [jac_at20_v174, jac_at20_cst_64, jac_at20_cst_65]
  (try simp only [TRef.ofBuf, TRef.toBuf, cast_eq])
  all_goals rfl
/-- The contents after the block's first 22 stretches. -/
def jac_at22 (V0 : Valuation τ sig (Elt F)) : Valuation τ sig (Elt F) := after jacOps21 (jac_at21 V0)
/-- This stretch leaves every other buffer alone. -/
theorem jac_at22_keep (V0 : Valuation τ sig (Elt F)) (r : Ref sig .tc) (h : r ∉ jacOps21_W) :
    jac_at22 V0 (Proc.devRef .tc r) = jac_at21 V0 (Proc.devRef .tc r) :=
  after_of_writes_sub jacOps21 _ jacOps21_writes h
/-- What the buffer holds after this many stretches. -/
theorem jac_at22_v52_0 (V0 : Valuation τ sig (Elt F)) : jac_at22 V0 (no_index (Proc.devRef .tc main_v52_0)) = V0 (Proc.devRef .tc main_v52_0) :=
  (jac_at22_keep V0 main_v52_0 (by decide)).trans (jac_at21_v52_0 V0)
/-- What the buffer holds after this many stretches. -/
theorem jac_at22_v52_2 (V0 : Valuation τ sig (Elt F)) : jac_at22 V0 (no_index (Proc.devRef .tc main_v52_2)) = V0 (Proc.devRef .tc main_v52_2) :=
  (jac_at22_keep V0 main_v52_2 (by decide)).trans (jac_at21_v52_2 V0)
/-- What the buffer holds after this many stretches. -/
theorem jac_at22_v52_3 (V0 : Valuation τ sig (Elt F)) : jac_at22 V0 (no_index (Proc.devRef .tc main_v52_3)) = V0 (Proc.devRef .tc main_v52_3) :=
  (jac_at22_keep V0 main_v52_3 (by decide)).trans (jac_at21_v52_3 V0)
/-- What the buffer holds after this many stretches. -/
theorem jac_at22_v96 (V0 : Valuation τ sig (Elt F)) : jac_at22 V0 (no_index (Proc.devRef .tc main_while1b_v96)) = jac_v96 (V0 (Proc.devRef .tc main_v52_1)) :=
  (jac_at22_keep V0 main_while1b_v96 (by decide)).trans (jac_at21_v96 V0)
/-- What the buffer holds after this many stretches. -/
theorem jac_at22_v149 (V0 : Valuation τ sig (Elt F)) : jac_at22 V0 (no_index (Proc.devRef .tc main_while1b_v149)) = jac_v149 (V0 (Proc.devRef .tc main_v52_1)) :=
  (jac_at22_keep V0 main_while1b_v149 (by decide)).trans (jac_at21_v149 V0)
/-- What the buffer holds after this many stretches. -/
theorem jac_at22_v154 (V0 : Valuation τ sig (Elt F)) : jac_at22 V0 (no_index (Proc.devRef .tc main_while1b_v154)) = jac_v154 (V0 (Proc.devRef .tc main_v52_1)) :=
  (jac_at22_keep V0 main_while1b_v154 (by decide)).trans (jac_at21_v154 V0)
/-- What the buffer holds after this many stretches. -/
theorem jac_at22_v183 (V0 : Valuation τ sig (Elt F)) : jac_at22 V0 (no_index (Proc.devRef .tc main_while1b_v183)) = jac_v183 (V0 (Proc.devRef .tc main_v52_1)) (V0 (Proc.devRef .tc main_v52_2)) := by
  unfold jac_at22
  simp only [jacOps21]
  after_results_simp_entrywise
  try simp only [jac_at21_v166, jac_at21_v172, jac_at21_v175]
  (try simp only [TRef.ofBuf, TRef.toBuf, cast_eq])
  all_goals rfl
/-- What the buffer holds after this many stretches. -/
theorem jac_at22_v186 (V0 : Valuation τ sig (Elt F)) : jac_at22 V0 (no_index (Proc.devRef .tc main_while1b_v186)) = jac_v186 (V0 (Proc.devRef .tc main_v52_1)) (V0 (Proc.devRef .tc main_v52_2)) := by
  unfold jac_at22
  simp only [jacOps21]
  after_results_simp_entrywise
  try simp only [jac_at21_v166, jac_at21_v172, jac_at21_v175]
  (try simp only [TRef.ofBuf, TRef.toBuf, cast_eq])
  all_goals rfl
/-- What the buffer holds after this many stretches. -/
theorem jac_at22_cst_68 (V0 : Valuation τ sig (Elt F)) : jac_at22 V0 (no_index (Proc.devRef .tc main_while1b_cst_68)) = jac_cst_68 (F := F) := by
  unfold jac_at22
  simp only [jacOps21]
  after_results_simp_entrywise
  try simp only [jac_at21_v166, jac_at21_v172, jac_at21_v175]
  (try simp only [TRef.ofBuf, TRef.toBuf, cast_eq])
  all_goals rfl
/-- The contents after the block's first 23 stretches. -/
def jac_at23 (V0 : Valuation τ sig (Elt F)) : Valuation τ sig (Elt F) := after jacOps22 (jac_at22 V0)
/-- This stretch leaves every other buffer alone. -/
theorem jac_at23_keep (V0 : Valuation τ sig (Elt F)) (r : Ref sig .tc) (h : r ∉ jacOps22_W) :
    jac_at23 V0 (Proc.devRef .tc r) = jac_at22 V0 (Proc.devRef .tc r) :=
  after_of_writes_sub jacOps22 _ jacOps22_writes h
/-- What the buffer holds after this many stretches. -/
theorem jac_at23_v52_0 (V0 : Valuation τ sig (Elt F)) : jac_at23 V0 (no_index (Proc.devRef .tc main_v52_0)) = V0 (Proc.devRef .tc main_v52_0) :=
  (jac_at23_keep V0 main_v52_0 (by decide)).trans (jac_at22_v52_0 V0)
/-- What the buffer holds after this many stretches. -/
theorem jac_at23_v52_2 (V0 : Valuation τ sig (Elt F)) : jac_at23 V0 (no_index (Proc.devRef .tc main_v52_2)) = V0 (Proc.devRef .tc main_v52_2) :=
  (jac_at23_keep V0 main_v52_2 (by decide)).trans (jac_at22_v52_2 V0)
/-- What the buffer holds after this many stretches. -/
theorem jac_at23_v52_3 (V0 : Valuation τ sig (Elt F)) : jac_at23 V0 (no_index (Proc.devRef .tc main_v52_3)) = V0 (Proc.devRef .tc main_v52_3) :=
  (jac_at23_keep V0 main_v52_3 (by decide)).trans (jac_at22_v52_3 V0)
/-- What the buffer holds after this many stretches. -/
theorem jac_at23_v96 (V0 : Valuation τ sig (Elt F)) : jac_at23 V0 (no_index (Proc.devRef .tc main_while1b_v96)) = jac_v96 (V0 (Proc.devRef .tc main_v52_1)) :=
  (jac_at23_keep V0 main_while1b_v96 (by decide)).trans (jac_at22_v96 V0)
/-- What the buffer holds after this many stretches. -/
theorem jac_at23_v149 (V0 : Valuation τ sig (Elt F)) : jac_at23 V0 (no_index (Proc.devRef .tc main_while1b_v149)) = jac_v149 (V0 (Proc.devRef .tc main_v52_1)) :=
  (jac_at23_keep V0 main_while1b_v149 (by decide)).trans (jac_at22_v149 V0)
/-- What the buffer holds after this many stretches. -/
theorem jac_at23_v154 (V0 : Valuation τ sig (Elt F)) : jac_at23 V0 (no_index (Proc.devRef .tc main_while1b_v154)) = jac_v154 (V0 (Proc.devRef .tc main_v52_1)) :=
  (jac_at23_keep V0 main_while1b_v154 (by decide)).trans (jac_at22_v154 V0)
/-- What the buffer holds after this many stretches. -/
theorem jac_at23_v187 (V0 : Valuation τ sig (Elt F)) : jac_at23 V0 (no_index (Proc.devRef .tc main_while1b_v187)) = jac_v187 (V0 (Proc.devRef .tc main_v52_1)) (V0 (Proc.devRef .tc main_v52_2)) := by
  unfold jac_at23
  simp only [jacOps22]
  after_results_simp_entrywise
  try simp only [jac_at22_v183, jac_at22_v186, jac_at22_cst_68]
  (try simp only [TRef.ofBuf, TRef.toBuf, cast_eq])
  all_goals rfl
/-- The contents after the block's first 24 stretches. -/
def jac_at24 (V0 : Valuation τ sig (Elt F)) : Valuation τ sig (Elt F) := after jacOps23 (jac_at23 V0)
/-- This stretch leaves every other buffer alone. -/
theorem jac_at24_keep (V0 : Valuation τ sig (Elt F)) (r : Ref sig .tc) (h : r ∉ jacOps23_W) :
    jac_at24 V0 (Proc.devRef .tc r) = jac_at23 V0 (Proc.devRef .tc r) :=
  after_of_writes_sub jacOps23 _ jacOps23_writes h
/-- What the buffer holds after this many stretches. -/
theorem jac_at24_v52_0 (V0 : Valuation τ sig (Elt F)) : jac_at24 V0 (no_index (Proc.devRef .tc main_v52_0)) = V0 (Proc.devRef .tc main_v52_0) :=
  (jac_at24_keep V0 main_v52_0 (by decide)).trans (jac_at23_v52_0 V0)
/-- What the buffer holds after this many stretches. -/
theorem jac_at24_v52_2 (V0 : Valuation τ sig (Elt F)) : jac_at24 V0 (no_index (Proc.devRef .tc main_v52_2)) = V0 (Proc.devRef .tc main_v52_2) :=
  (jac_at24_keep V0 main_v52_2 (by decide)).trans (jac_at23_v52_2 V0)
/-- What the buffer holds after this many stretches. -/
theorem jac_at24_v52_3 (V0 : Valuation τ sig (Elt F)) : jac_at24 V0 (no_index (Proc.devRef .tc main_v52_3)) = V0 (Proc.devRef .tc main_v52_3) :=
  (jac_at24_keep V0 main_v52_3 (by decide)).trans (jac_at23_v52_3 V0)
/-- What the buffer holds after this many stretches. -/
theorem jac_at24_v96 (V0 : Valuation τ sig (Elt F)) : jac_at24 V0 (no_index (Proc.devRef .tc main_while1b_v96)) = jac_v96 (V0 (Proc.devRef .tc main_v52_1)) :=
  (jac_at24_keep V0 main_while1b_v96 (by decide)).trans (jac_at23_v96 V0)
/-- What the buffer holds after this many stretches. -/
theorem jac_at24_v149 (V0 : Valuation τ sig (Elt F)) : jac_at24 V0 (no_index (Proc.devRef .tc main_while1b_v149)) = jac_v149 (V0 (Proc.devRef .tc main_v52_1)) :=
  (jac_at24_keep V0 main_while1b_v149 (by decide)).trans (jac_at23_v149 V0)
/-- What the buffer holds after this many stretches. -/
theorem jac_at24_v154 (V0 : Valuation τ sig (Elt F)) : jac_at24 V0 (no_index (Proc.devRef .tc main_while1b_v154)) = jac_v154 (V0 (Proc.devRef .tc main_v52_1)) :=
  (jac_at24_keep V0 main_while1b_v154 (by decide)).trans (jac_at23_v154 V0)
/-- What the buffer holds after this many stretches. -/
theorem jac_at24_v194 (V0 : Valuation τ sig (Elt F)) : jac_at24 V0 (no_index (Proc.devRef .tc main_while1b_v194)) = jac_v194 (V0 (Proc.devRef .tc main_v52_1)) (V0 (Proc.devRef .tc main_v52_2)) := by
  unfold jac_at24
  simp only [jacOps23]
  after_results_simp_entrywise
  try simp only [jac_at23_v187]
  (try simp only [TRef.ofBuf, TRef.toBuf, cast_eq])
  all_goals rfl
/-- What the buffer holds after this many stretches. -/
theorem jac_at24_v199 (V0 : Valuation τ sig (Elt F)) : jac_at24 V0 (no_index (Proc.devRef .tc main_while1b_v199)) = jac_v199 (F := F) := by
  unfold jac_at24
  simp only [jacOps23]
  after_results_simp_entrywise
  try simp only [jac_at23_v187]
  (try simp only [TRef.ofBuf, TRef.toBuf, cast_eq])
  all_goals rfl
/-- What the buffer holds after this many stretches. -/
theorem jac_at24_v200 (V0 : Valuation τ sig (Elt F)) : jac_at24 V0 (no_index (Proc.devRef .tc main_while1b_v200)) = jac_v200 (V0 (Proc.devRef .tc main_v52_1)) (V0 (Proc.devRef .tc main_v52_2)) := by
  unfold jac_at24
  simp only [jacOps23]
  after_results_simp_entrywise
  try simp only [jac_at23_v187]
  (try simp only [TRef.ofBuf, TRef.toBuf, cast_eq])
  all_goals rfl
/-- What the buffer holds after this many stretches. -/
theorem jac_at24_v201 (V0 : Valuation τ sig (Elt F)) : jac_at24 V0 (no_index (Proc.devRef .tc main_while1b_v201)) = jac_v201 (V0 (Proc.devRef .tc main_v52_1)) (V0 (Proc.devRef .tc main_v52_2)) := by
  unfold jac_at24
  simp only [jacOps23]
  after_results_simp_entrywise
  try simp only [jac_at23_v187]
  (try simp only [TRef.ofBuf, TRef.toBuf, cast_eq])
  all_goals rfl
/-- The contents after the block's first 25 stretches. -/
def jac_at25 (V0 : Valuation τ sig (Elt F)) : Valuation τ sig (Elt F) := after jacOps24 (jac_at24 V0)
/-- This stretch leaves every other buffer alone. -/
theorem jac_at25_keep (V0 : Valuation τ sig (Elt F)) (r : Ref sig .tc) (h : r ∉ jacOps24_W) :
    jac_at25 V0 (Proc.devRef .tc r) = jac_at24 V0 (Proc.devRef .tc r) :=
  after_of_writes_sub jacOps24 _ jacOps24_writes h
/-- What the buffer holds after this many stretches. -/
theorem jac_at25_v52_0 (V0 : Valuation τ sig (Elt F)) : jac_at25 V0 (no_index (Proc.devRef .tc main_v52_0)) = V0 (Proc.devRef .tc main_v52_0) :=
  (jac_at25_keep V0 main_v52_0 (by decide)).trans (jac_at24_v52_0 V0)
/-- What the buffer holds after this many stretches. -/
theorem jac_at25_v52_2 (V0 : Valuation τ sig (Elt F)) : jac_at25 V0 (no_index (Proc.devRef .tc main_v52_2)) = V0 (Proc.devRef .tc main_v52_2) :=
  (jac_at25_keep V0 main_v52_2 (by decide)).trans (jac_at24_v52_2 V0)
/-- What the buffer holds after this many stretches. -/
theorem jac_at25_v52_3 (V0 : Valuation τ sig (Elt F)) : jac_at25 V0 (no_index (Proc.devRef .tc main_v52_3)) = V0 (Proc.devRef .tc main_v52_3) :=
  (jac_at25_keep V0 main_v52_3 (by decide)).trans (jac_at24_v52_3 V0)
/-- What the buffer holds after this many stretches. -/
theorem jac_at25_v96 (V0 : Valuation τ sig (Elt F)) : jac_at25 V0 (no_index (Proc.devRef .tc main_while1b_v96)) = jac_v96 (V0 (Proc.devRef .tc main_v52_1)) :=
  (jac_at25_keep V0 main_while1b_v96 (by decide)).trans (jac_at24_v96 V0)
/-- What the buffer holds after this many stretches. -/
theorem jac_at25_v154 (V0 : Valuation τ sig (Elt F)) : jac_at25 V0 (no_index (Proc.devRef .tc main_while1b_v154)) = jac_v154 (V0 (Proc.devRef .tc main_v52_1)) :=
  (jac_at25_keep V0 main_while1b_v154 (by decide)).trans (jac_at24_v154 V0)
/-- What the buffer holds after this many stretches. -/
theorem jac_at25_v199 (V0 : Valuation τ sig (Elt F)) : jac_at25 V0 (no_index (Proc.devRef .tc main_while1b_v199)) = jac_v199 (F := F) :=
  (jac_at25_keep V0 main_while1b_v199 (by decide)).trans (jac_at24_v199 V0)
/-- What the buffer holds after this many stretches. -/
theorem jac_at25_v200 (V0 : Valuation τ sig (Elt F)) : jac_at25 V0 (no_index (Proc.devRef .tc main_while1b_v200)) = jac_v200 (V0 (Proc.devRef .tc main_v52_1)) (V0 (Proc.devRef .tc main_v52_2)) :=
  (jac_at25_keep V0 main_while1b_v200 (by decide)).trans (jac_at24_v200 V0)
/-- What the buffer holds after this many stretches. -/
theorem jac_at25_v202 (V0 : Valuation τ sig (Elt F)) : jac_at25 V0 (no_index (Proc.devRef .tc main_while1b_v202)) = jac_v202 (V0 (Proc.devRef .tc main_v52_1)) (V0 (Proc.devRef .tc main_v52_2)) := by
  unfold jac_at25
  simp only [jacOps24]
  after_results_simp_entrywise
  try simp only [jac_at24_v149, jac_at24_v194, jac_at24_v201]
  (try simp only [TRef.ofBuf, TRef.toBuf, cast_eq])
  all_goals rfl
/-- The contents after the block's first 26 stretches. -/
def jac_at26 (V0 : Valuation τ sig (Elt F)) : Valuation τ sig (Elt F) := after jacOps25 (jac_at25 V0)
/-- This stretch leaves every other buffer alone. -/
theorem jac_at26_keep (V0 : Valuation τ sig (Elt F)) (r : Ref sig .tc) (h : r ∉ jacOps25_W) :
    jac_at26 V0 (Proc.devRef .tc r) = jac_at25 V0 (Proc.devRef .tc r) :=
  after_of_writes_sub jacOps25 _ jacOps25_writes h
/-- What the buffer holds after this many stretches. -/
theorem jac_at26_v52_0 (V0 : Valuation τ sig (Elt F)) : jac_at26 V0 (no_index (Proc.devRef .tc main_v52_0)) = V0 (Proc.devRef .tc main_v52_0) :=
  (jac_at26_keep V0 main_v52_0 (by decide)).trans (jac_at25_v52_0 V0)
/-- What the buffer holds after this many stretches. -/
theorem jac_at26_v52_2 (V0 : Valuation τ sig (Elt F)) : jac_at26 V0 (no_index (Proc.devRef .tc main_v52_2)) = V0 (Proc.devRef .tc main_v52_2) :=
  (jac_at26_keep V0 main_v52_2 (by decide)).trans (jac_at25_v52_2 V0)
/-- What the buffer holds after this many stretches. -/
theorem jac_at26_v52_3 (V0 : Valuation τ sig (Elt F)) : jac_at26 V0 (no_index (Proc.devRef .tc main_v52_3)) = V0 (Proc.devRef .tc main_v52_3) :=
  (jac_at26_keep V0 main_v52_3 (by decide)).trans (jac_at25_v52_3 V0)
/-- What the buffer holds after this many stretches. -/
theorem jac_at26_v96 (V0 : Valuation τ sig (Elt F)) : jac_at26 V0 (no_index (Proc.devRef .tc main_while1b_v96)) = jac_v96 (V0 (Proc.devRef .tc main_v52_1)) :=
  (jac_at26_keep V0 main_while1b_v96 (by decide)).trans (jac_at25_v96 V0)
/-- What the buffer holds after this many stretches. -/
theorem jac_at26_v154 (V0 : Valuation τ sig (Elt F)) : jac_at26 V0 (no_index (Proc.devRef .tc main_while1b_v154)) = jac_v154 (V0 (Proc.devRef .tc main_v52_1)) :=
  (jac_at26_keep V0 main_while1b_v154 (by decide)).trans (jac_at25_v154 V0)
/-- What the buffer holds after this many stretches. -/
theorem jac_at26_v199 (V0 : Valuation τ sig (Elt F)) : jac_at26 V0 (no_index (Proc.devRef .tc main_while1b_v199)) = jac_v199 (F := F) :=
  (jac_at26_keep V0 main_while1b_v199 (by decide)).trans (jac_at25_v199 V0)
/-- What the buffer holds after this many stretches. -/
theorem jac_at26_v200 (V0 : Valuation τ sig (Elt F)) : jac_at26 V0 (no_index (Proc.devRef .tc main_while1b_v200)) = jac_v200 (V0 (Proc.devRef .tc main_v52_1)) (V0 (Proc.devRef .tc main_v52_2)) :=
  (jac_at26_keep V0 main_while1b_v200 (by decide)).trans (jac_at25_v200 V0)
/-- What the buffer holds after this many stretches. -/
theorem jac_at26_v203 (V0 : Valuation τ sig (Elt F)) : jac_at26 V0 (no_index (Proc.devRef .tc main_while1b_v203)) = jac_v203 (V0 (Proc.devRef .tc main_v52_1)) (V0 (Proc.devRef .tc main_v52_2)) := by
  unfold jac_at26
  simp only [jacOps25]
  after_results_simp_entrywise
  try simp only [jac_at25_v202]
  (try simp only [TRef.ofBuf, TRef.toBuf, cast_eq])
  all_goals rfl
/-- What the buffer holds after this many stretches. -/
theorem jac_at26_cst_72 (V0 : Valuation τ sig (Elt F)) : jac_at26 V0 (no_index (Proc.devRef .tc main_while1b_cst_72)) = jac_cst_72 (F := F) := by
  unfold jac_at26
  simp only [jacOps25]
  after_results_simp_entrywise
  try simp only [jac_at25_v202]
  (try simp only [TRef.ofBuf, TRef.toBuf, cast_eq])
  all_goals rfl
/-- The contents after the block's first 27 stretches. -/
def jac_at27 (V0 : Valuation τ sig (Elt F)) : Valuation τ sig (Elt F) := after jacOps26 (jac_at26 V0)
/-- This stretch leaves every other buffer alone. -/
theorem jac_at27_keep (V0 : Valuation τ sig (Elt F)) (r : Ref sig .tc) (h : r ∉ jacOps26_W) :
    jac_at27 V0 (Proc.devRef .tc r) = jac_at26 V0 (Proc.devRef .tc r) :=
  after_of_writes_sub jacOps26 _ jacOps26_writes h
/-- What the buffer holds after this many stretches. -/
theorem jac_at27_v52_0 (V0 : Valuation τ sig (Elt F)) : jac_at27 V0 (no_index (Proc.devRef .tc main_v52_0)) = V0 (Proc.devRef .tc main_v52_0) :=
  (jac_at27_keep V0 main_v52_0 (by decide)).trans (jac_at26_v52_0 V0)
/-- What the buffer holds after this many stretches. -/
theorem jac_at27_v52_2 (V0 : Valuation τ sig (Elt F)) : jac_at27 V0 (no_index (Proc.devRef .tc main_v52_2)) = V0 (Proc.devRef .tc main_v52_2) :=
  (jac_at27_keep V0 main_v52_2 (by decide)).trans (jac_at26_v52_2 V0)
/-- What the buffer holds after this many stretches. -/
theorem jac_at27_v52_3 (V0 : Valuation τ sig (Elt F)) : jac_at27 V0 (no_index (Proc.devRef .tc main_v52_3)) = V0 (Proc.devRef .tc main_v52_3) :=
  (jac_at27_keep V0 main_v52_3 (by decide)).trans (jac_at26_v52_3 V0)
/-- What the buffer holds after this many stretches. -/
theorem jac_at27_v96 (V0 : Valuation τ sig (Elt F)) : jac_at27 V0 (no_index (Proc.devRef .tc main_while1b_v96)) = jac_v96 (V0 (Proc.devRef .tc main_v52_1)) :=
  (jac_at27_keep V0 main_while1b_v96 (by decide)).trans (jac_at26_v96 V0)
/-- What the buffer holds after this many stretches. -/
theorem jac_at27_v199 (V0 : Valuation τ sig (Elt F)) : jac_at27 V0 (no_index (Proc.devRef .tc main_while1b_v199)) = jac_v199 (F := F) :=
  (jac_at27_keep V0 main_while1b_v199 (by decide)).trans (jac_at26_v199 V0)
/-- What the buffer holds after this many stretches. -/
theorem jac_at27_v200 (V0 : Valuation τ sig (Elt F)) : jac_at27 V0 (no_index (Proc.devRef .tc main_while1b_v200)) = jac_v200 (V0 (Proc.devRef .tc main_v52_1)) (V0 (Proc.devRef .tc main_v52_2)) :=
  (jac_at27_keep V0 main_while1b_v200 (by decide)).trans (jac_at26_v200 V0)
/-- What the buffer holds after this many stretches. -/
theorem jac_at27_v204 (V0 : Valuation τ sig (Elt F)) : jac_at27 V0 (no_index (Proc.devRef .tc main_while1b_v204)) = jac_v204 (V0 (Proc.devRef .tc main_v52_1)) (V0 (Proc.devRef .tc main_v52_2)) := by
  unfold jac_at27
  simp only [jacOps26]
  after_results_simp_entrywise
  try simp only [jac_at26_v154, jac_at26_v203, jac_at26_cst_72]
  (try simp only [TRef.ofBuf, TRef.toBuf, cast_eq])
  all_goals rfl
/-- The contents after the block's first 28 stretches. -/
def jac_at28 (V0 : Valuation τ sig (Elt F)) : Valuation τ sig (Elt F) := after jacOps27 (jac_at27 V0)
/-- This stretch leaves every other buffer alone. -/
theorem jac_at28_keep (V0 : Valuation τ sig (Elt F)) (r : Ref sig .tc) (h : r ∉ jacOps27_W) :
    jac_at28 V0 (Proc.devRef .tc r) = jac_at27 V0 (Proc.devRef .tc r) :=
  after_of_writes_sub jacOps27 _ jacOps27_writes h
/-- What the buffer holds after this many stretches. -/
theorem jac_at28_v52_0 (V0 : Valuation τ sig (Elt F)) : jac_at28 V0 (no_index (Proc.devRef .tc main_v52_0)) = V0 (Proc.devRef .tc main_v52_0) :=
  (jac_at28_keep V0 main_v52_0 (by decide)).trans (jac_at27_v52_0 V0)
/-- What the buffer holds after this many stretches. -/
theorem jac_at28_v52_2 (V0 : Valuation τ sig (Elt F)) : jac_at28 V0 (no_index (Proc.devRef .tc main_v52_2)) = V0 (Proc.devRef .tc main_v52_2) :=
  (jac_at28_keep V0 main_v52_2 (by decide)).trans (jac_at27_v52_2 V0)
/-- What the buffer holds after this many stretches. -/
theorem jac_at28_v52_3 (V0 : Valuation τ sig (Elt F)) : jac_at28 V0 (no_index (Proc.devRef .tc main_v52_3)) = V0 (Proc.devRef .tc main_v52_3) :=
  (jac_at28_keep V0 main_v52_3 (by decide)).trans (jac_at27_v52_3 V0)
/-- What the buffer holds after this many stretches. -/
theorem jac_at28_v96 (V0 : Valuation τ sig (Elt F)) : jac_at28 V0 (no_index (Proc.devRef .tc main_while1b_v96)) = jac_v96 (V0 (Proc.devRef .tc main_v52_1)) :=
  (jac_at28_keep V0 main_while1b_v96 (by decide)).trans (jac_at27_v96 V0)
/-- What the buffer holds after this many stretches. -/
theorem jac_at28_v205 (V0 : Valuation τ sig (Elt F)) : jac_at28 V0 (no_index (Proc.devRef .tc main_while1b_v205)) = jac_v205 (V0 (Proc.devRef .tc main_v52_1)) (V0 (Proc.devRef .tc main_v52_2)) := by
  unfold jac_at28
  simp only [jacOps27]
  after_results_simp_entrywise
  try simp only [jac_at27_v199, jac_at27_v200, jac_at27_v204]
  (try simp only [TRef.ofBuf, TRef.toBuf, cast_eq])
  all_goals rfl
/-- The contents after the block's first 29 stretches. -/
def jac_at29 (V0 : Valuation τ sig (Elt F)) : Valuation τ sig (Elt F) := after jacOps28 (jac_at28 V0)
/-- This stretch leaves every other buffer alone. -/
theorem jac_at29_keep (V0 : Valuation τ sig (Elt F)) (r : Ref sig .tc) (h : r ∉ jacOps28_W) :
    jac_at29 V0 (Proc.devRef .tc r) = jac_at28 V0 (Proc.devRef .tc r) :=
  after_of_writes_sub jacOps28 _ jacOps28_writes h
/-- What the buffer holds after this many stretches. -/
theorem jac_at29_v52_0 (V0 : Valuation τ sig (Elt F)) : jac_at29 V0 (no_index (Proc.devRef .tc main_v52_0)) = jac_v52_0_out (V0 (Proc.devRef .tc main_v52_0)) := by
  unfold jac_at29
  simp only [jacOps28]
  after_results_simp_entrywise
  try simp only [jac_at28_v52_0, jac_at28_v52_2, jac_at28_v52_3, jac_at28_v96, jac_at28_v205]
  (try simp only [TRef.ofBuf, TRef.toBuf, cast_eq])
  all_goals rfl
/-- What the buffer holds after this many stretches. -/
theorem jac_at29_v52_1 (V0 : Valuation τ sig (Elt F)) : jac_at29 V0 (no_index (Proc.devRef .tc main_v52_1)) = jac_v52_1_out (V0 (Proc.devRef .tc main_v52_1)) := by
  unfold jac_at29
  simp only [jacOps28]
  after_results_simp_entrywise
  try simp only [jac_at28_v52_0, jac_at28_v52_2, jac_at28_v52_3, jac_at28_v96, jac_at28_v205]
  (try simp only [TRef.ofBuf, TRef.toBuf, cast_eq])
  all_goals rfl
/-- What the buffer holds after this many stretches. -/
theorem jac_at29_v52_2 (V0 : Valuation τ sig (Elt F)) : jac_at29 V0 (no_index (Proc.devRef .tc main_v52_2)) = jac_v52_2_out (V0 (Proc.devRef .tc main_v52_1)) (V0 (Proc.devRef .tc main_v52_2)) := by
  unfold jac_at29
  simp only [jacOps28]
  after_results_simp_entrywise
  try simp only [jac_at28_v52_0, jac_at28_v52_2, jac_at28_v52_3, jac_at28_v96, jac_at28_v205]
  (try simp only [TRef.ofBuf, TRef.toBuf, cast_eq])
  all_goals rfl
/-- What the buffer holds after this many stretches. -/
theorem jac_at29_v52_3 (V0 : Valuation τ sig (Elt F)) : jac_at29 V0 (no_index (Proc.devRef .tc main_v52_3)) = jac_v52_3_out (V0 (Proc.devRef .tc main_v52_1)) (V0 (Proc.devRef .tc main_v52_2)) (V0 (Proc.devRef .tc main_v52_3)) := by
  unfold jac_at29
  simp only [jacOps28]
  after_results_simp_entrywise
  try simp only [jac_at28_v52_0, jac_at28_v52_2, jac_at28_v52_3, jac_at28_v96, jac_at28_v205]
  (try simp only [TRef.ofBuf, TRef.toBuf, cast_eq])
  all_goals rfl
/-- The block's contents are those after its last stretch. -/
theorem jac_all (V0 : Valuation τ sig (Elt F)) : afterL body1I V0 = jac_at29 V0 := rfl

end Cert.ReferenceIdeal.Hand

end
-- ==== Proof.TwoLoops.lean ====
/- The run of a host program that is stretches of operations round two counted loops, one after the other. -/
module

public import Idealize.ShloMosaic.Lib.Pipeline.Regions
public import Idealize.ShloMosaic.Lib.StableHlo.RunLoop
public import Idealize.ShloMosaic.Lib.StableHlo.RunRead

@[expose] public section

noncomputable section

namespace Cert.TwoLoops

open Idealize Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

section

variable {nD : Nat} {τ : Topo} {sig : RefSig} {F : FTy → Type} {Λ₀ : SL.Sem.Labels}

local notation "𝕄" => MT nD τ sig Unit (Elt F) ℕ (Option PUnit) ℕ

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

/-- No pipeline admits anything. -/
abbrev adm0 : (p : Fin 0) → (pcs p).Adm := fun p => p.elim0
/-- No pipeline hands out a ticket. -/
abbrev tk0 : Fin 0 → Ticket (Ix := Unit) (Name := ℕ) (U := Option PUnit) (Lvl := ℕ) (nD := nD) (τ := τ) pcs (adm0 pcs) := fun j => j.elim0
/-- No semaphore has an index. -/
abbrev ix0 : GSem nD τ sig → Finset Unit := fun _ => ∅
/-- Every level is zero. -/
abbrev lv0 : GSem nD τ sig → Unit → ℕ := fun _ _ => 0
/-- What rides along beside the buffers: the core's debts. -/
abbrev debts (c : Dev nD) : sProp 𝕄 := iprop(∃ W, owes (c : Thread nD τ) (0 : CellTallies nD τ sig Unit) W)

/-- With no pipeline the map of the staging cells is injective. -/
theorem cell_inj : Function.Injective (Pipeline.cellOf (nD := nD) (τ := τ) (Pipeline.pin pcs (adm0 pcs))) :=
  fun k => k.1.elim0

variable {pcs defs₀ loops}

/-- A condition's specification with the core's debts carried through it. -/
theorem cond_with_debts {cond : Prog (TpuEff nD τ sig (Elt F) (HostLoop.Sig (Pipeline.Sig Λ₀ (Fin 0) fun p => (pcs p).Adm) nL) .tc) (Elt F .i1)}
    {condOps : List (HloOp τ sig (Elt F))} {bodyI : List (List (HloOp τ sig (Elt F)))} {W₀ : Dev nD → Valuation τ sig (Elt F)} {n : ℕ}
    (h : CondSpec pcs defs₀ loops cond condOps bodyI W₀ n) :
    LoopCond pcs defs₀ Variants.none loops (fun c => debts c) cond condOps bodyI W₀ n := by
  intro k hk c bd
  have hafter : ∀ v : Elt F .i1,
      iprop(iprop(⌜v = 1#1 ↔ k < n⌝ ∗ boundary (c : Thread nD τ) ∗ held (c : Thread nD τ) (ucRefs τ sig) (after condOps (atTrip condOps bodyI W₀ k c))) ∗ debts c)
        ⊢ iprop(⌜v = 1#1 ↔ k < n⌝ ∗ boundary (c : Thread nD τ) ∗ held (c : Thread nD τ) (ucRefs τ sig) (after condOps (atTrip condOps bodyI W₀ k c)) ∗ debts c) := by
    intro v
    iintro ⟨⟨%hv, Hb, Hh⟩, HR⟩
    isplitr
    · ipureintro; exact hv
    isplitl [Hb]
    · iexact Hb
    isplitl [Hh] <;> iassumption
  refine BIBase.Entails.trans ?_ (((sep_mono_left (h k hk c bd)).trans (wp_frame_r _ _ _)).trans (wp_mono _ _ _ hafter))
  iintro ⟨Hb, Hh, HR⟩
  isplitl [Hb Hh]
  · isplitl [Hb] <;> iassumption
  · iexact HR

end

variable {nD : Nat} {τ : Topo} {sig : RefSig} {F : FTy → Type} {Λ₀ : SL.Sem.Labels}

/-- The contents after the stretches before the first loop, that loop, and the stretches between the loops. -/
abbrev midContents (condA : List (HloOp τ sig (Elt F))) (preI bodyA midI : List (List (HloOp τ sig (Elt F)))) (nA : ℕ)
    (m : (ℓ : Loc nD τ sig) → Buf (Elt F) ℓ) (c : Dev nD) : Valuation τ sig (Elt F) :=
  afterL midI (after condA (atTrip condA bodyA (entryContents preI m) nA c))

/-- The contents at the end: the second loop from there, and the stretches after it. -/
abbrev endContents (condA condB : List (HloOp τ sig (Elt F))) (preI bodyA midI bodyB postI : List (List (HloOp τ sig (Elt F)))) (nA nB : ℕ)
    (m : (ℓ : Loc nD τ sig) → Buf (Elt F) ℓ) (c : Dev nD) : Valuation τ sig (Elt F) :=
  afterL postI (after condB (atTrip condB bodyB (midContents condA preI bodyA midI nA m) nB c))

/-- From any memory with zero counters, a program of stretches round two counted loops ends with every buffer at `endContents`. -/
theorem run_two_loops [∀ e, Nonempty (Elt F e)]
    (pcs : Fin 0 → PCfg sig Λ₀ (Elt F)) (defs₀ : Defs nD τ sig (Elt F) Λ₀) {nL : Nat}
    (loops : Fin nL → Prog (TpuEff nD τ sig (Elt F) (HostLoop.Sig (Pipeline.Sig Λ₀ (Fin 0) fun p => (pcs p).Adm) nL) .tc) PUnit)
    (main : Dev nD → Prog (TpuEff nD τ sig (Elt F) (HostLoop.Sig (Pipeline.Sig Λ₀ (Fin 0) fun p => (pcs p).Adm) nL) .tc) PUnit)
    (lA lB : Fin nL)
    (cA cB : Prog (TpuEff nD τ sig (Elt F) (HostLoop.Sig (Pipeline.Sig Λ₀ (Fin 0) fun p => (pcs p).Adm) nL) .tc) (Elt F .i1))
    (bA bB : Prog (TpuEff nD τ sig (Elt F) (HostLoop.Sig (Pipeline.Sig Λ₀ (Fin 0) fun p => (pcs p).Adm) nL) .tc) PUnit)
    (hA : loops lA = HostLoop.step lA cA bA) (hB : loops lB = HostLoop.step lB cB bB)
    (preI bodyA midI bodyB postI : List (List (HloOp τ sig (Elt F)))) (condA condB : List (HloOp τ sig (Elt F)))
    (hpre : Plain preI) (hbodyA : Plain bodyA) (hmid : Plain midI) (hbodyB : Plain bodyB) (hpost : Plain postI)
    (hmain : ∀ c, main c = Pipeline.chain ((preI.map fun ops => (seq ops : Prog _ PUnit)) ++ HostLoop.enter lA ::
      ((midI.map fun ops => (seq ops : Prog _ PUnit)) ++ HostLoop.enter lB :: postI.map fun ops => (seq ops : Prog _ PUnit))))
    (hbA : bA = Pipeline.chain (bodyA.map fun ops => (seq ops : Prog _ PUnit)))
    (hbB : bB = Pipeline.chain (bodyB.map fun ops => (seq ops : Prog _ PUnit)))
    (nA nB : ℕ) (m : (ℓ : Loc nD τ sig) → Buf (Elt F) ℓ) (ρ : Dev nD → PrngReg)
    (hcA : CondSpec pcs defs₀ loops cA condA bodyA (entryContents preI m) nA)
    (hcB : CondSpec pcs defs₀ loops cB condB bodyB (midContents condA preI bodyA midI nA m) nB) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = endContents condA condB preI bodyA midI bodyB postI nA nB m c (Proc.devRef .tc b)) := by
  let sA := loopSeg (Lvl := ℕ) pcs (adm0 pcs) defs₀ Variants.none ix0 lv0 loops (tk0 pcs) lA cA bA hA condA bodyA hbodyA hbA nA
    (entryContents preI m) (fun c => debts c) (cond_with_debts hcA)
  let sB := loopSeg (Lvl := ℕ) pcs (adm0 pcs) defs₀ Variants.none ix0 lv0 loops (tk0 pcs) lB cB bB hB condB bodyB hbodyB hbB nB
    (midContents condA preI bodyA midI nA m) (fun c => debts c) (cond_with_debts hcB)
  let segs : List (CSeg pcs (adm0 pcs) defs₀ Variants.none ix0 lv0 loops (tk0 pcs)) :=
    segsOf _ _ _ _ _ _ _ _ (fun c => debts c) preI hpre (launchContents m) ++ sA ::
      (segsOf _ _ _ _ _ _ _ _ (fun c => debts c) midI hmid (fun c => after condA (atTrip condA bodyA (entryContents preI m) nA c)) ++ sB ::
        segsOf _ _ _ _ _ _ _ _ (fun c => debts c) postI hpost
          (fun c => after condB (atTrip condB bodyB (midContents condA preI bodyA midI nA m) nB c)))
  have hprog : segs.map CSeg.prog = (preI.map fun ops => (seq ops : Prog _ PUnit)) ++ HostLoop.enter lA ::
      ((midI.map fun ops => (seq ops : Prog _ PUnit)) ++ HostLoop.enter lB :: postI.map fun ops => (seq ops : Prog _ PUnit)) := by
    simp only [segs, List.map_append, List.map_cons, segsOf_prog]
    rfl
  have hchains : CSeg.Chains (fun c => iprop(held (c : Thread nD τ) (ucRefs τ sig) (launchContents m c) ∗ debts c)) segs
      (fun c => iprop(iprop(held (c : Thread nD τ) (ucRefs τ sig) (endContents condA condB preI bodyA midI bodyB postI nA nB m c)) ∗
        ∃ W, owes (c : Thread nD τ) (0 : CellTallies nD τ sig Unit) W)) :=
    CSeg.Chains.append (segsOf_chains _ _ _ _ _ _ _ _ (fun c => debts c) preI hpre _)
      ⟨fun _ => .rfl, CSeg.Chains.append (segsOf_chains _ _ _ _ _ _ _ _ (fun c => debts c) midI hmid _)
        ⟨fun _ => .rfl, segsOf_chains _ _ _ _ _ _ _ _ (fun c => debts c) postI hpost _⟩⟩
  exact Pipeline.θ_run_regions_loop_kit (Ix := Unit) (Name := ℕ) (U := Option PUnit) (Lvl := ℕ) (J := Fin 0) (P := Fin 0) (Val := Elt F)
    pcs (adm0 pcs) (cell_inj pcs) defs₀ Variants.none ix0 lv0 loops (tk0 pcs) m ρ main segs
    (fun c Q => by
      rw [hmain c]
      show wp _ _ _ (Pipeline.chain (segs.map CSeg.prog)) Q ⊢ _
      rw [hprog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ debts c))
    (Tₙ := fun c => iprop(held (c : Thread nD τ) (ucRefs τ sig) (endContents condA condB preI bodyA midI bodyB postI nA nB m c)))
    (hch := hchains)
    (hinit := by
      refine Pipeline.initEach ix0 lv0 fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = endContents condA condB preI bodyA midI bodyB postI nA nB m c b)
    (hfin := fun c s' => by
      unfold held
      iintro ⟨Hh, HSI⟩
      ihave Hr := (pointsTo_read_all (ucRefs τ sig) (fun b => ((c : Dev nD), b)) (fun b => endContents condA condB preI bodyA midI bodyB postI nA nB m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.TwoLoops

end
-- ==== Proof.RefRun.lean ====
/- The run of the reference: where each buffer ends, and the result as its two loops' steps iterated. -/
module

public import proofs.«01_k».proof.Proof.RefOps
public import proofs.«01_k».proof.Proof.RefVals
public import proofs.«01_k».proof.Proof.RefJac
public import proofs.«01_k».proof.Proof.TwoLoops

@[expose] public section

set_option maxRecDepth 100000

noncomputable section

namespace Cert.ReferenceIdeal.Hand

open Idealize.ShloMosaic Idealize.ShloMosaic.TcCoe Idealize.ShloMosaic.StableHlo Cert.ReferenceIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs sub_ucRefs)
open Cert.TwoLoops (midContents endContents run_two_loops)

variable {F : FTy → Type} [FloatOps F]

/-- The arguments' buffers. -/
abbrev argRefs : List (Ref sig .tc) := [main_arg0, main_arg1, main_arg2, main_arg3, main_arg4]

/-- The stretch writes no argument. -/
theorem pre_args_ops0_0 : ∀ r ∈ argRefs, r ∉ ops0_0_W := by decide +kernel
/-- The stretch writes no argument. -/
theorem pre_args_ops0_1 : ∀ r ∈ argRefs, r ∉ ops0_1_W := by decide +kernel
/-- The stretch writes no argument. -/
theorem pre_args_ops0_2 : ∀ r ∈ argRefs, r ∉ ops0_2_W := by decide +kernel
/-- The stretch writes no argument. -/
theorem pre_args_ops0_3 : ∀ r ∈ argRefs, r ∉ ops0_3_W := by decide +kernel
/-- The stretch writes no argument. -/
theorem pre_args_ops0_4 : ∀ r ∈ argRefs, r ∉ ops0_4_W := by decide +kernel
/-- The stretch writes no argument. -/
theorem pre_args_ops0_5 : ∀ r ∈ argRefs, r ∉ ops0_5_W := by decide +kernel
/-- The stretch writes no argument. -/
theorem pre_args_ops0_6 : ∀ r ∈ argRefs, r ∉ ops0_6_W := by decide +kernel
/-- The block leaves every argument as it was. -/
theorem pre_args (V0 : Valuation τ sig (Elt F)) (r : Ref sig .tc) (h : r ∈ argRefs) :
    afterL preI V0 (Proc.devRef .tc r) = V0 (Proc.devRef .tc r) := by
  rw [pre_all]
  rw [pre_at7_keep _ _ (pre_args_ops0_6 r h)]
  rw [pre_at6_keep _ _ (pre_args_ops0_5 r h)]
  rw [pre_at5_keep _ _ (pre_args_ops0_4 r h)]
  rw [pre_at4_keep _ _ (pre_args_ops0_3 r h)]
  rw [pre_at3_keep _ _ (pre_args_ops0_2 r h)]
  rw [pre_at2_keep _ _ (pre_args_ops0_1 r h)]
  rw [pre_at1_keep _ _ (pre_args_ops0_0 r h)]
  rfl
/-- The stretch writes no argument. -/
theorem fw_args_fwOps0 : ∀ r ∈ argRefs, r ∉ fwOps0_W := by decide +kernel
/-- The block leaves every argument as it was. -/
theorem fw_args (V0 : Valuation τ sig (Elt F)) (r : Ref sig .tc) (h : r ∈ argRefs) :
    afterL body0I V0 (Proc.devRef .tc r) = V0 (Proc.devRef .tc r) := by
  rw [fw_all]
  rw [fw_at1_keep _ _ (fw_args_fwOps0 r h)]
  rfl
/-- The stretch writes no argument. -/
theorem mid_args_ops0_7 : ∀ r ∈ argRefs, r ∉ ops0_7_W := by decide +kernel
/-- The stretch writes no argument. -/
theorem mid_args_ops0_8 : ∀ r ∈ argRefs, r ∉ ops0_8_W := by decide +kernel
/-- The stretch writes no argument. -/
theorem mid_args_ops0_9 : ∀ r ∈ argRefs, r ∉ ops0_9_W := by decide +kernel
/-- The stretch writes no argument. -/
theorem mid_args_ops0_10 : ∀ r ∈ argRefs, r ∉ ops0_10_W := by decide +kernel
/-- The stretch writes no argument. -/
theorem mid_args_ops0_11 : ∀ r ∈ argRefs, r ∉ ops0_11_W := by decide +kernel
/-- The stretch writes no argument. -/
theorem mid_args_ops1_0 : ∀ r ∈ argRefs, r ∉ ops1_0_W := by decide +kernel
/-- The block leaves every argument as it was. -/
theorem mid_args (V0 : Valuation τ sig (Elt F)) (r : Ref sig .tc) (h : r ∈ argRefs) :
    afterL midI V0 (Proc.devRef .tc r) = V0 (Proc.devRef .tc r) := by
  rw [mid_all]
  rw [mid_at6_keep _ _ (mid_args_ops1_0 r h)]
  rw [mid_at5_keep _ _ (mid_args_ops0_11 r h)]
  rw [mid_at4_keep _ _ (mid_args_ops0_10 r h)]
  rw [mid_at3_keep _ _ (mid_args_ops0_9 r h)]
  rw [mid_at2_keep _ _ (mid_args_ops0_8 r h)]
  rw [mid_at1_keep _ _ (mid_args_ops0_7 r h)]
  rfl
/-- The stretch writes no argument. -/
theorem jac_args_jacOps0 : ∀ r ∈ argRefs, r ∉ jacOps0_W := by decide +kernel
/-- The stretch writes no argument. -/
theorem jac_args_jacOps1 : ∀ r ∈ argRefs, r ∉ jacOps1_W := by decide +kernel
/-- The stretch writes no argument. -/
theorem jac_args_jacOps2 : ∀ r ∈ argRefs, r ∉ jacOps2_W := by decide +kernel
/-- The stretch writes no argument. -/
theorem jac_args_jacOps3 : ∀ r ∈ argRefs, r ∉ jacOps3_W := by decide +kernel
/-- The stretch writes no argument. -/
theorem jac_args_jacOps4 : ∀ r ∈ argRefs, r ∉ jacOps4_W := by decide +kernel
/-- The stretch writes no argument. -/
theorem jac_args_jacOps5 : ∀ r ∈ argRefs, r ∉ jacOps5_W := by decide +kernel
/-- The stretch writes no argument. -/
theorem jac_args_jacOps6 : ∀ r ∈ argRefs, r ∉ jacOps6_W := by decide +kernel
/-- The stretch writes no argument. -/
theorem jac_args_jacOps7 : ∀ r ∈ argRefs, r ∉ jacOps7_W := by decide +kernel
/-- The stretch writes no argument. -/
theorem jac_args_jacOps8 : ∀ r ∈ argRefs, r ∉ jacOps8_W := by decide +kernel
/-- The stretch writes no argument. -/
theorem jac_args_jacOps9 : ∀ r ∈ argRefs, r ∉ jacOps9_W := by decide +kernel
/-- The stretch writes no argument. -/
theorem jac_args_jacOps10 : ∀ r ∈ argRefs, r ∉ jacOps10_W := by decide +kernel
/-- The stretch writes no argument. -/
theorem jac_args_jacOps11 : ∀ r ∈ argRefs, r ∉ jacOps11_W := by decide +kernel
/-- The stretch writes no argument. -/
theorem jac_args_jacOps12 : ∀ r ∈ argRefs, r ∉ jacOps12_W := by decide +kernel
/-- The stretch writes no argument. -/
theorem jac_args_jacOps13 : ∀ r ∈ argRefs, r ∉ jacOps13_W := by decide +kernel
/-- The stretch writes no argument. -/
theorem jac_args_jacOps14 : ∀ r ∈ argRefs, r ∉ jacOps14_W := by decide +kernel
/-- The stretch writes no argument. -/
theorem jac_args_jacOps15 : ∀ r ∈ argRefs, r ∉ jacOps15_W := by decide +kernel
/-- The stretch writes no argument. -/
theorem jac_args_jacOps16 : ∀ r ∈ argRefs, r ∉ jacOps16_W := by decide +kernel
/-- The stretch writes no argument. -/
theorem jac_args_jacOps17 : ∀ r ∈ argRefs, r ∉ jacOps17_W := by decide +kernel
/-- The stretch writes no argument. -/
theorem jac_args_jacOps18 : ∀ r ∈ argRefs, r ∉ jacOps18_W := by decide +kernel
/-- The stretch writes no argument. -/
theorem jac_args_jacOps19 : ∀ r ∈ argRefs, r ∉ jacOps19_W := by decide +kernel
/-- The stretch writes no argument. -/
theorem jac_args_jacOps20 : ∀ r ∈ argRefs, r ∉ jacOps20_W := by decide +kernel
/-- The stretch writes no argument. -/
theorem jac_args_jacOps21 : ∀ r ∈ argRefs, r ∉ jacOps21_W := by decide +kernel
/-- The stretch writes no argument. -/
theorem jac_args_jacOps22 : ∀ r ∈ argRefs, r ∉ jacOps22_W := by decide +kernel
/-- The stretch writes no argument. -/
theorem jac_args_jacOps23 : ∀ r ∈ argRefs, r ∉ jacOps23_W := by decide +kernel
/-- The stretch writes no argument. -/
theorem jac_args_jacOps24 : ∀ r ∈ argRefs, r ∉ jacOps24_W := by decide +kernel
/-- The stretch writes no argument. -/
theorem jac_args_jacOps25 : ∀ r ∈ argRefs, r ∉ jacOps25_W := by decide +kernel
/-- The stretch writes no argument. -/
theorem jac_args_jacOps26 : ∀ r ∈ argRefs, r ∉ jacOps26_W := by decide +kernel
/-- The stretch writes no argument. -/
theorem jac_args_jacOps27 : ∀ r ∈ argRefs, r ∉ jacOps27_W := by decide +kernel
/-- The stretch writes no argument. -/
theorem jac_args_jacOps28 : ∀ r ∈ argRefs, r ∉ jacOps28_W := by decide +kernel
/-- The block leaves every argument as it was. -/
theorem jac_args (V0 : Valuation τ sig (Elt F)) (r : Ref sig .tc) (h : r ∈ argRefs) :
    afterL body1I V0 (Proc.devRef .tc r) = V0 (Proc.devRef .tc r) := by
  rw [jac_all]
  rw [jac_at29_keep _ _ (jac_args_jacOps28 r h)]
  rw [jac_at28_keep _ _ (jac_args_jacOps27 r h)]
  rw [jac_at27_keep _ _ (jac_args_jacOps26 r h)]
  rw [jac_at26_keep _ _ (jac_args_jacOps25 r h)]
  rw [jac_at25_keep _ _ (jac_args_jacOps24 r h)]
  rw [jac_at24_keep _ _ (jac_args_jacOps23 r h)]
  rw [jac_at23_keep _ _ (jac_args_jacOps22 r h)]
  rw [jac_at22_keep _ _ (jac_args_jacOps21 r h)]
  rw [jac_at21_keep _ _ (jac_args_jacOps20 r h)]
  rw [jac_at20_keep _ _ (jac_args_jacOps19 r h)]
  rw [jac_at19_keep _ _ (jac_args_jacOps18 r h)]
  rw [jac_at18_keep _ _ (jac_args_jacOps17 r h)]
  rw [jac_at17_keep _ _ (jac_args_jacOps16 r h)]
  rw [jac_at16_keep _ _ (jac_args_jacOps15 r h)]
  rw [jac_at15_keep _ _ (jac_args_jacOps14 r h)]
  rw [jac_at14_keep _ _ (jac_args_jacOps13 r h)]
  rw [jac_at13_keep _ _ (jac_args_jacOps12 r h)]
  rw [jac_at12_keep _ _ (jac_args_jacOps11 r h)]
  rw [jac_at11_keep _ _ (jac_args_jacOps10 r h)]
  rw [jac_at10_keep _ _ (jac_args_jacOps9 r h)]
  rw [jac_at9_keep _ _ (jac_args_jacOps8 r h)]
  rw [jac_at8_keep _ _ (jac_args_jacOps7 r h)]
  rw [jac_at7_keep _ _ (jac_args_jacOps6 r h)]
  rw [jac_at6_keep _ _ (jac_args_jacOps5 r h)]
  rw [jac_at5_keep _ _ (jac_args_jacOps4 r h)]
  rw [jac_at4_keep _ _ (jac_args_jacOps3 r h)]
  rw [jac_at3_keep _ _ (jac_args_jacOps2 r h)]
  rw [jac_at2_keep _ _ (jac_args_jacOps1 r h)]
  rw [jac_at1_keep _ _ (jac_args_jacOps0 r h)]
  rfl
/-- The stretch writes no argument. -/
theorem post_args_ops1_1 : ∀ r ∈ argRefs, r ∉ ops1_1_W := by decide +kernel
/-- The stretch writes no argument. -/
theorem post_args_ops1_2 : ∀ r ∈ argRefs, r ∉ ops1_2_W := by decide +kernel
/-- The stretch writes no argument. -/
theorem post_args_ops1_3 : ∀ r ∈ argRefs, r ∉ ops1_3_W := by decide +kernel
/-- The stretch writes no argument. -/
theorem post_args_ops1_4 : ∀ r ∈ argRefs, r ∉ ops1_4_W := by decide +kernel
/-- The stretch writes no argument. -/
theorem post_args_ops1_5 : ∀ r ∈ argRefs, r ∉ ops1_5_W := by decide +kernel
/-- The stretch writes no argument. -/
theorem post_args_ops1_6 : ∀ r ∈ argRefs, r ∉ ops1_6_W := by decide +kernel
/-- The stretch writes no argument. -/
theorem post_args_ops1_7 : ∀ r ∈ argRefs, r ∉ ops1_7_W := by decide +kernel
/-- The stretch writes no argument. -/
theorem post_args_ops1_8 : ∀ r ∈ argRefs, r ∉ ops1_8_W := by decide +kernel
/-- The stretch writes no argument. -/
theorem post_args_ops1_9 : ∀ r ∈ argRefs, r ∉ ops1_9_W := by decide +kernel
/-- The stretch writes no argument. -/
theorem post_args_ops1_10 : ∀ r ∈ argRefs, r ∉ ops1_10_W := by decide +kernel
/-- The stretch writes no argument. -/
theorem post_args_ops1_11 : ∀ r ∈ argRefs, r ∉ ops1_11_W := by decide +kernel
/-- The stretch writes no argument. -/
theorem post_args_ops2_0 : ∀ r ∈ argRefs, r ∉ ops2_0_W := by decide +kernel
/-- The block leaves every argument as it was. -/
theorem post_args (V0 : Valuation τ sig (Elt F)) (r : Ref sig .tc) (h : r ∈ argRefs) :
    afterL postI V0 (Proc.devRef .tc r) = V0 (Proc.devRef .tc r) := by
  rw [post_all]
  rw [post_at12_keep _ _ (post_args_ops2_0 r h)]
  rw [post_at11_keep _ _ (post_args_ops1_11 r h)]
  rw [post_at10_keep _ _ (post_args_ops1_10 r h)]
  rw [post_at9_keep _ _ (post_args_ops1_9 r h)]
  rw [post_at8_keep _ _ (post_args_ops1_8 r h)]
  rw [post_at7_keep _ _ (post_args_ops1_7 r h)]
  rw [post_at6_keep _ _ (post_args_ops1_6 r h)]
  rw [post_at5_keep _ _ (post_args_ops1_5 r h)]
  rw [post_at4_keep _ _ (post_args_ops1_4 r h)]
  rw [post_at3_keep _ _ (post_args_ops1_3 r h)]
  rw [post_at2_keep _ _ (post_args_ops1_2 r h)]
  rw [post_at1_keep _ _ (post_args_ops1_1 r h)]
  rfl

/-- The operations of a loop's condition. -/
abbrev condOps0 : List (HloOp τ sig (Elt F)) :=
  [nullary main_while0c_c_32 (constantI S_ 32 100#32), binary main_v25_0 main_while0c_c_32 main_while0c_v96 (cmpi .slt : (⟨S_, .i32⟩ : BufTy).Contents (Elt F) → (⟨S_, .i32⟩ : BufTy).Contents (Elt F) → (⟨S_, .i1⟩ : BufTy).Contents (Elt F))]
/-- What the stretch writes. -/
abbrev condOps0_W : List (Ref sig .tc) := [main_while0c_c_32, main_while0c_v96]
/-- The stretch writes the buffers listed and no others. -/
theorem condOps0_writes : (condOps0 : List (HloOp τ sig (Elt F))).Forall fun op => op.writes ⊆ (condOps0_W.map (Proc.devRef (τ := τ) .tc)).toFinset :=
  forall_writes_sub_of_map rfl
/-- A condition changes no buffer but its own two. -/
theorem cond0_keep (V : Valuation τ sig (Elt F)) (r : Ref sig .tc) (h : r ∉ condOps0_W) : after condOps0 V (Proc.devRef .tc r) = V (Proc.devRef .tc r) :=
  after_of_writes_sub condOps0 V condOps0_writes h
/-- The stretch writes no argument. -/
theorem cond0_args_ne : ∀ r ∈ argRefs, r ∉ condOps0_W := by decide +kernel

section
variable {W₀ : Dev nD → Valuation τ sig (Elt F)} (hW : ∀ c, W₀ c (Proc.devRef .tc main_v25_0) = constantI S_ 32 0#32)
include hW

/-- A loop's counter before a trip is the trip's number. -/
theorem ctr0 (c : Dev nD) : ∀ k : ℕ, atTrip condOps0 body0I W₀ k c (Proc.devRef .tc main_v25_0) = fun _ => Scf.iv 0#32 1#32 k
  | 0 => by
    rw [Scf.iv_zero]; exact hW c
  | k + 1 => by
    show afterL body0I (after condOps0 (atTrip condOps0 body0I W₀ k c)) _ = _
    rw [fw_all, fw_at1_v25_0, cond0_keep _ _ (by decide +kernel), ctr0 c k, Scf.iv_succ]
    rfl

set_option backward.isDefEq.respectTransparency.types false in
/-- A loop's condition runs its two operations and holds exactly before the first 100 trips. -/
theorem cond0_spec : CondSpec (pcfgs (F := F)) defs₀ loops (main_while0_cond (F := F)) condOps0 body0I W₀ 100 := by
  intro k hk c bd
  have hctr := ctr0 hW c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps0 body0I W₀ k c) main_v25_0 HostLoop.idx0) (HloOp.result _ (atTrip condOps0 body0I W₀ k c) main_while0c_c_32 HostLoop.idx0) = 1#1) (k < 100)
    rw [nullary_result_ne _ _ _ _ (by decide), nullary_result, hctr]
    exact Scf.cmpi_slt_iv_ub_iff (lb := 0#32) (ub := 100#32) (st := 1#32) (by decide) (show k ≤ Scf.trips 0#32 100#32 1#32 from hk)
  isplitl [Hb]; · iexact Hb
  rw [after_cons, after_cons, after_nil]; iexact Hh
end

/-- Nothing in a loop changes an argument. -/
theorem trips0_args {W₀ : Dev nD → Valuation τ sig (Elt F)} (c : Dev nD) (r : Ref sig .tc) (h : r ∈ argRefs) :
    ∀ k : ℕ, atTrip condOps0 body0I W₀ k c (Proc.devRef .tc r) = W₀ c (Proc.devRef .tc r)
  | 0 => rfl
  | k + 1 => by
    show afterL body0I (after condOps0 (atTrip condOps0 body0I W₀ k c)) _ = _
    rw [fw_args _ r h, cond0_keep _ r (cond0_args_ne r h), trips0_args c r h k]

/-- The operations of a loop's condition. -/
abbrev condOps1 : List (HloOp τ sig (Elt F)) :=
  [nullary main_while1c_c_33 (constantI S_ 32 594#32), binary main_v52_0 main_while1c_c_33 main_while1c_v96 (cmpi .slt : (⟨S_, .i32⟩ : BufTy).Contents (Elt F) → (⟨S_, .i32⟩ : BufTy).Contents (Elt F) → (⟨S_, .i1⟩ : BufTy).Contents (Elt F))]
/-- What the stretch writes. -/
abbrev condOps1_W : List (Ref sig .tc) := [main_while1c_c_33, main_while1c_v96]
/-- The stretch writes the buffers listed and no others. -/
theorem condOps1_writes : (condOps1 : List (HloOp τ sig (Elt F))).Forall fun op => op.writes ⊆ (condOps1_W.map (Proc.devRef (τ := τ) .tc)).toFinset :=
  forall_writes_sub_of_map rfl
/-- A condition changes no buffer but its own two. -/
theorem cond1_keep (V : Valuation τ sig (Elt F)) (r : Ref sig .tc) (h : r ∉ condOps1_W) : after condOps1 V (Proc.devRef .tc r) = V (Proc.devRef .tc r) :=
  after_of_writes_sub condOps1 V condOps1_writes h
/-- The stretch writes no argument. -/
theorem cond1_args_ne : ∀ r ∈ argRefs, r ∉ condOps1_W := by decide +kernel

section
variable {W₀ : Dev nD → Valuation τ sig (Elt F)} (hW : ∀ c, W₀ c (Proc.devRef .tc main_v52_0) = constantI S_ 32 0#32)
include hW

/-- A loop's counter before a trip is the trip's number. -/
theorem ctr1 (c : Dev nD) : ∀ k : ℕ, atTrip condOps1 body1I W₀ k c (Proc.devRef .tc main_v52_0) = fun _ => Scf.iv 0#32 1#32 k
  | 0 => by
    rw [Scf.iv_zero]; exact hW c
  | k + 1 => by
    show afterL body1I (after condOps1 (atTrip condOps1 body1I W₀ k c)) _ = _
    rw [jac_all, jac_at29_v52_0, cond1_keep _ _ (by decide +kernel), ctr1 c k, Scf.iv_succ]
    rfl

set_option backward.isDefEq.respectTransparency.types false in
/-- A loop's condition runs its two operations and holds exactly before the first 594 trips. -/
theorem cond1_spec : CondSpec (pcfgs (F := F)) defs₀ loops (main_while1_cond (F := F)) condOps1 body1I W₀ 594 := by
  intro k hk c bd
  have hctr := ctr1 hW c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps1 body1I W₀ k c) main_v52_0 HostLoop.idx0) (HloOp.result _ (atTrip condOps1 body1I W₀ k c) main_while1c_c_33 HostLoop.idx0) = 1#1) (k < 594)
    rw [nullary_result_ne _ _ _ _ (by decide), nullary_result, hctr]
    exact Scf.cmpi_slt_iv_ub_iff (lb := 0#32) (ub := 594#32) (st := 1#32) (by decide) (show k ≤ Scf.trips 0#32 594#32 1#32 from hk)
  isplitl [Hb]; · iexact Hb
  rw [after_cons, after_cons, after_nil]; iexact Hh
end

/-- Nothing in a loop changes an argument. -/
theorem trips1_args {W₀ : Dev nD → Valuation τ sig (Elt F)} (c : Dev nD) (r : Ref sig .tc) (h : r ∈ argRefs) :
    ∀ k : ℕ, atTrip condOps1 body1I W₀ k c (Proc.devRef .tc r) = W₀ c (Proc.devRef .tc r)
  | 0 => rfl
  | k + 1 => by
    show afterL body1I (after condOps1 (atTrip condOps1 body1I W₀ k c)) _ = _
    rw [jac_args _ r h, cond1_keep _ r (cond1_args_ne r h), trips1_args c r h k]

/-- The shortest-path loop's state after so many trips, of the points. -/
def fwR : ℕ → Ct F S_ .i32
  | 0 => pre_v25_1 (F := F)
  | k + 1 => fw_v25_1_out (fwR k)
/-- The lengths before each step of the first loop. -/
def fwG (x : Ct F S100x2 .f32) : ℕ → Ct F S100x100 .f32
  | 0 => pre_v25_2 x
  | k + 1 => fw_v25_2_out (fwR (F := F) k) (fwG x k)
/-- Jacobi's round number, matrix and rotations after so many rounds, of the shortest paths. -/
def jacR : ℕ → Ct F S_ .i32
  | 0 => mid_v52_1 (F := F)
  | k + 1 => jac_v52_1_out (jacR k)
/-- The matrix before each round. -/
def jacA (G : Ct F S100x100 .f32) : ℕ → Ct F S100x100 .f32
  | 0 => mid_v52_2 G
  | k + 1 => jac_v52_2_out (jacR (F := F) k) (jacA G k)
/-- The vectors before each round. -/
def jacV (G : Ct F S100x100 .f32) : ℕ → Ct F S100x100 .f32
  | 0 => mid_v52_3 (F := F)
  | k + 1 => jac_v52_3_out (jacR (F := F) k) (jacA G k) (jacV G k)
/-- The reference's result, of its arguments. -/
def refOut (x : Ct F S100x2 .f32) (W1 : Ct F S2x512 .f32) (b1 : Ct F S512 .f32) (W2 : Ct F S512x10 .f32) (b2 : Ct F S10 .f32) : Ct F S100x10 .f32 :=
  post_v95 (jacA (fwG x 100) 594) (jacV (fwG x 100) 594) W1 b1 W2 b2

section
variable {W₀ : Dev nD → Valuation τ sig (Elt F)} (c : Dev nD)

/-- The first loop's carried buffers before each trip. -/
theorem trips0_vals (x : Ct F S100x2 .f32) (h1 : W₀ c (Proc.devRef .tc main_v25_1) = pre_v25_1 (F := F)) (h2 : W₀ c (Proc.devRef .tc main_v25_2) = pre_v25_2 x) (k : ℕ) :
    atTrip condOps0 body0I W₀ k c (Proc.devRef .tc main_v25_1) = fwR k ∧ atTrip condOps0 body0I W₀ k c (Proc.devRef .tc main_v25_2) = fwG x k := by
  induction k with
  | zero => exact ⟨h1, h2⟩
  | succ k ih =>
    constructor
    · show afterL body0I (after condOps0 (atTrip condOps0 body0I W₀ k c)) _ = _
      rw [fw_all, fw_at1_v25_1, cond0_keep _ _ (by decide +kernel), ih.1]; rfl
    · show afterL body0I (after condOps0 (atTrip condOps0 body0I W₀ k c)) _ = _
      rw [fw_all, fw_at1_v25_2, cond0_keep _ _ (by decide +kernel), cond0_keep _ _ (by decide +kernel), ih.1, ih.2]; rfl

/-- The second loop's carried buffers before each trip. -/
theorem trips1_vals (G : Ct F S100x100 .f32) (h1 : W₀ c (Proc.devRef .tc main_v52_1) = mid_v52_1 (F := F)) (h2 : W₀ c (Proc.devRef .tc main_v52_2) = mid_v52_2 G)
    (h3 : W₀ c (Proc.devRef .tc main_v52_3) = mid_v52_3 (F := F)) (k : ℕ) :
    atTrip condOps1 body1I W₀ k c (Proc.devRef .tc main_v52_1) = jacR k ∧ atTrip condOps1 body1I W₀ k c (Proc.devRef .tc main_v52_2) = jacA G k
      ∧ atTrip condOps1 body1I W₀ k c (Proc.devRef .tc main_v52_3) = jacV G k := by
  induction k with
  | zero => exact ⟨h1, h2, h3⟩
  | succ k ih =>
    refine ⟨?_, ?_, ?_⟩
    · show afterL body1I (after condOps1 (atTrip condOps1 body1I W₀ k c)) _ = _
      rw [jac_all, jac_at29_v52_1, cond1_keep _ _ (by decide +kernel), ih.1]; rfl
    · show afterL body1I (after condOps1 (atTrip condOps1 body1I W₀ k c)) _ = _
      rw [jac_all, jac_at29_v52_2, cond1_keep _ _ (by decide +kernel), cond1_keep _ _ (by decide +kernel), ih.1, ih.2.1]; rfl
    · show afterL body1I (after condOps1 (atTrip condOps1 body1I W₀ k c)) _ = _
      rw [jac_all, jac_at29_v52_3, cond1_keep _ _ (by decide +kernel), cond1_keep _ _ (by decide +kernel), cond1_keep _ _ (by decide +kernel), ih.1, ih.2.1, ih.2.2]; rfl
end

variable (m : (ℓ : Loc nD τ sig) → Buf (Elt F) ℓ) (ρ : Dev nD → PrngReg)

/-- The contents at the first loop's entry. -/
theorem entry_eq (c : Dev nD) : entryContents preI m c = pre_at7 (launchContents m c) := rfl

/-- What the second loop starts from. -/
theorem mid_entry (c : Dev nD) : midContents condOps0 preI body0I midI 100 m c = mid_at6 (after condOps0 (atTrip condOps0 body0I (entryContents preI m) 100 c)) := rfl

/-- The second loop starts from the first one's shortest paths. -/
theorem mid_paths (c : Dev nD) : after condOps0 (atTrip condOps0 body0I (entryContents preI m) 100 c) (Proc.devRef .tc main_v25_2) = fwG (m ((c.tc : Thread nD τ).loc main_arg0)) 100 := by
  rw [cond0_keep _ _ (by decide +kernel)]
  exact (trips0_vals c _ (by rw [entry_eq, pre_at7_v25_1]) (by rw [entry_eq, pre_at7_v25_2]) 100).2

/-- Every argument is, at the end, as it was at the launch. -/
theorem end_args (c : Dev nD) (r : Ref sig .tc) (h : r ∈ argRefs) :
    endContents condOps0 condOps1 preI body0I midI body1I postI 100 594 m c (Proc.devRef .tc r) = launchContents m c (Proc.devRef .tc r) := by
  unfold endContents
  rw [post_args _ r h, cond1_keep _ r (cond1_args_ne r h), trips1_args c r h]
  unfold midContents
  rw [mid_args _ r h, cond0_keep _ r (cond0_args_ne r h), trips0_args c r h]
  exact pre_args _ r h

/-- The arguments are unchanged between the loops. -/
theorem mid_args_end (c : Dev nD) (r : Ref sig .tc) (h : r ∈ argRefs) :
    after condOps1 (atTrip condOps1 body1I (midContents condOps0 preI body0I midI 100 m) 594 c) (Proc.devRef .tc r) = launchContents m c (Proc.devRef .tc r) := by
  rw [← end_args m c r h]
  unfold endContents
  rw [post_args _ r h]

/-- The result's buffer at the end. -/
theorem end_result (c : Dev nD) : endContents condOps0 condOps1 preI body0I midI body1I postI 100 594 m c (Proc.devRef .tc main_v95)
    = refOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  have hv := trips1_vals (W₀ := midContents condOps0 preI body0I midI 100 m) c (fwG (m ((c.tc : Thread nD τ).loc main_arg0)) 100)
    (by rw [mid_entry, mid_at6_v52_1]) (by rw [mid_entry, mid_at6_v52_2, mid_paths]) (by rw [mid_entry, mid_at6_v52_3]) 594
  unfold endContents
  rw [post_all, post_at12_v95, mid_args_end m c main_arg1 (by decide), mid_args_end m c main_arg2 (by decide), mid_args_end m c main_arg3 (by decide),
    mid_args_end m c main_arg4 (by decide), cond1_keep _ _ (by decide +kernel), cond1_keep _ _ (by decide +kernel), hv.2.1, hv.2.2]
  rfl

/-- The block lists, joined, are the reference's whole chain. -/
theorem main_two_loops (c : Dev nD) : main (F := F) c = Pipeline.chain ((preI.map fun ops => (seq ops : HProg F)) ++ HostLoop.enter 0 ::
    ((midI.map fun ops => (seq ops : HProg F)) ++ HostLoop.enter 1 :: postI.map fun ops => (seq ops : HProg F))) := by
  rw [main_chain_windows]; rfl

/-- THE RUN of the reference: it terminates with the result at `refOut` of the arguments, and the arguments as they were. -/
theorem run_ref [∀ e, Nonempty (Elt F e)] : θ_run (defs (F := F)) (onTc (τ := τ) (main (F := F))) ⟨m, fun _ => 0, ρ⟩ fun r => ∀ c : Dev nD,
    r.2.mem ((c.tc : Thread nD τ).loc main_v95) = refOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))
      ∧ ∀ b ∈ argRefs, r.2.mem ((c.tc : Thread nD τ).loc b) = m ((c.tc : Thread nD τ).loc b) := by
  refine (θ_run defs _ _).mono ?_ (run_two_loops (pcfgs (F := F)) defs₀ loops main 0 1 main_while0_cond main_while1_cond main_while0_body main_while1_body rfl rfl
    preI body0I midI body1I postI condOps0 condOps1 preI_plain body0I_plain midI_plain body1I_plain postI_plain main_two_loops
    while0_body_chain while1_body_chain 100 594 m ρ
    (cond0_spec fun c => by rw [entry_eq, pre_at7_v25_0]; try rfl) (cond1_spec fun c => by rw [mid_entry, mid_at6_v52_0]; try rfl))
  intro r h c
  refine ⟨(h c main_v95 rfl).trans (end_result m c), fun b hb => ?_⟩
  have hb' : (Proc.devRef .tc b : DevRef τ sig).isScoped = false := by
    revert b; decide
  exact (h c b hb').trans (end_args m c b hb)

end Cert.ReferenceIdeal.Hand

end
-- ==== Proof.KerRound.lean ====
/- One round of the kernel's Jacobi loop, as a function of the four carried values; and the loop's trip as three of them. -/
module

public import proofs.«01_k».proof.Proof.Gen.KernelIdeal.Frame

@[expose] public section

set_option maxRecDepth 100000

noncomputable section

namespace Cert.KernelIdeal.Hand

open Idealize.ShloMosaic Idealize.ShloMosaic.TcCoe Cert.KernelIdeal Cert.KernelIdeal.Gen

variable {F : FTy → Type} [FloatOps F] [Named F]

/-- A row of one number per player. -/
abbrev Row (F : FTy → Type) : Type := FVec F S1x100 .f32
/-- A matrix of one number per pair of players. -/
abbrev Mat (F : FTy → Type) : Type := FVec F S100x100 .f32

/-- A row with its two halves exchanged. -/
def halves (v : Row F) : Row F :=
  concatenate S1x100 1 [⟨S1x50, extractStridedSlice S1x50 ![0, 50] v slices_S1x100_o0_50_S1x50⟩,
    ⟨S1x50, extractStridedSlice S1x50 ![0, 0] v slices_S1x100_o0_0_S1x50⟩] concatenates_S1x50_S1x50_S1x100_d1

/-- A row moved one round on: entry `j` is what stood at `ρ j`. -/
def moveRow (v : Row F) : Row F :=
  concatenate S1x100 1 [⟨S1x1, extractStridedSlice S1x1 ![0, 0] v slices_S1x100_o0_0_S1x1⟩,
    ⟨S1x1, extractStridedSlice S1x1 ![0, 50] v slices_S1x100_o0_50_S1x1⟩, ⟨S1x48, extractStridedSlice S1x48 ![0, 1] v slices_S1x100_o0_1_S1x48⟩,
    ⟨S1x49, extractStridedSlice S1x49 ![0, 51] v slices_S1x100_o0_51_S1x49⟩, ⟨S1x1, extractStridedSlice S1x1 ![0, 49] v slices_S1x100_o0_49_S1x1⟩]
    concatenates_S1x1_S1x1_S1x48_S1x49_S1x1_S1x100_d1

/-- A matrix's columns moved one round on. -/
def moveC (M : Mat F) : Mat F :=
  concatenate S100x100 1 [⟨S100x1, extractStridedSlice S100x1 ![0, 0] M slices_S100x100_o0_0_S100x1⟩,
    ⟨S100x1, extractStridedSlice S100x1 ![0, 50] M slices_S100x100_o0_50_S100x1⟩, ⟨S100x48, extractStridedSlice S100x48 ![0, 1] M slices_S100x100_o0_1_S100x48⟩,
    ⟨S100x49, extractStridedSlice S100x49 ![0, 51] M slices_S100x100_o0_51_S100x49⟩, ⟨S100x1, extractStridedSlice S100x1 ![0, 49] M slices_S100x100_o0_49_S100x1⟩]
    concatenates_S100x1_S100x1_S100x48_S100x49_S100x1_S100x100_d1

/-- A matrix's columns with the halves exchanged, moved one round on. -/
def swapC (M : Mat F) : Mat F :=
  concatenate S100x100 1 [⟨S100x1, extractStridedSlice S100x1 ![0, 50] M slices_S100x100_o0_50_S100x1⟩,
    ⟨S100x1, extractStridedSlice S100x1 ![0, 0] M slices_S100x100_o0_0_S100x1⟩, ⟨S100x48, extractStridedSlice S100x48 ![0, 51] M slices_S100x100_o0_51_S100x48⟩,
    ⟨S100x49, extractStridedSlice S100x49 ![0, 1] M slices_S100x100_o0_1_S100x49⟩, ⟨S100x1, extractStridedSlice S100x1 ![0, 99] M slices_S100x100_o0_99_S100x1⟩]
    concatenates_S100x1_S100x1_S100x48_S100x49_S100x1_S100x100_d1

/-- A matrix's rows moved one round on. -/
def moveR (M : Mat F) : Mat F :=
  concatenate S100x100 0 [⟨S1x100, extractStridedSlice S1x100 ![0, 0] M slices_S100x100_o0_0_S1x100⟩,
    ⟨S1x100, extractStridedSlice S1x100 ![50, 0] M slices_S100x100_o50_0_S1x100⟩, ⟨S48x100, extractStridedSlice S48x100 ![1, 0] M slices_S100x100_o1_0_S48x100⟩,
    ⟨S49x100, extractStridedSlice S49x100 ![51, 0] M slices_S100x100_o51_0_S49x100⟩, ⟨S1x100, extractStridedSlice S1x100 ![49, 0] M slices_S100x100_o49_0_S1x100⟩]
    concatenates_S1x100_S1x100_S48x100_S49x100_S1x100_S100x100_d0

/-- A matrix's rows with the halves exchanged, moved one round on. -/
def swapR (M : Mat F) : Mat F :=
  concatenate S100x100 0 [⟨S1x100, extractStridedSlice S1x100 ![50, 0] M slices_S100x100_o50_0_S1x100⟩,
    ⟨S1x100, extractStridedSlice S1x100 ![0, 0] M slices_S100x100_o0_0_S1x100⟩, ⟨S48x100, extractStridedSlice S48x100 ![51, 0] M slices_S100x100_o51_0_S48x100⟩,
    ⟨S49x100, extractStridedSlice S49x100 ![1, 0] M slices_S100x100_o1_0_S49x100⟩, ⟨S1x100, extractStridedSlice S1x100 ![99, 0] M slices_S100x100_o99_0_S1x100⟩]
    concatenates_S1x100_S1x100_S48x100_S49x100_S1x100_S100x100_d0

/-- The column sums of a matrix under a mask. -/
def pick (M : Vec F S100x100 .f32) (A : Mat F) : Row F :=
  shapeCast S1x100 (multiReduction .add [0] S100 (mulf M A) 0x00000000#32 reduces_S100x100_S100_2 (.inl rfl) rfl) shapeCasts_S100_S1x100

/-- Half the cotangent of twice the rotation's angle, of the signs, the diagonal and the paired entries. -/
def tauRow (sg d o : Row F) : Row F :=
  mulf (divf (subf (halves d) d) (mulf (broadcast S1x100 (Scalar.ofBits .f32 0x40000000#32)) o)) sg

/-- The rotations' tangents. -/
def tanRow (sg d o : Row F) : Row F :=
  select (cmpf .ole (absf o) (broadcast S1x100 (Scalar.ofBits .f32 0x0DA24260#32))) (broadcast S1x100 (Scalar.ofBits .f32 0x00000000#32))
    (divf (select (cmpf .oge (tauRow sg d o) (broadcast S1x100 (Scalar.ofBits .f32 0x00000000#32)))
        (broadcast S1x100 (Scalar.ofBits .f32 0x3F800000#32)) (broadcast S1x100 (Scalar.ofBits .f32 0xBF800000#32)))
      (addf (absf (tauRow sg d o)) (sqrt (addf (broadcast S1x100 (Scalar.ofBits .f32 0x3F800000#32)) (mulf (tauRow sg d o) (tauRow sg d o))))))

/-- The rotations' cosines. -/
def cosRow (sg d o : Row F) : Row F :=
  rsqrt (addf (broadcast S1x100 (Scalar.ofBits .f32 0x3F800000#32)) (mulf (tanRow sg d o) (tanRow sg d o)))

/-- The rotations' sines, signed for the second of each pair. -/
def sinRow (sg d o : Row F) : Row F :=
  mulf (subf (broadcast S1x100 (Scalar.ofBits .f32 0x00000000#32)) sg) (mulf (tanRow sg d o) (cosRow sg d o))

/-- The next round's paired entries. -/
def nextO (M1 M2 M3 M4 : Vec F S100x100 .f32) (A : Mat F) (C S : Row F) : Row F :=
  addf (addf (addf (mulf (mulf C (halves C)) (halves (moveRow (pick M1 A)))) (mulf (mulf C (halves S)) (halves (moveRow (halves (pick M2 A))))))
    (mulf (mulf S (halves C)) (halves (moveRow (pick M3 A))))) (mulf (mulf S (halves S)) (halves (moveRow (halves (pick M4 A)))))

/-- The next round's diagonal. -/
def nextD (d o C S : Row F) : Row F :=
  addf (addf (mulf (mulf C C) (moveRow d)) (mulf (mulf (mulf (broadcast S1x100 (Scalar.ofBits .f32 0x40000000#32)) C) S) (moveRow o)))
    (mulf (mulf S S) (moveRow (halves d)))

/-- The columns of a matrix rotated. -/
def turnC (M : Mat F) (C S : Row F) : Mat F :=
  addf (mulf (moveC M) (broadcastTo S100x100 C broadcasts_S1x100_S100x100)) (mulf (swapC M) (broadcastTo S100x100 S broadcasts_S1x100_S100x100))

/-- The next round's matrix. -/
def nextA (A : Mat F) (C S : Row F) : Mat F :=
  addf (mulf (broadcastTo S100x100 (transpose S100x1 [1, 0] C transposes_S1x100_p1_0_S100x1) broadcasts_S100x1_S100x100) (turnC (moveR A) C S))
    (mulf (broadcastTo S100x100 (transpose S100x1 [1, 0] S transposes_S1x100_p1_0_S100x1) broadcasts_S100x1_S100x100) (turnC (swapR A) C S))

/-- One round. -/
def round (M1 M2 M3 M4 : Vec F S100x100 .f32) (sg : Row F) (s : Mat F × Mat F × Row F × Row F) : Mat F × Mat F × Row F × Row F :=
  let C := moveRow (cosRow sg s.2.2.1 s.2.2.2)
  let S := moveRow (sinRow sg s.2.2.1 s.2.2.2)
  (nextA s.1 C S, turnC s.2.1 C S, nextD s.2.2.1 s.2.2.2 C S, nextO M1 M2 M3 M4 s.1 C S)

end Cert.KernelIdeal.Hand

end
-- ==== Proof.Sched.lean ====
/- The reference's tournament and the places of the players in the kernel's storage. -/
module

public import Idealize.ShloMosaic.Lib.Pipeline.ValueKit
public import Idealize.ShloMosaic.Lib.WordCmp
public import Mathlib.Logic.Function.Iterate

@[expose] public section

set_option maxRecDepth 100000

noncomputable section

namespace Cert.Isomap

open Idealize Idealize.ShloMosaic

/-- The place across: the other half's place of the same number. -/
def bar (i : Fin 100) : Fin 100 :=
  if h : i.val < 50 then ⟨50 + i.val, by omega⟩ else ⟨i.val - 50, by omega⟩

/-- The place from which a round takes what it puts at place `i`. -/
def rho (i : Fin 100) : Fin 100 :=
  if h : i.val < 1 then i else if h1 : i.val - 1 < 1 then ⟨50 + (i.val - 1), by omega⟩
  else if h2 : i.val - 1 - 1 < 48 then ⟨1 + (i.val - 1 - 1), by omega⟩
  else if h3 : i.val - 1 - 1 - 48 < 49 then ⟨51 + (i.val - 1 - 1 - 48), by omega⟩
  else ⟨49 + (i.val - 1 - 1 - 48 - 49), by omega⟩

/-- The two places of a pair are across from one another. -/
theorem bar_bar : ∀ i, bar (bar i) = i := by decide +kernel

/-- No place is across from itself. -/
theorem bar_ne : ∀ i, bar i ≠ i := by decide +kernel

/-- A place is in the first half when the place across is not. -/
theorem bar_lt : ∀ i, ((bar i).val < 50) = ¬ (i.val < 50) := by decide +kernel

/-- A round takes different places' contents to different places. -/
theorem rho_injective : Function.Injective rho := by
  have h : ∀ i j, rho i = rho j → i = j := by decide +kernel
  exact fun i j => h i j

/-- The player at place `i` of the storage before round `r`. -/
def pos (r : ℕ) (i : Fin 100) : Fin 100 := rho^[r] i

/-- Different places hold different players. -/
theorem pos_injective (r : ℕ) : Function.Injective (pos r) := rho_injective.iterate r

/-- Every player has a place. -/
theorem pos_surjective (r : ℕ) : Function.Surjective (pos r) :=
  Finite.surjective_of_injective (pos_injective r)

/-- The players after a round. -/
theorem pos_succ (r : ℕ) (i : Fin 100) : pos (r + 1) i = pos r (rho i) := rfl

/-- The chair of player `x` in round `r`, computed on words. -/
def chairB (r x : BitVec 32) : BitVec 32 :=
  IntOp.remsi ArithUnit.host
      (IntOp.subi
        (IntOp.addi
          (IntOp.remsi ArithUnit.host
            (Scalar.select (IntOp.cmpi CmpIPredicate.sge x 50#32)
              (IntOp.subi x 49#32) (IntOp.subi (100#32) x))
            99#32)
          594#32)
        r)
      99#32

/-- The chair whose player meets player `x` in round `r`, counted at the start, computed on words. -/
def thereB (r x : BitVec 32) : BitVec 32 :=
  IntOp.remsi ArithUnit.host
    (Scalar.select (IntOp.cmpi CmpIPredicate.eq x 0#32) (IntOp.addi (1#32) r)
      (IntOp.addi (IntOp.subi (101#32) (chairB r x)) r))
    99#32

/-- The opponent of player `x` in round `r`, computed on words. -/
def oppB (r x : BitVec 32) : BitVec 32 :=
  Scalar.select
    (IntOp.andi (IntOp.cmpi CmpIPredicate.ne x 0#32) (IntOp.cmpi CmpIPredicate.eq (chairB r x) 1#32))
    (0#32)
    (Scalar.select (IntOp.cmpi CmpIPredicate.eq (thereB r x) 0#32) (1#32)
      (Scalar.select (IntOp.cmpi CmpIPredicate.sle (thereB r x) 50#32) (IntOp.addi (thereB r x) 49#32)
        (IntOp.subi (100#32) (thereB r x))))

/-- Whether player `x` is the first of its pair in round `r`, computed on words. -/
def firstB (r x : BitVec 32) : BitVec 1 :=
  IntOp.ori
    (IntOp.ori (IntOp.cmpi CmpIPredicate.eq x 0#32) (IntOp.cmpi CmpIPredicate.eq (chairB r x) 0#32))
    (IntOp.cmpi CmpIPredicate.sgt (chairB r x) 50#32)

/-- The number of a player's place round the circle, counted from the start. -/
def place (i : ℕ) : ℕ := (if 50 ≤ i then i - 49 else 100 - i) % 99

/-- The player at a place round the circle at the start. -/
def atPlace (t : ℕ) : ℕ := if t = 0 then 1 else if t ≤ 50 then t + 49 else 100 - t

/-- The player at place `i` before round `r`, in closed form. -/
def posN (r i : ℕ) : ℕ := if i = 0 then 0 else atPlace ((place i + r) % 99)

/-- A move takes a player on by one chair. -/
theorem place_rho : ∀ i : Fin 100, i.val ≠ 0 → (rho i).val ≠ 0 ∧ place (rho i).val = (place i.val + 1) % 99 := by
  decide +kernel

/-- A player is found at its chair. -/
theorem atPlace_place : ∀ i : Fin 100, i.val ≠ 0 → atPlace (place i.val) = i.val := by decide +kernel

/-- A chair holds a player that is on it. -/
theorem place_atPlace : ∀ t : Fin 99, place (atPlace t.val) = t.val ∧ atPlace t.val ≠ 0 ∧ atPlace t.val < 100 := by decide +kernel

/-- The chair across. -/
theorem place_bar : ∀ i : Fin 100, i.val ≠ 0 → i.val ≠ 50 → place (bar i).val = (101 - place i.val) % 99 ∧ (bar i).val ≠ 0 ∧ place i.val ≠ 1 ∧ place i.val < 99 := by
  decide +kernel

/-- The chairs of the first half. -/
theorem place_half : ∀ i : Fin 100, i.val ≠ 0 → ((place i.val = 0 ∨ 50 < place i.val) ↔ i.val < 50) := by decide +kernel

/-- The place of a player before a round, in closed form. -/
theorem pos_val (r : ℕ) : ∀ i : Fin 100, (pos r i).val = posN r i.val := by
  induction r with
  | zero =>
    intro i
    unfold posN
    by_cases h : i.val = 0
    · rw [if_pos h]; exact h
    · rw [if_neg h, Nat.add_zero, show place i.val % 99 = place i.val from by unfold place; omega, atPlace_place i h]; rfl
  | succ r ih =>
    intro i
    rw [pos_succ, ih]
    unfold posN
    by_cases h : i.val = 0
    · have h0 : i = 0 := Fin.ext h
      subst h0
      rfl
    · rw [if_neg h, if_neg (place_rho i h).1, (place_rho i h).2]
      congr 1
      omega

/-- After all the rounds every player is back. -/
theorem pos_last (i : Fin 100) : pos 594 i = i := by
  apply Fin.ext
  rw [pos_val]
  unfold posN
  by_cases h : i.val = 0
  · rw [if_pos h]; exact h.symm
  · rw [if_neg h, show (place i.val + 594) % 99 = place i.val from by unfold place; omega, atPlace_place i h]

/-- The remainder by 99 as a number. -/
theorem remsi_99 (a : ℕ) (ha : a < 2 ^ 31) :
    IntOp.remsi ArithUnit.host (BitVec.ofNat 32 a) 99#32 = BitVec.ofNat 32 (a % 99) := by
  have h1 : (BitVec.ofNat 32 a).msb = false := by
    rw [BitVec.msb_eq_false_iff_two_mul_lt, BitVec.toNat_ofNat]; omega
  unfold IntOp.remsi
  rw [if_neg, BitVec.srem_eq, h1]
  · show (BitVec.ofNat 32 a).umod 99#32 = _
    apply BitVec.eq_of_toNat_eq
    show ((BitVec.ofNat 32 a) % 99#32).toNat = _
    rw [BitVec.toNat_umod, BitVec.toNat_ofNat, BitVec.toNat_ofNat, BitVec.toNat_ofNat,
      show (99 % 2 ^ 32 : ℕ) = 99 from rfl]
    omega
  · unfold IntOp.SDivCorner
    rintro (h | ⟨-, h⟩) <;> exact absurd h (by decide)

/-- A difference of numbers as words. -/
theorem subi_ofNat (a b : ℕ) (h : b ≤ a) :
    IntOp.subi (BitVec.ofNat 32 a) (BitVec.ofNat 32 b) = BitVec.ofNat 32 (a - b) := by
  apply BitVec.eq_of_toNat_eq
  unfold IntOp.subi
  rw [BitVec.toNat_sub, BitVec.toNat_ofNat, BitVec.toNat_ofNat, BitVec.toNat_ofNat]
  omega

/-- A sum of numbers as words. -/
theorem addi_ofNat (a b : ℕ) :
    IntOp.addi (BitVec.ofNat 32 a) (BitVec.ofNat 32 b) = BitVec.ofNat 32 (a + b) :=
  (BitVec.ofNat_add ..).symm

/-- A choice by a decided bit. -/
theorem select_prop {α : Type} (p : Prop) [Decidable p] (a b : α) :
    Scalar.select (BitVec.ofBool (decide p)) a b = if p then a else b := by
  unfold Scalar.select
  by_cases h : p
  · rw [if_pos h, decide_eq_true h]; rfl
  · rw [if_neg h, decide_eq_false h]; rfl

/-- A choice of numbers as words. -/
theorem ofNat_ite (p : Prop) [Decidable p] (a b : ℕ) :
    (if p then BitVec.ofNat 32 a else BitVec.ofNat 32 b) = BitVec.ofNat 32 (if p then a else b) := by
  split_ifs <;> rfl

/-- The chair, on numbers. -/
theorem chairB_ofNat (r x : ℕ) (hr : r < 594) (hx : x < 100) :
    chairB (BitVec.ofNat 32 r) (BitVec.ofNat 32 x) = BitVec.ofNat 32 ((place x + 594 - r) % 99) := by
  unfold chairB
  rw [WordCmp.cmpi_sge_ofNat (by omega) (by omega), select_prop]
  have e : (if 50 ≤ x then IntOp.subi (BitVec.ofNat 32 x) 49#32 else IntOp.subi (100#32) (BitVec.ofNat 32 x))
      = BitVec.ofNat 32 (if 50 ≤ x then x - 49 else 100 - x) := by
    split_ifs
    · exact subi_ofNat _ _ (by omega)
    · exact subi_ofNat _ _ (by omega)
  rw [e, remsi_99 _ (by split_ifs <;> omega)]
  rw [addi_ofNat, subi_ofNat _ _ (by omega), remsi_99 _ (by omega)]
  rfl

/-- The chair met, on numbers. -/
theorem thereB_ofNat (r x : ℕ) (hr : r < 594) (hx : x < 100) :
    thereB (BitVec.ofNat 32 r) (BitVec.ofNat 32 x)
      = BitVec.ofNat 32 ((if x = 0 then 1 + r else 101 - (place x + 594 - r) % 99 + r) % 99) := by
  unfold thereB
  rw [WordCmp.cmpi_eq_ofNat (by omega) (by omega), select_prop, chairB_ofNat r x hr hx, addi_ofNat,
    subi_ofNat _ _ (by omega), addi_ofNat, ofNat_ite, remsi_99 _ (by split_ifs <;> omega)]

/-- The opponent, on numbers. -/
theorem oppB_ofNat (r x : ℕ) (hr : r < 594) (hx : x < 100) :
    oppB (BitVec.ofNat 32 r) (BitVec.ofNat 32 x)
      = BitVec.ofNat 32 (if x ≠ 0 ∧ (place x + 594 - r) % 99 = 1 then 0
          else atPlace ((if x = 0 then 1 + r else 101 - (place x + 594 - r) % 99 + r) % 99)) := by
  have ht : (if x = 0 then 1 + r else 101 - (place x + 594 - r) % 99 + r) % 99 < 99 := Nat.mod_lt _ (by omega)
  unfold oppB
  rw [thereB_ofNat r x hr hx, chairB_ofNat r x hr hx]
  generalize (if x = 0 then 1 + r else 101 - (place x + 594 - r) % 99 + r) % 99 = t at ht ⊢
  have ha : IntOp.andi (IntOp.cmpi CmpIPredicate.ne (BitVec.ofNat 32 x) 0#32)
      (IntOp.cmpi CmpIPredicate.eq (BitVec.ofNat 32 ((place x + 594 - r) % 99)) 1#32)
      = BitVec.ofBool (decide (x ≠ 0 ∧ (place x + 594 - r) % 99 = 1)) := by
    rw [WordCmp.cmpi_ne_ofNat (by omega) (by omega), WordCmp.cmpi_eq_ofNat (by omega) (by omega)]
    by_cases h1 : x = 0 <;> by_cases h2 : (place x + 594 - r) % 99 = 1 <;> simp [h1, h2, IntOp.andi]
  rw [ha, select_prop, WordCmp.cmpi_eq_ofNat (by omega) (by omega), select_prop, WordCmp.cmpi_sle_ofNat (by omega) (by omega), select_prop,
    addi_ofNat, subi_ofNat _ _ (by omega), ofNat_ite, ofNat_ite, ofNat_ite]
  rfl

/-- Being first, on numbers. -/
theorem firstB_ofNat (r x : ℕ) (hr : r < 594) (hx : x < 100) :
    firstB (BitVec.ofNat 32 r) (BitVec.ofNat 32 x)
      = BitVec.ofBool (decide (x = 0 ∨ (place x + 594 - r) % 99 = 0 ∨ 50 < (place x + 594 - r) % 99)) := by
  unfold firstB
  rw [chairB_ofNat r x hr hx, WordCmp.cmpi_eq_ofNat (by omega) (by omega), WordCmp.cmpi_eq_ofNat (by omega) (by omega),
    WordCmp.cmpi_sgt_ofNat (by omega) (by omega)]
  generalize (place x + 594 - r) % 99 = ch
  by_cases h1 : x = 0 <;> by_cases h2 : ch = 0 <;> by_cases h3 : 50 < ch <;> simp [h1, h2, h3, IntOp.ori]

/-- The opponent of the player at a place is the player across. -/
theorem opp_pos (r : ℕ) (hr : r < 594) (i : Fin 100) :
    oppB (BitVec.ofNat 32 r) (BitVec.ofNat 32 (pos r i).val) = BitVec.ofNat 32 (pos r (bar i)).val := by
  rw [oppB_ofNat r _ hr (pos r i).isLt]
  congr 1
  rw [pos_val, pos_val]
  by_cases h0 : i.val = 0
  · have e : i = 0 := Fin.ext h0
    subst e
    have h : ∀ q : Prop, [Decidable q] → (if (0 : ℕ) ≠ 0 ∧ q then 0 else atPlace ((1 + r) % 99)) = atPlace ((place 50 + r) % 99) :=
      fun q _ => by rw [if_neg (fun h => h.1 rfl), show place 50 = 1 from by decide]
    exact h _
  · have hp := place_atPlace ⟨(place i.val + r) % 99, Nat.mod_lt _ (by omega)⟩
    have hl : place i.val < 99 := Nat.mod_lt _ (by omega)
    have e1 : posN r i.val = atPlace ((place i.val + r) % 99) := if_neg h0
    rw [e1]
    simp only at hp
    rw [hp.1]
    have e2 : ((place i.val + r) % 99 + 594 - r) % 99 = place i.val := by omega
    rw [e2, if_neg hp.2.1]
    by_cases h50 : i.val = 50
    · have e : i = 50 := Fin.ext h50
      subst e
      rw [if_pos ⟨hp.2.1, by decide⟩]
      rfl
    · have hb := place_bar i h0 h50
      rw [if_neg (fun h => hb.2.2.1 h.2), show posN r (bar i).val = atPlace ((place (bar i).val + r) % 99) from if_neg hb.2.1, hb.1]
      congr 1
      omega

/-- The player at a place is first when the place is in the first half. -/
theorem first_pos (r : ℕ) (hr : r < 594) (i : Fin 100) :
    firstB (BitVec.ofNat 32 r) (BitVec.ofNat 32 (pos r i).val) = BitVec.ofBool (decide (i.val < 50)) := by
  rw [firstB_ofNat r _ hr (pos r i).isLt]
  congr 1
  rw [decide_eq_decide, pos_val]
  by_cases h0 : i.val = 0
  · rw [h0]
    exact ⟨fun _ => by omega, fun _ => Or.inl rfl⟩
  · have hp := place_atPlace ⟨(place i.val + r) % 99, Nat.mod_lt _ (by omega)⟩
    have hl : place i.val < 99 := Nat.mod_lt _ (by omega)
    have e1 : posN r i.val = atPlace ((place i.val + r) % 99) := if_neg h0
    rw [e1]
    simp only at hp
    rw [hp.1]
    have e2 : ((place i.val + r) % 99 + 594 - r) % 99 = place i.val := by omega
    rw [e2, ← place_half i h0]
    exact ⟨fun h => h.resolve_left hp.2.1, Or.inr⟩

end Cert.Isomap

end
-- ==== Proof.KerIdx.lean ====
/- The kernel's round read entry by entry. -/
module

public import proofs.«01_k».proof.Proof.KerRound
public import proofs.«01_k».proof.Proof.Sched
public import Idealize.ShloMosaic.Lib.Pipeline.ValueKit

@[expose] public section

set_option maxRecDepth 100000

noncomputable section

namespace Cert.KernelIdeal.Hand

open Idealize Idealize.ShloMosaic Idealize.ShloMosaic.TcCoe Cert.KernelIdeal Cert.KernelIdeal.Gen Cert.Isomap

/-- A function of the place across, by cases. -/
theorem at_bar (f : Fin 100 → EReal) (i : Fin 100) : f (bar i) =
    if h : i.val < 50 then f ⟨50 + i.val, by omega⟩ else f ⟨i.val - 50, by omega⟩ := by
  unfold bar
  split_ifs <;> rfl

/-- The two halves of a row exchanged, at a place. -/
theorem halves_at (v : Row Ideal) (b : Fin 100) : halves v (ix2 0 b) = v (ix2 0 (bar b)) := by
  unfold halves
  pointwise
  exact (at_bar (fun x => v (ix2 0 x)) b).symm

/-- A function of the place a round takes from, by cases. -/
theorem at_rho (f : Fin 100 → EReal) (i : Fin 100) : f (rho i) =
    if h : i.val < 1 then f i else if h1 : i.val - 1 < 1 then f ⟨50 + (i.val - 1), by omega⟩
    else if h2 : i.val - 1 - 1 < 48 then f ⟨1 + (i.val - 1 - 1), by omega⟩
    else if h3 : i.val - 1 - 1 - 48 < 49 then f ⟨51 + (i.val - 1 - 1 - 48), by omega⟩
    else f ⟨49 + (i.val - 1 - 1 - 48 - 49), by omega⟩ := by
  unfold rho
  split_ifs <;> rfl

/-- The places across those a round takes from. -/
theorem bar_rho (i : Fin 100) : bar (rho i) =
    if h : i.val < 1 then ⟨50 + i.val, by omega⟩ else if h1 : i.val - 1 < 1 then ⟨i.val - 1, by omega⟩
    else if h2 : i.val - 1 - 1 < 48 then ⟨51 + (i.val - 1 - 1), by omega⟩
    else if h3 : i.val - 1 - 1 - 48 < 49 then ⟨1 + (i.val - 1 - 1 - 48), by omega⟩
    else ⟨99 + (i.val - 1 - 1 - 48 - 49), by omega⟩ := by
  revert i
  decide +kernel

/-- A function of the place across the one a round takes from, by cases. -/
theorem at_bar_rho (f : Fin 100 → EReal) (i : Fin 100) : f (bar (rho i)) =
    if h : i.val < 1 then f ⟨50 + i.val, by omega⟩ else if h1 : i.val - 1 < 1 then f ⟨i.val - 1, by omega⟩
    else if h2 : i.val - 1 - 1 < 48 then f ⟨51 + (i.val - 1 - 1), by omega⟩
    else if h3 : i.val - 1 - 1 - 48 < 49 then f ⟨1 + (i.val - 1 - 1 - 48), by omega⟩
    else f ⟨99 + (i.val - 1 - 1 - 48 - 49), by omega⟩ := by
  rw [bar_rho]
  split_ifs <;> rfl

/-- A row moved, at a place. -/
theorem moveRow_at (v : Row Ideal) (b : Fin 100) : moveRow v (ix2 0 b) = v (ix2 0 (rho b)) := by
  unfold moveRow
  pointwise
  exact (at_rho (fun x => v (ix2 0 x)) b).symm

/-- Columns moved, at a place. -/
theorem moveC_at (v : Mat Ideal) (a b : Fin 100) : moveC v (ix2 a b) = v (ix2 a (rho b)) := by
  unfold moveC
  pointwise
  exact (at_rho (fun x => v (ix2 a x)) b).symm

/-- Rows moved, at a place. -/
theorem moveR_at (v : Mat Ideal) (a b : Fin 100) : moveR v (ix2 a b) = v (ix2 (rho a) b) := by
  unfold moveR
  pointwise
  exact (at_rho (fun x => v (ix2 x b)) a).symm

/-- Columns moved and their halves exchanged, at a place. -/
theorem swapC_at (v : Mat Ideal) (a b : Fin 100) : swapC v (ix2 a b) = v (ix2 a (bar (rho b))) := by
  unfold swapC
  pointwise
  exact (at_bar_rho (fun x => v (ix2 a x)) b).symm

/-- Rows moved and their halves exchanged, at a place. -/
theorem swapR_at (v : Mat Ideal) (a b : Fin 100) : swapR v (ix2 a b) = v (ix2 (bar (rho a)) b) := by
  unfold swapR
  pointwise
  exact (at_bar_rho (fun x => v (ix2 x b)) a).symm

/-- A masked sum along the columns, at a place. -/
theorem pick_at (M v : Mat Ideal) (b : Fin 100) : pick M v (ix2 0 b) = ∑ x, M (ix2 x b) * v (ix2 x b) := by
  unfold pick
  pointwise

/-- The cotangent of the doubled angle, at a place. -/
theorem tauRow_at (sg d o : Row Ideal) (b : Fin 100) :
    tauRow sg d o (ix2 0 b) = Ideal.div (d (ix2 0 (bar b)) - d (ix2 0 b)) (Ideal.ofBits FTy.f32 1073741824#32 * o (ix2 0 b)) * sg (ix2 0 b) := by
  unfold tauRow
  pointwise
  rw [halves_at]

/-- The tangent, at a place. -/
theorem tanRow_at (sg d o : Row Ideal) (b : Fin 100) :
    tanRow sg d o (ix2 0 b) = if FloatOps.absf (o (ix2 0 b)) ≤ Ideal.ofBits FTy.f32 228737632#32 then 0
    else
      Ideal.div (if 0 ≤ tauRow sg d o (ix2 0 b) then 1 else Ideal.ofBits FTy.f32 3212836864#32)
        (FloatOps.absf (tauRow sg d o (ix2 0 b)) + Ideal.sqrt (1 + tauRow sg d o (ix2 0 b) * tauRow sg d o (ix2 0 b))) := by
  unfold tanRow
  pointwise

/-- The cosine, at a place. -/
theorem cosRow_at (sg d o : Row Ideal) (b : Fin 100) :
    cosRow sg d o (ix2 0 b) = Ideal.rsqrt (1 + tanRow sg d o (ix2 0 b) * tanRow sg d o (ix2 0 b)) := by
  unfold cosRow
  pointwise

/-- The signed sine, at a place. -/
theorem sinRow_at (sg d o : Row Ideal) (b : Fin 100) :
    sinRow sg d o (ix2 0 b) = (0 - sg (ix2 0 b)) * (tanRow sg d o (ix2 0 b) * cosRow sg d o (ix2 0 b)) := by
  unfold sinRow
  pointwise

/-- Columns turned, at a place. -/
theorem turnC_at (M : Mat Ideal) (C S : Row Ideal) (a b : Fin 100) :
    turnC M C S (ix2 a b) = M (ix2 a (rho b)) * C (ix2 0 b) + M (ix2 a (bar (rho b))) * S (ix2 0 b) := by
  unfold turnC
  pointwise
  rw [moveC_at, swapC_at]

/-- The matrix after a round, at a place. -/
theorem nextA_at (A : Mat Ideal) (C S : Row Ideal) (a b : Fin 100) :
    nextA A C S (ix2 a b) = C (ix2 0 a) * turnC (moveR A) C S (ix2 a b) + S (ix2 0 a) * turnC (swapR A) C S (ix2 a b) := by
  unfold nextA
  pointwise

/-- The diagonal after a round, at a place. -/
theorem nextD_at (d o C S : Row Ideal) (b : Fin 100) :
    nextD d o C S (ix2 0 b) = C (ix2 0 b) * C (ix2 0 b) * d (ix2 0 (rho b)) + Ideal.ofBits FTy.f32 1073741824#32 * C (ix2 0 b) * S (ix2 0 b) * o (ix2 0 (rho b))
      + S (ix2 0 b) * S (ix2 0 b) * d (ix2 0 (bar (rho b))) := by
  unfold nextD
  pointwise
  rw [moveRow_at, moveRow_at, moveRow_at, halves_at]

/-- The pairs' entries after a round, at a place. -/
theorem nextO_at (M1 M2 M3 M4 A : Mat Ideal) (C S : Row Ideal) (b : Fin 100) :
    nextO M1 M2 M3 M4 A C S (ix2 0 b) =
      C (ix2 0 b) * C (ix2 0 (bar b)) * pick M1 A (ix2 0 (rho (bar b)))
      + C (ix2 0 b) * S (ix2 0 (bar b)) * pick M2 A (ix2 0 (bar (rho (bar b))))
      + S (ix2 0 b) * C (ix2 0 (bar b)) * pick M3 A (ix2 0 (rho (bar b)))
      + S (ix2 0 b) * S (ix2 0 (bar b)) * pick M4 A (ix2 0 (bar (rho (bar b)))) := by
  unfold nextO
  pointwise
  simp only [halves_at, moveRow_at]

end Cert.KernelIdeal.Hand

end
-- ==== Proof.Turn.lean ====
/- Jacobi's rounds over the reals: the reference's, in the players' order, and the kernel's, in the storage's order. -/
module

public import proofs.«01_k».proof.Proof.Sched
public import Mathlib.Analysis.SpecialFunctions.Pow.Real

@[expose] public section

noncomputable section

namespace Cert.Isomap

open Idealize Idealize.ShloMosaic

/-- The least size of an entry that is rotated away. -/
def tiny : ℝ := (Idealize.ShloMosaic.Ideal.ofBits FTy.f32 228737632#32).toReal

/-- The tangent of the rotation of two diagonal entries whose difference is `dd` and whose paired entry is `o`. -/
def tanR (dd o : ℝ) : ℝ :=
  if max o (-o) ≤ tiny then 0
  else (if 0 ≤ dd / (2 * o) then 1 else -1) / (max (dd / (2 * o)) (-(dd / (2 * o))) + Real.sqrt (1 + dd / (2 * o) * (dd / (2 * o))))

/-- The cosine of the angle whose tangent is `t`. -/
def cosR (t : ℝ) : ℝ := 1 / Real.sqrt (1 + t * t)

/-- A matrix of reals. -/
abbrev RMat : Type := Fin 100 → Fin 100 → ℝ

/-- The sign of a place: plus in the first half. -/
def sgn (i : Fin 100) : ℝ := if i.val < 50 then 1 else -1

/-- The entry of the reference's rotation matrix at `(i, j)`: the cosines `c` on the diagonal, `s` at the pairs. -/
def rotR (opp : Fin 100 → Fin 100) (c s : Fin 100 → ℝ) (i j : Fin 100) : ℝ :=
  if i = j then c j else if i = opp j then s j else 0

/-- A product with the rotation matrix has two terms. -/
theorem sum_rotR (opp : Fin 100 → Fin 100) (h : ∀ j, opp j ≠ j) (c s x : Fin 100 → ℝ) (j : Fin 100) :
    ∑ k, x k * rotR opp c s k j = x j * c j + x (opp j) * s j := by
  have e : ∀ k, x k * rotR opp c s k j = (if k = j then x j * c j else 0) + (if k = opp j then x (opp j) * s j else 0) := by
    intro k
    unfold rotR
    by_cases h1 : k = j
    · subst h1
      rw [if_pos rfl, if_pos rfl, if_neg (fun h2 => h k h2.symm), add_zero]
    · rw [if_neg h1, if_neg h1, zero_add]
      by_cases h2 : k = opp j
      · rw [if_pos h2, if_pos h2, h2]
      · rw [if_neg h2, if_neg h2, mul_zero]
  rw [Finset.sum_congr rfl fun k _ => e k, Finset.sum_add_distrib, Finset.sum_ite_eq', Finset.sum_ite_eq',
    if_pos (Finset.mem_univ _), if_pos (Finset.mem_univ _)]

/-- The reference's next matrix, over the reals. -/
def nextRA (opp : Fin 100 → Fin 100) (c s : Fin 100 → ℝ) (A : RMat) : RMat := fun i j =>
  ∑ k, rotR opp c s k i * ∑ l, A k l * rotR opp c s l j

/-- The reference's next vectors, over the reals. -/
def nextRV (opp : Fin 100 → Fin 100) (c s : Fin 100 → ℝ) (V : RMat) : RMat := fun i j =>
  ∑ l, V i l * rotR opp c s l j

/-- The matrix after a round, written out by its four entries. -/
theorem nextRA_eq (opp : Fin 100 → Fin 100) (h : ∀ j, opp j ≠ j) (c s : Fin 100 → ℝ) (A : RMat) (i j : Fin 100) :
    nextRA opp c s A i j = c i * (A i j * c j + A i (opp j) * s j) + s i * (A (opp i) j * c j + A (opp i) (opp j) * s j) := by
  unfold nextRA
  rw [Finset.sum_congr rfl fun k _ => show rotR opp c s k i * ∑ l, A k l * rotR opp c s l j
      = (A k j * c j + A k (opp j) * s j) * rotR opp c s k i from by rw [sum_rotR opp h, mul_comm],
    sum_rotR opp h c s (fun k => A k j * c j + A k (opp j) * s j) i]
  ring

/-- What the kernel carries, over the reals: the matrix, the vectors, the diagonal, the paired entries. -/
structure Carry where
  /-- the matrix -/
  a : RMat
  /-- the vectors -/
  v : RMat
  /-- the diagonal -/
  d : Fin 100 → ℝ
  /-- the paired entries -/
  o : Fin 100 → ℝ

namespace Carry

variable (s : Carry)

/-- The tangents. -/
def t (i : Fin 100) : ℝ := tanR ((s.d (bar i) - s.d i) * sgn i) (s.o i)
/-- The cosines, at the places they are moved to. -/
def C (i : Fin 100) : ℝ := cosR (s.t (rho i))
/-- The signed sines, at the places they are moved to. -/
def S (i : Fin 100) : ℝ := -sgn (rho i) * (s.t (rho i) * cosR (s.t (rho i)))

/-- One round of the kernel, over the reals. -/
def next : Carry where
  a i j := s.C i * (s.a (rho i) (rho j) * s.C j + s.a (rho i) (bar (rho j)) * s.S j)
    + s.S i * (s.a (bar (rho i)) (rho j) * s.C j + s.a (bar (rho i)) (bar (rho j)) * s.S j)
  v i j := s.v i (rho j) * s.C j + s.v i (bar (rho j)) * s.S j
  d i := s.C i * s.C i * s.d (rho i) + 2 * s.C i * s.S i * s.o (rho i) + s.S i * s.S i * s.d (bar (rho i))
  o i := s.C i * s.C (bar i) * s.a (rho i) (rho (bar i)) + s.C i * s.S (bar i) * s.a (rho i) (bar (rho (bar i)))
    + s.S i * s.C (bar i) * s.a (bar (rho i)) (rho (bar i)) + s.S i * s.S (bar i) * s.a (bar (rho i)) (bar (rho (bar i)))

/-- The carried rows are the matrix's, and the matrix is symmetric. -/
structure Good : Prop where
  symm : ∀ i j, s.a i j = s.a j i
  diag : ∀ i, s.d i = s.a i i
  pair : ∀ i, s.o i = s.a i (bar i)

/-- A round keeps them so. -/
theorem Good.next {s : Carry} (h : s.Good) : s.next.Good where
  symm i j := by
    show _ + _ = _ + _
    rw [h.symm (rho j) (rho i), h.symm (rho j) (bar (rho i)), h.symm (bar (rho j)) (rho i), h.symm (bar (rho j)) (bar (rho i))]
    ring
  diag i := by
    show _ + _ + _ = _ + _
    rw [h.diag, h.diag, h.pair, h.symm (bar (rho i)) (rho i)]
    ring
  pair i := by
    show _ + _ + _ + _ = _ + _
    ring

end Carry

/-- The reference's cosines over the reals. -/
def cR (opp : Fin 100 → Fin 100) (fst : Fin 100 → Prop) [DecidablePred fst] (A : RMat) (j : Fin 100) : ℝ :=
  cosR (tanR ((if fst j then A (opp j) (opp j) else A j j) - (if fst j then A j j else A (opp j) (opp j))) (A (opp j) j))

/-- The reference's signed sines over the reals. -/
def sR (opp : Fin 100 → Fin 100) (fst : Fin 100 → Prop) [DecidablePred fst] (A : RMat) (j : Fin 100) : ℝ :=
  if fst j then -(tanR ((if fst j then A (opp j) (opp j) else A j j) - (if fst j then A j j else A (opp j) (opp j))) (A (opp j) j) * cR opp fst A j)
  else tanR ((if fst j then A (opp j) (opp j) else A j j) - (if fst j then A j j else A (opp j) (opp j))) (A (opp j) j) * cR opp fst A j

/-- The kernel's state holds the reference's matrices, the players at their places. -/
structure Holds (p : Fin 100 → Fin 100) (A V : RMat) (s : Carry) : Prop where
  good : s.Good
  mat : ∀ i j, s.a i j = A (p i) (p j)
  vec : ∀ i j, s.v i j = V i (p j)

/-- A round of the kernel does what a round of the reference does. -/
theorem Holds.next {p : Fin 100 → Fin 100} {A V : RMat} {s : Carry} (h : Holds p A V s) (hp : Function.Surjective p)
    (opp : Fin 100 → Fin 100) (fst : Fin 100 → Prop) [DecidablePred fst]
    (hpi : Function.Injective p)
    (ho : ∀ i, opp (p i) = p (bar i)) (hf : ∀ i, fst (p i) ↔ i.val < 50) :
    Holds (fun i => p (rho i)) (nextRA opp (cR opp fst A) (sR opp fst A) A) (nextRV opp (cR opp fst A) (sR opp fst A) V) s.next := by
  have hne : ∀ j, opp j ≠ j := by
    intro j
    obtain ⟨i, rfl⟩ := hp j
    rw [ho]
    exact fun e => bar_ne i (hpi e)
  have ht : ∀ i, tanR ((if fst (p i) then A (opp (p i)) (opp (p i)) else A (p i) (p i))
      - (if fst (p i) then A (p i) (p i) else A (opp (p i)) (opp (p i)))) (A (opp (p i)) (p i)) = s.t i := by
    intro i
    unfold Carry.t sgn
    rw [ho, ← h.mat, ← h.mat, ← h.mat, h.good.pair, h.good.symm (bar i) i, h.good.diag, h.good.diag]
    by_cases hi : i.val < 50
    · rw [if_pos ((hf i).2 hi), if_pos ((hf i).2 hi), if_pos hi, mul_one]
    · rw [if_neg (fun hh => hi ((hf i).1 hh)), if_neg (fun hh => hi ((hf i).1 hh)), if_neg hi]
      congr 1
      ring
  have hc : ∀ i, cR opp fst A (p (rho i)) = s.C i := by
    intro i
    unfold cR Carry.C
    rw [ht]
  have hs : ∀ i, sR opp fst A (p (rho i)) = s.S i := by
    intro i
    unfold sR Carry.S
    rw [ht, hc]
    unfold Carry.C sgn
    by_cases hi : (rho i).val < 50
    · rw [if_pos ((hf _).2 hi), if_pos hi]; ring
    · rw [if_neg (fun hh => hi ((hf _).1 hh)), if_neg hi]; ring
  refine ⟨h.good.next, fun i j => ?_, fun i j => ?_⟩
  · rw [nextRA_eq opp hne, hc, hc, hs, hs, ho, ho, ← h.mat, ← h.mat, ← h.mat, ← h.mat]
    rfl
  · unfold nextRV
    rw [sum_rotR opp hne, hc, hs, ho, ← h.vec, ← h.vec]
    rfl

end Cert.Isomap

end
-- ==== Proof.Scalars.lean ====
/- The scalar steps of a round at real numbers: the tangent, the cosine and the constants. -/
module

public import proofs.«01_k».proof.Proof.Turn
public import Idealize.ShloMosaic.Lib.Pipeline.ValueKit
public import Idealize.ShloMosaic.Lib.IdealHost

@[expose] public section

noncomputable section

namespace Cert.Isomap

open Idealize Idealize.ShloMosaic

/-- The word of two. -/
theorem word_two : Ideal.ofBits FTy.f32 1073741824#32 = ((2 : ℝ) : EReal) := by
  simp [Ideal.ofBits, Ideal.ieee, -EReal.coe_mul]; norm_num

/-- The word of minus one. -/
theorem word_neg_one : Ideal.ofBits FTy.f32 3212836864#32 = ((-1 : ℝ) : EReal) := by
  simp [Ideal.ofBits, Ideal.ieee, -EReal.coe_mul, -EReal.coe_neg]; norm_num

/-- The word of one. -/
theorem word_one : Ideal.ofBits FTy.f32 1065353216#32 = ((1 : ℝ) : EReal) := by
  simp [Ideal.ofBits, Ideal.ieee, -EReal.coe_mul]; norm_num

/-- The least size's word is a real number, not negative. -/
theorem word_tiny_aux : ∃ r : ℝ, 0 ≤ r ∧ Ideal.ofBits FTy.f32 228737632#32 = (r : EReal) := by
  refine ⟨_, ?_, by simp [Ideal.ofBits, Ideal.ieee, -EReal.coe_mul]; rfl⟩
  positivity

/-- The smallest divisor as a real. -/
theorem word_tiny : Ideal.ofBits FTy.f32 228737632#32 = (tiny : EReal) := by
  obtain ⟨r, _, h⟩ := word_tiny_aux
  unfold tiny
  rw [h, EReal.toReal_coe]

/-- It is not negative. -/
theorem tiny_nonneg : 0 ≤ tiny := by
  obtain ⟨r, h0, h⟩ := word_tiny_aux
  unfold tiny
  rw [h, EReal.toReal_coe]
  exact h0

/-- The quotient of two reals, the lower not zero. -/
theorem div_real (a b : ℝ) (hb : b ≠ 0) : Ideal.div (a : EReal) (b : EReal) = ((a / b : ℝ) : EReal) := by
  rw [Ideal.div_coe hb, ← EReal.coe_mul, mul_one_div]

/-- The size of a real. -/
theorem absf_real (a : ℝ) : FloatOps.absf (F := Ideal) (φ := .f32) (a : EReal) = ((max a (-a) : ℝ) : EReal) := by
  show max (a : EReal) (-(a : EReal)) = _
  rw [← EReal.coe_neg, ← EReal.coe_strictMono.monotone.map_max]

/-- The root of a real that is not negative. -/
theorem sqrt_real (a : ℝ) (h : 0 ≤ a) : Ideal.sqrt (a : EReal) = ((Real.sqrt a : ℝ) : EReal) := by
  rw [Ideal.sqrt_coe, if_neg (not_lt.2 h)]

/-- The tangent, as both programs compute it. -/
def tanX (τ o : EReal) : EReal :=
  if FloatOps.absf (F := Ideal) (φ := .f32) o ≤ Ideal.ofBits FTy.f32 228737632#32 then 0
  else Ideal.div (if 0 ≤ τ then 1 else Ideal.ofBits FTy.f32 3212836864#32)
    (FloatOps.absf (F := Ideal) (φ := .f32) τ + Ideal.sqrt (1 + τ * τ))

/-- At real numbers it is the real tangent. -/
theorem tanX_real (dd sg o : ℝ) :
    tanX (Ideal.div (dd : EReal) (Ideal.ofBits FTy.f32 1073741824#32 * (o : EReal)) * (sg : EReal)) (o : EReal)
      = ((tanR (dd * sg) o : ℝ) : EReal) := by
  unfold tanX tanR
  rw [absf_real, word_tiny]
  by_cases h : max o (-o) ≤ tiny
  · rw [if_pos (EReal.coe_le_coe_iff.2 h), if_pos h]; rfl
  · rw [if_neg (fun hh => h (EReal.coe_le_coe_iff.1 hh)), if_neg h]
    have ho : o ≠ 0 := by
      rintro rfl
      exact h (by simpa using tiny_nonneg)
    have e : Ideal.div (dd : EReal) (Ideal.ofBits FTy.f32 1073741824#32 * (o : EReal)) * (sg : EReal)
        = ((dd * sg / (2 * o) : ℝ) : EReal) := by
      rw [word_two, ← EReal.coe_mul, div_real _ _ (mul_ne_zero two_ne_zero ho), ← EReal.coe_mul]
      congr 1
      ring
    rw [e]
    generalize dd * sg / (2 * o) = τ
    have h1 : (0 : ℝ) ≤ 1 + τ * τ := by nlinarith [mul_self_nonneg τ]
    have hpos : 0 < max τ (-τ) + Real.sqrt (1 + τ * τ) := by
      have : 0 < Real.sqrt (1 + τ * τ) := Real.sqrt_pos.2 (by nlinarith [mul_self_nonneg τ])
      have h2 : 0 ≤ max τ (-τ) := by
        rcases le_total 0 τ with h | h
        · exact le_max_of_le_left h
        · exact le_max_of_le_right (by linarith)
      linarith
    rw [absf_real, ← EReal.coe_mul, show (1 : EReal) + ((τ * τ : ℝ) : EReal) = ((1 + τ * τ : ℝ) : EReal) by
      rw [EReal.coe_add, EReal.coe_one], sqrt_real _ h1, ← EReal.coe_add]
    by_cases h0 : 0 ≤ τ
    · rw [if_pos (EReal.coe_nonneg.2 h0), if_pos h0, ← EReal.coe_one, div_real _ _ hpos.ne']
    · rw [if_neg (fun hh => h0 (EReal.coe_nonneg.1 hh)), if_neg h0, word_neg_one, div_real _ _ hpos.ne']

/-- The reference's tangent, whose difference carries no sign. -/
theorem tanX_real' (dd o : ℝ) :
    tanX (Ideal.div (dd : EReal) (Ideal.ofBits FTy.f32 1073741824#32 * (o : EReal))) (o : EReal)
      = ((tanR dd o : ℝ) : EReal) := by
  have h := tanX_real dd 1 o
  rwa [EReal.coe_one, mul_one, mul_one] at h

/-- The cosine from the reciprocal root. -/
theorem rsqrt_real (t : ℝ) : Ideal.rsqrt (1 + (t : EReal) * (t : EReal)) = ((cosR t : ℝ) : EReal) := by
  have h1 : (0 : ℝ) < 1 + t * t := by nlinarith [mul_self_nonneg t]
  rw [← EReal.coe_mul, ← EReal.coe_one, ← EReal.coe_add, Ideal.rsqrt_coe, if_neg (not_lt.2 h1.le), if_neg h1.ne']
  unfold cosR
  rw [one_div]

/-- The cosine from the root. -/
theorem div_sqrt_real (t : ℝ) : Ideal.div 1 (Ideal.sqrt (1 + (t : EReal) * (t : EReal))) = ((cosR t : ℝ) : EReal) := by
  have h1 : (0 : ℝ) < 1 + t * t := by nlinarith [mul_self_nonneg t]
  rw [← EReal.coe_mul, ← EReal.coe_one, ← EReal.coe_add, sqrt_real _ h1.le, div_real _ _ (Real.sqrt_pos.2 h1).ne']
  rfl

/-- A sum of reals. -/
theorem sum_real {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

end Cert.Isomap

end
-- ==== Proof.KerTrip.lean ====
/- The trip of the kernel's Jacobi loop is three rounds. -/
module

public import proofs.«01_k».proof.Proof.KerRound

@[expose] public section

set_option maxRecDepth 100000

noncomputable section

namespace Cert.KernelIdeal.Hand

open Idealize.ShloMosaic Idealize.ShloMosaic.TcCoe Cert.KernelIdeal Cert.KernelIdeal.Gen

variable {F : FTy → Type} [FloatOps F] [Named F]

/-- What one round makes of the carried values, with the masks as they lie in their buffers. -/
abbrev roundOf (arg6 : Memref sig .tc .vmem S100x100 .f32) (arg7 : Memref sig .tc .vmem S100x100 .f32) (arg8 : Memref sig .tc .vmem S100x100 .f32) (arg9 : Memref sig .tc .vmem S100x100 .f32) (v21 : FVec F S1x100 .f32) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (acc : Mat F × Mat F × Row F × Row F) : Mat F × Mat F × Row F × Row F :=
  round (trip_k0_t2.sl.r arg6 X_arg6) (trip_k0_t2.sl.r arg7 X_arg7) (trip_k0_t2.sl.r arg8 X_arg8) (trip_k0_t2.sl.r arg9 X_arg9) v21 acc

/-- One trip of the loop is three rounds. -/
theorem trip_rounds (𝒱 : Variants) (c : Dev nD) (bd : Option 𝒱.V) (arg0 : Memref sig .tc .vmem S100x2 .f32) (harg0 : arg0.IsWhole) (arg1 : Memref sig .tc .vmem S2x100 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S512x10 .f32) (harg4 : arg4.IsWhole) (arg5 : Memref sig .tc .vmem S1x10 .f32) (harg5 : arg5.IsWhole) (arg6 : Memref sig .tc .vmem S100x100 .f32) (harg6 : arg6.IsWhole) (arg7 : Memref sig .tc .vmem S100x100 .f32) (harg7 : arg7.IsWhole) (arg8 : Memref sig .tc .vmem S100x100 .f32) (harg8 : arg8.IsWhole) (arg9 : Memref sig .tc .vmem S100x100 .f32) (harg9 : arg9.IsWhole) (arg10 : Memref sig .tc .vmem S100x10 .f32) (harg10 : arg10.IsWhole) (v5 : FVec F S100x100 .f32) (v15 : FVec F S100x100 .f32) (v21 : FVec F S1x100 .f32) (v81 : FVec F S100x100 .f32) (v82 : FVec F S100x100 .f32) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t2_loop.trips) (acc : FVec F S100x100 .f32 × FVec F S100x100 .f32 × FVec F S1x100 .f32 × FVec F S1x100 .f32) :
    (trip_k0_t2 (F := F) 𝒱 c bd arg0 harg0 arg1 harg1 arg2 harg2 arg3 harg3 arg4 harg4 arg5 harg5 arg6 harg6 arg7 harg7 arg8 harg8 arg9 harg9 arg10 harg10 v5 v15 v21 v81 v82 X_arg6 X_arg7 X_arg8 X_arg9 k).1 acc = roundOf arg6 arg7 arg8 arg9 v21 X_arg6 X_arg7 X_arg8 X_arg9 (roundOf arg6 arg7 arg8 arg9 v21 X_arg6 X_arg7 X_arg8 X_arg9 (roundOf arg6 arg7 arg8 arg9 v21 X_arg6 X_arg7 X_arg8 X_arg9 acc)) := by
  unfold trip_k0_t2
  rfl

end Cert.KernelIdeal.Hand

end
-- ==== Proof.KerRun.lean ====
/- The kernel's run: what its result buffer holds, as a function of the arguments. -/
module

public import proofs.«01_k».proof.Proof.KerTrip
public import proofs.«01_k».proof.Proof.Gen.KernelIdeal.Value
public import Idealize.ShloMosaic.Lib.WholeRead

@[expose] public section

set_option maxRecDepth 100000

noncomputable section

namespace Cert.KernelIdeal.Hand

open Idealize Idealize.ShloMosaic Idealize.ShloMosaic.TcCoe Cert.KernelIdeal Cert.KernelIdeal.Gen

variable {F : FTy → Type} [FloatOps F] [Named F]

/-- The first `k` of a list of steps, taken one after another. -/
def iter {σ : Type} {n : ℕ} (g : Fin n → σ → σ) (s : σ) : ℕ → σ
  | 0 => s
  | k + 1 => if h : k < n then g ⟨k, h⟩ (iter g s k) else iter g s k

/-- A step taken on top of the earlier ones. -/
theorem iter_succ {σ : Type} {n : ℕ} (g : Fin n → σ → σ) (s : σ) (k : ℕ) (h : k < n) :
    iter g s (k + 1) = g ⟨k, h⟩ (iter g s k) := by rw [iter, dif_pos h]

/-- Folding over all the steps is taking them one after another. -/
theorem foldl_eq_iter {σ : Type} : ∀ {n : ℕ} (g : Fin n → σ → σ) (s : σ),
    (List.finRange n).foldl (fun acc k => g k acc) s = iter g s n
  | 0, _, _ => rfl
  | n + 1, g, s => by
    rw [List.finRange_succ_last, List.foldl_append, List.foldl_map, iter_succ g s n (Nat.lt_succ_self n),
      foldl_eq_iter (fun k acc => g k.castSucc acc) s]
    have e : ∀ k, k ≤ n → iter (fun k acc => g k.castSucc acc) s k = iter g s k := by
      intro k
      induction k with
      | zero => intro _; rfl
      | succ k ih =>
        intro hk
        rw [iter_succ _ _ k (by omega), iter_succ _ _ k (by omega), ih (by omega)]
        rfl
    rw [e n le_rfl]
    rfl

/-- The distances between the points, from the points and their transpose. -/
def dist (x : Vec F S100x2 .f32) (xT : Vec F S2x100 .f32) : Mat F :=
  k0_pay78 (View.ld x (Rect.unit ![0, 0] S100x1.size inb_S100x2_S100x1_0_0))
    (View.ld x (Rect.unit ![0, 1] S100x1.size inb_S100x2_S100x1_0_1))
    (View.ld xT (Rect.unit ![0, 0] S1x100.size inb_S2x100_S1x100_0_0))
    (View.ld xT (Rect.unit ![1, 0] S1x100.size inb_S2x100_S1x100_1_0))

/-- The graph's lengths after `k` pivots. -/
def lengths (x : Vec F S100x2 .f32) (xT : Vec F S2x100 .f32) (k : ℕ) : Mat F :=
  iter (fun a acc => k0_pay81 kernelRun0_A.sl.v0 kernelRun0_A.sl.v1 a acc)
    (k0_pay80 k0_pay74 (dist x xT) k0_pay79) k

/-- The matrix to be diagonalised, with what the rounds carry beside it, before the first round. -/
def start (G : Mat F) : Mat F × Mat F × Row F × Row F :=
  (k0_pay82 G, k0_pay75, k0_pay84 (k0_pay83 k0_pay75 G), k0_pay85 k0_pay76 (k0_pay82 G))

/-- What the rounds carry after `k` of them. -/
def state (M1 M2 M3 M4 : Mat F) (s : Mat F × Mat F × Row F × Row F) : ℕ → Mat F × Mat F × Row F × Row F
  | 0 => s
  | k + 1 => round M1 M2 M3 M4 k0_pay77 (state M1 M2 M3 M4 s k)

/-- The result from the two carried matrices and the weights. -/
def finish (A V : Mat F) (w1 : Vec F S2x512 .f32) (b1 : Vec F S1x512 .f32) (w2 : Vec F S512x10 .f32)
    (b2 : Vec F S1x10 .f32) : FVec F S100x10 .f32 :=
  k0_pay1 (k0_pay87 k0_pay75 A V w1 b1) w2 b2

/-- The kernel's body as a function of its blocks. -/
def bodyOut (x : Vec F S100x2 .f32) (xT : Vec F S2x100 .f32) (w1 : Vec F S2x512 .f32) (b1 : Vec F S1x512 .f32)
    (w2 : Vec F S512x10 .f32) (b2 : Vec F S1x10 .f32) (M1 M2 M3 M4 : Mat F) : FVec F S100x10 .f32 :=
  finish (state M1 M2 M3 M4 (start (lengths x xT 100)) 594).1 (state M1 M2 M3 M4 (start (lengths x xT 100)) 594).2.1
    w1 b1 w2 b2

omit [Named F] in
/-- A load of a whole buffer reads its contents. -/
theorem load_whole {S : Shape} {e : EltTy} (m : Memref sig .tc .vmem S e) (h : m.IsWhole) (X : Vec F S e)
    (off : Fin S.rank → ℕ) (h0 : off = fun _ => 0) (inb : ∀ a, off a + S.size a ≤ S.size a) :
    View.readAt (Elt F) m.view (Rect.unit off S.size inb).toLoadRect (h.unread X) = X := by
  have e1 : View.readAt (Elt F) m.view (Rect.unit off S.size inb).toLoadRect (h.unread X)
      = View.ld X (Rect.unit off S.size inb) := funext fun x => Memref.IsWhole.readAt_unread h X _ x
  rw [e1]
  exact View.ld_unit_zero h0 inb X

/-- `k` trips of the loop are `3 k` rounds. -/
theorem trips_rounds (c : Dev nD) (arg0 : Memref sig .tc .vmem S100x2 .f32) (harg0 : arg0.IsWhole) (arg1 : Memref sig .tc .vmem S2x100 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S512x10 .f32) (harg4 : arg4.IsWhole) (arg5 : Memref sig .tc .vmem S1x10 .f32) (harg5 : arg5.IsWhole) (arg6 : Memref sig .tc .vmem S100x100 .f32) (harg6 : arg6.IsWhole) (arg7 : Memref sig .tc .vmem S100x100 .f32) (harg7 : arg7.IsWhole) (arg8 : Memref sig .tc .vmem S100x100 .f32) (harg8 : arg8.IsWhole) (arg9 : Memref sig .tc .vmem S100x100 .f32) (harg9 : arg9.IsWhole) (arg10 : Memref sig .tc .vmem S100x10 .f32) (harg10 : arg10.IsWhole)

    (x6 x7 x8 x9 v81 v82 : Mat F) (s : Mat F × Mat F × Row F × Row F) (k : ℕ) (hk : k ≤ 198) :
    st_k0_t2 (F := F) Variants.none c none arg0 harg0 arg1 harg1 arg2 harg2 arg3 harg3 arg4 harg4 arg5 harg5 arg6 harg6 arg7 harg7 arg8 harg8 arg9 harg9 arg10 harg10 k0_pay75 k0_pay76 k0_pay77 v81 v82 (harg6.unread x6) (harg7.unread x7) (harg8.unread x8) (harg9.unread x9) s k = state x6 x7 x8 x9 s (3 * k) := by
  induction k with
  | zero => rfl
  | succ k ih =>
    have hk' : k < k0_t2_loop.trips := lt_of_lt_of_le (Nat.lt_of_succ_le hk) (le_of_eq (by decide))
    have e := st_k0_t2_succ (F := F) Variants.none c none arg0 harg0 arg1 harg1 arg2 harg2 arg3 harg3 arg4 harg4 arg5 harg5 arg6 harg6 arg7 harg7 arg8 harg8 arg9 harg9 arg10 harg10 k0_pay75 k0_pay76 k0_pay77 v81 v82 (harg6.unread x6) (harg7.unread x7) (harg8.unread x8) (harg9.unread x9) s ⟨k, hk'⟩
    rw [e]
    unfold tripR_k0_t2
    rw [trip_rounds, ih (by omega), show 3 * (k + 1) = 3 * k + 1 + 1 + 1 by ring]
    have l6 : trip_k0_t2.sl.r arg6 (harg6.unread x6) = x6 := load_whole arg6 harg6 x6 _ (by decide) _
    have l7 : trip_k0_t2.sl.r arg7 (harg7.unread x7) = x7 := load_whole arg7 harg7 x7 _ (by decide) _
    have l8 : trip_k0_t2.sl.r arg8 (harg8.unread x8) = x8 := load_whole arg8 harg8 x8 _ (by decide) _
    have l9 : trip_k0_t2.sl.r arg9 (harg9.unread x9) = x9 := load_whole arg9 harg9 x9 _ (by decide) _
    unfold roundOf
    rw [l6, l7, l8, l9]
    rfl

/-- What the body's stores leave in the result's staging buffer. -/
theorem out_eq (c : Dev nD) (arg0 : Memref sig .tc .vmem S100x2 .f32) (harg0 : arg0.IsWhole) (arg1 : Memref sig .tc .vmem S2x100 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S512x10 .f32) (harg4 : arg4.IsWhole) (arg5 : Memref sig .tc .vmem S1x10 .f32) (harg5 : arg5.IsWhole) (arg6 : Memref sig .tc .vmem S100x100 .f32) (harg6 : arg6.IsWhole) (arg7 : Memref sig .tc .vmem S100x100 .f32) (harg7 : arg7.IsWhole) (arg8 : Memref sig .tc .vmem S100x100 .f32) (harg8 : arg8.IsWhole) (arg9 : Memref sig .tc .vmem S100x100 .f32) (harg9 : arg9.IsWhole) (arg10 : Memref sig .tc .vmem S100x10 .f32) (harg10 : arg10.IsWhole)
    (x0 : Vec F S100x2 .f32) (x1 : Vec F S2x100 .f32) (x2 : Vec F S2x512 .f32) (x3 : Vec F S1x512 .f32) (x4 : Vec F S512x10 .f32) (x5 : Vec F S1x10 .f32) (x6 : Vec F S100x100 .f32) (x7 : Vec F S100x100 .f32) (x8 : Vec F S100x100 .f32) (x9 : Vec F S100x100 .f32) :
    out0_A_10 c arg0 harg0 arg1 harg1 arg2 harg2 arg3 harg3 arg4 harg4 arg5 harg5 arg6 harg6 arg7 harg7 arg8 harg8 arg9 harg9 arg10 harg10 x0 x1 x2 x3 x4 x5 x6 x7 x8 x9 = bodyOut x0 x1 x2 x3 x4 x5 x6 x7 x8 x9 := by
  have hr : kernelRun0_A.sl.r c arg0 harg0 arg1 harg1 x0 x1 = dist x0 x1 := by
    unfold kernelRun0_A.sl.r dist
    congr 1 <;> exact funext fun x => Memref.IsWhole.readAt_unread _ _ _ x
  have hr1 : kernelRun0_A.sl.r_1 c arg0 harg0 arg1 harg1 x0 x1 = lengths x0 x1 100 := by
    unfold kernelRun0_A.sl.r_1 lengths
    rw [hr, Scf.fold_eq, foldl_eq_iter]
    rfl
  unfold out0_A_10
  rw [View.read_writes_eq_canon _ _ _ (cover0_A_10 c arg0 harg0 arg1 harg1 arg2 harg2 arg3 harg3 arg4 harg4 arg5 harg5 arg6 harg6 arg7 harg7 arg8 harg8 arg9 harg9 arg10 harg10 x0 x1 x2 x3 x4 x5 x6 x7 x8 x9)]
  unfold kernelRun0_A
  dsimp only
  unfold kernelRun0_A.sl.r_4 kernelRun0_A.sl.r_3 kernelRun0_A.sl.r_2
  rw [hr1]
  dsimp only
  rw [View.canon_cons_unit_zero (by decide)]
  have ht : Scf.trips (0#32) (Scalar.addi 0#32 198#32) 1#32 = 198 := by decide
  rw [ht, trips_rounds _ arg0 harg0 arg1 harg1 arg2 harg2 arg3 harg3 arg4 harg4 arg5 harg5 arg6 harg6 arg7 harg7 arg8 harg8 arg9 harg9 arg10 harg10 _ _ _ _ _ _ _ 198 le_rfl]
  rw [load_whole arg2 harg2 x2 _ (by decide), load_whole arg3 harg3 x3 _ (by decide),
    load_whole arg4 harg4 x4 _ (by decide), load_whole arg5 harg5 x5 _ (by decide)]
  rfl

end Cert.KernelIdeal.Hand

end
-- ==== Proof.KerMain.lean ====
/- The kernel's result buffer after the run, as a function of the arguments. -/
module

public import proofs.«01_k».proof.Proof.KerRun
public import Idealize.ShloMosaic.Lib.Claim

@[expose] public section

set_option maxRecDepth 100000

noncomputable section

namespace Cert.KernelIdeal.Hand

open Idealize Idealize.ShloMosaic Idealize.ShloMosaic.TcCoe Cert.KernelIdeal Cert.KernelIdeal.Gen Cert.KernelIdeal.Value

variable {F : FTy → Type} [FloatOps F]

/-- The entries of mask 1. -/
def mask1 : Mat F := fun i => FloatOps.ofBits .f32 (lit0 (S100x100.rowMajor i))
/-- The entries of mask 2. -/
def mask2 : Mat F := fun i => FloatOps.ofBits .f32 (lit1 (S100x100.rowMajor i))
/-- The entries of mask 3. -/
def mask3 : Mat F := fun i => FloatOps.ofBits .f32 (lit2 (S100x100.rowMajor i))
/-- The entries of mask 4. -/
def mask4 : Mat F := fun i => FloatOps.ofBits .f32 (lit3 (S100x100.rowMajor i))

variable [Named F]

variable (m : (ℓ : Loc nD τ sig) → Buf (Elt F) ℓ) (ρ : Dev nD → PrngReg)

/-- Window 0's one block starts at the origin. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S100x2.Idx) : ((cfg0.win 0).blk t).view.emb j = j := by
  have e0 := idx_zero0 t
  funext a; apply Fin.ext
  match a with
  | ⟨0, _⟩ => show win0_0.index t (0 : Fin 2) * 100 + 1 * (j 0).val = (j 0).val; omega
  | ⟨1, _⟩ => show win0_0.index t (1 : Fin 2) * 2 + 1 * (j 1).val = (j 1).val; omega

/-- Window 1's one block starts at the origin. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S2x100.Idx) : ((cfg0.win 1).blk t).view.emb j = j := by
  have e0 := idx_zero1 t
  funext a; apply Fin.ext
  match a with
  | ⟨0, _⟩ => show win0_1.index t (0 : Fin 2) * 2 + 1 * (j 0).val = (j 0).val; omega
  | ⟨1, _⟩ => show win0_1.index t (1 : Fin 2) * 100 + 1 * (j 1).val = (j 1).val; omega

/-- Window 2's one block starts at the origin. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S2x512.Idx) : ((cfg0.win 2).blk t).view.emb j = j := by
  have e0 := idx_zero2 t
  funext a; apply Fin.ext
  match a with
  | ⟨0, _⟩ => show win0_2.index t (0 : Fin 2) * 2 + 1 * (j 0).val = (j 0).val; omega
  | ⟨1, _⟩ => show win0_2.index t (1 : Fin 2) * 512 + 1 * (j 1).val = (j 1).val; omega

/-- Window 3's one block starts at the origin. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S1x512.Idx) : ((cfg0.win 3).blk t).view.emb j = j := by
  have e0 := idx_zero3 t
  funext a; apply Fin.ext
  match a with
  | ⟨0, _⟩ => show win0_3.index t (0 : Fin 2) * 1 + 1 * (j 0).val = (j 0).val; omega
  | ⟨1, _⟩ => show win0_3.index t (1 : Fin 2) * 512 + 1 * (j 1).val = (j 1).val; omega

/-- Window 4's one block starts at the origin. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S512x10.Idx) : ((cfg0.win 4).blk t).view.emb j = j := by
  have e0 := idx_zero4 t
  funext a; apply Fin.ext
  match a with
  | ⟨0, _⟩ => show win0_4.index t (0 : Fin 2) * 512 + 1 * (j 0).val = (j 0).val; omega
  | ⟨1, _⟩ => show win0_4.index t (1 : Fin 2) * 10 + 1 * (j 1).val = (j 1).val; omega

/-- Window 5's one block starts at the origin. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S1x10.Idx) : ((cfg0.win 5).blk t).view.emb j = j := by
  have e0 := idx_zero5 t
  funext a; apply Fin.ext
  match a with
  | ⟨0, _⟩ => show win0_5.index t (0 : Fin 2) * 1 + 1 * (j 0).val = (j 0).val; omega
  | ⟨1, _⟩ => show win0_5.index t (1 : Fin 2) * 10 + 1 * (j 1).val = (j 1).val; omega

/-- Window 6's one block starts at the origin. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S100x100.Idx) : ((cfg0.win 6).blk t).view.emb j = j := by
  have e0 := idx_zero6 t
  funext a; apply Fin.ext
  match a with
  | ⟨0, _⟩ => show win0_6.index t (0 : Fin 2) * 100 + 1 * (j 0).val = (j 0).val; omega
  | ⟨1, _⟩ => show win0_6.index t (1 : Fin 2) * 100 + 1 * (j 1).val = (j 1).val; omega

/-- Window 7's one block starts at the origin. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S100x100.Idx) : ((cfg0.win 7).blk t).view.emb j = j := by
  have e0 := idx_zero7 t
  funext a; apply Fin.ext
  match a with
  | ⟨0, _⟩ => show win0_7.index t (0 : Fin 2) * 100 + 1 * (j 0).val = (j 0).val; omega
  | ⟨1, _⟩ => show win0_7.index t (1 : Fin 2) * 100 + 1 * (j 1).val = (j 1).val; omega

/-- Window 8's one block starts at the origin. -/
theorem idx_zero8 : ∀ t : Fin cfg0.N, win0_8.index t (0 : Fin 2) = 0 ∧ win0_8.index t (1 : Fin 2) = 0 :=
  (by decide +kernel : ∀ t : Fin grid0.N, _)

/-- An index of window 8's block is the same index of its array. -/
theorem emb8 (t : Fin cfg0.N) (j : S100x100.Idx) : ((cfg0.win 8).blk t).view.emb j = j := by
  have e0 := idx_zero8 t
  funext a; apply Fin.ext
  match a with
  | ⟨0, _⟩ => show win0_8.index t (0 : Fin 2) * 100 + 1 * (j 0).val = (j 0).val; omega
  | ⟨1, _⟩ => show win0_8.index t (1 : Fin 2) * 100 + 1 * (j 1).val = (j 1).val; omega

/-- Window 9's one block starts at the origin. -/
theorem idx_zero9 : ∀ t : Fin cfg0.N, win0_9.index t (0 : Fin 2) = 0 ∧ win0_9.index t (1 : Fin 2) = 0 :=
  (by decide +kernel : ∀ t : Fin grid0.N, _)

/-- An index of window 9's block is the same index of its array. -/
theorem emb9 (t : Fin cfg0.N) (j : S100x100.Idx) : ((cfg0.win 9).blk t).view.emb j = j := by
  have e0 := idx_zero9 t
  funext a; apply Fin.ext
  match a with
  | ⟨0, _⟩ => show win0_9.index t (0 : Fin 2) * 100 + 1 * (j 0).val = (j 0).val; omega
  | ⟨1, _⟩ => show win0_9.index t (1 : Fin 2) * 100 + 1 * (j 1).val = (j 1).val; omega

/-- Window 10's one block starts at the origin. -/
theorem idx_zero10 : ∀ t : Fin cfg0.N, win0_10.index t (0 : Fin 2) = 0 ∧ win0_10.index t (1 : Fin 2) = 0 :=
  (by decide +kernel : ∀ t : Fin grid0.N, _)

/-- An index of window 10's block is the same index of its array. -/
theorem emb10 (t : Fin cfg0.N) (j : S100x10.Idx) : ((cfg0.win 10).blk t).view.emb j = j := by
  have e0 := idx_zero10 t
  funext a; apply Fin.ext
  match a with
  | ⟨0, _⟩ => show win0_10.index t (0 : Fin 2) * 100 + 1 * (j 0).val = (j 0).val; omega
  | ⟨1, _⟩ => show win0_10.index t (1 : Fin 2) * 10 + 1 * (j 1).val = (j 1).val; omega

/-- Window 0's block is its whole array. -/
theorem iblk_0 (c : Dev nD) (t : Fin cfg0.N) : iblk m c 0 t = m ((c : Thread nD τ).loc main_arg0) := by
  rw [← V_main_arg0 m c]
  funext j; show V m c main_arg0 (((cfg0.win 0).blk t).view.emb j) = V m c main_arg0 j; rw [emb0]

/-- What `main_v0` holds when the kernel starts. -/
theorem V_main_v0 (c : Dev nD) : V m c main_v0 = transpose S2x100 [1, 0] (m ((c : Thread nD τ).loc main_arg0)) transposes_S100x2_S2x100_1_0 := by
  entry_read
  rfl

/-- Window 1's block is its whole array. -/
theorem iblk_1 (c : Dev nD) (t : Fin cfg0.N) : iblk m c 1 t = transpose S2x100 [1, 0] (m ((c : Thread nD τ).loc main_arg0)) transposes_S100x2_S2x100_1_0 := by
  rw [← V_main_v0 m c]
  funext j; show V m c main_v0 (((cfg0.win 1).blk t).view.emb j) = V m c main_v0 j; rw [emb1]

/-- Window 2's block is its whole array. -/
theorem iblk_2 (c : Dev nD) (t : Fin cfg0.N) : iblk m c 2 t = m ((c : Thread nD τ).loc main_arg1) := by
  rw [← V_main_arg1 m c]
  funext j; show V m c main_arg1 (((cfg0.win 2).blk t).view.emb j) = V m c main_arg1 j; rw [emb2]

/-- What `main_v1` holds when the kernel starts. -/
theorem V_main_v1 (c : Dev nD) : V m c main_v1 = shapeCast S1x512 (m ((c : Thread nD τ).loc main_arg2)) shapeCasts_S512_S1x512 := by
  entry_read
  rfl

/-- Window 3's block is its whole array. -/
theorem iblk_3 (c : Dev nD) (t : Fin cfg0.N) : iblk m c 3 t = shapeCast S1x512 (m ((c : Thread nD τ).loc main_arg2)) shapeCasts_S512_S1x512 := by
  rw [← V_main_v1 m c]
  funext j; show V m c main_v1 (((cfg0.win 3).blk t).view.emb j) = V m c main_v1 j; rw [emb3]

/-- Window 4's block is its whole array. -/
theorem iblk_4 (c : Dev nD) (t : Fin cfg0.N) : iblk m c 4 t = m ((c : Thread nD τ).loc main_arg3) := by
  rw [← V_main_arg3 m c]
  funext j; show V m c main_arg3 (((cfg0.win 4).blk t).view.emb j) = V m c main_arg3 j; rw [emb4]

/-- What `main_v2` holds when the kernel starts. -/
theorem V_main_v2 (c : Dev nD) : V m c main_v2 = shapeCast S1x10 (m ((c : Thread nD τ).loc main_arg4)) shapeCasts_S10_S1x10 := by
  entry_read
  rfl

/-- Window 5's block is its whole array. -/
theorem iblk_5 (c : Dev nD) (t : Fin cfg0.N) : iblk m c 5 t = shapeCast S1x10 (m ((c : Thread nD τ).loc main_arg4)) shapeCasts_S10_S1x10 := by
  rw [← V_main_v2 m c]
  funext j; show V m c main_v2 (((cfg0.win 5).blk t).view.emb j) = V m c main_v2 j; rw [emb5]

/-- What `main_cst` holds when the kernel starts. -/
theorem V_main_cst (c : Dev nD) : V m c main_cst = mask1 := by
  entry_read
  rfl

/-- Window 6's block is its whole array. -/
theorem iblk_6 (c : Dev nD) (t : Fin cfg0.N) : iblk m c 6 t = mask1 := by
  rw [← V_main_cst m c]
  funext j; show V m c main_cst (((cfg0.win 6).blk t).view.emb j) = V m c main_cst j; rw [emb6]

/-- What `main_cst_0` holds when the kernel starts. -/
theorem V_main_cst_0 (c : Dev nD) : V m c main_cst_0 = mask2 := by
  entry_read
  rfl

/-- Window 7's block is its whole array. -/
theorem iblk_7 (c : Dev nD) (t : Fin cfg0.N) : iblk m c 7 t = mask2 := by
  rw [← V_main_cst_0 m c]
  funext j; show V m c main_cst_0 (((cfg0.win 7).blk t).view.emb j) = V m c main_cst_0 j; rw [emb7]

/-- What `main_cst_1` holds when the kernel starts. -/
theorem V_main_cst_1 (c : Dev nD) : V m c main_cst_1 = mask3 := by
  entry_read
  rfl

/-- Window 8's block is its whole array. -/
theorem iblk_8 (c : Dev nD) (t : Fin cfg0.N) : iblk m c 8 t = mask3 := by
  rw [← V_main_cst_1 m c]
  funext j; show V m c main_cst_1 (((cfg0.win 8).blk t).view.emb j) = V m c main_cst_1 j; rw [emb8]

/-- What `main_cst_2` holds when the kernel starts. -/
theorem V_main_cst_2 (c : Dev nD) : V m c main_cst_2 = mask4 := by
  entry_read
  rfl

/-- Window 9's block is its whole array. -/
theorem iblk_9 (c : Dev nD) (t : Fin cfg0.N) : iblk m c 9 t = mask4 := by
  rw [← V_main_cst_2 m c]
  funext j; show V m c main_cst_2 (((cfg0.win 9).blk t).view.emb j) = V m c main_cst_2 j; rw [emb9]

/-- The kernel's result as a function of the arguments. -/
def kerOut (x : Vec F S100x2 .f32) (w1 : Vec F S2x512 .f32) (b1 : Vec F S512 .f32) (w2 : Vec F S512x10 .f32)
    (b2 : Vec F S10 .f32) : FVec F S100x10 .f32 :=
  bodyOut x (transpose S2x100 [1, 0] x transposes_S100x2_S2x100_1_0) w1 (shapeCast S1x512 b1 shapeCasts_S512_S1x512) w2
    (shapeCast S1x10 b2 shapeCasts_S10_S1x10) mask1 mask2 mask3 mask4

/-- Cutting the point's block out of a value and reading the value through the block's view give the same. -/
theorem cut_eq (t : Fin cfg0.N) (X : Vec F S100x10 .f32) :
    (cfg0.win 10).cut (grid0.coords t) X = ((cfg0.win 10).blk t).view.read (Elt F) X := by
  funext j
  show X j = X (((cfg0.win 10).blk t).view.emb j)
  rw [emb10]

/-- Every index of the result is in the one block. -/
theorem covered (i : S100x10.Idx) :
    ∃ t : Fin cfg0.N, (cfg0.win 10).flush t = true ∧ i ∈ ((cfg0.win 10).blk t).view.set :=
  ⟨(⟨0, by decide⟩ : Fin cfg0.N), flush0_10 _, by
    have h := ((cfg0.win 10).blk (⟨0, by decide⟩ : Fin cfg0.N)).view.emb_mem_set i; rwa [emb10] at h⟩

/-- What the one point writes back is the result's block. -/
theorem flushed_eq (c : Dev nD) (t : Fin cfg0.N) :
    (dats m 0 c).flushed 10 t = ((cfg0.win 10).blk t).view.read (Elt F)
      (kerOut (m ((c : Thread nD τ).loc main_arg0)) (m ((c : Thread nD τ).loc main_arg1)) (m ((c : Thread nD τ).loc main_arg2)) (m ((c : Thread nD τ).loc main_arg3)) (m ((c : Thread nD τ).loc main_arg4))) := by
  rw [flushed10_A, out_eq, iblk_0, iblk_1, iblk_2, iblk_3, iblk_4, iblk_5, iblk_6, iblk_7, iblk_8, iblk_9]
  exact cut_eq t _

/-- The kernel runs, leaves its result in its buffer and the arguments as they were. -/
theorem run_ker : θ_run defs (onTc (τ := τ) (main (F := F))) ⟨m, fun _ => 0, ρ⟩ fun r => ∀ c : Dev nD,
      r.2.mem ((c : Thread nD τ).loc main_v3) = kerOut (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans
      ((dats m 0 c).arrAt_eq_of_cover 10 _ (fun t _ => flushed_eq m c t) covered), (h c).2⟩)
    (run_blocks m ρ)

end Cert.KernelIdeal.Hand

end
-- ==== Proof.Masks.lean ====
/- The kernel's four masks: where their ones stand, as places a round takes from. -/
module

public import proofs.«01_k».proof.Proof.KerMain
public import proofs.«01_k».proof.Proof.Sched
public import Idealize.ShloMosaic.Lib.Pipeline.ValueKit

@[expose] public section

set_option maxRecDepth 100000

noncomputable section

namespace Cert.KernelIdeal.Hand

open Idealize Idealize.ShloMosaic Idealize.ShloMosaic.TcCoe Cert.KernelIdeal Cert.KernelIdeal.Gen Cert.Isomap

/-- Where an entry of a matrix stands in the constant's words. -/
def at100 (x j : Fin 100) : Fin S100x100.numel := ⟨100 * x.val + j.val, by have := x.2; have := j.2; show _ < 10000; omega⟩

/-- A pair's place in row order. -/
theorem rowMajor_ix2 (x j : Fin 100) : S100x100.rowMajor (ix2 x j) = at100 x j := by
  apply Fin.ext
  rw [Shape.rowMajor_val_two]
  show _ = 100 * x.val + j.val
  show x.val * 100 + j.val = _
  omega

/-- The words of the first mask. -/
theorem words0 : ∀ i x : Fin 100, lit0 (at100 x (rho (bar i))) = if x = rho i then 0x3F800000#32 else 0#32 := by decide +kernel

/-- The words of the second mask. -/
theorem words1 : ∀ i x : Fin 100, lit1 (at100 x (bar (rho (bar i)))) = if x = rho i then 0x3F800000#32 else 0#32 := by decide +kernel

/-- The words of the third mask. -/
theorem words2 : ∀ i x : Fin 100, lit2 (at100 x (rho (bar i))) = if x = bar (rho i) then 0x3F800000#32 else 0#32 := by decide +kernel

/-- The words of the fourth mask. -/
theorem words3 : ∀ i x : Fin 100, lit3 (at100 x (bar (rho (bar i)))) = if x = bar (rho i) then 0x3F800000#32 else 0#32 := by decide +kernel

end Cert.KernelIdeal.Hand

end
-- ==== Proof.KerReal.lean ====
/- The kernel's round at real numbers. -/
module

public import proofs.«01_k».proof.Proof.KerIdx
public import proofs.«01_k».proof.Proof.Scalars
public import proofs.«01_k».proof.Proof.Masks

@[expose] public section

set_option maxRecDepth 100000

noncomputable section

namespace Cert.KernelIdeal.Hand

open Idealize Idealize.ShloMosaic Idealize.ShloMosaic.TcCoe Cert.KernelIdeal Cert.KernelIdeal.Gen Cert.Isomap

/-- A word of a mask as a number. -/
theorem mask_word (p : Prop) [Decidable p] :
    Ideal.ofBits FTy.f32 (if p then 0x3F800000#32 else 0#32) = if p then 1 else 0 := by
  split_ifs
  · exact Ideal.ofBits_one_f32
  · exact Ideal.ofBits_zero_f32

/-- Mask 1 picks one row in each column. -/
theorem mask1_at (i x : Fin 100) : mask1 (F := Ideal) (ix2 x (rho (bar i))) = if x = rho i then 1 else 0 := by
  show Ideal.ofBits FTy.f32 (lit0 (S100x100.rowMajor (ix2 x (rho (bar i))))) = _
  rw [rowMajor_ix2, words0, mask_word]

/-- Mask 2 picks one row in each column. -/
theorem mask2_at (i x : Fin 100) : mask2 (F := Ideal) (ix2 x (bar (rho (bar i)))) = if x = rho i then 1 else 0 := by
  show Ideal.ofBits FTy.f32 (lit1 (S100x100.rowMajor (ix2 x (bar (rho (bar i)))))) = _
  rw [rowMajor_ix2, words1, mask_word]

/-- Mask 3 picks one row in each column. -/
theorem mask3_at (i x : Fin 100) : mask3 (F := Ideal) (ix2 x (rho (bar i))) = if x = bar (rho i) then 1 else 0 := by
  show Ideal.ofBits FTy.f32 (lit2 (S100x100.rowMajor (ix2 x (rho (bar i))))) = _
  rw [rowMajor_ix2, words2, mask_word]

/-- Mask 4 picks one row in each column. -/
theorem mask4_at (i x : Fin 100) : mask4 (F := Ideal) (ix2 x (bar (rho (bar i)))) = if x = bar (rho i) then 1 else 0 := by
  show Ideal.ofBits FTy.f32 (lit3 (S100x100.rowMajor (ix2 x (bar (rho (bar i)))))) = _
  rw [rowMajor_ix2, words3, mask_word]

/-- A sum under a mask with one place. -/
theorem sum_mask (m f : Fin 100 → EReal) (y : Fin 100) (h : ∀ x, m x = if x = y then 1 else 0) : ∑ x : Fin 100, m x * f x = f y := by
  rw [Finset.sum_eq_single y]
  · rw [h, if_pos rfl, one_mul]
  · intro x _ hx
    rw [h, if_neg hx, zero_mul]
  · intro hy
    exact absurd (Finset.mem_univ y) hy

/-- The sum under mask 1 is the one entry it picks. -/
theorem pick1 (A : Mat Ideal) (i : Fin 100) : pick mask1 A (ix2 0 (rho (bar i))) = A (ix2 (rho i) (rho (bar i))) := by
  rw [pick_at]
  exact sum_mask (fun x => mask1 (F := Ideal) (ix2 x (rho (bar i)))) (fun x => A (ix2 x (rho (bar i)))) _ (mask1_at i)

/-- The sum under mask 2 is the one entry it picks. -/
theorem pick2 (A : Mat Ideal) (i : Fin 100) : pick mask2 A (ix2 0 (bar (rho (bar i)))) = A (ix2 (rho i) (bar (rho (bar i)))) := by
  rw [pick_at]
  exact sum_mask (fun x => mask2 (F := Ideal) (ix2 x (bar (rho (bar i))))) (fun x => A (ix2 x (bar (rho (bar i))))) _ (mask2_at i)

/-- The sum under mask 3 is the one entry it picks. -/
theorem pick3 (A : Mat Ideal) (i : Fin 100) : pick mask3 A (ix2 0 (rho (bar i))) = A (ix2 (bar (rho i)) (rho (bar i))) := by
  rw [pick_at]
  exact sum_mask (fun x => mask3 (F := Ideal) (ix2 x (rho (bar i)))) (fun x => A (ix2 x (rho (bar i)))) _ (mask3_at i)

/-- The sum under mask 4 is the one entry it picks. -/
theorem pick4 (A : Mat Ideal) (i : Fin 100) : pick mask4 A (ix2 0 (bar (rho (bar i)))) = A (ix2 (bar (rho i)) (bar (rho (bar i)))) := by
  rw [pick_at]
  exact sum_mask (fun x => mask4 (F := Ideal) (ix2 x (bar (rho (bar i))))) (fun x => A (ix2 x (bar (rho (bar i))))) _ (mask4_at i)

/-- The signs the kernel keeps. -/
theorem signs_at (b : Fin 100) : k0_pay77 (F := Ideal) (ix2 0 b) = ((sgn b : ℝ) : EReal) := by
  unfold k0_pay77
  pointwise
  unfold sgn
  rw [WordCmp.cmpi_slt_ofNat (by omega) (by omega), select_prop, word_neg_one]
  split_ifs <;> rfl

/-- The carried values of the kernel are real. -/
structure Is (s : Mat Ideal × Mat Ideal × Row Ideal × Row Ideal) (c : Carry) : Prop where
  a : ∀ i j : Fin 100, s.1 (ix2 i j) = ((c.a i j : ℝ) : EReal)
  v : ∀ i j : Fin 100, s.2.1 (ix2 i j) = ((c.v i j : ℝ) : EReal)
  d : ∀ i : Fin 100, s.2.2.1 (ix2 0 i) = ((c.d i : ℝ) : EReal)
  o : ∀ i : Fin 100, s.2.2.2 (ix2 0 i) = ((c.o i : ℝ) : EReal)

/-- A round of the kernel on real values. -/
theorem Is.next {s : Mat Ideal × Mat Ideal × Row Ideal × Row Ideal} {c : Carry} (h : Is s c) :
    Is (round (mask1 (F := Ideal)) (mask2 (F := Ideal)) (mask3 (F := Ideal)) (mask4 (F := Ideal)) k0_pay77 s) c.next := by
  have ht : ∀ b, tanRow k0_pay77 s.2.2.1 s.2.2.2 (ix2 0 b) = ((c.t b : ℝ) : EReal) := by
    intro b
    have e := tanRow_at k0_pay77 s.2.2.1 s.2.2.2 b
    rw [tauRow_at, signs_at, h.d, h.d, h.o, ← EReal.coe_sub] at e
    exact e.trans (tanX_real _ _ _)
  have hc : ∀ b, cosRow k0_pay77 s.2.2.1 s.2.2.2 (ix2 0 b) = ((cosR (c.t b) : ℝ) : EReal) := by
    intro b
    rw [cosRow_at, ht, rsqrt_real]
  have hC : ∀ b, moveRow (cosRow k0_pay77 s.2.2.1 s.2.2.2) (ix2 0 b) = ((c.C b : ℝ) : EReal) := by
    intro b
    rw [moveRow_at, hc]
    rfl
  have hS : ∀ b, moveRow (sinRow k0_pay77 s.2.2.1 s.2.2.2) (ix2 0 b) = ((c.S b : ℝ) : EReal) := by
    intro b
    rw [moveRow_at, sinRow_at, ht, hc, signs_at, ← EReal.coe_mul, ← EReal.coe_zero, ← EReal.coe_sub, ← EReal.coe_mul, zero_sub]
    rfl
  refine ⟨fun i j => ?_, fun i j => ?_, fun i => ?_, fun i => ?_⟩
  · show nextA s.1 (moveRow (cosRow k0_pay77 s.2.2.1 s.2.2.2)) (moveRow (sinRow k0_pay77 s.2.2.1 s.2.2.2)) (ix2 i j) = _
    rw [nextA_at, turnC_at, turnC_at, moveR_at, moveR_at, swapR_at, swapR_at, hC, hC, hS, hS, h.a, h.a, h.a, h.a]
    simp only [← EReal.coe_mul, ← EReal.coe_add]
    rfl
  · show turnC s.2.1 (moveRow (cosRow k0_pay77 s.2.2.1 s.2.2.2)) (moveRow (sinRow k0_pay77 s.2.2.1 s.2.2.2)) (ix2 i j) = _
    rw [turnC_at, hC, hS, h.v, h.v]
    simp only [← EReal.coe_mul, ← EReal.coe_add]
    rfl
  · show nextD s.2.2.1 s.2.2.2 (moveRow (cosRow k0_pay77 s.2.2.1 s.2.2.2)) (moveRow (sinRow k0_pay77 s.2.2.1 s.2.2.2)) (ix2 0 i) = _
    rw [nextD_at, hC, hS, h.d, h.d, h.o, word_two]
    simp only [← EReal.coe_mul, ← EReal.coe_add]
    rfl
  · show nextO (mask1 (F := Ideal)) (mask2 (F := Ideal)) (mask3 (F := Ideal)) (mask4 (F := Ideal)) s.1 (moveRow (cosRow k0_pay77 s.2.2.1 s.2.2.2)) (moveRow (sinRow k0_pay77 s.2.2.1 s.2.2.2)) (ix2 0 i) = _
    rw [nextO_at, pick1, pick2, pick3, pick4, hC, hC, hS, hS, h.a, h.a, h.a, h.a]
    simp only [← EReal.coe_mul, ← EReal.coe_add]
    rfl

end Cert.KernelIdeal.Hand

end
-- ==== Proof.RefIdx.lean ====
/- The reference's round of Jacobi's method, read entry by entry. -/
module

public import proofs.«01_k».proof.Proof.RefJac
public import proofs.«01_k».proof.Proof.Scalars

@[expose] public section

set_option maxRecDepth 100000

noncomputable section

namespace Cert.ReferenceIdeal.Hand

open Idealize Idealize.ShloMosaic Idealize.ShloMosaic.TcCoe Idealize.ShloMosaic.StableHlo Cert.ReferenceIdeal.Gen Cert.Isomap

/-- A word sum with zero. -/
theorem addi_zero (w : BitVec 32) : IntOp.addi w 0#32 = w := by
  unfold IntOp.addi
  exact BitVec.add_zero w

/-- A player's chair. -/
theorem chair_at (r : Ct Ideal S_ .i32) (j : Fin 100) :
    jac_v114 (F := Ideal) r (ix1 j) = chairB (r ix0) (BitVec.ofNat 32 j.val) := by
  unfold jac_v114 jac_v105 jac_v104 jac_v102 jac_v100 jac_v98
  pointwise
  rfl

/-- A player's opponent. -/
theorem opp_at (r : Ct Ideal S_ .i32) (j : Fin 100) :
    jac_v141 (F := Ideal) r (ix1 j) = oppB (r ix0) (BitVec.ofNat 32 j.val) := by
  unfold jac_v141 jac_v140 jac_c_51 jac_v135 jac_v134 jac_c_48 jac_v133 jac_v131 jac_v129 jac_v127 jac_v125 jac_v123 jac_v122 jac_v117 jac_v116 jac_v98
  pointwise
  rw [chair_at]
  rfl

/-- Whether a player is the first of the two. -/
theorem first_at (r : Ct Ideal S_ .i32) (j : Fin 100) :
    jac_v149 (F := Ideal) r (ix1 j) = firstB (r ix0) (BitVec.ofNat 32 j.val) := by
  unfold jac_v149 jac_v98
  pointwise
  rw [chair_at]
  rfl

/-- The diagonal. -/
theorem diag_at (A : Ct Ideal S100x100 .f32) (j : Fin 100) :
    jac_v161 (F := Ideal) A (ix1 j) = ∑ x : Fin 100, Scalar.select (IntOp.cmpi .eq (BitVec.ofNat 32 x.val) (BitVec.ofNat 32 j.val)) (A (ix2 x j)) 0 := by
  unfold jac_v161 jac_v160 jac_v159 jac_cst_56
  pointwise
  simp only [addi_zero]

/-- The opponent's diagonal entry. -/
theorem other_at (r : Ct Ideal S_ .i32) (A : Ct Ideal S100x100 .f32) (j : Fin 100) :
    jac_v164 (F := Ideal) r A (ix1 j)
      = ∑ x : Fin 100, Scalar.select (IntOp.cmpi .eq (BitVec.ofNat 32 x.val) (jac_v141 (F := Ideal) r (ix1 j))) (jac_v161 (F := Ideal) A (ix1 x)) 0 := by
  unfold jac_v164 jac_v163 jac_v162 jac_v154 jac_cst_58 jac_v97
  pointwise

/-- The pair's entry. -/
theorem pair_at (r : Ct Ideal S_ .i32) (A : Ct Ideal S100x100 .f32) (j : Fin 100) :
    jac_v166 (F := Ideal) r A (ix1 j)
      = ∑ x : Fin 100, Scalar.select (IntOp.cmpi .eq (BitVec.ofNat 32 x.val) (jac_v141 (F := Ideal) r (ix1 j))) (A (ix2 x j)) 0 := by
  unfold jac_v166 jac_v165 jac_v154 jac_cst_60 jac_v97
  pointwise

/-- The cotangent of the doubled angle. -/
theorem tau_at (r : Ct Ideal S_ .i32) (A : Ct Ideal S100x100 .f32) (j : Fin 100) :
    jac_v172 (F := Ideal) r A (ix1 j)
      = Ideal.div (Scalar.select (jac_v149 (F := Ideal) r (ix1 j)) (jac_v164 (F := Ideal) r A (ix1 j)) (jac_v161 (F := Ideal) A (ix1 j))
          - Scalar.select (jac_v149 (F := Ideal) r (ix1 j)) (jac_v161 (F := Ideal) A (ix1 j)) (jac_v164 (F := Ideal) r A (ix1 j)))
        (Ideal.ofBits FTy.f32 1073741824#32 * jac_v166 (F := Ideal) r A (ix1 j)) := by
  unfold jac_v172 jac_v168 jac_v167
  pointwise

/-- The tangent. -/
theorem tan_at (r : Ct Ideal S_ .i32) (A : Ct Ideal S100x100 .f32) (j : Fin 100) :
    jac_v187 (F := Ideal) r A (ix1 j) = tanX (jac_v172 (F := Ideal) r A (ix1 j)) (jac_v166 (F := Ideal) r A (ix1 j)) := by
  unfold jac_v187 jac_v186 jac_v183 jac_v175 jac_v174 jac_cst_68 jac_cst_65 jac_cst_64 tanX
  pointwise

/-- The cosine. -/
theorem cos_at (r : Ct Ideal S_ .i32) (A : Ct Ideal S100x100 .f32) (j : Fin 100) :
    jac_v193 (F := Ideal) r A (ix1 j)
      = Ideal.div 1 (Ideal.sqrt (1 + jac_v187 (F := Ideal) r A (ix1 j) * jac_v187 (F := Ideal) r A (ix1 j))) := by
  unfold jac_v193
  pointwise

/-- The rotation matrix. -/
theorem rot_at (r : Ct Ideal S_ .i32) (A : Ct Ideal S100x100 .f32) (i j : Fin 100) :
    jac_v205 (F := Ideal) r A (ix2 i j)
      = Scalar.select (IntOp.cmpi .eq (BitVec.ofNat 32 i.val) (BitVec.ofNat 32 j.val)) (jac_v193 (F := Ideal) r A (ix1 j))
        (Scalar.select (IntOp.cmpi .eq (BitVec.ofNat 32 i.val) (jac_v141 (F := Ideal) r (ix1 j)))
          (Scalar.select (jac_v149 (F := Ideal) r (ix1 j)) (-(jac_v187 (F := Ideal) r A (ix1 j) * jac_v193 (F := Ideal) r A (ix1 j)))
            (jac_v187 (F := Ideal) r A (ix1 j) * jac_v193 (F := Ideal) r A (ix1 j))) 0) := by
  unfold jac_v205 jac_v204 jac_v203 jac_v202 jac_v201 jac_v200 jac_v199 jac_v194 jac_v154 jac_cst_72 jac_v97
  pointwise
  simp only [addi_zero]

/-- The matrix after a round. -/
theorem nextA_at (r : Ct Ideal S_ .i32) (A : Ct Ideal S100x100 .f32) (i j : Fin 100) :
    jac_v52_2_out (F := Ideal) r A (ix2 i j)
      = ∑ x : Fin 100, jac_v205 (F := Ideal) r A (ix2 x i) * ∑ y : Fin 100, A (ix2 x y) * jac_v205 (F := Ideal) r A (ix2 y j) := by
  unfold jac_v52_2_out
  pointwise

/-- The vectors after a round. -/
theorem nextV_at (r : Ct Ideal S_ .i32) (A V : Ct Ideal S100x100 .f32) (i j : Fin 100) :
    jac_v52_3_out (F := Ideal) r A V (ix2 i j) = ∑ y : Fin 100, V (ix2 i y) * jac_v205 (F := Ideal) r A (ix2 y j) := by
  unfold jac_v52_3_out
  pointwise

end Cert.ReferenceIdeal.Hand

end
-- ==== Proof.RefReal.lean ====
/- The reference's round of Jacobi's method at real numbers. -/
module

public import proofs.«01_k».proof.Proof.RefIdx

@[expose] public section

set_option maxRecDepth 100000

noncomputable section

namespace Cert.Isomap

open Idealize Idealize.ShloMosaic

/-- The opponent of a player in round `r`. -/
def opp (r : ℕ) (j : Fin 100) : Fin 100 := pos r (bar (Function.surjInv (pos_surjective r) j))

/-- Whether a player is the first of its pair in round `r`. -/
def fst (r : ℕ) (j : Fin 100) : Prop := (Function.surjInv (pos_surjective r) j).val < 50

instance (r : ℕ) : DecidablePred (fst r) := fun j => inferInstanceAs (Decidable ((Function.surjInv (pos_surjective r) j).val < 50))

/-- A place goes back to where it came from. -/
theorem inv_pos (r : ℕ) (i : Fin 100) : Function.surjInv (pos_surjective r) (pos r i) = i :=
  pos_injective r (Function.surjInv_eq (pos_surjective r) (pos r i))

/-- A place's opponent is the place of the other half. -/
theorem opp_at_pos (r : ℕ) (i : Fin 100) : opp r (pos r i) = pos r (bar i) := by
  unfold opp
  rw [inv_pos]

/-- The first of the two is in the first half. -/
theorem fst_at_pos (r : ℕ) (i : Fin 100) : fst r (pos r i) ↔ i.val < 50 := by
  unfold fst
  rw [inv_pos]

/-- The opponent, computed on words. -/
theorem opp_word (r : ℕ) (hr : r < 594) (j : Fin 100) :
    oppB (BitVec.ofNat 32 r) (BitVec.ofNat 32 j.val) = BitVec.ofNat 32 (opp r j).val := by
  obtain ⟨i, rfl⟩ := pos_surjective r j
  rw [opp_pos r hr, opp_at_pos]

/-- Whether a player is the first of its pair, computed on words. -/
theorem fst_word (r : ℕ) (hr : r < 594) (j : Fin 100) :
    firstB (BitVec.ofNat 32 r) (BitVec.ofNat 32 j.val) = BitVec.ofBool (decide (fst r j)) := by
  obtain ⟨i, rfl⟩ := pos_surjective r j
  rw [first_pos r hr]
  congr 1
  exact decide_eq_decide.2 (fst_at_pos r i).symm

/-- A choice by the equality of two places' words. -/
theorem select_eq {α : Type} (x y : Fin 100) (a b : α) :
    Scalar.select (IntOp.cmpi .eq (BitVec.ofNat 32 x.val) (BitVec.ofNat 32 y.val)) a b = if x = y then a else b := by
  rw [WordCmp.cmpi_eq_ofNat (by omega) (by omega), select_prop]
  by_cases h : x = y
  · rw [if_pos h, if_pos (congrArg Fin.val h)]
  · rw [if_neg h, if_neg (fun e => h (Fin.ext e))]

/-- A sum with one place chosen. -/
theorem sum_choose (f : Fin 100 → EReal) (y : Fin 100) : (∑ x : Fin 100, if x = y then f x else 0) = f y := by
  rw [Finset.sum_ite_eq', if_pos (Finset.mem_univ _)]

end Cert.Isomap

namespace Cert.ReferenceIdeal.Hand

open Idealize Idealize.ShloMosaic Idealize.ShloMosaic.TcCoe Idealize.ShloMosaic.StableHlo Cert.ReferenceIdeal.Gen Cert.Isomap

/-- A matrix of the reference holds a real matrix. -/
def Is (A : Ct Ideal S100x100 .f32) (R : RMat) : Prop := ∀ i j : Fin 100, A (ix2 i j) = ((R i j : ℝ) : EReal)

/-- The reference's rotation matrix is the real one. -/
theorem rot_real (k : ℕ) (hk : k < 594) (r : Ct Ideal S_ .i32) (hr : r ix0 = BitVec.ofNat 32 k) (A : Ct Ideal S100x100 .f32) (R : RMat)
    (h : Is A R) (i j : Fin 100) :
    jac_v205 (F := Ideal) r A (ix2 i j)
      = ((rotR (opp k) (cR (opp k) (fst k) R) (sR (opp k) (fst k) R) i j : ℝ) : EReal) := by
  have hd : ∀ j, jac_v161 (F := Ideal) A (ix1 j) = ((R j j : ℝ) : EReal) := by
    intro j
    rw [diag_at, Finset.sum_congr rfl fun x _ => select_eq x j (A (ix2 x j)) 0, sum_choose (fun x => A (ix2 x j)), h]
  have ho : ∀ j, jac_v141 (F := Ideal) r (ix1 j) = BitVec.ofNat 32 (opp k j).val := by
    intro j
    rw [opp_at, hr, opp_word k hk]
  have hf : ∀ j, jac_v149 (F := Ideal) r (ix1 j) = BitVec.ofBool (decide (fst k j)) := by
    intro j
    rw [first_at, hr, fst_word k hk]
  have hq : jac_v164 (F := Ideal) r A (ix1 j) = ((R (opp k j) (opp k j) : ℝ) : EReal) := by
    rw [other_at, ho, Finset.sum_congr rfl fun x _ => select_eq x (opp k j) (jac_v161 (F := Ideal) A (ix1 x)) 0,
      sum_choose (fun x => jac_v161 (F := Ideal) A (ix1 x)), hd]
  have hp : jac_v166 (F := Ideal) r A (ix1 j) = ((R (opp k j) j : ℝ) : EReal) := by
    rw [pair_at, ho, Finset.sum_congr rfl fun x _ => select_eq x (opp k j) (A (ix2 x j)) 0, sum_choose (fun x => A (ix2 x j)), h]
  have ht : jac_v187 (F := Ideal) r A (ix1 j)
      = ((tanR ((if fst k j then R (opp k j) (opp k j) else R j j) - (if fst k j then R j j else R (opp k j) (opp k j))) (R (opp k j) j) : ℝ) : EReal) := by
    rw [tan_at, tau_at, hp, hf, hd, hq, select_prop, select_prop, ← tanX_real']
    split_ifs <;> rfl
  have hc : jac_v193 (F := Ideal) r A (ix1 j) = ((cR (opp k) (fst k) R j : ℝ) : EReal) := by
    rw [cos_at, ht, div_sqrt_real]
    rfl
  rw [rot_at, hc, ht, ho, hf, select_eq, select_eq, select_prop]
  unfold rotR sR
  by_cases h1 : i = j
  · rw [if_pos h1, if_pos h1]
  · rw [if_neg h1, if_neg h1]
    by_cases h2 : i = opp k j
    · rw [if_pos h2, if_pos h2]
      by_cases h3 : fst k j
      · simp only [if_pos h3, EReal.coe_neg, EReal.coe_mul]
      · simp only [if_neg h3, EReal.coe_mul]
    · rw [if_neg h2, if_neg h2, EReal.coe_zero]

/-- A round of the reference on a real matrix. -/
theorem nextA_real (k : ℕ) (hk : k < 594) (r : Ct Ideal S_ .i32) (hr : r ix0 = BitVec.ofNat 32 k) (A : Ct Ideal S100x100 .f32) (R : RMat)
    (h : Is A R) : Is (jac_v52_2_out (F := Ideal) r A) (nextRA (opp k) (cR (opp k) (fst k) R) (sR (opp k) (fst k) R) R) := by
  intro i j
  rw [nextA_at]
  unfold nextRA
  rw [← sum_real]
  refine Finset.sum_congr rfl fun x _ => ?_
  rw [rot_real k hk r hr A R h, EReal.coe_mul, ← sum_real]
  congr 1
  refine Finset.sum_congr rfl fun y _ => ?_
  rw [rot_real k hk r hr A R h, h, EReal.coe_mul]

/-- A round of the reference on real vectors. -/
theorem nextV_real (k : ℕ) (hk : k < 594) (r : Ct Ideal S_ .i32) (hr : r ix0 = BitVec.ofNat 32 k) (A V : Ct Ideal S100x100 .f32) (R W : RMat)
    (h : Is A R) (hV : Is V W) :
    Is (jac_v52_3_out (F := Ideal) r A V) (nextRV (opp k) (cR (opp k) (fst k) R) (sR (opp k) (fst k) R) W) := by
  intro i j
  rw [nextV_at]
  unfold nextRV
  rw [← sum_real]
  refine Finset.sum_congr rfl fun y _ => ?_
  rw [rot_real k hk r hr A R h, hV, EReal.coe_mul]

end Cert.ReferenceIdeal.Hand

end
-- ==== Proof.Centre.lean ====
/- Double centring at real numbers: the means taken from the entries, and the products with the centring matrix. -/
module

public import proofs.«01_k».proof.Proof.Scalars

@[expose] public section

noncomputable section

namespace Cert.Isomap

open Idealize Idealize.ShloMosaic

/-- A matrix of extended reals. -/
abbrev EMat : Type := Fin 100 → Fin 100 → EReal

/-- The word of minus infinity. -/
theorem word_bot : Ideal.ofBits FTy.f32 4286578688#32 = ⊥ := by
  simp [Ideal.ofBits, Ideal.ieee]

/-- The word of a hundred. -/
theorem word_100 : Ideal.ofBits FTy.f32 1120403456#32 = ((100 : ℝ) : EReal) := by
  simp [Ideal.ofBits, Ideal.ieee, -EReal.coe_mul]; norm_num

/-- The word of ten thousand. -/
theorem word_10000 : Ideal.ofBits FTy.f32 1176256512#32 = ((10000 : ℝ) : EReal) := by
  simp [Ideal.ofBits, Ideal.ieee, -EReal.coe_mul]; norm_num

/-- The word of minus a half. -/
theorem word_neg_half : Ideal.ofBits FTy.f32 3204448256#32 = ((-(1 / 2) : ℝ) : EReal) := by
  simp [Ideal.ofBits, Ideal.ieee, -EReal.coe_mul, -EReal.coe_neg]; norm_num

/-- The word of a million is a real number. -/
theorem word_million : ∃ r : ℝ, Ideal.ofBits FTy.f32 1232348160#32 = (r : EReal) :=
  ⟨_, by simp [Ideal.ofBits, Ideal.ieee, -EReal.coe_mul]; rfl⟩

/-- The word of the least distance is a real number, not negative. -/
theorem word_eps : ∃ r : ℝ, 0 ≤ r ∧ Ideal.ofBits FTy.f32 730643660#32 = (r : EReal) := by
  refine ⟨_, ?_, by simp [Ideal.ofBits, Ideal.ieee, -EReal.coe_mul]; rfl⟩
  positivity

/-- The word of the radius is a real number. -/
theorem word_radius : ∃ r : ℝ, Ideal.ofBits FTy.f32 1067030938#32 = (r : EReal) :=
  ⟨_, by simp [Ideal.ofBits, Ideal.ieee, -EReal.coe_mul]; rfl⟩

/-- A maximum of reals from minus infinity on is minus infinity or a real. -/
theorem fold_max_or {ι : Type} (s : Finset ι) (f : ι → EReal) (h : ∀ x, f x = ⊥ ∨ ∃ r : ℝ, f x = (r : EReal)) :
    Finset.fold max (Ideal.ofBits FTy.f32 4286578688#32) f s = ⊥ ∨ ∃ r : ℝ, Finset.fold max (Ideal.ofBits FTy.f32 4286578688#32) f s = (r : EReal) := by
  classical
  induction s using Finset.induction_on with
  | empty => exact Or.inl word_bot
  | insert a s ha ih =>
    rw [Finset.fold_insert ha]
    rcases h a with h | ⟨x, h⟩ <;> rcases ih with ih | ⟨y, ih⟩ <;> rw [h, ih]
    · exact Or.inl (max_self _)
    · exact Or.inr ⟨y, max_eq_right bot_le⟩
    · exact Or.inr ⟨x, max_eq_left bot_le⟩
    · exact Or.inr ⟨max x y, (EReal.coe_strictMono.monotone.map_max (a := x) (b := y)).symm⟩

/-- A maximum of reals over something is a real. -/
theorem fold_max_real {ι : Type} (s : Finset ι) (f : ι → EReal) (h : ∀ x, ∃ r : ℝ, f x = (r : EReal)) (a : ι) (ha : a ∈ s) :
    ∃ r : ℝ, Finset.fold max (Ideal.ofBits FTy.f32 4286578688#32) f s = (r : EReal) := by
  rcases fold_max_or s f (fun x => Or.inr (h x)) with e | e
  · exfalso
    have h1 : f a ≤ Finset.fold max (Ideal.ofBits FTy.f32 4286578688#32) f s := (Finset.le_fold_max _).2 (Or.inr ⟨a, ha, le_rfl⟩)
    obtain ⟨r, hr⟩ := h a
    rw [e, hr, le_bot_iff] at h1
    exact EReal.coe_ne_bot r h1
  · exact e

/-- The longest of the lengths below half a million. -/
def topE (G : EMat) : EReal :=
  Finset.fold max (Ideal.ofBits FTy.f32 4286578688#32)
    (fun x : Fin 100 × Fin 100 => if G x.1 x.2 < Ideal.ofBits FTy.f32 1223959552#32 then G x.1 x.2 else 0) Finset.univ

/-- The lengths, the others replaced by the longest. -/
def selE (G : EMat) : EMat := fun i j => if G i j < Ideal.ofBits FTy.f32 1223959552#32 then G i j else topE G

/-- Lengths that are real and symmetric stay so. -/
theorem selE_real (G : EMat) (h : ∀ i j, ∃ r : ℝ, G i j = (r : EReal)) (hs : ∀ i j, G i j = G j i) :
    ∃ q : RMat, (∀ i j, selE G i j = ((q i j : ℝ) : EReal)) ∧ ∀ i j, q i j = q j i := by
  have ht : ∃ r : ℝ, topE G = (r : EReal) := by
    refine fold_max_real _ _ (fun x => ?_) (0, 0) (Finset.mem_univ _)
    by_cases hx : G x.1 x.2 < Ideal.ofBits FTy.f32 1223959552#32
    · rw [if_pos hx]; exact h _ _
    · rw [if_neg hx]; exact ⟨0, rfl⟩
  have hr : ∀ i j, ∃ r : ℝ, selE G i j = (r : EReal) := by
    intro i j
    unfold selE
    by_cases hx : G i j < Ideal.ofBits FTy.f32 1223959552#32
    · rw [if_pos hx]; exact h _ _
    · rw [if_neg hx]; exact ht
  have hsym : ∀ i j, selE G i j = selE G j i := by
    intro i j
    unfold selE
    rw [hs i j]
  choose q hq using hr
  refine ⟨q, hq, fun i j => ?_⟩
  have e := hsym i j
  rw [hq, hq] at e
  exact EReal.coe_eq_coe_iff.1 e

/-- Minus half the doubly centred matrix, over the reals. -/
def gramR (p : RMat) : RMat := fun i j =>
  -(1 / 2) * (p i j - (∑ x, p i x) / 100 - (∑ x, p x j) / 100 + (∑ x, ∑ y, p x y) / 10000)

/-- The plain centring of a symmetric matrix is symmetric. -/
theorem gramR_symm (p : RMat) (h : ∀ i j, p i j = p j i) (i j : Fin 100) : gramR p i j = gramR p j i := by
  unfold gramR
  rw [h i j, Finset.sum_congr rfl fun x _ => h i x, Finset.sum_congr rfl fun x _ => h x j]
  ring

/-- The kernel's centring, from the means. -/
def gramK (H : EMat) (i j : Fin 100) : EReal :=
  Ideal.ofBits FTy.f32 3204448256#32 *
    (H i j * H i j - Ideal.div (∑ x, H i x * H i x) (Ideal.ofBits FTy.f32 1120403456#32)
      - Ideal.div (∑ x, H x j * H x j) (Ideal.ofBits FTy.f32 1120403456#32)
      + Ideal.div (∑ x, ∑ y, H x y * H x y) (Ideal.ofBits FTy.f32 1176256512#32))

/-- On real lengths the centring by means is the centring by matrices, a real. -/
theorem gramK_real (H : EMat) (q : RMat) (h : ∀ i j, H i j = ((q i j : ℝ) : EReal)) (i j : Fin 100) :
    gramK H i j = ((gramR (fun x y => q x y * q x y) i j : ℝ) : EReal) := by
  unfold gramK gramR
  simp only [h, ← EReal.coe_mul, sum_real, word_100, word_10000, word_neg_half]
  rw [div_real _ _ (by norm_num), div_real _ _ (by norm_num), div_real _ _ (by norm_num), ← EReal.coe_sub, ← EReal.coe_sub, ← EReal.coe_add, ← EReal.coe_mul]

/-- The entry of the centring matrix. -/
def cenR (i j : Fin 100) : ℝ := (if i = j then 1 else 0) - 1 / 100

/-- A product with the centring matrix on the left takes the column's mean away. -/
theorem sum_cenR (i : Fin 100) (f : Fin 100 → ℝ) : ∑ y, cenR i y * f y = f i - (∑ y, f y) / 100 := by
  unfold cenR
  rw [Finset.sum_congr rfl fun y _ => sub_mul _ _ _, Finset.sum_sub_distrib, ← Finset.mul_sum]
  rw [Finset.sum_eq_single i]
  · rw [if_pos rfl]; ring
  · intro y _ hy
    rw [if_neg (Ne.symm hy), zero_mul]
  · intro hi
    exact absurd (Finset.mem_univ i) hi

/-- A product with the centring matrix on the right takes the row's mean away. -/
theorem sum_mul_cenR (j : Fin 100) (f : Fin 100 → ℝ) : ∑ y, f y * cenR y j = f j - (∑ y, f y) / 100 := by
  rw [← sum_cenR j f]
  refine Finset.sum_congr rfl fun y _ => ?_
  unfold cenR
  by_cases h : y = j
  · rw [if_pos h, if_pos h.symm]; ring
  · rw [if_neg h, if_neg (Ne.symm h)]; ring

/-- The reference's centring, from the products. -/
theorem gramJ_real (J H : EMat) (q : RMat) (hJ : ∀ i j, J i j = ((cenR i j : ℝ) : EReal)) (h : ∀ i j, H i j = ((q i j : ℝ) : EReal)) (i j : Fin 100) :
    Ideal.ofBits FTy.f32 3204448256#32 * ∑ x, (∑ y, J i y * (H y x * H y x)) * J x j
      = ((gramR (fun x y => q x y * q x y) i j : ℝ) : EReal) := by
  simp only [h, hJ, ← EReal.coe_mul, sum_real, word_neg_half]
  congr 1
  unfold gramR
  congr 1
  rw [sum_mul_cenR j (fun x => ∑ y, cenR i y * (q y x * q y x)), sum_cenR i (fun y => q y j * q y j),
    Finset.sum_congr rfl fun x _ => sum_cenR i (fun y => q y x * q y x), Finset.sum_sub_distrib, ← Finset.sum_div,
    Finset.sum_comm (f := fun x y => q y x * q y x)]
  ring

end Cert.Isomap

end
-- ==== Proof.Paths.lean ====
/- The graph's edges and its shortest paths as entries of one matrix: real, and the same both ways. -/
module

public import proofs.«01_k».proof.Proof.Centre

@[expose] public section

noncomputable section

namespace Cert.Isomap

open Idealize Idealize.ShloMosaic

/-- The distances between points of the plane. -/
def distE (x : Fin 100 → Fin 2 → EReal) : EMat := fun i j =>
  Ideal.sqrt (max ((x i 0 - x j 0) * (x i 0 - x j 0) + (x i 1 - x j 1) * (x i 1 - x j 1)) (Ideal.ofBits FTy.f32 730643660#32))

/-- The lengths of the graph's edges: the distance within the radius, a million beyond it. -/
def startE (D : EMat) : EMat := fun i j =>
  if i = j then 0 else if D i j ≤ Ideal.ofBits FTy.f32 1067030938#32 then D i j else Ideal.ofBits FTy.f32 1232348160#32

/-- The square of a difference is the same both ways. -/
theorem sq_diff (a b : EReal) : (a - b) * (a - b) = (b - a) * (b - a) := by
  induction a <;> induction b
  all_goals first
    | rfl
    | (simp; done)
    | skip
  rename_i x y
  rw [← EReal.coe_sub, ← EReal.coe_sub, ← EReal.coe_mul, ← EReal.coe_mul]
  congr 1
  ring

/-- Distances are symmetric. -/
theorem distE_symm (x : Fin 100 → Fin 2 → EReal) (i j : Fin 100) : distE x i j = distE x j i := by
  unfold distE
  rw [sq_diff (x i 0), sq_diff (x i 1)]

/-- The graph's lengths are symmetric. -/
theorem startE_symm (D : EMat) (h : ∀ i j, D i j = D j i) (i j : Fin 100) : startE D i j = startE D j i := by
  unfold startE
  rw [h i j]
  by_cases e : i = j
  · rw [if_pos e, if_pos e.symm]
  · rw [if_neg e, if_neg (Ne.symm e)]

/-- A root of what is not below a real that is not negative is not minus infinity. -/
theorem distE_ne_bot (x : Fin 100 → Fin 2 → EReal) (i j : Fin 100) : distE x i j ≠ ⊥ := by
  unfold distE
  obtain ⟨e, he0, he⟩ := word_eps
  rw [he]
  generalize (x i 0 - x j 0) * (x i 0 - x j 0) + (x i 1 - x j 1) * (x i 1 - x j 1) = y
  induction y with
  | bot => rw [max_eq_right bot_le, sqrt_real _ he0]; exact EReal.coe_ne_bot _
  | top => rw [max_eq_left le_top]; exact fun h => top_ne_bot h
  | coe y =>
    rw [← EReal.coe_strictMono.monotone.map_max, sqrt_real _ (le_max_of_le_right he0)]
    exact EReal.coe_ne_bot _

/-- The edges' lengths are real numbers. -/
theorem startE_real (x : Fin 100 → Fin 2 → EReal) (i j : Fin 100) : ∃ r : ℝ, startE (distE x) i j = (r : EReal) := by
  unfold startE
  by_cases h : i = j
  · rw [if_pos h]; exact ⟨0, rfl⟩
  · rw [if_neg h]
    by_cases h1 : distE x i j ≤ Ideal.ofBits FTy.f32 1067030938#32
    · rw [if_pos h1]
      obtain ⟨w, hw⟩ := word_radius
      have ht : distE x i j ≠ ⊤ := by
        intro e
        rw [e, hw, top_le_iff] at h1
        exact EReal.coe_ne_top w h1
      exact ⟨(distE x i j).toReal, (EReal.coe_toReal ht (distE_ne_bot x i j)).symm⟩
    · rw [if_neg h1]; exact word_million

/-- A pivot's step keeps the lengths real. -/
theorem step_real (a b c : EReal) (ha : ∃ r : ℝ, a = (r : EReal)) (hb : ∃ r : ℝ, b = (r : EReal)) (hc : ∃ r : ℝ, c = (r : EReal)) :
    ∃ r : ℝ, min a (b + c) = (r : EReal) := by
  obtain ⟨x, rfl⟩ := ha
  obtain ⟨y, rfl⟩ := hb
  obtain ⟨z, rfl⟩ := hc
  exact ⟨min x (y + z), by rw [← EReal.coe_add, EReal.coe_strictMono.monotone.map_min]⟩

end Cert.Isomap

end
-- ==== Proof.KerPaths.lean ====
/- The kernel's distances, shortest paths and centring, read entry by entry. -/
module

public import proofs.«01_k».proof.Proof.KerMain
public import proofs.«01_k».proof.Proof.RefReal
public import proofs.«01_k».proof.Proof.Paths

@[expose] public section

set_option maxRecDepth 100000

noncomputable section

namespace Cert.KernelIdeal.Hand

open Idealize Idealize.ShloMosaic Idealize.ShloMosaic.TcCoe Cert.KernelIdeal Cert.KernelIdeal.Gen Cert.Isomap

/-- The loop's index. -/
theorem iv_word (a : ℕ) : Scf.iv 0#32 1#32 a = BitVec.ofNat 32 a := by
  simp [Scf.iv]

/-- A pivot's step. -/
theorem step_at (k : ℕ) (hk : k < 100) (hk' : k < k0_t1_loop.trips) (G : Mat Ideal) (i j : Fin 100) :
    k0_pay81 kernelRun0_A.sl.v0 kernelRun0_A.sl.v1 ⟨k, hk'⟩ G (ix2 i j)
      = min (G (ix2 i j)) (G (ix2 i ⟨k, hk⟩) + G (ix2 ⟨k, hk⟩ j)) := by
  unfold k0_pay81 kernelRun0_A.sl.v0 kernelRun0_A.sl.v1
  pointwise
  have e : Scf.iv 0#32 1#32 k = BitVec.ofNat 32 (⟨k, hk⟩ : Fin 100).val := iv_word k
  rw [e, Finset.sum_congr rfl fun x _ => select_eq x ⟨k, hk⟩ (G (ix2 i x)) 0, Finset.sum_congr rfl fun x _ => select_eq x ⟨k, hk⟩ (G (ix2 x j)) 0,
    sum_choose (fun x => G (ix2 i x)), sum_choose (fun x => G (ix2 x j))]

/-- The edges' lengths. -/
theorem first_at (D : Mat Ideal) (i j : Fin 100) :
    k0_pay80 k0_pay74 D k0_pay79 (ix2 i j) = startE (fun i j => D (ix2 i j)) i j := by
  unfold k0_pay80 k0_pay74 k0_pay79
  pointwise
  unfold startE
  by_cases h : i = j
  · simp only [select_eq, if_pos h]
  · simp only [select_eq, if_neg h]

/-- The distances. -/
theorem dist_at (x : Vec Ideal S100x2 .f32) (i j : Fin 100) :
    dist x (transpose S2x100 [1, 0] x transposes_S100x2_S2x100_1_0) (ix2 i j) = distE (fun i k => x (ix2 i k)) i j := by
  unfold dist k0_pay78
  pointwise
  rfl

/-- The identity. -/
theorem eye_at (i j : Fin 100) : k0_pay75 (F := Ideal) (ix2 i j) = if i = j then 1 else 0 := by
  unfold k0_pay75 k0_pay74
  pointwise
  rw [select_eq]

/-- The places across, as words. -/
theorem across_words : ∀ i j : Fin 100,
    IntOp.ori (IntOp.cmpi CmpIPredicate.eq (IntOp.subi (BitVec.ofNat 32 j.val) (BitVec.ofNat 32 i.val)) 50#32)
        (IntOp.cmpi CmpIPredicate.eq (IntOp.subi (BitVec.ofNat 32 i.val) (BitVec.ofNat 32 j.val)) 50#32)
      = BitVec.ofBool (decide (i = bar j)) := by decide +kernel

/-- The mask of the places across. -/
theorem across_at (i j : Fin 100) : k0_pay76 (F := Ideal) (ix2 i j) = if i = bar j then 1 else 0 := by
  unfold k0_pay76
  pointwise
  rw [across_words, select_prop]

/-- A sum along the columns, at a place. -/
theorem diag_at (A : Mat Ideal) (j : Fin 100) : k0_pay84 A (ix2 0 j) = ∑ x : Fin 100, A (ix2 x j) := by
  unfold k0_pay84
  pointwise

/-- The centred matrix times the unit matrix, at a place. -/
theorem eyed_at (G : Mat Ideal) (i j : Fin 100) : k0_pay83 k0_pay75 G (ix2 i j) = k0_pay82 G (ix2 i j) * if i = j then 1 else 0 := by
  rw [← eye_at]
  unfold k0_pay83
  rfl

/-- A masked sum along the columns, at a place. -/
theorem pair_at (M A : Mat Ideal) (j : Fin 100) : k0_pay85 M A (ix2 0 j) = ∑ x : Fin 100, A (ix2 x j) * M (ix2 x j) := by
  unfold k0_pay85
  pointwise

/-- The matrix to be diagonalised. -/
theorem gram_at (G : Mat Ideal) (i j : Fin 100) : k0_pay82 G (ix2 i j) = gramK (selE fun i j => G (ix2 i j)) i j := by
  unfold k0_pay82
  pointwise
  rfl

end Cert.KernelIdeal.Hand

end
-- ==== Proof.RefPaths.lean ====
/- The reference's distances, shortest paths and centring, read entry by entry. -/
module

public import proofs.«01_k».proof.Proof.RefRun
public import proofs.«01_k».proof.Proof.RefReal
public import proofs.«01_k».proof.Proof.Paths

@[expose] public section

set_option maxRecDepth 100000

noncomputable section

namespace Cert.ReferenceIdeal.Hand

open Idealize Idealize.ShloMosaic Idealize.ShloMosaic.TcCoe Idealize.ShloMosaic.StableHlo Cert.ReferenceIdeal.Gen Cert.Isomap

/-- A place counted from the start, which the slice's start is. -/
theorem start_word : ∀ k : Fin 100,
    (Scalar.select (IntOp.cmpi CmpIPredicate.slt (BitVec.ofNat 32 k.val) 0#32) (IntOp.addi (BitVec.ofNat 32 k.val) 100#32) (BitVec.ofNat 32 k.val)).toInt
      = (k.val : ℤ) := by decide +kernel

/-- A pivot's step. -/
theorem step_at (k : ℕ) (hk : k < 100) (r : Ct Ideal S_ .i32) (hr : r ix0 = BitVec.ofNat 32 k) (G : Ct Ideal S100x100 .f32) (i j : Fin 100) :
    fw_v25_2_out r G (ix2 i j) = min (G (ix2 i j)) (G (ix2 i ⟨k, hk⟩) + G (ix2 ⟨k, hk⟩ j)) := by
  have hr' : r (Shape.Idx.first h_S_) = BitVec.ofNat 32 k := by
    rw [← hr]
    exact congrArg r (funext fun a => a.elim0)
  have e : ((select (cmpi .slt r ((constantI S_ 32 0#32) : Ct Ideal S_ .i32)) (addi r ((constantI S_ 32 100#32) : Ct Ideal S_ .i32)) r : Ct Ideal S_ .i32)
      (Shape.Idx.first h_S_)).toInt = (k : ℤ) := by
    show (Scalar.select (IntOp.cmpi CmpIPredicate.slt (r (Shape.Idx.first h_S_)) 0#32) (IntOp.addi (r (Shape.Idx.first h_S_)) 100#32) (r (Shape.Idx.first h_S_))).toInt = _
    rw [hr']
    exact start_word ⟨k, hk⟩
  unfold fw_v25_2_out
  revert e
  generalize (select (cmpi .slt r ((constantI S_ 32 0#32) : Ct Ideal S_ .i32)) (addi r ((constantI S_ 32 100#32) : Ct Ideal S_ .i32)) r : Ct Ideal S_ .i32) = w
  intro e
  pointwise
  have c1 : Host.clampedStart S100x100 S100x1 rfl (fun a => BitVec.toInt ((![(constantI S_ 32 0#32 : Ct Ideal S_ .i32), w] : Fin 2 → Ct Ideal S_ .i32) a (Shape.Idx.first h_S_))) 0 = 0 :=
    Host.clampedStart_of_le _ _ _ 0 rfl (by decide)
  have c2 : Host.clampedStart S100x100 S100x1 rfl (fun a => BitVec.toInt ((![(constantI S_ 32 0#32 : Ct Ideal S_ .i32), w] : Fin 2 → Ct Ideal S_ .i32) a (Shape.Idx.first h_S_))) 1 = k := by
    refine Host.clampedStart_of_le _ _ _ k ?_ ?_
    · exact e
    · show k + 1 ≤ 100
      omega
  have c3 : Host.clampedStart S100x100 S1x100 rfl (fun a => BitVec.toInt ((![w, (constantI S_ 32 0#32 : Ct Ideal S_ .i32)] : Fin 2 → Ct Ideal S_ .i32) a (Shape.Idx.first h_S_))) 0 = k := by
    refine Host.clampedStart_of_le _ _ _ k ?_ ?_
    · exact e
    · show k + 1 ≤ 100
      omega
  have c4 : Host.clampedStart S100x100 S1x100 rfl (fun a => BitVec.toInt ((![w, (constantI S_ 32 0#32 : Ct Ideal S_ .i32)] : Fin 2 → Ct Ideal S_ .i32) a (Shape.Idx.first h_S_))) 1 = 0 :=
    Host.clampedStart_of_le _ _ _ 0 rfl (by decide)
  simp only [c1, c2, c3, c4, Nat.zero_add, Fin.eta]

/-- The edges' lengths. -/
theorem first_at' (x : Ct Ideal S100x2 .f32) (i j : Fin 100) : pre_v24 x (ix2 i j) = startE (fun i j => pre_v9 x (ix2 i j)) i j := by
  unfold pre_v24 pre_v23 pre_v18 pre_v17 pre_v15 pre_v14 pre_cst_1 pre_cst_3 pre_cst_5
  pointwise
  unfold startE
  by_cases h : i = j
  · simp only [addi_zero, select_eq, if_pos h]
  · simp only [addi_zero, select_eq, if_neg h]

/-- The distances. -/
theorem dist_at (x : Ct Ideal S100x2 .f32) (i j : Fin 100) : pre_v9 x (ix2 i j) = distE (fun i k => x (ix2 i k)) i j := by
  unfold pre_v9 pre_v4
  pointwise
  unfold distE
  rw [Fin.sum_univ_two]

/-- A truth value as a number. -/
theorem uitofp_prop (p : Prop) [Decidable p] :
    FloatOps.uitofp (F := Ideal) FTy.f32 (BitVec.ofBool (decide p)) = if p then 1 else 0 := by
  by_cases h : p
  · rw [if_pos h, decide_eq_true h]
    show (((1 : ℕ) : ℝ) : EReal) = 1
    rw [Nat.cast_one, EReal.coe_one]
  · rw [if_neg h, decide_eq_false h]
    show (((0 : ℕ) : ℝ) : EReal) = 0
    rw [Nat.cast_zero, EReal.coe_zero]

/-- The identity. -/
theorem eye_at (i j : Fin 100) : mid_v52_3 (F := Ideal) (ix2 i j) = if i = j then 1 else 0 := by
  unfold mid_v52_3
  pointwise
  rw [addi_zero, WordCmp.cmpi_eq_ofNat (by omega) (by omega), uitofp_prop]
  by_cases h : i = j
  · rw [if_pos h, if_pos (congrArg Fin.val h)]
  · rw [if_neg h, if_neg (fun e => h (Fin.ext e))]

/-- The centring matrix. -/
theorem j_at (i j : Fin 100) : mid_v40 (F := Ideal) (ix2 i j) = ((cenR i j : ℝ) : EReal) := by
  unfold mid_v40
  pointwise
  rw [addi_zero, WordCmp.cmpi_eq_ofNat (by omega) (by omega), uitofp_prop, word_100, ← EReal.coe_one, div_real _ _ (by norm_num)]
  unfold cenR
  by_cases h : i = j
  · rw [if_pos h, if_pos (congrArg Fin.val h), EReal.coe_sub]
  · rw [if_neg h, if_neg (fun e => h (Fin.ext e)), EReal.coe_sub, EReal.coe_zero]

/-- The largest finite length. -/
theorem top_at (G : Ct Ideal S100x100 .f32) : mid_v29 (F := Ideal) G ix0 = topE fun i j => G (ix2 i j) := by
  unfold mid_v29 mid_v28 mid_cst_9 mid_v27
  pointwise
  rfl

/-- The lengths with the unreachable ones replaced. -/
theorem sel_at (G : Ct Ideal S100x100 .f32) (i j : Fin 100) : mid_v30 (F := Ideal) G (ix2 i j) = selE (fun i j => G (ix2 i j)) i j := by
  unfold mid_v30 mid_v27
  pointwise
  rw [top_at]
  rfl

/-- The matrix to be diagonalised. -/
theorem gram_at (G : Ct Ideal S100x100 .f32) (i j : Fin 100) : mid_v52_2 (F := Ideal) G (ix2 i j)
    = Ideal.ofBits FTy.f32 3204448256#32 * ∑ x : Fin 100, (∑ y : Fin 100, mid_v40 (F := Ideal) (ix2 i y)
      * (selE (fun i j => G (ix2 i j)) y x * selE (fun i j => G (ix2 i j)) y x)) * mid_v40 (F := Ideal) (ix2 x j) := by
  unfold mid_v52_2
  pointwise
  simp only [sel_at]

end Cert.ReferenceIdeal.Hand

end
-- ==== Proof.Join.lean ====
/- The two programs' matrices and vectors agree, from the points to the last round. -/
module

public import proofs.«01_k».proof.Proof.KerReal
public import proofs.«01_k».proof.Proof.KerPaths
public import proofs.«01_k».proof.Proof.RefPaths

@[expose] public section

set_option maxRecDepth 100000

noncomputable section

namespace Cert.Isomap

open Idealize Idealize.ShloMosaic

/-- A rank-two index is the pair of its coordinates. -/
theorem mat_ext (A B : Vec Ideal KernelIdeal.S100x100 .f32) (h : ∀ i j : Fin 100, A (ix2 i j) = B (ix2 i j)) : A = B := by
  funext x
  have e : x = ix2 (x 0 : Fin 100) (x 1 : Fin 100) := by
    funext a
    match a with
    | 0 => rfl
    | 1 => rfl
  rw [e]
  exact h _ _

/-- The pivot's number. -/
theorem fwR_word (k : ℕ) : ReferenceIdeal.Hand.fwR (F := Ideal) k ix0 = BitVec.ofNat 32 k := by
  induction k with
  | zero => rfl
  | succ k ih =>
    show IntOp.addi (ReferenceIdeal.Hand.fwR (F := Ideal) k ix0) 1#32 = _
    rw [ih]
    exact addi_ofNat k 1

/-- The round's number. -/
theorem jacR_word (k : ℕ) : ReferenceIdeal.Hand.jacR (F := Ideal) k ix0 = BitVec.ofNat 32 k := by
  induction k with
  | zero => rfl
  | succ k ih =>
    show IntOp.addi (ReferenceIdeal.Hand.jacR (F := Ideal) k ix0) 1#32 = _
    rw [ih]
    exact addi_ofNat k 1

variable (x : Vec Ideal KernelIdeal.S100x2 .f32)

/-- The points, turned. -/
abbrev turned : Vec Ideal KernelIdeal.S2x100 .f32 :=
  transpose KernelIdeal.S2x100 [1, 0] x KernelIdeal.Gen.transposes_S100x2_S2x100_1_0

/-- After every pivot the two programs hold the same lengths. -/
theorem lengths_eq (k : ℕ) (hk : k ≤ 100) :
    KernelIdeal.Hand.lengths x (turned x) k = ReferenceIdeal.Hand.fwG (F := Ideal) x k := by
  induction k with
  | zero =>
    refine mat_ext _ _ fun i j => ?_
    refine (KernelIdeal.Hand.first_at _ i j).trans ?_
    refine Eq.trans ?_ (ReferenceIdeal.Hand.first_at' x i j).symm
    congr 1
    funext i j
    rw [KernelIdeal.Hand.dist_at, ReferenceIdeal.Hand.dist_at]
  | succ k ih =>
    have hk' : k < KernelIdeal.k0_t1_loop.trips := lt_of_lt_of_le (Nat.lt_of_succ_le hk) (le_of_eq (by decide))
    refine mat_ext _ _ fun i j => ?_
    unfold KernelIdeal.Hand.lengths
    rw [KernelIdeal.Hand.iter_succ _ _ k hk']
    refine (KernelIdeal.Hand.step_at k (by omega) hk' _ i j).trans ?_
    refine Eq.trans ?_ (ReferenceIdeal.Hand.step_at k (by omega) (ReferenceIdeal.Hand.fwR k) (fwR_word k) _ i j).symm
    have e := ih (by omega)
    unfold KernelIdeal.Hand.lengths at e
    rw [e]

/-- The lengths are real after every pivot. -/
theorem lengths_real (k : ℕ) (hk : k ≤ 100) (i j : Fin 100) :
    ∃ r : ℝ, ReferenceIdeal.Hand.fwG (F := Ideal) x k (ix2 i j) = (r : EReal) := by
  induction k generalizing i j with
  | zero =>
    have e : ReferenceIdeal.Hand.fwG (F := Ideal) x 0 (ix2 i j) = startE (distE fun i k => x (ix2 i k)) i j := by
      refine (ReferenceIdeal.Hand.first_at' x i j).trans ?_
      congr 1
      funext i j
      rw [ReferenceIdeal.Hand.dist_at]
    rw [e]
    exact startE_real _ i j
  | succ k ih =>
    have e := ReferenceIdeal.Hand.step_at k (by omega) (ReferenceIdeal.Hand.fwR k) (fwR_word k) (ReferenceIdeal.Hand.fwG (F := Ideal) x k) i j
    have h := step_real _ _ _ (ih (by omega) i j) (ih (by omega) i ⟨k, by omega⟩) (ih (by omega) ⟨k, by omega⟩ j)
    rw [← e] at h
    exact h

/-- The lengths are the same both ways after every pivot. -/
theorem lengths_symm (k : ℕ) (hk : k ≤ 100) (i j : Fin 100) :
    ReferenceIdeal.Hand.fwG (F := Ideal) x k (ix2 i j) = ReferenceIdeal.Hand.fwG (F := Ideal) x k (ix2 j i) := by
  induction k generalizing i j with
  | zero =>
    have e : ∀ i j, ReferenceIdeal.Hand.fwG (F := Ideal) x 0 (ix2 i j) = startE (distE fun i k => x (ix2 i k)) i j := by
      intro i j
      refine (ReferenceIdeal.Hand.first_at' x i j).trans ?_
      congr 1
      funext i j
      rw [ReferenceIdeal.Hand.dist_at]
    rw [e, e]
    exact startE_symm _ (distE_symm _) i j
  | succ k ih =>
    have e := fun i j => ReferenceIdeal.Hand.step_at k (by omega) (ReferenceIdeal.Hand.fwR k) (fwR_word k) (ReferenceIdeal.Hand.fwG (F := Ideal) x k) i j
    have e1 := e i j
    have e2 := e j i
    rw [ih (by omega) j i, ih (by omega) j ⟨k, by omega⟩, ih (by omega) ⟨k, by omega⟩ i, add_comm] at e2
    exact e1.trans e2.symm

/-- The identity, over the reals. -/
def eyeR : RMat := fun i j => if i = j then 1 else 0

/-- A choice of one or zero is a real. -/
theorem coe_ite (p : Prop) [Decidable p] : (if p then (1 : EReal) else 0) = ((if p then 1 else 0 : ℝ) : EReal) := by
  split_ifs <;> rfl

/-- What the rounds start from, over the reals. -/
def startC (B : RMat) : Carry where
  a := B
  v := eyeR
  d i := B i i
  o i := B i (bar i)

/-- What the rounds start from meets the invariants. -/
theorem startC_good (B : RMat) (h : ∀ i j, B i j = B j i) : (startC B).Good := ⟨h, fun _ => rfl, fun _ => rfl⟩

/-- A place of the first round. -/
theorem pos_zero (i : Fin 100) : pos 0 i = i := rfl

/-- Real lengths, centred: both programs start the rounds from one real matrix. -/
theorem start_real (G : Vec Ideal KernelIdeal.S100x100 .f32) (hr : ∀ i j : Fin 100, ∃ r : ℝ, G (ix2 i j) = (r : EReal))
    (hs : ∀ i j : Fin 100, G (ix2 i j) = G (ix2 j i)) :
    ∃ B : RMat, (∀ i j, B i j = B j i) ∧ KernelIdeal.Hand.Is (KernelIdeal.Hand.start G) (startC B)
      ∧ ReferenceIdeal.Hand.Is (ReferenceIdeal.Hand.mid_v52_2 (F := Ideal) G) B
      ∧ ReferenceIdeal.Hand.Is (ReferenceIdeal.Hand.mid_v52_3 (F := Ideal)) eyeR := by
  obtain ⟨q, hq, hqs⟩ := selE_real (fun i j => G (ix2 i j)) hr hs
  have hB : ∀ i j, KernelIdeal.Gen.k0_pay82 (F := Ideal) G (ix2 i j) = ((gramR (fun x y => q x y * q x y) i j : ℝ) : EReal) := by
    intro i j
    rw [KernelIdeal.Hand.gram_at]
    exact gramK_real _ q hq i j
  have hsym : ∀ i j, gramR (fun x y => q x y * q x y) i j = gramR (fun x y => q x y * q x y) j i :=
    gramR_symm _ fun i j => by rw [hqs i j]
  refine ⟨gramR fun x y => q x y * q x y, hsym, ⟨hB, fun i j => ?_, fun i => ?_, fun i => ?_⟩, fun i j => ?_, fun i j => ?_⟩
  · exact (KernelIdeal.Hand.eye_at i j).trans (coe_ite _)
  · refine (KernelIdeal.Hand.diag_at _ i).trans ?_
    rw [Finset.sum_congr rfl fun y _ => (KernelIdeal.Hand.eyed_at G y i).trans (mul_comm _ _)]
    exact (KernelIdeal.Hand.sum_mask (fun y => if y = i then 1 else 0) (fun y => KernelIdeal.Gen.k0_pay82 (F := Ideal) G (ix2 y i)) i (fun _ => rfl)).trans (hB i i)
  · refine (KernelIdeal.Hand.pair_at _ _ i).trans ?_
    rw [Finset.sum_congr rfl fun y _ => mul_comm _ _]
    refine (KernelIdeal.Hand.sum_mask _ (fun y => KernelIdeal.Gen.k0_pay82 (F := Ideal) G (ix2 y i)) (bar i) (fun y => KernelIdeal.Hand.across_at y i)).trans ?_
    rw [hB, hsym]
    rfl
  · rw [ReferenceIdeal.Hand.gram_at]
    exact gramJ_real (fun i j => ReferenceIdeal.Hand.mid_v40 (F := Ideal) (ix2 i j)) _ q (fun i j => ReferenceIdeal.Hand.j_at i j) hq i j
  · exact (ReferenceIdeal.Hand.eye_at i j).trans (coe_ite _)

/-- After every round the kernel's storage holds the reference's matrix and vectors, the players at their places. -/
theorem rounds (G : Vec Ideal KernelIdeal.S100x100 .f32) (hr : ∀ i j : Fin 100, ∃ r : ℝ, G (ix2 i j) = (r : EReal))
    (hs : ∀ i j : Fin 100, G (ix2 i j) = G (ix2 j i)) (k : ℕ) (hk : k ≤ 594) :
    ∃ (A V : RMat) (c : Carry), Holds (pos k) A V c
      ∧ KernelIdeal.Hand.Is (KernelIdeal.Hand.state (F := Ideal) KernelIdeal.Hand.mask1 KernelIdeal.Hand.mask2 KernelIdeal.Hand.mask3 KernelIdeal.Hand.mask4
          (KernelIdeal.Hand.start G) k) c
      ∧ ReferenceIdeal.Hand.Is (ReferenceIdeal.Hand.jacA (F := Ideal) G k) A
      ∧ ReferenceIdeal.Hand.Is (ReferenceIdeal.Hand.jacV (F := Ideal) G k) V := by
  induction k with
  | zero =>
    obtain ⟨B, hsym, h1, h2, h3⟩ := start_real G hr hs
    exact ⟨B, eyeR, startC B, ⟨startC_good B hsym, fun _ _ => rfl, fun _ _ => rfl⟩, h1, h2, h3⟩
  | succ k ih =>
    obtain ⟨A, V, c, h, h1, h2, h3⟩ := ih (by omega)
    refine ⟨_, _, _, h.next (pos_surjective k) (opp k) (fst k) (pos_injective k) (opp_at_pos k) (fst_at_pos k), h1.next,
      ReferenceIdeal.Hand.nextA_real k (by omega) _ (jacR_word k) _ _ h2,
      ReferenceIdeal.Hand.nextV_real k (by omega) _ (jacR_word k) _ _ _ _ h2 h3⟩

/-- After the last round the two programs hold the same matrix and the same vectors, all real. -/
theorem last_round (G : Vec Ideal KernelIdeal.S100x100 .f32) (hr : ∀ i j : Fin 100, ∃ r : ℝ, G (ix2 i j) = (r : EReal))
    (hs : ∀ i j : Fin 100, G (ix2 i j) = G (ix2 j i)) :
    ∃ A V : RMat,
      (∀ i j : Fin 100, (KernelIdeal.Hand.state (F := Ideal) KernelIdeal.Hand.mask1 KernelIdeal.Hand.mask2 KernelIdeal.Hand.mask3 KernelIdeal.Hand.mask4
          (KernelIdeal.Hand.start G) 594).1 (ix2 i j) = ((A i j : ℝ) : EReal))
      ∧ (∀ i j : Fin 100, (KernelIdeal.Hand.state (F := Ideal) KernelIdeal.Hand.mask1 KernelIdeal.Hand.mask2 KernelIdeal.Hand.mask3 KernelIdeal.Hand.mask4
          (KernelIdeal.Hand.start G) 594).2.1 (ix2 i j) = ((V i j : ℝ) : EReal))
      ∧ ReferenceIdeal.Hand.Is (ReferenceIdeal.Hand.jacA (F := Ideal) G 594) A
      ∧ ReferenceIdeal.Hand.Is (ReferenceIdeal.Hand.jacV (F := Ideal) G 594) V := by
  obtain ⟨A, V, c, h, h1, h2, h3⟩ := rounds G hr hs 594 le_rfl
  refine ⟨A, V, fun i j => ?_, fun i j => ?_, h2, h3⟩
  · rw [h1.a, h.mat, pos_last, pos_last]
  · rw [h1.v, h.vec, pos_last]

end Cert.Isomap

end
-- ==== Proof.Tail.lean ====
/- The two leading eigenpairs, chosen from a diagonal, and the vectors scaled by their roots. -/
module

public import proofs.«01_k».proof.Proof.Centre

@[expose] public section

noncomputable section

namespace Cert.Isomap

open Idealize Idealize.ShloMosaic

/-- The largest of the numbers. -/
def lead1 (w : Fin 100 → EReal) : EReal := Finset.fold max (Ideal.ofBits FTy.f32 4286578688#32) w Finset.univ

/-- The numbers with the largest taken out. -/
def restE (w : Fin 100 → EReal) (j : Fin 100) : EReal := if w j = lead1 w then ⊥ else w j

/-- The largest of the rest. -/
def lead2 (w : Fin 100 → EReal) : EReal := Finset.fold max (Ideal.ofBits FTy.f32 4286578688#32) (restE w) Finset.univ

/-- The root of an eigenvalue, kept from below. -/
def rootE (l : EReal) : EReal := Ideal.sqrt (max l (Ideal.ofBits FTy.f32 730643660#32))

/-- The first layer before its rectifier, the roots inside the sums. -/
def hidE (V : EMat) (w : Fin 100 → EReal) (W1 : Fin 2 → Fin 512 → EReal) (b1 : Fin 512 → EReal) (i : Fin 100) (j : Fin 512) : EReal :=
  (∑ x, V i x * if w x = lead1 w then rootE (lead1 w) else 0) * W1 0 j
    + (∑ x, V i x * if restE w x = lead2 w then rootE (lead2 w) else 0) * W1 1 j + b1 j

/-- The first layer before its rectifier, the roots outside the sums. -/
def hidE' (V : EMat) (w : Fin 100 → EReal) (W1 : Fin 2 → Fin 512 → EReal) (b1 : Fin 512 → EReal) (i : Fin 100) (j : Fin 512) : EReal :=
  (∑ x, V i x * if w x = lead1 w then 1 else 0) * rootE (lead1 w) * W1 0 j
    + (∑ x, V i x * if restE w x = lead2 w then 1 else 0) * rootE (lead2 w) * W1 1 j + b1 j

/-- The root of minus infinity or a real, kept from below, is a real. -/
theorem rootE_real (l : EReal) (h : l = ⊥ ∨ ∃ r : ℝ, l = (r : EReal)) : ∃ r : ℝ, rootE l = (r : EReal) := by
  obtain ⟨e, he0, he⟩ := word_eps
  unfold rootE
  rw [he]
  rcases h with h | ⟨r, h⟩ <;> rw [h]
  · rw [max_eq_right bot_le, sqrt_real _ he0]
    exact ⟨_, rfl⟩
  · rw [← EReal.coe_strictMono.monotone.map_max, sqrt_real _ (le_max_of_le_right he0)]
    exact ⟨_, rfl⟩

/-- A real factor goes in or out of a sum over chosen places. -/
theorem sum_choice (v : Fin 100 → ℝ) (p : Fin 100 → Prop) [DecidablePred p] (r : ℝ) :
    (∑ x, (v x : EReal) * if p x then (r : EReal) else 0) = (∑ x, (v x : EReal) * if p x then 1 else 0) * (r : EReal) := by
  have e1 : ∀ x, ((v x : EReal) * if p x then (r : EReal) else 0) = ((v x * if p x then r else 0 : ℝ) : EReal) := by
    intro x
    rw [EReal.coe_mul]
    by_cases h : p x
    · rw [if_pos h, if_pos h]
    · rw [if_neg h, if_neg h, EReal.coe_zero]
  have e2 : ∀ x, ((v x : EReal) * if p x then 1 else 0) = ((v x * if p x then 1 else 0 : ℝ) : EReal) := by
    intro x
    rw [EReal.coe_mul]
    by_cases h : p x
    · rw [if_pos h, if_pos h, EReal.coe_one]
    · rw [if_neg h, if_neg h, EReal.coe_zero]
  rw [Finset.sum_congr rfl fun x _ => e1 x, Finset.sum_congr rfl fun x _ => e2 x, sum_real, sum_real, ← EReal.coe_mul, Finset.sum_mul]
  congr 1
  refine Finset.sum_congr rfl fun x _ => ?_
  by_cases h : p x
  · rw [if_pos h, if_pos h, mul_one]
  · rw [if_neg h, if_neg h, mul_zero, zero_mul]

/-- On real vectors and a real diagonal the two agree. -/
theorem hid_eq (V : EMat) (w : Fin 100 → EReal) (W1 : Fin 2 → Fin 512 → EReal) (b1 : Fin 512 → EReal)
    (hV : ∀ i j, ∃ r : ℝ, V i j = (r : EReal)) (hw : ∀ j, ∃ r : ℝ, w j = (r : EReal)) (i : Fin 100) (j : Fin 512) :
    hidE V w W1 b1 i j = hidE' V w W1 b1 i j := by
  choose v hv using hV
  have h1 : ∃ r : ℝ, rootE (lead1 w) = (r : EReal) := rootE_real _ (fold_max_or _ _ fun x => Or.inr (hw x))
  have h2 : ∃ r : ℝ, rootE (lead2 w) = (r : EReal) := by
    refine rootE_real _ (fold_max_or _ _ fun x => ?_)
    unfold restE
    by_cases h : w x = lead1 w
    · rw [if_pos h]; exact Or.inl rfl
    · rw [if_neg h]; exact Or.inr (hw x)
  obtain ⟨r1, h1⟩ := h1
  obtain ⟨r2, h2⟩ := h2
  unfold hidE hidE'
  rw [h1, h2]
  simp only [hv]
  rw [sum_choice (fun x => v i x) (fun x => w x = lead1 w) r1, sum_choice (fun x => v i x) (fun x => restE w x = lead2 w) r2]

/-- A maximum over pairs that looks at the first alone. -/
theorem fold_fst (f : Fin 100 → EReal) :
    Finset.fold max (Ideal.ofBits FTy.f32 4286578688#32) (fun x : Fin 100 × Fin 1 => f x.1) Finset.univ
      = Finset.fold max (Ideal.ofBits FTy.f32 4286578688#32) f Finset.univ := by
  refine eq_of_forall_ge_iff fun c => ?_
  rw [Finset.fold_max_le, Finset.fold_max_le]
  exact ⟨fun h => ⟨h.1, fun x _ => h.2 (x, 0) (Finset.mem_univ _)⟩, fun h => ⟨h.1, fun x _ => h.2 x.1 (Finset.mem_univ _)⟩⟩

end Cert.Isomap

end
-- ==== Proof.KerEnd.lean ====
/- The kernel's last part, read entry by entry: the two leading eigenpairs and the two layers. -/
module

public import proofs.«01_k».proof.Proof.KerMain
public import proofs.«01_k».proof.Proof.Tail

@[expose] public section

set_option maxRecDepth 100000

noncomputable section

namespace Cert.KernelIdeal.Hand

open Idealize Idealize.ShloMosaic Idealize.ShloMosaic.TcCoe Cert.KernelIdeal Cert.KernelIdeal.Gen Cert.Isomap

/-- The second layer. -/
theorem layer2_at (H : FVec Ideal S100x512 .f32) (w2 : Vec Ideal S512x10 .f32) (b2 : Vec Ideal S10 .f32) (i : Fin 100) (j : Fin 10) :
    k0_pay1 H w2 (shapeCast S1x10 b2 shapeCasts_S10_S1x10) (ix2 i j)
      = ∑ x : Fin 512, max (H (ix2 i x)) 0 * w2 (ix2 x j) + b2 (ix1 j) := by
  unfold k0_pay1
  pointwise

/-- The named constant is minus infinity. -/
theorem mask_bot : (Named.named (F := Ideal) κ "mask" (φ := .f32) 4048155338#32 : EReal) = ⊥ := rfl

/-- The first layer before its rectifier. -/
theorem layer1_at (E A V : Mat Ideal) (w1 : Vec Ideal S2x512 .f32) (b1 : Vec Ideal S512 .f32) (i : Fin 100) (j : Fin 512) :
    k0_pay87 E A V w1 (shapeCast S1x512 b1 shapeCasts_S512_S1x512) (ix2 i j)
      = hidE (fun i j => V (ix2 i j)) (fun x => ∑ y : Fin 100, A (ix2 x y) * E (ix2 x y)) (fun k j => w1 (ix2 k j)) (fun j => b1 (ix1 j)) i j := by
  unfold k0_pay87
  pointwise
  rw [fold_fst (fun x => ∑ y : Fin 100, A (ix2 x y) * E (ix2 x y))]
  have e := fold_fst (restE (fun x => ∑ y : Fin 100, A (ix2 x y) * E (ix2 x y)))
  unfold restE lead1 at e
  rw [mask_bot, e]
  unfold hidE rootE lead2 restE lead1
  rw [Fin.sum_univ_one, Fin.sum_univ_one]
  rfl

end Cert.KernelIdeal.Hand

end
-- ==== Proof.RefEnd.lean ====
/- The reference's last part, read entry by entry: the two leading eigenpairs and the two layers. -/
module

public import proofs.«01_k».proof.Proof.RefRun
public import proofs.«01_k».proof.Proof.RefReal
public import proofs.«01_k».proof.Proof.Tail

@[expose] public section

set_option maxRecDepth 100000

noncomputable section

namespace Cert.ReferenceIdeal.Hand

open Idealize Idealize.ShloMosaic Idealize.ShloMosaic.TcCoe Idealize.ShloMosaic.StableHlo Cert.ReferenceIdeal.Gen Cert.Isomap

/-- The diagonal. -/
theorem w_at (A : Ct Ideal S100x100 .f32) (j : Fin 100) : post_v59 A (ix1 j) = A (ix2 j j) := by
  unfold post_v59 post_v58 post_v57 post_cst_19
  pointwise
  rw [Finset.sum_congr rfl fun x _ => show Scalar.select (IntOp.cmpi CmpIPredicate.eq (IntOp.addi (BitVec.ofNat 32 j.val) 0#32) (BitVec.ofNat 32 (x : Fin 100).val))
      (A (ix2 j x)) 0 = if x = j then A (ix2 j x) else 0 by
        rw [addi_zero, select_eq]
        by_cases h : j = x
        · rw [if_pos h, if_pos h.symm]
        · rw [if_neg h, if_neg (Ne.symm h)], sum_choose (fun x => A (ix2 j x))]

/-- The largest eigenvalue. -/
theorem lam1_at (A : Ct Ideal S100x100 .f32) : post_v60 A ix0 = lead1 fun j => A (ix2 j j) := by
  unfold post_v60
  pointwise
  simp only [w_at]
  rfl

/-- The eigenvalues without the largest. -/
theorem rest_at (A : Ct Ideal S100x100 .f32) (j : Fin 100) : post_v63 A (ix1 j) = restE (fun j => A (ix2 j j)) j := by
  unfold post_v63 post_v62 post_cst_22
  pointwise
  rw [lam1_at, w_at, word_bot]
  rfl

/-- The second largest eigenvalue. -/
theorem lam2_at (A : Ct Ideal S100x100 .f32) : post_v64 A ix0 = lead2 fun j => A (ix2 j j) := by
  unfold post_v64
  pointwise
  simp only [rest_at]
  rfl

/-- The first of the two eigenvalues. -/
theorem lam_at0 (A : Ct Ideal S100x100 .f32) : post_v68 A (ix1 (0 : Fin 2)) = lead1 fun j => A (ix2 j j) := by
  rw [← lam1_at]
  unfold post_v68 post_v67
  pointwise

/-- The second of the two eigenvalues. -/
theorem lam_at1 (A : Ct Ideal S100x100 .f32) : post_v68 A (ix1 (1 : Fin 2)) = lead2 fun j => A (ix2 j j) := by
  rw [← lam2_at]
  unfold post_v68 post_v67
  pointwise
  rfl

/-- Which eigenvectors belong to the first eigenvalue. -/
theorem lead_at0 (A : Ct Ideal S100x100 .f32) (j : Fin 100) : post_v78 A (ix2 j (0 : Fin 2))
    = if A (ix2 j j) = lead1 (fun j => A (ix2 j j)) then 1 else 0 := by
  rw [← lam_at0, ← w_at A j]
  unfold post_v78 post_v77 post_v74 post_v73 post_v72 post_v71 post_cst_26 post_cst_27
  pointwise

/-- Which eigenvectors belong to the second eigenvalue. -/
theorem lead_at1 (A : Ct Ideal S100x100 .f32) (j : Fin 100) : post_v78 A (ix2 j (1 : Fin 2))
    = if restE (fun j => A (ix2 j j)) j = lead2 (fun j => A (ix2 j j)) then 1 else 0 := by
  rw [← lam_at1, ← rest_at A j]
  unfold post_v78 post_v77 post_v74 post_v73 post_v72 post_v71 post_cst_26 post_cst_27
  pointwise
  rfl

/-- The result. -/
theorem out_at (A V : Ct Ideal S100x100 .f32) (W1 : Ct Ideal S2x512 .f32) (b1 : Ct Ideal S512 .f32) (W2 : Ct Ideal S512x10 .f32) (b2 : Ct Ideal S10 .f32) (i : Fin 100) (j : Fin 10) :
    post_v95 A V W1 b1 W2 b2 (ix2 i j)
      = ∑ x : Fin 512, max (hidE' (fun i j => V (ix2 i j)) (fun j => A (ix2 j j)) (fun k j => W1 (ix2 k j)) (fun j => b1 (ix1 j)) i x) 0 * W2 (ix2 x j)
        + b2 (ix1 j) := by
  unfold post_v95 post_v81 post_v79
  pointwise
  simp only [Fin.sum_univ_two, lam_at0, lam_at1, lead_at0, lead_at1]
  rfl

end Cert.ReferenceIdeal.Hand

end
-- ==== Proof.Same.lean ====
/- The two results are one: the kernel's output and the reference's, at every point. -/
module

public import proofs.«01_k».proof.Proof.Join
public import proofs.«01_k».proof.Proof.KerMain
public import proofs.«01_k».proof.Proof.KerEnd
public import proofs.«01_k».proof.Proof.RefEnd

@[expose] public section

set_option maxRecDepth 100000

noncomputable section

namespace Cert.Isomap

open Idealize Idealize.ShloMosaic

/-- A matrix times the unit matrix, place by place, summed along its rows: the diagonal. -/
theorem diag_at (A : Vec Ideal KernelIdeal.S100x100 .f32) (i : Fin 100) :
    (∑ j : Fin 100, A (ix2 i j) * KernelIdeal.Gen.k0_pay75 (F := Ideal) (ix2 i j)) = A (ix2 i i) := by
  rw [Finset.sum_congr rfl fun j _ => show A (ix2 i j) * KernelIdeal.Gen.k0_pay75 (F := Ideal) (ix2 i j) = if j = i then A (ix2 i j) else 0 by
    rw [KernelIdeal.Hand.eye_at]
    by_cases h : i = j
    · rw [if_pos h, if_pos h.symm, mul_one]
    · rw [if_neg h, if_neg (Ne.symm h), mul_zero]]
  exact sum_choose (fun j => A (ix2 i j)) i

/-- The endings agree on real matrices. -/
theorem end_eq (A V A' V' : Vec Ideal KernelIdeal.S100x100 .f32) (a v : RMat)
    (hA : ∀ i j : Fin 100, A (ix2 i j) = (a i j : EReal)) (hV : ∀ i j : Fin 100, V (ix2 i j) = (v i j : EReal))
    (hA' : ∀ i j : Fin 100, A' (ix2 i j) = (a i j : EReal)) (hV' : ∀ i j : Fin 100, V' (ix2 i j) = (v i j : EReal))
    (W1 : Vec Ideal KernelIdeal.S2x512 .f32) (b1 : Vec Ideal KernelIdeal.S512 .f32) (W2 : Vec Ideal KernelIdeal.S512x10 .f32)
    (b2 : Vec Ideal KernelIdeal.S10 .f32) (i : Fin 100) (j : Fin 10) :
    KernelIdeal.Hand.finish A V W1 (shapeCast KernelIdeal.S1x512 b1 KernelIdeal.Gen.shapeCasts_S512_S1x512) W2
        (shapeCast KernelIdeal.S1x10 b2 KernelIdeal.Gen.shapeCasts_S10_S1x10) (ix2 i j)
      = ReferenceIdeal.Hand.post_v95 A' V' W1 b1 W2 b2 (ix2 i j) := by
  unfold KernelIdeal.Hand.finish
  rw [KernelIdeal.Hand.layer2_at, ReferenceIdeal.Hand.out_at]
  congr 1
  refine Finset.sum_congr rfl fun x _ => ?_
  rw [KernelIdeal.Hand.layer1_at]
  have ew : (fun x : Fin 100 => ∑ y : Fin 100, A (ix2 x y) * KernelIdeal.Gen.k0_pay75 (F := Ideal) (ix2 x y)) = fun j => A' (ix2 j j) :=
    funext fun y => by rw [diag_at, hA, hA']
  have ev : (fun i j : Fin 100 => V (ix2 i j)) = fun i j => V' (ix2 i j) :=
    funext fun y => funext fun z => by rw [hV, hV']
  rw [ew, ev, hid_eq _ _ _ _ (fun i j => ⟨_, hV' i j⟩) (fun j => ⟨_, hA' j j⟩)]

/-- The kernel's output is the reference's. -/
theorem out_eq (x : Vec Ideal KernelIdeal.S100x2 .f32) (W1 : Vec Ideal KernelIdeal.S2x512 .f32) (b1 : Vec Ideal KernelIdeal.S512 .f32)
    (W2 : Vec Ideal KernelIdeal.S512x10 .f32) (b2 : Vec Ideal KernelIdeal.S10 .f32) :
    KernelIdeal.Hand.kerOut x W1 b1 W2 b2 = ReferenceIdeal.Hand.refOut (F := Ideal) x W1 b1 W2 b2 := by
  obtain ⟨a, v, hA, hV, hA', hV'⟩ := last_round (ReferenceIdeal.Hand.fwG (F := Ideal) x 100)
    (lengths_real x 100 le_rfl) (lengths_symm x 100 le_rfl)
  have hl := lengths_eq x 100 le_rfl
  funext p
  have e : p = ix2 (p 0 : Fin 100) (p 1 : Fin 10) := by
    funext a
    match a with
    | 0 => rfl
    | 1 => rfl
  rw [e]
  unfold KernelIdeal.Hand.kerOut KernelIdeal.Hand.bodyOut ReferenceIdeal.Hand.refOut
  rw [← hl] at hA hV
  exact end_eq _ _ _ _ a v hA hV hA' hV' W1 b1 W2 b2 _ _

end Cert.Isomap

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.RefRun
public import proofs.«01_k».proof.Proof.Same
public import Idealize.ShloMosaic.Adequacy
public import Idealize.ShloMosaic.Init

@[expose] public section

noncomputable section

namespace Cert.Proof

open Idealize.ShloMosaic Idealize.ShloMosaic.TcCoe Idealize.SL.Sem

/-- The reference leaves its arguments as they were, with every semaphore counter at zero. -/
theorem ref_frame (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4))
      ∧ r.2.sem = fun _ => 0) :=
  (θ_run _ _ _).mono (fun r h => ⟨fun c => ⟨(h c).2 _ (by decide), (h c).2 _ (by decide), (h c).2 _ (by decide), (h c).2 _ (by decide), (h c).2 _ (by decide)⟩,
    Idealize.ShloMosaic.sem_eq_zero_of_no_sems (by decide) r.2⟩) (ReferenceIdeal.Hand.run_ref m g)

/-- The mask's constant is named as minus infinity. -/
theorem mask_named : IdealRules.named_const.Statement Cert.KernelIdeal.κ "mask" .f32 0xF149F2CA#32 ⊥ :=
  IdealRules.named_const.statement Cert.KernelIdeal.κ "mask" .f32 0xF149F2CA#32 ⊥ rfl

/-- From the same arguments the kernel and the reference end with the same result, the arguments as they were. -/
theorem same_result [hK : KernelIdeal.Facts] [hR : ReferenceIdeal.Facts] :
    algebraic_KernelIdeal_ReferenceIdeal := by
  intro m g m' g' _ hm
  refine ⟨_, KernelIdeal.Hand.run_ker m g, ?_⟩
  refine (θ_run _ _ _).mono (fun r h c => ⟨?_, (h c).2 _ (by decide), (h c).2 _ (by decide), (h c).2 _ (by decide), (h c).2 _ (by decide), (h c).2 _ (by decide)⟩)
    (ReferenceIdeal.Hand.run_ref m' g')
  obtain ⟨e0, e1, e2, e3, e4⟩ := hm c
  refine (h c).1.trans ?_
  rw [e0, e1, e2, e3, e4]
  exact (Isomap.out_eq _ _ _ _ _).symm

/-- Everything claimed. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, fun m g _ => ref_frame m g, mask_named, same_result⟩

end Cert.Proof

end
